-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 [hPre_tiles : Cert.Pre_tiles.Facts] (m : (ℓ : Loc Cert.Kernel11.nD Cert.Kernel11.τ Cert.Kernel11.sig) → Buf (Elt Bits) ℓ) : Prop :=
  ∀ c : Dev Cert.Kernel11.nD,
    (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.2.2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.2.2.2.2.2.1 = (fun _ => 1#1)
    ∧ (Cert.Pre_tiles.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8))).2.2.2.2.2.2.2.2.2.2 = (fun _ => 1#1)

def Pre_Kernel11Ideal [hPre_tiles : Cert.Pre_tiles.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.2.2.2.1 = (fun _ => 1#1)
    ∧ (Cert.Pre_tiles.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_tiles [hPre_tiles : Cert.Pre_tiles.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.2.2.2.1 = (fun _ => 1#1)
    ∧ (Cert.Pre_tiles.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel11 [hKernel11 : Cert.Kernel11.Facts] [hPre_tiles : Cert.Pre_tiles.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] [hPre_tiles : Cert.Pre_tiles.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Reference11Ideal_pre_tiles [hReference11Ideal : Cert.Reference11Ideal.Facts] [hPre_tiles : Cert.Pre_tiles.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_tiles m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v59) = v1 c
          ∧ r.2.mem ((c.tc : Thread Cert.Reference6Ideal.nD Cert.Reference6Ideal.τ).loc Cert.Reference6Ideal.main_v67) = v2 c
          ∧ r.2.mem ((c.tc : Thread Cert.Reference6Ideal.nD Cert.Reference6Ideal.τ).loc Cert.Reference6Ideal.main_v68) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v17_0)) (v1 : (c : Dev Cert.Kernel7Ideal.nD) → Buf (Elt Ideal) ((c.tc : Thread Cert.Kernel7Ideal.nD Cert.Kernel7Ideal.τ).loc Cert.Kernel7Ideal.main_v17_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17_0) = v0 c
          ∧ r.2.mem ((c.tc : Thread Cert.Kernel7Ideal.nD Cert.Kernel7Ideal.τ).loc Cert.Kernel7Ideal.main_v17_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_v74) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_v16_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] [hPre_tiles : Cert.Pre_tiles.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v54) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hPre_finite : Cert.Pre_finite.Facts) (hPre_finite5 : Cert.Pre_finite5.Facts) (hPre_finite6 : Cert.Pre_finite6.Facts) (hPre_tiles : Cert.Pre_tiles.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Kernel11 (hKernel11 := hKernel11) (hPre_tiles := hPre_tiles)
    ∧ quiescent_Kernel11Ideal (hKernel11Ideal := hKernel11Ideal) (hPre_tiles := hPre_tiles)
    ∧ quiescent_Reference11Ideal (hReference11Ideal := hReference11Ideal)
    ∧ quiescent_Reference11Ideal_pre_tiles (hReference11Ideal := hReference11Ideal) (hPre_tiles := hPre_tiles)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
    ∧ preserves_Kernel11_Kernel11Ideal
    ∧ algebraic_Kernel11Ideal_Reference11Ideal (hKernel11Ideal := hKernel11Ideal) (hReference11Ideal := hReference11Ideal) (hPre_tiles := hPre_tiles)
-- ==== Pre_finite.lean ====
abbrev S8x2048x4x512 : Shape := ⟨4, ![8, 2048, 4, 512]⟩
abbrev S8x2048x4 : Shape := ⟨3, ![8, 2048, 4]⟩
abbrev S_ : Shape := ⟨0, ![]⟩

class Facts : Prop where
  bcast_S_S8x2048x4x512 : S_.BroadcastsInDim S8x2048x4x512 (![] : Fin 0 → Fin S8x2048x4x512.rank)
  bcast_S_S8x2048x4 : S_.BroadcastsInDim S8x2048x4 (![] : Fin 0 → Fin S8x2048x4.rank)

variable [Facts]

def fn {F : FTy → Type} [FloatOps F] (main_arg0 : FVec F S8x2048x4x512 .f32) (main_arg1 : FVec F S8x2048x4x512 .f32) (main_arg2 : FVec F S8x2048x4x512 .f32) (main_arg3 : FVec F S8x2048x4 .f32) (main_arg4 : FVec F S8x2048x4 .f32) : IVec S8x2048x4x512 1 × IVec S8x2048x4x512 1 × IVec S8x2048x4x512 1 × IVec S8x2048x4 1 × IVec S8x2048x4 1 :=
  let main_v0 : FVec F S8x2048x4x512 .f32 := Host.absf main_arg0
  let main_cst : FVec F S_ .f32 := constant S_ .f32 0x7F800000#32
  let main_v1 : FVec F S8x2048x4x512 .f32 := broadcastInDim S8x2048x4x512 ![] bcast_S_S8x2048x4x512 main_cst
  let main_v2 : IVec S8x2048x4x512 1 := cmpf .olt main_v0 main_v1
  let main_v3 : FVec F S8x2048x4x512 .f32 := Host.absf main_arg1
  let main_cst_0 : FVec F S_ .f32 := constant S_ .f32 0x7F800000#32
  let main_v4 : FVec F S8x2048x4x512 .f32 := broadcastInDim S8x2048x4x512 ![] bcast_S_S8x2048x4x512 main_cst_0
  let main_v5 : IVec S8x2048x4x512 1 := cmpf .olt main_v3 main_v4
  let main_v6 : FVec F S8x2048x4x512 .f32 := Host.absf main_arg2
  let main_cst_1 : FVec F S_ .f32 := constant S_ .f32 0x7F800000#32
  let main_v7 : FVec F S8x2048x4x512 .f32 := broadcastInDim S8x2048x4x512 ![] bcast_S_S8x2048x4x512 main_cst_1
  let main_v8 : IVec S8x2048x4x512 1 := cmpf .olt main_v6 main_v7
  let main_v9 : FVec F S8x2048x4 .f32 := Host.absf main_arg3
  let main_cst_2 : FVec F S_ .f32 := constant S_ .f32 0x7F800000#32
  let main_v10 : FVec F S8x2048x4 .f32 := broadcastInDim S8x2048x4 ![] bcast_S_S8x2048x4 main_cst_2
  let main_v11 : IVec S8x2048x4 1 := cmpf .olt main_v9 main_v10
  let main_v12 : FVec F S8x2048x4 .f32 := Host.absf main_arg4
  let main_cst_3 : FVec F S_ .f32 := constant S_ .f32 0x7F800000#32
  let main_v13 : FVec F S8x2048x4 .f32 := broadcastInDim S8x2048x4 ![] bcast_S_S8x2048x4 main_cst_3
  let main_v14 : IVec S8x2048x4 1 := cmpf .olt main_v12 main_v13
  (main_v2, main_v5, main_v8, main_v11, main_v14)
-- ==== Pre_finite5.lean ====
abbrev S32x1x1024 : Shape := ⟨3, ![32, 1, 1024]⟩
abbrev S1024x1024 : Shape := ⟨2, ![1024, 1024]⟩
abbrev S_ : Shape := ⟨0, ![]⟩

class Facts : Prop where
  bcast_S_S32x1x1024 : S_.BroadcastsInDim S32x1x1024 (![] : Fin 0 → Fin S32x1x1024.rank)
  bcast_S_S1024x1024 : S_.BroadcastsInDim S1024x1024 (![] : Fin 0 → Fin S1024x1024.rank)

variable [Facts]

def fn {F : FTy → Type} [FloatOps F] (main_arg0 : FVec F S32x1x1024 .f32) (main_arg1 : FVec F S1024x1024 .f32) (main_arg2 : FVec F S1024x1024 .f32) : IVec S32x1x1024 1 × IVec S1024x1024 1 × IVec S1024x1024 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_finite6.lean ====
abbrev S32x1x4x512 : Shape := ⟨4, ![32, 1, 4, 512]⟩
abbrev S32x1x4 : Shape := ⟨3, ![32, 1, 4]⟩
abbrev S32x4x512x512 : Shape := ⟨4, ![32, 4, 512, 512]⟩
abbrev S32x4x512 : Shape := ⟨3, ![32, 4, 512]⟩
abbrev S32x4 : Shape := ⟨2, ![32, 4]⟩
abbrev S_ : Shape := ⟨0, ![]⟩

class Facts : Prop where
  bcast_S_S32x1x4x512 : S_.BroadcastsInDim S32x1x4x512 (![] : Fin 0 → Fin S32x1x4x512.rank)
  bcast_S_S32x1x4 : S_.BroadcastsInDim S32x1x4 (![] : Fin 0 → Fin S32x1x4.rank)
  bcast_S_S32x4x512x512 : S_.BroadcastsInDim S32x4x512x512 (![] : Fin 0 → Fin S32x4x512x512.rank)
  bcast_S_S32x4x512 : S_.BroadcastsInDim S32x4x512 (![] : Fin 0 → Fin S32x4x512.rank)
  bcast_S_S32x4 : S_.BroadcastsInDim S32x4 (![] : Fin 0 → Fin S32x4.rank)

variable [Facts]

def fn_part1 {F : FTy → Type} [FloatOps F] (main_arg6 : FVec F S32x4x512 .f32) (main_arg7 : FVec F S32x4 .f32) (main_v2 : IVec S32x1x4x512 1) (main_v5 : IVec S32x1x4x512 1) (main_v8 : IVec S32x1x4x512 1) (main_v11 : IVec S32x1x4 1) (main_v14 : IVec S32x1x4 1) (main_v17 : IVec S32x4x512x512 1) : IVec S32x1x4x512 1 × IVec S32x1x4x512 1 × IVec S32x1x4x512 1 × IVec S32x1x4 1 × IVec S32x1x4 1 × IVec S32x4x512x512 1 × IVec S32x4x512 1 × IVec S32x4 1 :=
  let main_v18 : FVec F S32x4x512 .f32 := Host.absf main_arg6
  let main_cst_5 : FVec F S_ .f32 := constant S_ .f32 0x7F800000#32
  let main_v19 : FVec F S32x4x512 .f32 := broadcastInDim S32x4x512 ![] bcast_S_S32x4x512 main_cst_5
  let main_v20 : IVec S32x4x512 1 := cmpf .olt main_v18 main_v19
  let main_v21 : FVec F S32x4 .f32 := Host.absf main_arg7
  let main_cst_6 : FVec F S_ .f32 := constant S_ .f32 0x7F800000#32
  let main_v22 : FVec F S32x4 .f32 := broadcastInDim S32x4 ![] bcast_S_S32x4 main_cst_6
  let main_v23 : IVec S32x4 1 := cmpf .olt main_v21 main_v22
  (main_v2, main_v5, main_v8, main_v11, main_v14, main_v17, main_v20, main_v23)

def fn {F : FTy → Type} [FloatOps F] (main_arg0 : FVec F S32x1x4x512 .f32) (main_arg1 : FVec F S32x1x4x512 .f32) (main_arg2 : FVec F S32x1x4x512 .f32) (main_arg3 : FVec F S32x1x4 .f32) (main_arg4 : FVec F S32x1x4 .f32) (main_arg5 : FVec F S32x4x512x512 .f32) (main_arg6 : FVec F S32x4x512 .f32) (main_arg7 : FVec F S32x4 .f32) : IVec S32x1x4x512 1 × IVec S32x1x4x512 1 × IVec S32x1x4x512 1 × IVec S32x1x4 1 × IVec S32x1x4 1 × IVec S32x4x512x512 1 × IVec S32x4x512 1 × IVec S32x4 1 :=
  let main_v0 : FVec F S32x1x4x512 .f32 := Host.absf main_arg0
  let main_cst : FVec F S_ .f32 := constant S_ .f32 0x7F800000#32
  let main_v1 : FVec F S32x1x4x512 .f32 := broadcastInDim S32x1x4x512 ![] bcast_S_S32x1x4x512 main_cst
  let main_v2 : IVec S32x1x4x512 1 := cmpf .olt main_v0 main_v1
  let main_v3 : FVec F S32x1x4x512 .f32 := Host.absf main_arg1
  let main_cst_0 : FVec F S_ .f32 := constant S_ .f32 0x7F800000#32
  let main_v4 : FVec F S32x1x4x512 .f32 := broadcastInDim S32x1x4x512 ![] bcast_S_S32x1x4x512 main_cst_0
  let main_v5 : IVec S32x1x4x512 1 := cmpf .olt main_v3 main_v4
  let main_v6 : FVec F S32x1x4x512 .f32 := Host.absf main_arg2
  let main_cst_1 : FVec F S_ .f32 := constant S_ .f32 0x7F800000#32
  let main_v7 : FVec F S32x1x4x512 .f32 := broadcastInDim S32x1x4x512 ![] bcast_S_S32x1x4x512 main_cst_1
  let main_v8 : IVec S32x1x4x512 1 := cmpf .olt main_v6 main_v7
  let main_v9 : FVec F S32x1x4 .f32 := Host.absf main_arg3
  let main_cst_2 : FVec F S_ .f32 := constant S_ .f32 0x7F800000#32
  let main_v10 : FVec F S32x1x4 .f32 := broadcastInDim S32x1x4 ![] bcast_S_S32x1x4 main_cst_2
  let main_v11 : IVec S32x1x4 1 := cmpf .olt main_v9 main_v10
  let main_v12 : FVec F S32x1x4 .f32 := Host.absf main_arg4
  let main_cst_3 : FVec F S_ .f32 := constant S_ .f32 0x7F800000#32
  let main_v13 : FVec F S32x1x4 .f32 := broadcastInDim S32x1x4 ![] bcast_S_S32x1x4 main_cst_3
  let main_v14 : IVec S32x1x4 1 := cmpf .olt main_v12 main_v13
  let main_v15 : FVec F S32x4x512x512 .f32 := Host.absf main_arg5
  let main_cst_4 : FVec F S_ .f32 := constant S_ .f32 0x7F800000#32
  let main_v16 : FVec F S32x4x512x512 .f32 := broadcastInDim S32x4x512x512 ![] bcast_S_S32x4x512x512 main_cst_4
  let main_v17 : IVec S32x4x512x512 1 := cmpf .olt main_v15 main_v16
  fn_part1 (F := F) main_arg6 main_arg7 main_v2 main_v5 main_v8 main_v11 main_v14 main_v17
-- ==== Pre_tiles.lean ====
abbrev S256 : Shape := ⟨1, ![256]⟩
abbrev S8x8192x1024 : Shape := ⟨3, ![8, 8192, 1024]⟩
abbrev S16x1024x512 : Shape := ⟨3, ![16, 1024, 512]⟩
abbrev S16x512x1024 : Shape := ⟨3, ![16, 512, 1024]⟩
abbrev S256x1 : Shape := ⟨2, ![256, 1]⟩
abbrev S255 : Shape := ⟨1, ![255]⟩
abbrev S1x255 : Shape := ⟨2, ![1, 255]⟩
abbrev S256x255 : Shape := ⟨2, ![256, 255]⟩
abbrev S_ : Shape := ⟨0, ![]⟩
abbrev S1 : Shape := ⟨1, ![1]⟩

class Facts : Prop where
  bcast_S256_S256x1_0 : S256.BroadcastsInDim S256x1 (![0] : Fin 1 → Fin S256x1.rank)
  slices_S256_S255_1 : S256.Slices ![1] S255
  bcast_S255_S1x255_1 : S255.BroadcastsInDim S1x255 (![1] : Fin 1 → Fin S1x255.rank)
  bcast_S256x1_S256x255_0_1 : S256x1.BroadcastsInDim S256x255 (![0, 1] : Fin 2 → Fin S256x255.rank)
  bcast_S1x255_S256x255_0_1 : S1x255.BroadcastsInDim S256x255 (![0, 1] : Fin 2 → Fin S256x255.rank)
  slices_S256_S255_0 : S256.Slices ![0] S255
  bcast_S_S256 : S_.BroadcastsInDim S256 (![] : Fin 0 → Fin S256.rank)
  slices_S256_S1_0 : S256.Slices ![0] S1
  bcast_S_S1 : S_.BroadcastsInDim S1 (![] : Fin 0 → Fin S1.rank)
  bcast_S_S255 : S_.BroadcastsInDim S255 (![] : Fin 0 → Fin S255.rank)

variable [Facts]

def fn_part3 {F : FTy → Type} [FloatOps F] (main_v32 : IVec S256 1) (main_v34 : IVec S256 1) (main_v36 : IVec S256 1) (main_v38 : IVec S256 1) (main_v40 : IVec S256 1) (main_v42 : IVec S256 1) (main_v45 : IVec S1 1) (main_v48 : IVec S1 1) (main_v52 : IVec S255 1) (main_v56 : IVec S255 1) (main_v59 : IVec S256x255 1) (main_v61 : IVec S256x255 1) : IVec S256 1 × IVec S256 1 × IVec S256 1 × IVec S256 1 × IVec S256 1 × IVec S256 1 × IVec S1 1 × IVec S1 1 × IVec S255 1 × IVec S255 1 × IVec S256x255 1 :=
  let main_v62 : IVec S256x255 1 := ori main_v59 main_v61
  (main_v32, main_v34, main_v36, main_v38, main_v40, main_v42, main_v45, main_v48, main_v52, main_v56, main_v62)

def fn_part2 {F : FTy → Type} [FloatOps F] (main_arg2 : IVec S256 32) (main_arg3 : IVec S256 32) (main_arg4 : IVec S256 32) (main_v12 : IVec S256x255 1) (main_v19 : IVec S256x255 1) (main_v22 : IVec S255 1) (main_v30 : IVec S255 1) (main_v32 : IVec S256 1) (main_v34 : IVec S256 1) (main_v36 : IVec S256 1) (main_v38 : IVec S256 1) (main_v40 : IVec S256 1) (main_v41 : IVec S256 32) : IVec S256 1 × IVec S256 1 × IVec S256 1 × IVec S256 1 × IVec S256 1 × IVec S256 1 × IVec S1 1 × IVec S1 1 × IVec S255 1 × IVec S255 1 × IVec S256x255 1 :=
  let main_v42 : IVec S256 1 := cmpi .slt main_arg2 main_v41
  let main_v43 : IVec S1 32 := (extractStridedSlice S1 ![0] · slices_S256_S1_0) main_arg3
  let main_c_5 : IVec S_ 32 := constantI S_ 32 1#32
  let main_v44 : IVec S1 32 := broadcastInDim S1 ![] bcast_S_S1 main_c_5
  let main_v45 : IVec S1 1 := cmpi .eq main_v43 main_v44
  let main_v46 : IVec S1 32 := (extractStridedSlice S1 ![0] · slices_S256_S1_0) main_arg4
  let main_c_6 : IVec S_ 32 := constantI S_ 32 1#32
  let main_v47 : IVec S1 32 := broadcastInDim S1 ![] bcast_S_S1 main_c_6
  let main_v48 : IVec S1 1 := cmpi .eq main_v46 main_v47
  let main_v49 : IVec S255 32 := (extractStridedSlice S255 ![1] · slices_S256_S255_1) main_arg3
  let main_c_7 : IVec S_ 32 := constantI S_ 32 1#32
  let main_v50 : IVec S255 32 := broadcastInDim S255 ![] bcast_S_S255 main_c_7
  let main_v51 : IVec S255 1 := cmpi .eq main_v49 main_v50
  let main_v52 : IVec S255 1 := ori main_v30 main_v51
  let main_v53 : IVec S255 32 := (extractStridedSlice S255 ![1] · slices_S256_S255_1) main_arg4
  let main_c_8 : IVec S_ 32 := constantI S_ 32 1#32
  let main_v54 : IVec S255 32 := broadcastInDim S255 ![] bcast_S_S255 main_c_8
  let main_v55 : IVec S255 1 := cmpi .eq main_v53 main_v54
  let main_v56 : IVec S255 1 := ori main_v22 main_v55
  let main_v57 : IVec S256x255 1 := noti main_v12
  let main_v58 : IVec S256x255 1 := noti main_v19
  let main_v59 : IVec S256x255 1 := ori main_v57 main_v58
  let main_v60 : IVec S1x255 1 := broadcastInDim S1x255 ![1] bcast_S255_S1x255_1 main_v30
  let main_v61 : IVec S256x255 1 := broadcastInDim S256x255 ![0, 1] bcast_S1x255_S256x255_0_1 main_v60
  fn_part3 (F := F) main_v32 main_v34 main_v36 main_v38 main_v40 main_v42 main_v45 main_v48 main_v52 main_v56 main_v59 main_v61

def fn_part1 {F : FTy → Type} [FloatOps F] (main_arg0 : IVec S256 32) (main_arg1 : IVec S256 32) (main_arg2 : IVec S256 32) (main_arg3 : IVec S256 32) (main_arg4 : IVec S256 32) (main_v12 : IVec S256x255 1) (main_v19 : IVec S256x255 1) (main_v22 : IVec S255 1) (main_v23 : IVec S255 32) : IVec S256 1 × IVec S256 1 × IVec S256 1 × IVec S256 1 × IVec S256 1 × IVec S256 1 × IVec S1 1 × IVec S1 1 × IVec S255 1 × IVec S255 1 × IVec S256x255 1 :=
  let main_v24 : IVec S255 32 := (extractStridedSlice S255 ![0] · slices_S256_S255_0) main_arg0
  let main_v25 : IVec S255 1 := cmpi .eq main_v23 main_v24
  let main_v26 : IVec S255 32 := (extractStridedSlice S255 ![1] · slices_S256_S255_1) main_arg1
  let main_v27 : IVec S255 32 := (extractStridedSlice S255 ![0] · slices_S256_S255_0) main_arg1
  let main_v28 : IVec S255 1 := cmpi .eq main_v26 main_v27
  let main_v29 : IVec S255 1 := andi main_v25 main_v28
  let main_v30 : IVec S255 1 := andi main_v29 main_v22
  let main_c : IVec S_ 32 := constantI S_ 32 0#32
  let main_v31 : IVec S256 32 := broadcastInDim S256 ![] bcast_S_S256 main_c
  let main_v32 : IVec S256 1 := cmpi .sge main_arg0 main_v31
  let main_c_0 : IVec S_ 32 := constantI S_ 32 8#32
  let main_v33 : IVec S256 32 := broadcastInDim S256 ![] bcast_S_S256 main_c_0
  let main_v34 : IVec S256 1 := cmpi .slt main_arg0 main_v33
  let main_c_1 : IVec S_ 32 := constantI S_ 32 0#32
  let main_v35 : IVec S256 32 := broadcastInDim S256 ![] bcast_S_S256 main_c_1
  let main_v36 : IVec S256 1 := cmpi .sge main_arg1 main_v35
  let main_c_2 : IVec S_ 32 := constantI S_ 32 32#32
  let main_v37 : IVec S256 32 := broadcastInDim S256 ![] bcast_S_S256 main_c_2
  let main_v38 : IVec S256 1 := cmpi .slt main_arg1 main_v37
  let main_c_3 : IVec S_ 32 := constantI S_ 32 0#32
  let main_v39 : IVec S256 32 := broadcastInDim S256 ![] bcast_S_S256 main_c_3
  let main_v40 : IVec S256 1 := cmpi .sge main_arg2 main_v39
  let main_c_4 : IVec S_ 32 := constantI S_ 32 16#32
  let main_v41 : IVec S256 32 := broadcastInDim S256 ![] bcast_S_S256 main_c_4
  fn_part2 (F := F) main_arg2 main_arg3 main_arg4 main_v12 main_v19 main_v22 main_v30 main_v32 main_v34 main_v36 main_v38 main_v40 main_v41

def fn {F : FTy → Type} [FloatOps F] (main_arg0 : IVec S256 32) (main_arg1 : IVec S256 32) (main_arg2 : IVec S256 32) (main_arg3 : IVec S256 32) (main_arg4 : IVec S256 32) (main_arg5 : FVec F S8x8192x1024 .f32) (main_arg6 : FVec F S16x1024x512 .f32) (main_arg7 : FVec F S16x1024x512 .f32) (main_arg8 : FVec F S16x512x1024 .f32) : IVec S256 1 × IVec S256 1 × IVec S256 1 × IVec S256 1 × IVec S256 1 × IVec S256 1 × IVec S1 1 × IVec S1 1 × IVec S255 1 × IVec S255 1 × IVec S256x255 1 :=
  let main_v0 : IVec S256x1 32 := broadcastInDim S256x1 ![0] bcast_S256_S256x1_0 main_arg0
  let main_v1 : IVec S255 32 := (extractStridedSlice S255 ![1] · slices_S256_S255_1) main_arg0
  let main_v2 : IVec S1x255 32 := broadcastInDim S1x255 ![1] bcast_S255_S1x255_1 main_v1
  let main_v3 : IVec S256x255 32 := broadcastInDim S256x255 ![0, 1] bcast_S256x1_S256x255_0_1 main_v0
  let main_v4 : IVec S256x255 32 := broadcastInDim S256x255 ![0, 1] bcast_S1x255_S256x255_0_1 main_v2
  let main_v5 : IVec S256x255 1 := cmpi .eq main_v3 main_v4
  let main_v6 : IVec S256x1 32 := broadcastInDim S256x1 ![0] bcast_S256_S256x1_0 main_arg1
  let main_v7 : IVec S255 32 := (extractStridedSlice S255 ![1] · slices_S256_S255_1) main_arg1
  let main_v8 : IVec S1x255 32 := broadcastInDim S1x255 ![1] bcast_S255_S1x255_1 main_v7
  let main_v9 : IVec S256x255 32 := broadcastInDim S256x255 ![0, 1] bcast_S256x1_S256x255_0_1 main_v6
  let main_v10 : IVec S256x255 32 := broadcastInDim S256x255 ![0, 1] bcast_S1x255_S256x255_0_1 main_v8
  let main_v11 : IVec S256x255 1 := cmpi .eq main_v9 main_v10
  let main_v12 : IVec S256x255 1 := andi main_v5 main_v11
  let main_v13 : IVec S256 32 := iotaInDim S256 32 0
  let main_v14 : IVec S256x1 32 := broadcastInDim S256x1 ![0] bcast_S256_S256x1_0 main_v13
  let main_v15 : IVec S255 32 := iotaInDim S255 32 0
  let main_v16 : IVec S1x255 32 := broadcastInDim S1x255 ![1] bcast_S255_S1x255_1 main_v15
  let main_v17 : IVec S256x255 32 := broadcastInDim S256x255 ![0, 1] bcast_S256x1_S256x255_0_1 main_v14
  let main_v18 : IVec S256x255 32 := broadcastInDim S256x255 ![0, 1] bcast_S1x255_S256x255_0_1 main_v16
  let main_v19 : IVec S256x255 1 := cmpi .sle main_v17 main_v18
  let main_v20 : IVec S255 32 := (extractStridedSlice S255 ![1] · slices_S256_S255_1) main_arg2
  let main_v21 : IVec S255 32 := (extractStridedSlice S255 ![0] · slices_S256_S255_0) main_arg2
  let main_v22 : IVec S255 1 := cmpi .eq main_v20 main_v21
  let main_v23 : IVec S255 32 := (extractStridedSlice S255 ![1] · slices_S256_S255_1) main_arg0
  fn_part1 (F := F) main_arg0 main_arg1 main_arg2 main_arg3 main_arg4 main_v12 main_v19 main_v22 main_v23
-- ==== Kernel.lean ====
abbrev S8x2048x4x512 : Shape := ⟨4, ![8, 2048, 4, 512]⟩
abbrev S8x2048x4 : Shape := ⟨3, ![8, 2048, 4]⟩
abbrev S8x2048x2048 : Shape := ⟨3, ![8, 2048, 2048]⟩
abbrev S8x2048x8 : Shape := ⟨3, ![8, 2048, 8]⟩
abbrev S8x8x2048 : Shape := ⟨3, ![8, 8, 2048]⟩
abbrev S8x2x4x2048 : Shape := ⟨4, ![8, 2, 4, 2048]⟩
abbrev S8x4x2x2048 : Shape := ⟨4, ![8, 4, 2, 2048]⟩
abbrev S8x4x512x512 : Shape := ⟨4, ![8, 4, 512, 512]⟩
abbrev S8x4x512x1 : Shape := ⟨4, ![8, 4, 512, 1]⟩
abbrev S8x4x1x1 : Shape := ⟨4, ![8, 4, 1, 1]⟩
abbrev S1x256x2048 : Shape := ⟨3, ![1, 256, 2048]⟩
abbrev S1x4x2x256 : Shape := ⟨4, ![1, 4, 2, 256]⟩
abbrev S1x4x512x512 : Shape := ⟨4, ![1, 4, 512, 512]⟩
abbrev S1x4x512x1 : Shape := ⟨4, ![1, 4, 512, 1]⟩
abbrev S1x4x1x1 : Shape := ⟨4, ![1, 4, 1, 1]⟩
abbrev S4x512x640 : Shape := ⟨3, ![4, 512, 640]⟩
abbrev S4x1x1 : Shape := ⟨3, ![4, 1, 1]⟩
abbrev S256x256 : Shape := ⟨2, ![256, 256]⟩
abbrev S256x128 : Shape := ⟨2, ![256, 128]⟩
abbrev S1x256x512 : Shape := ⟨3, ![1, 256, 512]⟩
abbrev S256x512 : Shape := ⟨2, ![256, 512]⟩
abbrev S1x1x2x256 : Shape := ⟨4, ![1, 1, 2, 256]⟩
abbrev S2x256 : Shape := ⟨2, ![2, 256]⟩
abbrev S1x256 : Shape := ⟨2, ![1, 256]⟩
abbrev S256 : Shape := ⟨1, ![256]⟩
abbrev S256x1 : Shape := ⟨2, ![256, 1]⟩
abbrev S1x1x1 : Shape := ⟨3, ![1, 1, 1]⟩
abbrev S1x1 : Shape := ⟨2, ![1, 1]⟩
abbrev S256x640 : Shape := ⟨2, ![256, 640]⟩
abbrev S1x512x640 : Shape := ⟨3, ![1, 512, 640]⟩
abbrev S512x640 : Shape := ⟨2, ![512, 640]⟩
abbrev S1x512x512 : Shape := ⟨3, ![1, 512, 512]⟩
abbrev S512x512 : Shape := ⟨2, ![512, 512]⟩
abbrev S1x1x512x512 : Shape := ⟨4, ![1, 1, 512, 512]⟩
abbrev S1x512x1 : Shape := ⟨3, ![1, 512, 1]⟩
abbrev S512x1 : Shape := ⟨2, ![512, 1]⟩
abbrev S1x1x512x1 : Shape := ⟨4, ![1, 1, 512, 1]⟩
abbrev S1x1x1x1 : Shape := ⟨4, ![1, 1, 1, 1]⟩

abbrev nBuf : Space → Nat
  | .hbm => 19
  | .vmem => 18
  | .smem => 0
  | _ => 0

abbrev bufTy : (tb : Table) → Fin (tcTables nBuf tb) → BufTy
  | .hbm, ⟨0, _⟩ => ⟨S8x2048x4x512, .f32⟩
  | .hbm, ⟨1, _⟩ => ⟨S8x2048x4x512, .f32⟩
  | .hbm, ⟨2, _⟩ => ⟨S8x2048x4x512, .f32⟩
  | .hbm, ⟨3, _⟩ => ⟨S8x2048x4, .f32⟩
  | .hbm, ⟨4, _⟩ => ⟨S8x2048x4, .f32⟩
  | .hbm, ⟨5, _⟩ => ⟨S8x2048x2048, .f32⟩
  | .hbm, ⟨6, _⟩ => ⟨S8x2048x2048, .bf16⟩
  | .hbm, ⟨7, _⟩ => ⟨S8x2048x2048, .f32⟩
  | .hbm, ⟨8, _⟩ => ⟨S8x2048x2048, .bf16⟩
  | .hbm, ⟨9, _⟩ => ⟨S8x2048x2048, .f32⟩
  | .hbm, ⟨10, _⟩ => ⟨S8x2048x2048, .bf16⟩
  | .hbm, ⟨11, _⟩ => ⟨S8x2048x8, .f32⟩
  | .hbm, ⟨12, _⟩ => ⟨S8x8x2048, .f32⟩
  | .hbm, ⟨13, _⟩ => ⟨S8x2x4x2048, .f32⟩
  | .hbm, ⟨14, _⟩ => ⟨S8x4x2x2048, .f32⟩
  | .hbm, ⟨15, _⟩ => ⟨S8x2048x2048, .f32⟩
  | .hbm, ⟨16, _⟩ => ⟨S8x4x512x512, .f32⟩
  | .hbm, ⟨17, _⟩ => ⟨S8x4x512x1, .f32⟩
  | .hbm, ⟨18, _⟩ => ⟨S8x4x1x1, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x4x2x256, .f32⟩
  | .local _ .vmem, ⟨7, _⟩ => ⟨S1x4x2x256, .f32⟩
  | .local _ .vmem, ⟨8, _⟩ => ⟨S1x256x2048, .f32⟩
  | .local _ .vmem, ⟨9, _⟩ => ⟨S1x256x2048, .f32⟩
  | .local _ .vmem, ⟨10, _⟩ => ⟨S1x4x512x512, .f32⟩
  | .local _ .vmem, ⟨11, _⟩ => ⟨S1x4x512x512, .f32⟩
  | .local _ .vmem, ⟨12, _⟩ => ⟨S1x4x512x1, .f32⟩
  | .local _ .vmem, ⟨13, _⟩ => ⟨S1x4x512x1, .f32⟩
  | .local _ .vmem, ⟨14, _⟩ => ⟨S1x4x1x1, .f32⟩
  | .local _ .vmem, ⟨15, _⟩ => ⟨S1x4x1x1, .f32⟩
  | .local _ .vmem, ⟨16, _⟩ => ⟨S4x512x640, .f32⟩
  | .local _ .vmem, ⟨17, _⟩ => ⟨S4x1x1, .f32⟩
  | _, _ => ⟨S8x2048x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v426 : BitVec 1 := Scalar.cmpi .eq arg1 c7_i32
  let v427 : BitVec 32 := Scalar.extui v426
  let c0_i32_168 : BitVec 32 := 0#32
  let v428 : BitVec 1 := Scalar.cmpi .ne v427 c0_i32_168
  v428

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x2048x4x512 : Shape := ⟨4, ![8, 2048, 4, 512]⟩
abbrev S8x2048x4 : Shape := ⟨3, ![8, 2048, 4]⟩
abbrev S8x4x2048x512 : Shape := ⟨4, ![8, 4, 2048, 512]⟩
abbrev S8x4x2048 : Shape := ⟨3, ![8, 4, 2048]⟩
abbrev S_ : Shape := ⟨0, ![]⟩
abbrev S8x4x512x512 : Shape := ⟨4, ![8, 4, 512, 512]⟩
abbrev S8x4x512 : Shape := ⟨3, ![8, 4, 512]⟩
abbrev S8x4 : Shape := ⟨2, ![8, 4]⟩
abbrev S2048x2048 : Shape := ⟨2, ![2048, 2048]⟩
abbrev S8x4x2048x1 : Shape := ⟨4, ![8, 4, 2048, 1]⟩
abbrev S8x4x1x2048 : Shape := ⟨4, ![8, 4, 1, 2048]⟩
abbrev S8x4x2048x2048 : Shape := ⟨4, ![8, 4, 2048, 2048]⟩
abbrev S8x4x1 : Shape := ⟨3, ![8, 4, 1]⟩
abbrev S8x4x1x1 : Shape := ⟨4, ![8, 4, 1, 1]⟩
abbrev S8x2048x2048 : Shape := ⟨3, ![8, 2048, 2048]⟩
abbrev S8x4x512x1 : Shape := ⟨4, ![8, 4, 512, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x4x512, .f32⟩
  | .hbm, ⟨1, _⟩ => ⟨S8x2048x4x512, .f32⟩
  | .hbm, ⟨2, _⟩ => ⟨S8x2048x4x512, .f32⟩
  | .hbm, ⟨3, _⟩ => ⟨S8x2048x4, .f32⟩
  | .hbm, ⟨4, _⟩ => ⟨S8x2048x4, .f32⟩
  | .hbm, ⟨5, _⟩ => ⟨S8x4x2048x512, .f32⟩
  | .hbm, ⟨6, _⟩ => ⟨S8x4x2048x512, .f32⟩
  | .hbm, ⟨7, _⟩ => ⟨S8x4x2048x512, .f32⟩
  | .hbm, ⟨8, _⟩ => ⟨S8x4x2048, .f32⟩
  | .hbm, ⟨9, _⟩ => ⟨S8x4x2048, .f32⟩
  | .hbm, ⟨10, _⟩ => ⟨S_, .f32⟩
  | .hbm, ⟨11, _⟩ => ⟨S8x4x512x512, .f32⟩
  | .hbm, ⟨12, _⟩ => ⟨S_, .f32⟩
  | .hbm, ⟨13, _⟩ => ⟨S8x4x512, .f32⟩
  | .hbm, ⟨14, _⟩ => ⟨S_, .f32⟩
  | .hbm, ⟨15, _⟩ => ⟨S8x4, .f32⟩
  | .hbm, ⟨16, _⟩ => ⟨S_, .f32⟩
  | .hbm, ⟨17, _⟩ => ⟨S_, .f32⟩
  | .hbm, ⟨18, _⟩ => ⟨S8x4x2048, .f32⟩
  | .hbm, ⟨19, _⟩ => ⟨S_, .i1⟩
  | .hbm, ⟨20, _⟩ => ⟨S2048x2048, .i1⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S8x4x2048x1, .f32⟩
  | .hbm, ⟨31, _⟩ => ⟨S8x4x1x2048, .f32⟩
  | .hbm, ⟨32, _⟩ => ⟨S8x4x2048x2048, .f32⟩
  | .hbm, ⟨33, _⟩ => ⟨S8x4x2048x2048, .f32⟩
  | .hbm, ⟨34, _⟩ => ⟨S8x4x2048x2048, .f32⟩
  | .hbm, ⟨35, _⟩ => ⟨S8x4x1x2048, .f32⟩
  | .hbm, ⟨36, _⟩ => ⟨S8x4x2048x2048, .f32⟩
  | .hbm, ⟨37, _⟩ => ⟨S8x4x2048x2048, .f32⟩
  | .hbm, ⟨38, _⟩ => ⟨S_, .f32⟩
  | .hbm, ⟨39, _⟩ => ⟨S_, .f32⟩
  | .hbm, ⟨40, _⟩ => ⟨S8x4x2048x2048, .i1⟩
  | .hbm, ⟨41, _⟩ => ⟨S8x4x2048x2048, .f32⟩
  | .hbm, ⟨42, _⟩ => ⟨S8x4x2048x2048, .f32⟩
  | .hbm, ⟨43, _⟩ => ⟨S8x4x1, .f32⟩
  | .hbm, ⟨44, _⟩ => ⟨S8x4x2048, .f32⟩
  | .hbm, ⟨45, _⟩ => ⟨S8x4x2048, .f32⟩
  | .hbm, ⟨46, _⟩ => ⟨S_, .f32⟩
  | .hbm, ⟨47, _⟩ => ⟨S8x4x2048, .f32⟩
  | .hbm, ⟨48, _⟩ => ⟨S8x4x2048, .f32⟩
  | .hbm, ⟨49, _⟩ => ⟨S8x4x2048x1, .f32⟩
  | .hbm, ⟨50, _⟩ => ⟨S8x4x2048x2048, .f32⟩
  | .hbm, ⟨51, _⟩ => ⟨S8x4x2048x2048, .f32⟩
  | .hbm, ⟨52, _⟩ => ⟨S8x4x2048x2048, .f32⟩
  | .hbm, ⟨53, _⟩ => ⟨S8x4x2048, .f32⟩
  | .hbm, ⟨54, _⟩ => ⟨S8x4x2048, .f32⟩
  | .hbm, ⟨55, _⟩ => ⟨S8x4x2048x2048, .f32⟩
  | .hbm, ⟨56, _⟩ => ⟨S8x4x2048x2048, .f32⟩
  | .hbm, ⟨57, _⟩ => ⟨S8x4x2048x1, .f32⟩
  | .hbm, ⟨58, _⟩ => ⟨S8x4x2048x512, .f32⟩
  | .hbm, ⟨59, _⟩ => ⟨S8x4x2048x512, .f32⟩
  | .hbm, ⟨60, _⟩ => ⟨S8x4x2048x512, .f32⟩
  | .hbm, ⟨61, _⟩ => ⟨S8x4x2048x512, .f32⟩
  | .hbm, ⟨62, _⟩ => ⟨S8x4x2048x512, .f32⟩
  | .hbm, ⟨63, _⟩ => ⟨S8x4x2048, .f32⟩
  | .hbm, ⟨64, _⟩ => ⟨S8x4x2048, .f32⟩
  | .hbm, ⟨65, _⟩ => ⟨S_, .f32⟩
  | .hbm, ⟨66, _⟩ => ⟨S8x4x2048, .f32⟩
  | .hbm, ⟨67, _⟩ => ⟨S8x4x2048, .f32⟩
  | .hbm, ⟨68, _⟩ => ⟨S8x4x2048, .f32⟩
  | .hbm, ⟨69, _⟩ => ⟨S8x4x2048, .f32⟩
  | .hbm, ⟨70, _⟩ => ⟨S8x4x2048, .f32⟩
  | .hbm, ⟨71, _⟩ => ⟨S8x4x2048, .f32⟩
  | .hbm, ⟨72, _⟩ => ⟨S8x4x2048x1, .f32⟩
  | .hbm, ⟨73, _⟩ => ⟨S8x4x2048x512, .f32⟩
  | .hbm, ⟨74, _⟩ => ⟨S8x4x2048x512, .f32⟩
  | .hbm, ⟨75, _⟩ => ⟨S8x4x1, .f32⟩
  | .hbm, ⟨76, _⟩ => ⟨S8x4, .f32⟩
  | .hbm, ⟨77, _⟩ => ⟨S8x4x1, .f32⟩
  | .hbm, ⟨78, _⟩ => ⟨S8x4x2048, .f32⟩
  | .hbm, ⟨79, _⟩ => ⟨S8x4x2048, .f32⟩
  | .hbm, ⟨80, _⟩ => ⟨S8x4x2048, .f32⟩
  | .hbm, ⟨81, _⟩ => ⟨S8x4x1, .f32⟩
  | .hbm, ⟨82, _⟩ => ⟨S8x4x2048, .f32⟩
  | .hbm, ⟨83, _⟩ => ⟨S8x4x2048, .f32⟩
  | .hbm, ⟨84, _⟩ => ⟨S8x4x2048, .f32⟩
  | .hbm, ⟨85, _⟩ => ⟨S8x4x1, .f32⟩
  | .hbm, ⟨86, _⟩ => ⟨S8x4, .f32⟩
  | .hbm, ⟨87, _⟩ => ⟨S8x4, .f32⟩
  | .hbm, ⟨88, _⟩ => ⟨S8x4, .f32⟩
  | .hbm, ⟨89, _⟩ => ⟨S8x4, .f32⟩
  | .hbm, ⟨90, _⟩ => ⟨S8x4x1x1, .f32⟩
  | .hbm, ⟨91, _⟩ => ⟨S8x4x512x512, .f32⟩
  | .hbm, ⟨92, _⟩ => ⟨S8x4x512x512, .f32⟩
  | .hbm, ⟨93, _⟩ => ⟨S8x4x2048x1, .f32⟩
  | .hbm, ⟨94, _⟩ => ⟨S8x4x2048x512, .f32⟩
  | .hbm, ⟨95, _⟩ => ⟨S8x4x2048x512, .f32⟩
  | .hbm, ⟨96, _⟩ => ⟨S8x4x512x512, .f32⟩
  | .hbm, ⟨97, _⟩ => ⟨S8x4x512x512, .f32⟩
  | .hbm, ⟨98, _⟩ => ⟨S8x4x1, .f32⟩
  | .hbm, ⟨99, _⟩ => ⟨S8x4x512, .f32⟩
  | .hbm, ⟨100, _⟩ => ⟨S8x4x512, .f32⟩
  | .hbm, ⟨101, _⟩ => ⟨S8x4x512, .f32⟩
  | .hbm, ⟨102, _⟩ => ⟨S8x4x512, .f32⟩
  | .hbm, ⟨103, _⟩ => ⟨S8x2048x4x512, .f32⟩
  | .hbm, ⟨104, _⟩ => ⟨S8x2048x2048, .f32⟩
  | .hbm, ⟨105, _⟩ => ⟨S8x4x512x1, .f32⟩
  | .hbm, ⟨106, _⟩ => ⟨S8x4x1x1, .f32⟩
  | _, _ => ⟨S8x2048x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_call0_call0_cst : Ref sig .tc := ⟨.hbm, 16, rfl⟩
abbrev main_call0_call0_v0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_0 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x1x6144 : Shape := ⟨3, ![8, 1, 6144]⟩
abbrev S1024x4096 : Shape := ⟨2, ![1024, 4096]⟩
abbrev S8x2048x2048 : Shape := ⟨3, ![8, 2048, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S512x4096 : Shape := ⟨2, ![512, 4096]⟩
abbrev S512x2048 : Shape := ⟨2, ![512, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x4096, .f32⟩
  | .hbm, ⟨3, _⟩ => ⟨S1024x4096, .bf16⟩
  | .hbm, ⟨4, _⟩ => ⟨S8x2048x2048, .f32⟩
  | .hbm, ⟨5, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8x2048x1024 : Shape := ⟨3, ![8, 2048, 1024]⟩
abbrev S8x1x6144 : Shape := ⟨3, ![8, 1, 6144]⟩
abbrev S1024x4096 : Shape := ⟨2, ![1024, 4096]⟩
abbrev S8x1x1024 : Shape := ⟨3, ![8, 1, 1024]⟩
abbrev S_ : Shape := ⟨0, ![]⟩
abbrev S8x2048x4096 : Shape := ⟨3, ![8, 2048, 4096]⟩
abbrev S8x2048x2048 : Shape := ⟨3, ![8, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x4096, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x4096, .f32⟩
  | .hbm, ⟨17, _⟩ => ⟨S8x2048x2048, .f32⟩
  | .hbm, ⟨18, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x1024 : Shape := ⟨2, ![1024, 1024]⟩
abbrev S1024x2048 : Shape := ⟨2, ![1024, 2048]⟩
abbrev S1x512x1024 : Shape := ⟨3, ![1, 512, 1024]⟩
abbrev S512x1024 : Shape := ⟨2, ![512, 1024]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S8x2048x1024, .f32⟩
  | .hbm, ⟨6, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8x2048x1024 : Shape := ⟨3, ![8, 2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S8x2048x1024, .f32⟩
  | .hbm, ⟨4, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x1x6144 : Shape := ⟨3, ![8, 1, 6144]⟩
abbrev S1024x1024 : Shape := ⟨2, ![1024, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x1024, .f32⟩
  | .hbm, ⟨3, _⟩ => ⟨S1024x1024, .bf16⟩
  | .hbm, ⟨4, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x512x1024, .bf16⟩
  | .local _ .vmem, ⟨8, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8x2048x1024 : Shape := ⟨3, ![8, 2048, 1024]⟩
abbrev S8x1x6144 : Shape := ⟨3, ![8, 1, 6144]⟩
abbrev S1024x1024 : Shape := ⟨2, ![1024, 1024]⟩
abbrev S8x1x1024 : Shape := ⟨3, ![8, 1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S32x1x1024 : Shape := ⟨3, ![32, 1, 1024]⟩
abbrev S1024x1024 : Shape := ⟨2, ![1024, 1024]⟩
abbrev S1x32x1024 : Shape := ⟨3, ![1, 32, 1024]⟩
abbrev S1024x2048 : Shape := ⟨2, ![1024, 2048]⟩
abbrev S1x32x2048 : Shape := ⟨3, ![1, 32, 2048]⟩
abbrev S32x1024 : Shape := ⟨2, ![32, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S1024x1024, .f32⟩
  | .hbm, ⟨2, _⟩ => ⟨S1024x1024, .f32⟩
  | .hbm, ⟨3, _⟩ => ⟨S1x32x1024, .f32⟩
  | .hbm, ⟨4, _⟩ => ⟨S1024x2048, .f32⟩
  | .hbm, ⟨5, _⟩ => ⟨S1x32x2048, .f32⟩
  | .local _ .vmem, ⟨0, _⟩ => ⟨S1x32x1024, .f32⟩
  | .local _ .vmem, ⟨1, _⟩ => ⟨S1024x1024, .f32⟩
  | .local _ .vmem, ⟨2, _⟩ => ⟨S1024x1024, .f32⟩
  | .local _ .vmem, ⟨3, _⟩ => ⟨S1x32x1024, .f32⟩
  | .local _ .vmem, ⟨4, _⟩ => ⟨S1x32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference5Ideal.lean ====
abbrev S32x1x1024 : Shape := ⟨3, ![32, 1, 1024]⟩
abbrev S1024x1024 : Shape := ⟨2, ![1024, 1024]⟩
abbrev S32x1x2048 : Shape := ⟨3, ![32, 1, 2048]⟩
abbrev S1x32x2048 : Shape := ⟨3, ![1, 32, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024x1024, .f32⟩
  | .hbm, ⟨2, _⟩ => ⟨S1024x1024, .f32⟩
  | .hbm, ⟨3, _⟩ => ⟨S32x1x1024, .f32⟩
  | .hbm, ⟨4, _⟩ => ⟨S32x1x1024, .f32⟩
  | .hbm, ⟨5, _⟩ => ⟨S32x1x2048, .f32⟩
  | .hbm, ⟨6, _⟩ => ⟨S1x32x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S32x1x4x512 : Shape := ⟨4, ![32, 1, 4, 512]⟩
abbrev S32x1x4 : Shape := ⟨3, ![32, 1, 4]⟩
abbrev S32x4x512x512 : Shape := ⟨4, ![32, 4, 512, 512]⟩
abbrev S32x4x512 : Shape := ⟨3, ![32, 4, 512]⟩
abbrev S32x4 : Shape := ⟨2, ![32, 4]⟩
abbrev S32x1x8 : Shape := ⟨3, ![32, 1, 8]⟩
abbrev S32x2x4 : Shape := ⟨3, ![32, 2, 4]⟩
abbrev S32x4x2 : Shape := ⟨3, ![32, 4, 2]⟩
abbrev S32x4x1x2 : Shape := ⟨4, ![32, 4, 1, 2]⟩
abbrev S32x1x2048 : Shape := ⟨3, ![32, 1, 2048]⟩
abbrev S32x4x1x512 : Shape := ⟨4, ![32, 4, 1, 512]⟩
abbrev S32x4x1x1 : Shape := ⟨4, ![32, 4, 1, 1]⟩
abbrev S1x1x2048 : Shape := ⟨3, ![1, 1, 2048]⟩
abbrev S1x4x1x2 : Shape := ⟨4, ![1, 4, 1, 2]⟩
abbrev S1x4x512x512 : Shape := ⟨4, ![1, 4, 512, 512]⟩
abbrev S1x4x1x512 : Shape := ⟨4, ![1, 4, 1, 512]⟩
abbrev S1x4x1x1 : Shape := ⟨4, ![1, 4, 1, 1]⟩
abbrev S8x512 : Shape := ⟨2, ![8, 512]⟩
abbrev S1x1x512 : Shape := ⟨3, ![1, 1, 512]⟩
abbrev S1x512 : Shape := ⟨2, ![1, 512]⟩
abbrev S1x1x1x2 : Shape := ⟨4, ![1, 1, 1, 2]⟩
abbrev S1x2 : Shape := ⟨2, ![1, 2]⟩
abbrev S1x1 : Shape := ⟨2, ![1, 1]⟩
abbrev S1x1x1x1 : Shape := ⟨4, ![1, 1, 1, 1]⟩
abbrev S1x1x512x512 : Shape := ⟨4, ![1, 1, 512, 512]⟩
abbrev S512x512 : Shape := ⟨2, ![512, 512]⟩
abbrev S1x1x1x512 : Shape := ⟨4, ![1, 1, 1, 512]⟩
abbrev S1 : Shape := ⟨1, ![1]⟩

abbrev nBuf : Space → Nat
  | .hbm => 21
  | .vmem => 22
  | .smem => 0
  | _ => 0

abbrev bufTy : (tb : Table) → Fin (tcTables nBuf tb) → BufTy
  | .hbm, ⟨0, _⟩ => ⟨S32x1x4x512, .f32⟩
  | .hbm, ⟨1, _⟩ => ⟨S32x1x4x512, .f32⟩
  | .hbm, ⟨2, _⟩ => ⟨S32x1x4x512, .f32⟩
  | .hbm, ⟨3, _⟩ => ⟨S32x1x4, .f32⟩
  | .hbm, ⟨4, _⟩ => ⟨S32x1x4, .f32⟩
  | .hbm, ⟨5, _⟩ => ⟨S32x4x512x512, .f32⟩
  | .hbm, ⟨6, _⟩ => ⟨S32x4x512, .f32⟩
  | .hbm, ⟨7, _⟩ => ⟨S32x4, .f32⟩
  | .hbm, ⟨8, _⟩ => ⟨S32x1x8, .f32⟩
  | .hbm, ⟨9, _⟩ => ⟨S32x2x4, .f32⟩
  | .hbm, ⟨10, _⟩ => ⟨S32x4x2, .f32⟩
  | .hbm, ⟨11, _⟩ => ⟨S32x4x1x2, .f32⟩
  | .hbm, ⟨12, _⟩ => ⟨S32x1x2048, .f32⟩
  | .hbm, ⟨13, _⟩ => ⟨S32x1x2048, .f32⟩
  | .hbm, ⟨14, _⟩ => ⟨S32x1x2048, .f32⟩
  | .hbm, ⟨15, _⟩ => ⟨S32x4x1x512, .f32⟩
  | .hbm, ⟨16, _⟩ => ⟨S32x4x1x1, .f32⟩
  | .hbm, ⟨17, _⟩ => ⟨S32x1x2048, .f32⟩
  | .hbm, ⟨18, _⟩ => ⟨S32x4x512x512, .f32⟩
  | .hbm, ⟨19, _⟩ => ⟨S32x4x1x512, .f32⟩
  | .hbm, ⟨20, _⟩ => ⟨S32x4x1x1, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x4x1x2, .f32⟩
  | .local _ .vmem, ⟨7, _⟩ => ⟨S1x4x1x2, .f32⟩
  | .local _ .vmem, ⟨8, _⟩ => ⟨S1x4x512x512, .f32⟩
  | .local _ .vmem, ⟨9, _⟩ => ⟨S1x4x512x512, .f32⟩
  | .local _ .vmem, ⟨10, _⟩ => ⟨S1x4x1x512, .f32⟩
  | .local _ .vmem, ⟨11, _⟩ => ⟨S1x4x1x512, .f32⟩
  | .local _ .vmem, ⟨12, _⟩ => ⟨S1x4x1x1, .f32⟩
  | .local _ .vmem, ⟨13, _⟩ => ⟨S1x4x1x1, .f32⟩
  | .local _ .vmem, ⟨14, _⟩ => ⟨S1x1x2048, .f32⟩
  | .local _ .vmem, ⟨15, _⟩ => ⟨S1x1x2048, .f32⟩
  | .local _ .vmem, ⟨16, _⟩ => ⟨S1x4x512x512, .f32⟩
  | .local _ .vmem, ⟨17, _⟩ => ⟨S1x4x512x512, .f32⟩
  | .local _ .vmem, ⟨18, _⟩ => ⟨S1x4x1x512, .f32⟩
  | .local _ .vmem, ⟨19, _⟩ => ⟨S1x4x1x512, .f32⟩
  | .local _ .vmem, ⟨20, _⟩ => ⟨S1x4x1x1, .f32⟩
  | .local _ .vmem, ⟨21, _⟩ => ⟨S1x4x1x1, .f32⟩
  | _, _ => ⟨S32x1x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S32x1x4x512 : Shape := ⟨4, ![32, 1, 4, 512]⟩
abbrev S32x1x4 : Shape := ⟨3, ![32, 1, 4]⟩
abbrev S32x4x512x512 : Shape := ⟨4, ![32, 4, 512, 512]⟩
abbrev S32x4x512 : Shape := ⟨3, ![32, 4, 512]⟩
abbrev S32x4 : Shape := ⟨2, ![32, 4]⟩
abbrev S32x4x1x512 : Shape := ⟨4, ![32, 4, 1, 512]⟩
abbrev S32x4x1 : Shape := ⟨3, ![32, 4, 1]⟩
abbrev S_ : Shape := ⟨0, ![]⟩
abbrev S1x1 : Shape := ⟨2, ![1, 1]⟩
abbrev S32x4x1x1 : Shape := ⟨4, ![32, 4, 1, 1]⟩
abbrev S32x1x2048 : Shape := ⟨3, ![32, 1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S32x1x4x512, .f32⟩
  | .hbm, ⟨1, _⟩ => ⟨S32x1x4x512, .f32⟩
  | .hbm, ⟨2, _⟩ => ⟨S32x1x4x512, .f32⟩
  | .hbm, ⟨3, _⟩ => ⟨S32x1x4, .f32⟩
  | .hbm, ⟨4, _⟩ => ⟨S32x1x4, .f32⟩
  | .hbm, ⟨5, _⟩ => ⟨S32x4x512x512, .f32⟩
  | .hbm, ⟨6, _⟩ => ⟨S32x4x512, .f32⟩
  | .hbm, ⟨7, _⟩ => ⟨S32x4, .f32⟩
  | .hbm, ⟨8, _⟩ => ⟨S32x4x1x512, .f32⟩
  | .hbm, ⟨9, _⟩ => ⟨S32x4x1x512, .f32⟩
  | .hbm, ⟨10, _⟩ => ⟨S32x4x1x512, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S_, .f32⟩
  | .hbm, ⟨15, _⟩ => ⟨S32x4x1, .f32⟩
  | .hbm, ⟨16, _⟩ => ⟨S_, .i1⟩
  | .hbm, ⟨17, _⟩ => ⟨S1x1, .i1⟩
  | .hbm, ⟨18, _⟩ => ⟨S1x1, .i32⟩
  | .hbm, ⟨19, _⟩ => ⟨S_, .i32⟩
  | .hbm, ⟨20, _⟩ => ⟨S1x1, .i32⟩
  | .hbm, ⟨21, _⟩ => ⟨S1x1, .i32⟩
  | .hbm, ⟨22, _⟩ => ⟨S1x1, .i32⟩
  | .hbm, ⟨23, _⟩ => ⟨S1x1, .i1⟩
  | .hbm, ⟨24, _⟩ => ⟨S_, .i1⟩
  | .hbm, ⟨25, _⟩ => ⟨S1x1, .i1⟩
  | .hbm, ⟨26, _⟩ => ⟨S1x1, .i1⟩
  | .hbm, ⟨27, _⟩ => ⟨S32x4x1x1, .f32⟩
  | .hbm, ⟨28, _⟩ => ⟨S32x4x1x1, .f32⟩
  | .hbm, ⟨29, _⟩ => ⟨S32x4x1x1, .f32⟩
  | .hbm, ⟨30, _⟩ => ⟨S32x4x1x1, .f32⟩
  | .hbm, ⟨31, _⟩ => ⟨S32x4x1x1, .f32⟩
  | .hbm, ⟨32, _⟩ => ⟨S_, .f32⟩
  | .hbm, ⟨33, _⟩ => ⟨S_, .f32⟩
  | .hbm, ⟨34, _⟩ => ⟨S32x4x1x1, .i1⟩
  | .hbm, ⟨35, _⟩ => ⟨S32x4x1x1, .f32⟩
  | .hbm, ⟨36, _⟩ => ⟨S32x4x1x1, .f32⟩
  | .hbm, ⟨37, _⟩ => ⟨S32x4x1, .f32⟩
  | .hbm, ⟨38, _⟩ => ⟨S32x4x1, .f32⟩
  | .hbm, ⟨39, _⟩ => ⟨S_, .f32⟩
  | .hbm, ⟨40, _⟩ => ⟨S32x4x1, .f32⟩
  | .hbm, ⟨41, _⟩ => ⟨S32x4x1, .f32⟩
  | .hbm, ⟨42, _⟩ => ⟨S32x4x1x1, .f32⟩
  | .hbm, ⟨43, _⟩ => ⟨S32x4x1x1, .f32⟩
  | .hbm, ⟨44, _⟩ => ⟨S32x4x1x1, .f32⟩
  | .hbm, ⟨45, _⟩ => ⟨S32x4x1, .f32⟩
  | .hbm, ⟨46, _⟩ => ⟨S32x4x1, .f32⟩
  | .hbm, ⟨47, _⟩ => ⟨S32x4x1x1, .f32⟩
  | .hbm, ⟨48, _⟩ => ⟨S32x4x1x1, .f32⟩
  | .hbm, ⟨49, _⟩ => ⟨S32x4x1x1, .f32⟩
  | .hbm, ⟨50, _⟩ => ⟨S32x4x1x512, .f32⟩
  | .hbm, ⟨51, _⟩ => ⟨S32x4x1x512, .f32⟩
  | .hbm, ⟨52, _⟩ => ⟨S32x4x1x512, .f32⟩
  | .hbm, ⟨53, _⟩ => ⟨S32x4x1x512, .f32⟩
  | .hbm, ⟨54, _⟩ => ⟨S32x4x1x512, .f32⟩
  | .hbm, ⟨55, _⟩ => ⟨S32x4x1, .f32⟩
  | .hbm, ⟨56, _⟩ => ⟨S32x4x1, .f32⟩
  | .hbm, ⟨57, _⟩ => ⟨S_, .f32⟩
  | .hbm, ⟨58, _⟩ => ⟨S32x4x1, .f32⟩
  | .hbm, ⟨59, _⟩ => ⟨S32x4x1, .f32⟩
  | .hbm, ⟨60, _⟩ => ⟨S32x4x1, .f32⟩
  | .hbm, ⟨61, _⟩ => ⟨S32x4x1, .f32⟩
  | .hbm, ⟨62, _⟩ => ⟨S32x4x1, .f32⟩
  | .hbm, ⟨63, _⟩ => ⟨S32x4x1, .f32⟩
  | .hbm, ⟨64, _⟩ => ⟨S32x4x1x1, .f32⟩
  | .hbm, ⟨65, _⟩ => ⟨S32x4x1x512, .f32⟩
  | .hbm, ⟨66, _⟩ => ⟨S32x4x1x512, .f32⟩
  | .hbm, ⟨67, _⟩ => ⟨S32x4, .f32⟩
  | .hbm, ⟨68, _⟩ => ⟨S32x4x1, .f32⟩
  | .hbm, ⟨69, _⟩ => ⟨S32x4x1, .f32⟩
  | .hbm, ⟨70, _⟩ => ⟨S32x4x1, .f32⟩
  | .hbm, ⟨71, _⟩ => ⟨S32x4x1, .f32⟩
  | .hbm, ⟨72, _⟩ => ⟨S32x4x1, .f32⟩
  | .hbm, ⟨73, _⟩ => ⟨S32x4, .f32⟩
  | .hbm, ⟨74, _⟩ => ⟨S32x4, .f32⟩
  | .hbm, ⟨75, _⟩ => ⟨S32x4, .f32⟩
  | .hbm, ⟨76, _⟩ => ⟨S32x4, .f32⟩
  | .hbm, ⟨77, _⟩ => ⟨S32x4x1x1, .f32⟩
  | .hbm, ⟨78, _⟩ => ⟨S32x4x512x512, .f32⟩
  | .hbm, ⟨79, _⟩ => ⟨S32x4x512x512, .f32⟩
  | .hbm, ⟨80, _⟩ => ⟨S32x4x1x1, .f32⟩
  | .hbm, ⟨81, _⟩ => ⟨S32x4x1x512, .f32⟩
  | .hbm, ⟨82, _⟩ => ⟨S32x4x1x512, .f32⟩
  | .hbm, ⟨83, _⟩ => ⟨S32x4x512x512, .f32⟩
  | .hbm, ⟨84, _⟩ => ⟨S32x4x512x512, .f32⟩
  | .hbm, ⟨85, _⟩ => ⟨S32x4x1, .f32⟩
  | .hbm, ⟨86, _⟩ => ⟨S32x4x512, .f32⟩
  | .hbm, ⟨87, _⟩ => ⟨S32x4x512, .f32⟩
  | .hbm, ⟨88, _⟩ => ⟨S32x4x512, .f32⟩
  | .hbm, ⟨89, _⟩ => ⟨S32x4x512, .f32⟩
  | .hbm, ⟨90, _⟩ => ⟨S32x1x4x512, .f32⟩
  | .hbm, ⟨91, _⟩ => ⟨S32x1x2048, .f32⟩
  | .hbm, ⟨92, _⟩ => ⟨S32x4x1x512, .f32⟩
  | .hbm, ⟨93, _⟩ => ⟨S32x4x1x1, .f32⟩
  | _, _ => ⟨S32x1x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_0 : Ref sig .tc := ⟨.hbm, 24, rfl⟩
abbrev main_call1_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel7.lean ====
abbrev S8x2048x2048 : Shape := ⟨3, ![8, 2048, 2048]⟩
abbrev S8x2048x1024 : Shape := ⟨3, ![8, 2048, 1024]⟩
abbrev S8x1x6144 : Shape := ⟨3, ![8, 1, 6144]⟩
abbrev S2048 : Shape := ⟨1, ![2048]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S1x2048 : Shape := ⟨2, ![1, 2048]⟩
abbrev S1x1024 : Shape := ⟨2, ![1, 1024]⟩
abbrev S1024x4x4 : Shape := ⟨3, ![1024, 4, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S20 : Shape := ⟨1, ![20]⟩
abbrev S128 : Shape := ⟨1, ![128]⟩
abbrev S1x128 : Shape := ⟨2, ![1, 128]⟩
abbrev S8x2048x128 : Shape := ⟨3, ![8, 2048, 128]⟩
abbrev S1x256x2048 : Shape := ⟨3, ![1, 256, 2048]⟩
abbrev S1x256x1024 : Shape := ⟨3, ![1, 256, 1024]⟩
abbrev S1x1x1024 : Shape := ⟨3, ![1, 1, 1024]⟩
abbrev S1x256x128 : Shape := ⟨3, ![1, 256, 128]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩

abbrev nBuf : Space → Nat
  | .hbm => 38
  | .vmem => 28
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2048x1024, .f32⟩
  | .hbm, ⟨4, _⟩ => ⟨S8x1x6144, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x4, .f32⟩
  | .hbm, ⟨13, _⟩ => ⟨S4x4, .f32⟩
  | .hbm, ⟨14, _⟩ => ⟨S1x2048, .f32⟩
  | .hbm, ⟨15, _⟩ => ⟨S1x2048, .f32⟩
  | .hbm, ⟨16, _⟩ => ⟨S2048x1024, .bf16⟩
  | .hbm, ⟨17, _⟩ => ⟨S1x1024, .f32⟩
  | .hbm, ⟨18, _⟩ => ⟨S1x1024, .f32⟩
  | .hbm, ⟨19, _⟩ => ⟨S1024x4x4, .f32⟩
  | .hbm, ⟨20, _⟩ => ⟨S1024x16, .f32⟩
  | .hbm, ⟨21, _⟩ => ⟨S1024x20, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S16, .f32⟩
  | .hbm, ⟨26, _⟩ => ⟨S20, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1024x128, .bf16⟩
  | .hbm, ⟨31, _⟩ => ⟨S1024x128, .f32⟩
  | .hbm, ⟨32, _⟩ => ⟨S1024x128, .f32⟩
  | .hbm, ⟨33, _⟩ => ⟨S1024x128, .bf16⟩
  | .hbm, ⟨34, _⟩ => ⟨S1x128, .f32⟩
  | .hbm, ⟨35, _⟩ => ⟨S8x2048x1024, .f32⟩
  | .hbm, ⟨36, _⟩ => ⟨S8x2048x1024, .f32⟩
  | .hbm, ⟨37, _⟩ => ⟨S8x2048x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x2048, .f32⟩
  | .local _ .vmem, ⟨15, _⟩ => ⟨S1x2048, .f32⟩
  | .local _ .vmem, ⟨16, _⟩ => ⟨S2048x1024, .bf16⟩
  | .local _ .vmem, ⟨17, _⟩ => ⟨S1x1024, .f32⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x128, .f32⟩
  | .local _ .vmem, ⟨27, _⟩ => ⟨S1x256x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference7Ideal.lean ====
abbrev S8x2048x2048 : Shape := ⟨3, ![8, 2048, 2048]⟩
abbrev S8x2048x1024 : Shape := ⟨3, ![8, 2048, 1024]⟩
abbrev S8x1x6144 : Shape := ⟨3, ![8, 1, 6144]⟩
abbrev S2048 : Shape := ⟨1, ![2048]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S8x1x1024 : Shape := ⟨3, ![8, 1, 1024]⟩
abbrev S8x2048x4x512 : Shape := ⟨4, ![8, 2048, 4, 512]⟩
abbrev S_ : Shape := ⟨0, ![]⟩
abbrev S8x2048x4 : Shape := ⟨3, ![8, 2048, 4]⟩
abbrev S8x2048x4x1 : Shape := ⟨4, ![8, 2048, 4, 1]⟩
abbrev S4x512 : Shape := ⟨2, ![4, 512]⟩
abbrev S1x1x4x512 : Shape := ⟨4, ![1, 1, 4, 512]⟩
abbrev S1x1x2048 : Shape := ⟨3, ![1, 1, 2048]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2048x1024, .f32⟩
  | .hbm, ⟨4, _⟩ => ⟨S8x1x6144, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x4, .f32⟩
  | .hbm, ⟨13, _⟩ => ⟨S4x4, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x4x512, .f32⟩
  | .hbm, ⟨21, _⟩ => ⟨S_, .f32⟩
  | .hbm, ⟨22, _⟩ => ⟨S8x2048x4, .f32⟩
  | .hbm, ⟨23, _⟩ => ⟨S8x2048x4x1, .f32⟩
  | .hbm, ⟨24, _⟩ => ⟨S_, .f32⟩
  | .hbm, ⟨25, _⟩ => ⟨S8x2048x4x1, .f32⟩
  | .hbm, ⟨26, _⟩ => ⟨S8x2048x4x1, .f32⟩
  | .hbm, ⟨27, _⟩ => ⟨S8x2048x4x512, .f32⟩
  | .hbm, ⟨28, _⟩ => ⟨S8x2048x4x512, .f32⟩
  | .hbm, ⟨29, _⟩ => ⟨S8x2048x4x512, .f32⟩
  | .hbm, ⟨30, _⟩ => ⟨S_, .f32⟩
  | .hbm, ⟨31, _⟩ => ⟨S8x2048x4, .f32⟩
  | .hbm, ⟨32, _⟩ => ⟨S8x2048x4x1, .f32⟩
  | .hbm, ⟨33, _⟩ => ⟨S_, .f32⟩
  | .hbm, ⟨34, _⟩ => ⟨S8x2048x4x1, .f32⟩
  | .hbm, ⟨35, _⟩ => ⟨S8x2048x4x1, .f32⟩
  | .hbm, ⟨36, _⟩ => ⟨S_, .f32⟩
  | .hbm, ⟨37, _⟩ => ⟨S8x2048x4x1, .f32⟩
  | .hbm, ⟨38, _⟩ => ⟨S8x2048x4x1, .f32⟩
  | .hbm, ⟨39, _⟩ => ⟨S8x2048x4x1, .f32⟩
  | .hbm, ⟨40, _⟩ => ⟨S8x2048x4x512, .f32⟩
  | .hbm, ⟨41, _⟩ => ⟨S8x2048x4x512, .f32⟩
  | .hbm, ⟨42, _⟩ => ⟨S4x512, .f32⟩
  | .hbm, ⟨43, _⟩ => ⟨S1x1x4x512, .f32⟩
  | .hbm, ⟨44, _⟩ => ⟨S8x2048x4x512, .f32⟩
  | .hbm, ⟨45, _⟩ => ⟨S8x2048x4x512, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048, .f32⟩
  | .hbm, ⟨81, _⟩ => ⟨S8x2048x1, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S_, .f32⟩
  | .hbm, ⟨86, _⟩ => ⟨S8x2048x1, .f32⟩
  | .hbm, ⟨87, _⟩ => ⟨S8x2048x1, .f32⟩
  | .hbm, ⟨88, _⟩ => ⟨S8x2048x1, .f32⟩
  | .hbm, ⟨89, _⟩ => ⟨S8x2048x1024, .f32⟩
  | .hbm, ⟨90, _⟩ => ⟨S8x2048x1024, .f32⟩
  | .hbm, ⟨91, _⟩ => ⟨S1x1x1024, .f32⟩
  | .hbm, ⟨92, _⟩ => ⟨S8x2048x1024, .f32⟩
  | .hbm, ⟨93, _⟩ => ⟨S8x2048x1024, .f32⟩
  | .hbm, ⟨94, _⟩ => ⟨S1x1x1024, .f32⟩
  | .hbm, ⟨95, _⟩ => ⟨S8x2048x1024, .f32⟩
  | .hbm, ⟨96, _⟩ => ⟨S8x2048x1024, .f32⟩
  | .hbm, ⟨97, _⟩ => ⟨S_, .f32⟩
  | .hbm, ⟨98, _⟩ => ⟨S8x1x1024, .f32⟩
  | .hbm, ⟨99, _⟩ => ⟨S8x1x1024, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Kernel8.lean ====
abbrev S8x2048x1024 : Shape := ⟨3, ![8, 2048, 1024]⟩
abbrev S8x1x6144 : Shape := ⟨3, ![8, 1, 6144]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S1x128 : Shape := ⟨2, ![1, 128]⟩
abbrev S1x1024 : Shape := ⟨2, ![1, 1024]⟩
abbrev S1024x4x4 : Shape := ⟨3, ![1024, 4, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S20 : Shape := ⟨1, ![20]⟩
abbrev S8x2048x128 : Shape := ⟨3, ![8, 2048, 128]⟩
abbrev S1x256x1024 : Shape := ⟨3, ![1, 256, 1024]⟩
abbrev S1x1x1024 : Shape := ⟨3, ![1, 1, 1024]⟩
abbrev S1x256x128 : Shape := ⟨3, ![1, 256, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 34
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x1x6144, .f32⟩
  | .hbm, ⟨3, _⟩ => ⟨S128, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S4x1024x4, .f32⟩
  | .hbm, ⟨10, _⟩ => ⟨S4x4, .f32⟩
  | .hbm, ⟨11, _⟩ => ⟨S1x128, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x4x4, .f32⟩
  | .hbm, ⟨16, _⟩ => ⟨S1024x16, .f32⟩
  | .hbm, ⟨17, _⟩ => ⟨S1024x20, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S16, .f32⟩
  | .hbm, ⟨22, _⟩ => ⟨S20, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S1x128, .f32⟩
  | .hbm, ⟨31, _⟩ => ⟨S8x2048x1024, .f32⟩
  | .hbm, ⟨32, _⟩ => ⟨S8x2048x1024, .f32⟩
  | .hbm, ⟨33, _⟩ => ⟨S8x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x128, .f32⟩
  | .local _ .vmem, ⟨22, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference8Ideal.lean ====
abbrev S8x2048x1024 : Shape := ⟨3, ![8, 2048, 1024]⟩
abbrev S8x1x6144 : Shape := ⟨3, ![8, 1, 6144]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S8x1x1024 : Shape := ⟨3, ![8, 1, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x1x6144, .f32⟩
  | .hbm, ⟨3, _⟩ => ⟨S128, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S4x1024x4, .f32⟩
  | .hbm, ⟨10, _⟩ => ⟨S4x4, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x8x128, .f32⟩
  | .hbm, ⟨18, _⟩ => ⟨S8x2048x8x128, .f32⟩
  | .hbm, ⟨19, _⟩ => ⟨S_, .f32⟩
  | .hbm, ⟨20, _⟩ => ⟨S8x2048x8, .f32⟩
  | .hbm, ⟨21, _⟩ => ⟨S8x2048x8x1, .f32⟩
  | .hbm, ⟨22, _⟩ => ⟨S_, .f32⟩
  | .hbm, ⟨23, _⟩ => ⟨S8x2048x8x1, .f32⟩
  | .hbm, ⟨24, _⟩ => ⟨S8x2048x8x1, .f32⟩
  | .hbm, ⟨25, _⟩ => ⟨S_, .f32⟩
  | .hbm, ⟨26, _⟩ => ⟨S8x2048x8x1, .f32⟩
  | .hbm, ⟨27, _⟩ => ⟨S8x2048x8x1, .f32⟩
  | .hbm, ⟨28, _⟩ => ⟨S8x2048x8x1, .f32⟩
  | .hbm, ⟨29, _⟩ => ⟨S8x2048x8x128, .f32⟩
  | .hbm, ⟨30, _⟩ => ⟨S8x2048x8x128, .f32⟩
  | .hbm, ⟨31, _⟩ => ⟨S1x1x1x128, .f32⟩
  | .hbm, ⟨32, _⟩ => ⟨S8x2048x8x128, .f32⟩
  | .hbm, ⟨33, _⟩ => ⟨S8x2048x8x128, .f32⟩
  | .hbm, ⟨34, _⟩ => ⟨S_, .f32⟩
  | .hbm, ⟨35, _⟩ => ⟨S8x2048x8x128, .f32⟩
  | .hbm, ⟨36, _⟩ => ⟨S8x2048x8x128, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x1x1024, .f32⟩
  | .hbm, ⟨77, _⟩ => ⟨S8x1x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel9.lean ====
abbrev S32x1x1024 : Shape := ⟨3, ![32, 1, 1024]⟩
abbrev S32x1x6144 : Shape := ⟨3, ![32, 1, 6144]⟩
abbrev S32x1 : Shape := ⟨2, ![32, 1]⟩
abbrev S32x2 : Shape := ⟨2, ![32, 2]⟩
abbrev S4x4x1024x512 : Shape := ⟨4, ![4, 4, 1024, 512]⟩
abbrev S4x4x512x1024 : Shape := ⟨4, ![4, 4, 512, 1024]⟩
abbrev S1024 : Shape := ⟨1, ![1024]⟩
abbrev S_ : Shape := ⟨0, ![]⟩
abbrev S32x124 : Shape := ⟨2, ![32, 124]⟩
abbrev S32x128 : Shape := ⟨2, ![32, 128]⟩
abbrev S1x32x128 : Shape := ⟨3, ![1, 32, 128]⟩
abbrev S1x32x1024 : Shape := ⟨3, ![1, 32, 1024]⟩
abbrev S1x32x6144 : Shape := ⟨3, ![1, 32, 6144]⟩
abbrev S16x1024x512 : Shape := ⟨3, ![16, 1024, 512]⟩
abbrev S16x512x1024 : Shape := ⟨3, ![16, 512, 1024]⟩
abbrev S1x1024 : Shape := ⟨2, ![1, 1024]⟩
abbrev S1x1024x512 : Shape := ⟨3, ![1, 1024, 512]⟩
abbrev S1x512x1024 : Shape := ⟨3, ![1, 512, 1024]⟩
abbrev S32x1024 : Shape := ⟨2, ![32, 1024]⟩
abbrev S1024x512 : Shape := ⟨2, ![1024, 512]⟩
abbrev S32x512 : Shape := ⟨2, ![32, 512]⟩
abbrev S512x1024 : Shape := ⟨2, ![512, 1024]⟩
abbrev S32 : Shape := ⟨1, ![32]⟩

abbrev nBuf : Space → Nat
  | .hbm => 30
  | .vmem => 14
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x6144, .f32⟩
  | .hbm, ⟨3, _⟩ => ⟨S32x1, .i32⟩
  | .hbm, ⟨4, _⟩ => ⟨S32x2, .i32⟩
  | .hbm, ⟨5, _⟩ => ⟨S32x2, .f32⟩
  | .hbm, ⟨6, _⟩ => ⟨S4x4x1024x512, .f32⟩
  | .hbm, ⟨7, _⟩ => ⟨S4x4x1024x512, .f32⟩
  | .hbm, ⟨8, _⟩ => ⟨S4x4x512x1024, .f32⟩
  | .hbm, ⟨9, _⟩ => ⟨S1024, .f32⟩
  | .hbm, ⟨10, _⟩ => ⟨S1024, .f32⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x2, .i32⟩
  | .hbm, ⟨15, _⟩ => ⟨S32x2, .i32⟩
  | .hbm, ⟨16, _⟩ => ⟨S32x2, .f32⟩
  | .hbm, ⟨17, _⟩ => ⟨S_, .f32⟩
  | .hbm, ⟨18, _⟩ => ⟨S32x124, .f32⟩
  | .hbm, ⟨19, _⟩ => ⟨S32x128, .f32⟩
  | .hbm, ⟨20, _⟩ => ⟨S1x32x128, .f32⟩
  | .hbm, ⟨21, _⟩ => ⟨S1x32x1024, .f32⟩
  | .hbm, ⟨22, _⟩ => ⟨S1x32x1024, .f32⟩
  | .hbm, ⟨23, _⟩ => ⟨S1x32x6144, .f32⟩
  | .hbm, ⟨24, _⟩ => ⟨S16x1024x512, .f32⟩
  | .hbm, ⟨25, _⟩ => ⟨S16x1024x512, .f32⟩
  | .hbm, ⟨26, _⟩ => ⟨S16x512x1024, .f32⟩
  | .hbm, ⟨27, _⟩ => ⟨S1x1024, .f32⟩
  | .hbm, ⟨28, _⟩ => ⟨S1x1024, .f32⟩
  | .hbm, ⟨29, _⟩ => ⟨S1x32x1024, .f32⟩
  | .local _ .vmem, ⟨0, _⟩ => ⟨S1x32x1024, .f32⟩
  | .local _ .vmem, ⟨1, _⟩ => ⟨S1x32x128, .f32⟩
  | .local _ .vmem, ⟨2, _⟩ => ⟨S1x32x1024, .f32⟩
  | .local _ .vmem, ⟨3, _⟩ => ⟨S1x32x1024, .f32⟩
  | .local _ .vmem, ⟨4, _⟩ => ⟨S1x1024, .f32⟩
  | .local _ .vmem, ⟨5, _⟩ => ⟨S1x1024, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x512x1024, .f32⟩
  | .local _ .vmem, ⟨11, _⟩ => ⟨S1x512x1024, .f32⟩
  | .local _ .vmem, ⟨12, _⟩ => ⟨S1x32x1024, .f32⟩
  | .local _ .vmem, ⟨13, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v80 : BitVec 1 := Scalar.cmpi .eq arg0 c15_i32
  let v81 : BitVec 32 := Scalar.extui v80
  let c0_i32_31 : BitVec 32 := 0#32
  let v82 : BitVec 1 := Scalar.cmpi .ne v81 c0_i32_31
  v82

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel10.lean ====
abbrev S8x2048x1024 : Shape := ⟨3, ![8, 2048, 1024]⟩
abbrev S4x64 : Shape := ⟨2, ![4, 64]⟩
abbrev S8 : Shape := ⟨1, ![8]⟩
abbrev S1x512x512 : Shape := ⟨3, ![1, 512, 512]⟩
abbrev S1x2048x512 : Shape := ⟨3, ![1, 2048, 512]⟩
abbrev S4x2048x256 : Shape := ⟨3, ![4, 2048, 256]⟩
abbrev S4x144x2048 : Shape := ⟨3, ![4, 144, 2048]⟩
abbrev S4x1024x256 : Shape := ⟨3, ![4, 1024, 256]⟩
abbrev S4x1x1024 : Shape := ⟨3, ![4, 1, 1024]⟩
abbrev S4x144x1024 : Shape := ⟨3, ![4, 144, 1024]⟩
abbrev S4x512x1024 : Shape := ⟨3, ![4, 512, 1024]⟩
abbrev S2048x128 : Shape := ⟨2, ![2048, 128]⟩
abbrev S16x2048 : Shape := ⟨2, ![16, 2048]⟩
abbrev S1x2048x128 : Shape := ⟨3, ![1, 2048, 128]⟩
abbrev S128x2048 : Shape := ⟨2, ![128, 2048]⟩
abbrev S1x128x2048 : Shape := ⟨3, ![1, 128, 2048]⟩
abbrev S1x16x2048 : Shape := ⟨3, ![1, 16, 2048]⟩
abbrev S512x128 : Shape := ⟨2, ![512, 128]⟩
abbrev S1 : Shape := ⟨1, ![1]⟩
abbrev S1x512x128 : Shape := ⟨3, ![1, 512, 128]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512x1024 : Shape := ⟨2, ![512, 1024]⟩
abbrev S1x512x1024 : Shape := ⟨3, ![1, 512, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S1x144x512 : Shape := ⟨3, ![1, 144, 512]⟩
abbrev S144x512 : Shape := ⟨2, ![144, 512]⟩
abbrev S1x64 : Shape := ⟨2, ![1, 64]⟩
abbrev S1x1 : Shape := ⟨2, ![1, 1]⟩
abbrev S1x128x1024 : Shape := ⟨3, ![1, 128, 1024]⟩
abbrev S128x1024 : Shape := ⟨2, ![128, 1024]⟩
abbrev S128x512 : Shape := ⟨2, ![128, 512]⟩
abbrev S1x512 : Shape := ⟨2, ![1, 512]⟩

abbrev nBuf : Space → Nat
  | .hbm => 6
  | .vmem => 15
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S8x2048x1024, .f32⟩
  | .hbm, ⟨3, _⟩ => ⟨S4x64, .f32⟩
  | .hbm, ⟨4, _⟩ => ⟨S8, .f32⟩
  | .hbm, ⟨5, _⟩ => ⟨S8x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S4x64, .f32⟩
  | .local _ .vmem, ⟨7, _⟩ => ⟨S1x512x512, .f32⟩
  | .local _ .vmem, ⟨8, _⟩ => ⟨S1x512x512, .f32⟩
  | .local _ .vmem, ⟨9, _⟩ => ⟨S4x2048x256, .bf16⟩
  | .local _ .vmem, ⟨10, _⟩ => ⟨S4x144x2048, .bf16⟩
  | .local _ .vmem, ⟨11, _⟩ => ⟨S4x1024x256, .bf16⟩
  | .local _ .vmem, ⟨12, _⟩ => ⟨S4x1x1024, .f32⟩
  | .local _ .vmem, ⟨13, _⟩ => ⟨S4x144x1024, .f32⟩
  | .local _ .vmem, ⟨14, _⟩ => ⟨S4x512x1024, .f32⟩
  | .local _ .smem, ⟨0, _⟩ => ⟨S8, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 4], ![false, false, false]⟩

def k0_off1 (i : grid0.Coords) (c0_i32_1 : BitVec 32) : Fin 1 → Nat :=
  let arg1 : BitVec 32 := BitVec.ofNat 32 (i 1).val
  let c4_i32 : BitVec 32 := 4#32
  let v4 : BitVec 32 := Scalar.muli arg1 c4_i32
  let v5 : BitVec 32 := Scalar.addi v4 c0_i32_1
  let v6 : Index := Scalar.indexCast v5
  ![v6.toNat]
def k0_mult1 : BitVec 32 :=
  let c0_i32_95 : BitVec 32 := 0#32
  c0_i32_95
@[reducible] def k0_t1_loop (i : grid0.Coords) : Scf.Loop 32 :=
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_135 : BitVec 32 := 1#32
  ⟨c0_i32_133, v213, c1_i32_135⟩
def k0_mult2 (i : grid0.Coords) (k0_t1 : Fin (k0_t1_loop i).trips) : BitVec 32 :=
  let c0_i32_133 : BitVec 32 := 0#32
  let c1_i32_135 : BitVec 32 := 1#32
  let arg15 : BitVec 32 := Scf.iv c0_i32_133 c1_i32_135 k0_t1
  let c1_i32_261 : BitVec 32 := 1#32
  let v448 : BitVec 32 := Scalar.addi arg15 c1_i32_261
  let c512_i32_262 : BitVec 32 := 512#32
  let v449 : BitVec 32 := Scalar.muli v448 c512_i32_262
  v449
def k0_off2 (i : grid0.Coords) (k0_t1 : Fin (k0_t1_loop i).trips) : Fin 3 → Nat :=
  let c0_263 : Index := 0#32
  let c0_i32_133 : BitVec 32 := 0#32
  let c1_i32_135 : BitVec 32 := 1#32
  let arg15 : BitVec 32 := Scf.iv c0_i32_133 c1_i32_135 k0_t1
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v451 : Index := Scalar.indexCast v450
  let c0_264 : Index := 0#32
  ![0, v451.toNat, 0]
def k0_off3 (i : grid0.Coords) (k0_t1 : Fin (k0_t1_loop i).trips) : Fin 3 → Nat :=
  let c1_269 : Index := 1#32
  let c0_i32_133 : BitVec 32 := 0#32
  let c1_i32_135 : BitVec 32 := 1#32
  let arg15 : BitVec 32 := Scf.iv c0_i32_133 c1_i32_135 k0_t1
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v457 : Index := Scalar.indexCast v450
  let c0_270 : Index := 0#32
  ![1, v457.toNat, 0]
def k0_off4 (i : grid0.Coords) (k0_t1 : Fin (k0_t1_loop i).trips) : Fin 3 → Nat :=
  let c2_275 : Index := 2#32
  let c0_i32_133 : BitVec 32 := 0#32
  let c1_i32_135 : BitVec 32 := 1#32
  let arg15 : BitVec 32 := Scf.iv c0_i32_133 c1_i32_135 k0_t1
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v463 : Index := Scalar.indexCast v450
  let c0_276 : Index := 0#32
  ![2, v463.toNat, 0]
def k0_off5 (i : grid0.Coords) (k0_t1 : Fin (k0_t1_loop i).trips) : Fin 3 → Nat :=
  let c3_281 : Index := 3#32
  let c0_i32_133 : BitVec 32 := 0#32
  let c1_i32_135 : BitVec 32 := 1#32
  let arg15 : BitVec 32 := Scf.iv c0_i32_133 c1_i32_135 k0_t1
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v469 : Index := Scalar.indexCast v450
  let c0_282 : Index := 0#32
  ![3, v469.toNat, 0]
def k0_mult3 (i : grid0.Coords) (k0_t1 : Fin (k0_t1_loop i).trips) : BitVec 32 :=
  let c0_i32_133 : BitVec 32 := 0#32
  let c1_i32_135 : BitVec 32 := 1#32
  let arg15 : BitVec 32 := Scf.iv c0_i32_133 c1_i32_135 k0_t1
  let c512_i32_287 : BitVec 32 := 512#32
  let v475 : BitVec 32 := Scalar.muli arg15 c512_i32_287
  v475
def k0_off6 (i : grid0.Coords) (k0_t1 : Fin (k0_t1_loop i).trips) : Fin 3 → Nat :=
  let c0_298 : Index := 0#32
  let c0_299 : Index := 0#32
  let c0_i32_133 : BitVec 32 := 0#32
  let c1_i32_135 : BitVec 32 := 1#32
  let arg15 : BitVec 32 := Scf.iv c0_i32_133 c1_i32_135 k0_t1
  let c512_i32_287 : BitVec 32 := 512#32
  let v475 : BitVec 32 := Scalar.muli arg15 c512_i32_287
  let v476 : BitVec 32 := v475
  let v493 : Index := Scalar.indexCast v476
  ![0, 0, v493.toNat]
def k0_off7 (i : grid0.Coords) (k0_t1 : Fin (k0_t1_loop i).trips) : Fin 3 → Nat :=
  let c1_317 : Index := 1#32
  let c0_318 : Index := 0#32
  let c0_i32_133 : BitVec 32 := 0#32
  let c1_i32_135 : BitVec 32 := 1#32
  let arg15 : BitVec 32 := Scf.iv c0_i32_133 c1_i32_135 k0_t1
  let c512_i32_287 : BitVec 32 := 512#32
  let v475 : BitVec 32 := Scalar.muli arg15 c512_i32_287
  let v476 : BitVec 32 := v475
  let v521 : Index := Scalar.indexCast v476
  ![1, 0, v521.toNat]
def k0_off8 (i : grid0.Coords) (k0_t1 : Fin (k0_t1_loop i).trips) : Fin 3 → Nat :=
  let c2_336 : Index := 2#32
  let c0_337 : Index := 0#32
  let c0_i32_133 : BitVec 32 := 0#32
  let c1_i32_135 : BitVec 32 := 1#32
  let arg15 : BitVec 32 := Scf.iv c0_i32_133 c1_i32_135 k0_t1
  let c512_i32_287 : BitVec 32 := 512#32
  let v475 : BitVec 32 := Scalar.muli arg15 c512_i32_287
  let v476 : BitVec 32 := v475
  let v549 : Index := Scalar.indexCast v476
  ![2, 0, v549.toNat]
def k0_off9 (i : grid0.Coords) (k0_t1 : Fin (k0_t1_loop i).trips) : Fin 3 → Nat :=
  let c3_355 : Index := 3#32
  let c0_356 : Index := 0#32
  let c0_i32_133 : BitVec 32 := 0#32
  let c1_i32_135 : BitVec 32 := 1#32
  let arg15 : BitVec 32 := Scf.iv c0_i32_133 c1_i32_135 k0_t1
  let c512_i32_287 : BitVec 32 := 512#32
  let v475 : BitVec 32 := Scalar.muli arg15 c512_i32_287
  let v476 : BitVec 32 := v475
  let v577 : Index := Scalar.indexCast v476
  ![3, 0, v577.toNat]
@[reducible] def k0_t2_loop (i : grid0.Coords) : Scf.Loop 32 :=
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let v210 : BitVec 32 := Scalar.addi c0_i32_133 v209
  let c1_i32_136 : BitVec 32 := 1#32
  ⟨v213, v210, c1_i32_136⟩
def k0_mult4 (i : grid0.Coords) (k0_t2 : Fin (k0_t2_loop i).trips) : BitVec 32 :=
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c1_i32_261 : BitVec 32 := 1#32
  let v448 : BitVec 32 := Scalar.addi arg15 c1_i32_261
  let c512_i32_262 : BitVec 32 := 512#32
  let v449 : BitVec 32 := Scalar.muli v448 c512_i32_262
  v449
def k0_off10 (i : grid0.Coords) (k0_t2 : Fin (k0_t2_loop i).trips) : Fin 3 → Nat :=
  let c0_263 : Index := 0#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v451 : Index := Scalar.indexCast v450
  let c0_264 : Index := 0#32
  ![0, v451.toNat, 0]
def k0_off11 (i : grid0.Coords) (k0_t2 : Fin (k0_t2_loop i).trips) : Fin 3 → Nat :=
  let c1_269 : Index := 1#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v457 : Index := Scalar.indexCast v450
  let c0_270 : Index := 0#32
  ![1, v457.toNat, 0]
def k0_off12 (i : grid0.Coords) (k0_t2 : Fin (k0_t2_loop i).trips) : Fin 3 → Nat :=
  let c2_275 : Index := 2#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v463 : Index := Scalar.indexCast v450
  let c0_276 : Index := 0#32
  ![2, v463.toNat, 0]
def k0_off13 (i : grid0.Coords) (k0_t2 : Fin (k0_t2_loop i).trips) : Fin 3 → Nat :=
  let c3_281 : Index := 3#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c1_i32_261 : BitVec 32 := 1#32
  let v448 : BitVec 32 := Scalar.addi arg15 c1_i32_261
  let c512_i32_262 : BitVec 32 := 512#32
  let v449 : BitVec 32 := Scalar.muli v448 c512_i32_262
  let v450 : BitVec 32 := v449
  let v469 : Index := Scalar.indexCast v450
  let c0_282 : Index := 0#32
  ![3, v469.toNat, 0]
def k0_mult5 (i : grid0.Coords) (k0_t2 : Fin (k0_t2_loop i).trips) : BitVec 32 :=
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c512_i32_287 : BitVec 32 := 512#32
  let v475 : BitVec 32 := Scalar.muli arg15 c512_i32_287
  v475
def k0_off14 (i : grid0.Coords) (k0_t2 : Fin (k0_t2_loop i).trips) : Fin 3 → Nat :=
  let c0_298 : Index := 0#32
  let c0_299 : Index := 0#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c512_i32_287 : BitVec 32 := 512#32
  let v475 : BitVec 32 := Scalar.muli arg15 c512_i32_287
  let v476 : BitVec 32 := v475
  let v493 : Index := Scalar.indexCast v476
  ![0, 0, v493.toNat]
def k0_off15 (i : grid0.Coords) (k0_t2 : Fin (k0_t2_loop i).trips) : Fin 3 → Nat :=
  let c1_317 : Index := 1#32
  let c0_318 : Index := 0#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c512_i32_287 : BitVec 32 := 512#32
  let v475 : BitVec 32 := Scalar.muli arg15 c512_i32_287
  let v476 : BitVec 32 := v475
  let v521 : Index := Scalar.indexCast v476
  ![1, 0, v521.toNat]
def k0_off16 (i : grid0.Coords) (k0_t2 : Fin (k0_t2_loop i).trips) : Fin 3 → Nat :=
  let c2_336 : Index := 2#32
  let c0_337 : Index := 0#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c512_i32_287 : BitVec 32 := 512#32
  let v475 : BitVec 32 := Scalar.muli arg15 c512_i32_287
  let v476 : BitVec 32 := v475
  let v549 : Index := Scalar.indexCast v476
  ![2, 0, v549.toNat]
def k0_off17 (i : grid0.Coords) (k0_t2 : Fin (k0_t2_loop i).trips) : Fin 3 → Nat :=
  let c3_355 : Index := 3#32
  let c0_356 : Index := 0#32
  let c0_i32_133 : BitVec 32 := 0#32
  let arg2 : BitVec 32 := BitVec.ofNat 32 (i 2).val
  let v209 : BitVec 32 := Scalar.subi arg2 c0_i32_133
  let c1_i32_134 : BitVec 32 := 1#32
  let v211 : BitVec 32 := Scalar.divsi v209 c1_i32_134
  let v212 : BitVec 32 := Scalar.muli v211 c1_i32_134
  let v213 : BitVec 32 := Scalar.addi c0_i32_133 v212
  let c1_i32_136 : BitVec 32 := 1#32
  let arg15 : BitVec 32 := Scf.iv v213 c1_i32_136 k0_t2
  let c512_i32_287 : BitVec 32 := 512#32
  let v475 : BitVec 32 := Scalar.muli arg15 c512_i32_287
  let v476 : BitVec 32 := v475
  let v577 : Index := Scalar.indexCast v476
  ![3, 0, v577.toNat]
def k0_mult6 (i : grid0.Coords) : BitVec 32 :=
  let arg2 : BitVec 32 := BitVec.ofNat 32 (i 2).val
  let c512_i32 : BitVec 32 := 512#32
  let v214 : BitVec 32 := Scalar.muli arg2 c512_i32
  v214
def k0_off18 (i : grid0.Coords) : Fin 3 → Nat :=
  let c0_148 : Index := 0#32
  let c0_149 : Index := 0#32
  let arg2 : BitVec 32 := BitVec.ofNat 32 (i 2).val
  let c512_i32 : BitVec 32 := 512#32
  let v214 : BitVec 32 := Scalar.muli arg2 c512_i32
  let v215 : BitVec 32 := v214
  let v239 : Index := Scalar.indexCast v215
  ![0, 0, v239.toNat]
def k0_off19 (i : grid0.Coords) : Fin 3 → Nat :=
  let c1_169 : Index := 1#32
  let c0_170 : Index := 0#32
  let arg2 : BitVec 32 := BitVec.ofNat 32 (i 2).val
  let c512_i32 : BitVec 32 := 512#32
  let v214 : BitVec 32 := Scalar.muli arg2 c512_i32
  let v215 : BitVec 32 := v214
  let v274 : Index := Scalar.indexCast v215
  ![1, 0, v274.toNat]
def k0_off20 (i : grid0.Coords) : Fin 3 → Nat :=
  let c2_190 : Index := 2#32
  let c0_191 : Index := 0#32
  let arg2 : BitVec 32 := BitVec.ofNat 32 (i 2).val
  let c512_i32 : BitVec 32 := 512#32
  let v214 : BitVec 32 := Scalar.muli arg2 c512_i32
  let v215 : BitVec 32 := v214
  let v309 : Index := Scalar.indexCast v215
  ![2, 0, v309.toNat]
def k0_off21 (i : grid0.Coords) : Fin 3 → Nat :=
  let c3_211 : Index := 3#32
  let c0_212 : Index := 0#32
  let arg2 : BitVec 32 := BitVec.ofNat 32 (i 2).val
  let c512_i32 : BitVec 32 := 512#32
  let v214 : BitVec 32 := Scalar.muli arg2 c512_i32
  let v215 : BitVec 32 := v214
  let v344 : Index := Scalar.indexCast v215
  ![3, 0, v344.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel11.lean ====
abbrev S256 : Shape := ⟨1, ![256]⟩
abbrev S8x8192x1024 : Shape := ⟨3, ![8, 8192, 1024]⟩
abbrev S16x1024x512 : Shape := ⟨3, ![16, 1024, 512]⟩
abbrev S16x512x1024 : Shape := ⟨3, ![16, 512, 1024]⟩
abbrev S1x256x1024 : Shape := ⟨3, ![1, 256, 1024]⟩
abbrev S1 : Shape := ⟨1, ![1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 5
  | .vmem => 13
  | .smem => 5
  | _ => 0

abbrev bufTy : (tb : Table) → Fin (tcTables nBuf tb) → BufTy
  | .hbm, ⟨0, _⟩ => ⟨S8x8192x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x256x1024, .f32⟩
  | .local _ .vmem, ⟨9, _⟩ => ⟨S1x256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | .local _ .smem, ⟨4, _⟩ => ⟨S256, .i32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let v2 : Index := Scalar.indexCast arg0
  let v3 : BitVec 32 := pf.at 1 (Rect.unit (s := S256) ![v2.toNat] S1.size (k0_off1_inb i)) numel1_S1
  let c0_i32 : BitVec 32 := 0#32
  let c0_i32_0 : BitVec 32 := 0#32
  ![v1.toNat, v3.toNat, c0_i32.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let v2 : Index := Scalar.indexCast arg0
  let v3 : BitVec 32 := pf.at 1 (Rect.unit (s := S256) ![v2.toNat] S1.size (k0_off1_inb i)) numel1_S1
  let c0_i32 : BitVec 32 := 0#32
  let c0_i32_0 : BitVec 32 := 0#32
  ![v1.toNat, v3.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S256 : Shape := ⟨1, ![256]⟩
abbrev S8x8192x1024 : Shape := ⟨3, ![8, 8192, 1024]⟩
abbrev S16x1024x512 : Shape := ⟨3, ![16, 1024, 512]⟩
abbrev S16x512x1024 : Shape := ⟨3, ![16, 512, 1024]⟩
abbrev S16x512x8x8192 : Shape := ⟨4, ![16, 512, 8, 8192]⟩
abbrev S16x8x8192x512 : Shape := ⟨4, ![16, 8, 8192, 512]⟩
abbrev S_ : Shape := ⟨0, ![]⟩
abbrev S16x8x8192x1024 : Shape := ⟨4, ![16, 8, 8192, 1024]⟩
abbrev S8192 : Shape := ⟨1, ![8192]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S1x8192 : Shape := ⟨2, ![1, 8192]⟩
abbrev S256x8192 : Shape := ⟨2, ![256, 8192]⟩
abbrev S256x1x8192 : Shape := ⟨3, ![256, 1, 8192]⟩
abbrev S256x8x8192 : Shape := ⟨3, ![256, 8, 8192]⟩
abbrev S16 : Shape := ⟨1, ![16]⟩
abbrev S1x16 : Shape := ⟨2, ![1, 16]⟩
abbrev S256x16 : Shape := ⟨2, ![256, 16]⟩
abbrev S256x16x1x1 : Shape := ⟨4, ![256, 16, 1, 1]⟩
abbrev S256x1x8x8192 : Shape := ⟨4, ![256, 1, 8, 8192]⟩
abbrev S256x16x8x8192 : Shape := ⟨4, ![256, 16, 8, 8192]⟩
abbrev S16x8x8192 : Shape := ⟨3, ![16, 8, 8192]⟩
abbrev S8x8192 : Shape := ⟨2, ![8, 8192]⟩
abbrev S8x8192x1 : Shape := ⟨3, ![8, 8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S256, .i32⟩
  | .hbm, ⟨3, _⟩ => ⟨S256, .i32⟩
  | .hbm, ⟨4, _⟩ => ⟨S256, .i32⟩
  | .hbm, ⟨5, _⟩ => ⟨S8x8192x1024, .f32⟩
  | .hbm, ⟨6, _⟩ => ⟨S16x1024x512, .f32⟩
  | .hbm, ⟨7, _⟩ => ⟨S16x1024x512, .f32⟩
  | .hbm, ⟨8, _⟩ => ⟨S16x512x1024, .f32⟩
  | .hbm, ⟨9, _⟩ => ⟨S16x512x8x8192, .f32⟩
  | .hbm, ⟨10, _⟩ => ⟨S16x8x8192x512, .f32⟩
  | .hbm, ⟨11, _⟩ => ⟨S16x8x8192x512, .f32⟩
  | .hbm, ⟨12, _⟩ => ⟨S16x8x8192x512, .f32⟩
  | .hbm, ⟨13, _⟩ => ⟨S_, .f32⟩
  | .hbm, ⟨14, _⟩ => ⟨S16x8x8192x512, .f32⟩
  | .hbm, ⟨15, _⟩ => ⟨S16x8x8192x512, .f32⟩
  | .hbm, ⟨16, _⟩ => ⟨S_, .f32⟩
  | .hbm, ⟨17, _⟩ => ⟨S16x8x8192x512, .f32⟩
  | .hbm, ⟨18, _⟩ => ⟨S16x8x8192x512, .f32⟩
  | .hbm, ⟨19, _⟩ => ⟨S16x8x8192x512, .f32⟩
  | .hbm, ⟨20, _⟩ => ⟨S16x512x8x8192, .f32⟩
  | .hbm, ⟨21, _⟩ => ⟨S16x8x8192x512, .f32⟩
  | .hbm, ⟨22, _⟩ => ⟨S16x8x8192x512, .f32⟩
  | .hbm, ⟨23, _⟩ => ⟨S16x8x8192x1024, .f32⟩
  | .hbm, ⟨24, _⟩ => ⟨S8192, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x1, .i32⟩
  | .hbm, ⟨30, _⟩ => ⟨S8, .i32⟩
  | .hbm, ⟨31, _⟩ => ⟨S1x8, .i32⟩
  | .hbm, ⟨32, _⟩ => ⟨S256x8, .i32⟩
  | .hbm, ⟨33, _⟩ => ⟨S256x8, .i32⟩
  | .hbm, ⟨34, _⟩ => ⟨S256x8, .i1⟩
  | .hbm, ⟨35, _⟩ => ⟨S256x8x1, .i1⟩
  | .hbm, ⟨36, _⟩ => ⟨S1x8192, .i32⟩
  | .hbm, ⟨37, _⟩ => ⟨S256x8192, .i32⟩
  | .hbm, ⟨38, _⟩ => ⟨S256x8192, .i32⟩
  | .hbm, ⟨39, _⟩ => ⟨S256x8192, .i1⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S1x8192, .i32⟩
  | .hbm, ⟨44, _⟩ => ⟨S256x8192, .i32⟩
  | .hbm, ⟨45, _⟩ => ⟨S256x8192, .i32⟩
  | .hbm, ⟨46, _⟩ => ⟨S256x8192, .i1⟩
  | .hbm, ⟨47, _⟩ => ⟨S256x8192, .i1⟩
  | .hbm, ⟨48, _⟩ => ⟨S256x1x8192, .i1⟩
  | .hbm, ⟨49, _⟩ => ⟨S256x8x8192, .i1⟩
  | .hbm, ⟨50, _⟩ => ⟨S256x8x8192, .i1⟩
  | .hbm, ⟨51, _⟩ => ⟨S256x8x8192, .i1⟩
  | .hbm, ⟨52, _⟩ => ⟨S256x1, .i32⟩
  | .hbm, ⟨53, _⟩ => ⟨S16, .i32⟩
  | .hbm, ⟨54, _⟩ => ⟨S1x16, .i32⟩
  | .hbm, ⟨55, _⟩ => ⟨S256x16, .i32⟩
  | .hbm, ⟨56, _⟩ => ⟨S256x16, .i32⟩
  | .hbm, ⟨57, _⟩ => ⟨S256x16, .i1⟩
  | .hbm, ⟨58, _⟩ => ⟨S256x16x1x1, .i1⟩
  | .hbm, ⟨59, _⟩ => ⟨S256x1x8x8192, .i1⟩
  | .hbm, ⟨60, _⟩ => ⟨S256x16x8x8192, .i1⟩
  | .hbm, ⟨61, _⟩ => ⟨S256x16x8x8192, .i1⟩
  | .hbm, ⟨62, _⟩ => ⟨S256x16x8x8192, .i1⟩
  | .hbm, ⟨63, _⟩ => ⟨S256x16x8x8192, .f32⟩
  | .hbm, ⟨64, _⟩ => ⟨S_, .f32⟩
  | .hbm, ⟨65, _⟩ => ⟨S16x8x8192, .f32⟩
  | .hbm, ⟨66, _⟩ => ⟨S_, .f32⟩
  | .hbm, ⟨67, _⟩ => ⟨S16x8x8192, .f32⟩
  | .hbm, ⟨68, _⟩ => ⟨S16x8x8192, .i1⟩
  | .hbm, ⟨69, _⟩ => ⟨S16x8x8192, .f32⟩
  | .hbm, ⟨70, _⟩ => ⟨S_, .f32⟩
  | .hbm, ⟨71, _⟩ => ⟨S8x8192, .f32⟩
  | .hbm, ⟨72, _⟩ => ⟨S_, .f32⟩
  | .hbm, ⟨73, _⟩ => ⟨S8x8192, .f32⟩
  | .hbm, ⟨74, _⟩ => ⟨S8x8192, .i1⟩
  | .hbm, ⟨75, _⟩ => ⟨S8x8192x1, .i1⟩
  | .hbm, ⟨76, _⟩ => ⟨S8x8192x1024, .f32⟩
  | .hbm, ⟨77, _⟩ => ⟨S8x8192x1024, .i1⟩
  | .hbm, ⟨78, _⟩ => ⟨S8x8192x1024, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst : Ref sig .tc := ⟨.hbm, 64, rfl⟩
abbrev main_v45 : Ref sig .tc := ⟨.hbm, 65, rfl⟩
abbrev main_cst_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_2 : Ref sig .tc := ⟨.hbm, 70, rfl⟩
abbrev main_v49 : Ref sig .tc := ⟨.hbm, 71, rfl⟩
abbrev main_cst_3 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_v0 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.Step.lean ====
/-
  One grid point of the scan, read: the body's stores are, head by head, one function of the head's own inputs and of
  the state carried into the point.
-/
module
public import proofs.«01_k».proof.Proof.Gen.KernelIdeal.Value
public import Idealize.ShloMosaic.Lib.Pipeline.ValueKit
public import Idealize.ShloMosaic.Lib.Pipeline.ReadBack
public import Idealize.ShloMosaic.Lib.ValueIdx
public import Idealize.ShloMosaic.Lib.Pointwise
@[expose] public section
set_option maxRecDepth 16384
noncomputable section
namespace Cert.KernelIdeal.Scan
open Cert.KernelIdeal Cert.KernelIdeal.Gen Idealize.ShloMosaic Idealize.ShloMosaic.TcCoe Idealize.SL.Sem
variable {F : FTy → Type} [FloatOps F]

/-- The running maxima `m_t` of one head over one chunk. -/
def hMt (g : Vec F S1x1x2x256 .f32) (s : Vec F S1x1x1 .f32) : FVec F S256x1 .f32 :=
  k0_pay33 (iota .tc S256x256 32 [0] iota_S256x256_d0_w32) (iota .tc S256x256 32 [1] iota_S256x256_d1_w32) k0_pay18 (k0_pay25 g) (k0_pay26 g) (k0_pay28 g) s
/-- The numerators (512 columns) and the denominator (column 512) of one head over one chunk. -/
def hNum (q k v : Vec F S1x256x512 .bf16) (g : Vec F S1x1x2x256 .f32) (s : Vec F S1x1x1 .f32) (C : Vec F S1x512x640 .f32) : FVec F S256x640 .f32 :=
  k0_pay36 (iota .tc S256x256 32 [0] iota_S256x256_d0_w32) (iota .tc S256x256 32 [1] iota_S256x256_d1_w32) k0_pay18 k0_pay20 (k0_pay21 q) (k0_pay22 k) (k0_pay23 v) (k0_pay25 g) (k0_pay26 g) (k0_pay28 g) s C
/-- One head's outputs over one chunk. -/
def hH (q k v : Vec F S1x256x512 .bf16) (g : Vec F S1x1x2x256 .f32) (s : Vec F S1x1x1 .f32) (C : Vec F S1x512x640 .f32) : FVec F S1x256x512 .f32 :=
  k0_pay37 (hMt g s) (hNum q k v g s C)
/-- One head's matrix state after the chunk. -/
def hCa (k v : Vec F S1x256x512 .bf16) (g : Vec F S1x1x2x256 .f32) (s : Vec F S1x1x1 .f32) (C : Vec F S1x512x640 .f32) : FVec F S1x512x640 .f32 :=
  k0_pay39 (k0_pay22 k) (k0_pay27 g) (k0_pay29 k0_pay18 (k0_pay26 g)) (k0_pay31 s) (hMt g s) (k0_pay34 k0_pay20 (k0_pay23 v)) (k0_pay35 C)
/-- One head's stabiliser after the chunk. -/
def hM (g : Vec F S1x1x2x256 .f32) (s : Vec F S1x1x1 .f32) : FVec F S1x1x1 .f32 := k0_pay40 (hMt g s)

/-- Head `a`'s columns of a block. -/
def slx {e : EltTy} (x : Vec F S1x256x2048 e) (a : Fin 4) : Vec F S1x256x512 e := fun j => x (ix3 ⟨0, by decide⟩ (j 1) ⟨512 * a.val + (j 2).val, by have h := (j 2).isLt; have h' := a.isLt; simp at h; omega⟩)
/-- Head `a`'s gate rows of a block. -/
def slg (x : Vec F S1x4x2x256 .f32) (a : Fin 4) : Vec F S1x1x2x256 .f32 := fun j => x (ix4 ⟨0, by decide⟩ a (j 2) (j 3))
/-- Head `a`'s matrix state. -/
def slc (x : Vec F S4x512x640 .f32) (a : Fin 4) : Vec F S1x512x640 .f32 := fun j => x (ix3 a (j 1) (j 2))
/-- Head `a`'s stabiliser. -/
def slm (x : Vec F S4x1x1 .f32) (a : Fin 4) : Vec F S1x1x1 .f32 := fun j => x (ix3 a (j 1) (j 2))

/-- The matrix states of all heads after a point. -/
def nCa (x1 x2 : Vec F S1x256x2048 .bf16) (x3 : Vec F S1x4x2x256 .f32) (s0 : Vec F S4x512x640 .f32) (s1 : Vec F S4x1x1 .f32) : Vec F S4x512x640 .f32 :=
  fun y => hCa (slx x1 (y 0)) (slx x2 (y 0)) (slg x3 (y 0)) (slm s1 (y 0)) (slc s0 (y 0)) (ix3 ⟨0, by decide⟩ (y 1) (y 2))
/-- The stabilisers of all heads after a point. -/
def nM (x3 : Vec F S1x4x2x256 .f32) (s1 : Vec F S4x1x1 .f32) : Vec F S4x1x1 .f32 :=
  fun y => hM (slg x3 (y 0)) (slm s1 (y 0)) (ix3 ⟨0, by decide⟩ (y 1) (y 2))
/-- The head that column `n` of a block belongs to. -/
def hd (n : Fin 2048) : Fin 4 := ⟨n.val / 512, by omega⟩
/-- The outputs of all heads at a point. -/
def nH (x0 x1 x2 : Vec F S1x256x2048 .bf16) (x3 : Vec F S1x4x2x256 .f32) (s0 : Vec F S4x512x640 .f32) (s1 : Vec F S4x1x1 .f32) : Vec F S1x256x2048 .f32 :=
  fun y => hH (slx x0 (hd (y 2))) (slx x1 (hd (y 2))) (slx x2 (hd (y 2))) (slg x3 (hd (y 2))) (slm s1 (hd (y 2))) (slc s0 (hd (y 2))) (ix3 ⟨0, by decide⟩ (y 1) ⟨(y 2).val % 512, Nat.mod_lt _ (by decide)⟩)

theorem ldx_0 {e : EltTy} (x : Vec F S1x256x2048 e) : View.ld x (Rect.unit ![0, 0, 0] ![1, 256, 512] inb_S1x256x2048_S1x256x512_0_0_0) = slx x ⟨0, by decide⟩ :=
  funext fun j => View.ld_unit_apply_of _ _ _ _ _ _ fun b => by
    have h0 : (j 0).val < 1 := (j 0).isLt
    fin_cases b <;> simp [ix3] <;> omega
theorem ldg_0 (x : Vec F S1x4x2x256 .f32) : View.ld x (Rect.unit ![0, 0, 0, 0] ![1, 1, 2, 256] inb_S1x4x2x256_S1x1x2x256_0_0_0_0) = slg x ⟨0, by decide⟩ :=
  funext fun j => View.ld_unit_apply_of _ _ _ _ _ _ fun b => by
    have h0 : (j 0).val < 1 := (j 0).isLt
    have h1 : (j 1).val < 1 := (j 1).isLt
    fin_cases b <;> simp [ix4] <;> omega
theorem ldc_0 (x : Vec F S4x512x640 .f32) : View.ld x (Rect.unit ![0, 0, 0] ![1, 512, 640] inb_S4x512x640_S1x512x640_0_0_0) = slc x ⟨0, by decide⟩ :=
  funext fun j => View.ld_unit_apply_of _ _ _ _ _ _ fun b => by
    have h0 : (j 0).val < 1 := (j 0).isLt
    fin_cases b <;> simp [ix3] <;> omega
theorem ldm_0 (x : Vec F S4x1x1 .f32) : View.ld x (Rect.unit ![0, 0, 0] ![1, 1, 1] inb_S4x1x1_S1x1x1_0_0_0) = slm x ⟨0, by decide⟩ :=
  funext fun j => View.ld_unit_apply_of _ _ _ _ _ _ fun b => by
    have h0 : (j 0).val < 1 := (j 0).isLt
    fin_cases b <;> simp [ix3] <;> omega

theorem ldx_1 {e : EltTy} (x : Vec F S1x256x2048 e) : View.ld x (Rect.unit ![0, 0, 512] ![1, 256, 512] inb_S1x256x2048_S1x256x512_0_0_512) = slx x ⟨1, by decide⟩ :=
  funext fun j => View.ld_unit_apply_of _ _ _ _ _ _ fun b => by
    have h0 : (j 0).val < 1 := (j 0).isLt
    fin_cases b <;> simp [ix3] <;> omega
theorem ldg_1 (x : Vec F S1x4x2x256 .f32) : View.ld x (Rect.unit ![0, 1, 0, 0] ![1, 1, 2, 256] inb_S1x4x2x256_S1x1x2x256_0_1_0_0) = slg x ⟨1, by decide⟩ :=
  funext fun j => View.ld_unit_apply_of _ _ _ _ _ _ fun b => by
    have h0 : (j 0).val < 1 := (j 0).isLt
    have h1 : (j 1).val < 1 := (j 1).isLt
    fin_cases b <;> simp [ix4] <;> omega
theorem ldc_1 (x : Vec F S4x512x640 .f32) : View.ld x (Rect.unit ![1, 0, 0] ![1, 512, 640] inb_S4x512x640_S1x512x640_1_0_0) = slc x ⟨1, by decide⟩ :=
  funext fun j => View.ld_unit_apply_of _ _ _ _ _ _ fun b => by
    have h0 : (j 0).val < 1 := (j 0).isLt
    fin_cases b <;> simp [ix3] <;> omega
theorem ldm_1 (x : Vec F S4x1x1 .f32) : View.ld x (Rect.unit ![1, 0, 0] ![1, 1, 1] inb_S4x1x1_S1x1x1_1_0_0) = slm x ⟨1, by decide⟩ :=
  funext fun j => View.ld_unit_apply_of _ _ _ _ _ _ fun b => by
    have h0 : (j 0).val < 1 := (j 0).isLt
    fin_cases b <;> simp [ix3] <;> omega

theorem ldx_2 {e : EltTy} (x : Vec F S1x256x2048 e) : View.ld x (Rect.unit ![0, 0, 1024] ![1, 256, 512] inb_S1x256x2048_S1x256x512_0_0_1024) = slx x ⟨2, by decide⟩ :=
  funext fun j => View.ld_unit_apply_of _ _ _ _ _ _ fun b => by
    have h0 : (j 0).val < 1 := (j 0).isLt
    fin_cases b <;> simp [ix3] <;> omega
theorem ldg_2 (x : Vec F S1x4x2x256 .f32) : View.ld x (Rect.unit ![0, 2, 0, 0] ![1, 1, 2, 256] inb_S1x4x2x256_S1x1x2x256_0_2_0_0) = slg x ⟨2, by decide⟩ :=
  funext fun j => View.ld_unit_apply_of _ _ _ _ _ _ fun b => by
    have h0 : (j 0).val < 1 := (j 0).isLt
    have h1 : (j 1).val < 1 := (j 1).isLt
    fin_cases b <;> simp [ix4] <;> omega
theorem ldc_2 (x : Vec F S4x512x640 .f32) : View.ld x (Rect.unit ![2, 0, 0] ![1, 512, 640] inb_S4x512x640_S1x512x640_2_0_0) = slc x ⟨2, by decide⟩ :=
  funext fun j => View.ld_unit_apply_of _ _ _ _ _ _ fun b => by
    have h0 : (j 0).val < 1 := (j 0).isLt
    fin_cases b <;> simp [ix3] <;> omega
theorem ldm_2 (x : Vec F S4x1x1 .f32) : View.ld x (Rect.unit ![2, 0, 0] ![1, 1, 1] inb_S4x1x1_S1x1x1_2_0_0) = slm x ⟨2, by decide⟩ :=
  funext fun j => View.ld_unit_apply_of _ _ _ _ _ _ fun b => by
    have h0 : (j 0).val < 1 := (j 0).isLt
    fin_cases b <;> simp [ix3] <;> omega

theorem ldx_3 {e : EltTy} (x : Vec F S1x256x2048 e) : View.ld x (Rect.unit ![0, 0, 1536] ![1, 256, 512] inb_S1x256x2048_S1x256x512_0_0_1536) = slx x ⟨3, by decide⟩ :=
  funext fun j => View.ld_unit_apply_of _ _ _ _ _ _ fun b => by
    have h0 : (j 0).val < 1 := (j 0).isLt
    fin_cases b <;> simp [ix3] <;> omega
theorem ldg_3 (x : Vec F S1x4x2x256 .f32) : View.ld x (Rect.unit ![0, 3, 0, 0] ![1, 1, 2, 256] inb_S1x4x2x256_S1x1x2x256_0_3_0_0) = slg x ⟨3, by decide⟩ :=
  funext fun j => View.ld_unit_apply_of _ _ _ _ _ _ fun b => by
    have h0 : (j 0).val < 1 := (j 0).isLt
    have h1 : (j 1).val < 1 := (j 1).isLt
    fin_cases b <;> simp [ix4] <;> omega
theorem ldc_3 (x : Vec F S4x512x640 .f32) : View.ld x (Rect.unit ![3, 0, 0] ![1, 512, 640] inb_S4x512x640_S1x512x640_3_0_0) = slc x ⟨3, by decide⟩ :=
  funext fun j => View.ld_unit_apply_of _ _ _ _ _ _ fun b => by
    have h0 : (j 0).val < 1 := (j 0).isLt
    fin_cases b <;> simp [ix3] <;> omega
theorem ldm_3 (x : Vec F S4x1x1 .f32) : View.ld x (Rect.unit ![3, 0, 0] ![1, 1, 1] inb_S4x1x1_S1x1x1_3_0_0) = slm x ⟨3, by decide⟩ :=
  funext fun j => View.ld_unit_apply_of _ _ _ _ _ _ fun b => by
    have h0 : (j 0).val < 1 := (j 0).isLt
    fin_cases b <;> simp [ix3] <;> omega
theorem hM_0 (g : Vec F S1x1x2x256 .f32) (s : Vec F S1x1x1 .f32) :
    k0_pay40 (k0_pay33 (iota Kind.tc S256x256 32 [0] iota_S256x256_d0_w32) (iota Kind.tc S256x256 32 [1] iota_S256x256_d1_w32) k0_pay18 (k0_pay25 g) (k0_pay26 g) (k0_pay28 g) s) = hM g s := rfl
theorem hM_1 (g : Vec F S1x1x2x256 .f32) (s : Vec F S1x1x1 .f32) :
    k0_pay61 (k0_pay56 (k0_pay48 k0_pay18 g) (k0_pay49 (iota Kind.tc S256x256 32 [0] iota_S256x256_d0_w32) (iota Kind.tc S256x256 32 [1] iota_S256x256_d1_w32) k0_pay18 k0_pay19 g) (k0_pay50 s)) = hM g s := rfl
theorem hM_2 (g : Vec F S1x1x2x256 .f32) (s : Vec F S1x1x1 .f32) :
    k0_pay83 (k0_pay74 (iota Kind.tc S256x256 32 [0] iota_S256x256_d0_w32) (iota Kind.tc S256x256 32 [1] iota_S256x256_d1_w32) k0_pay18 (k0_pay66 g) (k0_pay67 g) (k0_pay69 k0_pay19 g) (FloatOps.ofBits FTy.f32 0#32) s) = hM g s := rfl
theorem hM_3 (g : Vec F S1x1x2x256 .f32) (s : Vec F S1x1x1 .f32) :
    k0_pay2 (k0_pay99 (k0_pay92 (iota Kind.tc S256x256 32 [0] iota_S256x256_d0_w32) (iota Kind.tc S256x256 32 [1] iota_S256x256_d1_w32) k0_pay18 k0_pay19 g) (k0_pay94 k0_pay18 g s)) = hM g s := rfl
theorem hCa_0 (k v : Vec F S1x256x512 .bf16) (g : Vec F S1x1x2x256 .f32) (s : Vec F S1x1x1 .f32) (C : Vec F S1x512x640 .f32) :
    k0_pay39 (k0_pay22 k) (k0_pay27 g) (k0_pay29 k0_pay18 (k0_pay26 g)) (k0_pay31 s) (k0_pay33 (iota Kind.tc S256x256 32 [0] iota_S256x256_d0_w32) (iota Kind.tc S256x256 32 [1] iota_S256x256_d1_w32) k0_pay18 (k0_pay25 g) (k0_pay26 g) (k0_pay28 g) s) (k0_pay34 k0_pay20 (k0_pay23 v)) (k0_pay35 C) = hCa k v g s C := rfl
theorem hCa_1 (k v : Vec F S1x256x512 .bf16) (g : Vec F S1x1x2x256 .f32) (s : Vec F S1x1x1 .f32) (C : Vec F S1x512x640 .f32) :
    k0_pay60 (k0_pay53 k0_pay20 (k0_pay43 v)) (k0_pay54 C) (k0_pay58 (k0_pay48 k0_pay18 g) (k0_pay49 (iota Kind.tc S256x256 32 [0] iota_S256x256_d0_w32) (iota Kind.tc S256x256 32 [1] iota_S256x256_d1_w32) k0_pay18 k0_pay19 g) (k0_pay50 s)) (k0_pay59 (k0_pay42 k) (k0_pay47 k0_pay19 g) (k0_pay48 k0_pay18 g) (k0_pay49 (iota Kind.tc S256x256 32 [0] iota_S256x256_d0_w32) (iota Kind.tc S256x256 32 [1] iota_S256x256_d1_w32) k0_pay18 k0_pay19 g) (k0_pay50 s)) = hCa k v g s C := rfl
theorem hCa_2 (k v : Vec F S1x256x512 .bf16) (g : Vec F S1x1x2x256 .f32) (s : Vec F S1x1x1 .f32) (C : Vec F S1x512x640 .f32) :
    k0_pay82 (k0_pay63 k) (k0_pay68 k0_pay19 g) (k0_pay70 k0_pay18 (k0_pay67 g) (FloatOps.ofBits FTy.f32 0#32)) (k0_pay72 s) (k0_pay74 (iota Kind.tc S256x256 32 [0] iota_S256x256_d0_w32) (iota Kind.tc S256x256 32 [1] iota_S256x256_d1_w32) k0_pay18 (k0_pay66 g) (k0_pay67 g) (k0_pay69 k0_pay19 g) (FloatOps.ofBits FTy.f32 0#32) s) (k0_pay75 k0_pay20 (k0_pay64 v)) (k0_pay76 C) = hCa k v g s C := rfl
theorem hCa_3 (k v : Vec F S1x256x512 .bf16) (g : Vec F S1x1x2x256 .f32) (s : Vec F S1x1x1 .f32) (C : Vec F S1x512x640 .f32) :
    k0_pay1 (k0_pay96 k0_pay20 (k0_pay86 v)) (k0_pay97 C) (k0_pay101 (k0_pay85 k) (k0_pay90 k0_pay19 g) (k0_pay91 k0_pay18 g) (k0_pay92 (iota Kind.tc S256x256 32 [0] iota_S256x256_d0_w32) (iota Kind.tc S256x256 32 [1] iota_S256x256_d1_w32) k0_pay18 k0_pay19 g) (k0_pay94 k0_pay18 g s)) (k0_pay102 (k0_pay91 k0_pay18 g) (k0_pay92 (iota Kind.tc S256x256 32 [0] iota_S256x256_d0_w32) (iota Kind.tc S256x256 32 [1] iota_S256x256_d1_w32) k0_pay18 k0_pay19 g) (k0_pay93 s) (k0_pay94 k0_pay18 g s)) = hCa k v g s C := rfl
theorem hH_0 (q k v : Vec F S1x256x512 .bf16) (g : Vec F S1x1x2x256 .f32) (s : Vec F S1x1x1 .f32) (C : Vec F S1x512x640 .f32) :
    k0_pay37 (k0_pay33 (iota Kind.tc S256x256 32 [0] iota_S256x256_d0_w32) (iota Kind.tc S256x256 32 [1] iota_S256x256_d1_w32) k0_pay18 (k0_pay25 g) (k0_pay26 g) (k0_pay28 g) s) (k0_pay36 (iota Kind.tc S256x256 32 [0] iota_S256x256_d0_w32) (iota Kind.tc S256x256 32 [1] iota_S256x256_d1_w32) k0_pay18 k0_pay20 (k0_pay21 q) (k0_pay22 k) (k0_pay23 v) (k0_pay25 g) (k0_pay26 g) (k0_pay28 g) s C) = hH q k v g s C := rfl
theorem hH_1 (q k v : Vec F S1x256x512 .bf16) (g : Vec F S1x1x2x256 .f32) (s : Vec F S1x1x1 .f32) (C : Vec F S1x512x640 .f32) :
    k0_pay55 k0_pay20 (k0_pay41 q) (k0_pay42 k) (k0_pay43 v) (k0_pay48 k0_pay18 g) (k0_pay49 (iota Kind.tc S256x256 32 [0] iota_S256x256_d0_w32) (iota Kind.tc S256x256 32 [1] iota_S256x256_d1_w32) k0_pay18 k0_pay19 g) (k0_pay50 s) C = hH q k v g s C := rfl
theorem hH_2 (q k v : Vec F S1x256x512 .bf16) (g : Vec F S1x1x2x256 .f32) (s : Vec F S1x1x1 .f32) (C : Vec F S1x512x640 .f32) :
    k0_pay80 (k0_pay74 (iota Kind.tc S256x256 32 [0] iota_S256x256_d0_w32) (iota Kind.tc S256x256 32 [1] iota_S256x256_d1_w32) k0_pay18 (k0_pay66 g) (k0_pay67 g) (k0_pay69 k0_pay19 g) (FloatOps.ofBits FTy.f32 0#32) s) (k0_pay78 (iota Kind.tc S256x256 32 [0] iota_S256x256_d0_w32) (iota Kind.tc S256x256 32 [1] iota_S256x256_d1_w32) k0_pay18 k0_pay20 (k0_pay62 q) (k0_pay63 k) (k0_pay64 v) (k0_pay66 g) (k0_pay67 g) (k0_pay69 k0_pay19 g) (FloatOps.ofBits FTy.f32 0#32) s C) (k0_pay79 (iota Kind.tc S256x256 32 [0] iota_S256x256_d0_w32) (iota Kind.tc S256x256 32 [1] iota_S256x256_d1_w32) k0_pay18 k0_pay20 (k0_pay62 q) (k0_pay63 k) (k0_pay64 v) (k0_pay66 g) (k0_pay67 g) (k0_pay69 k0_pay19 g) (FloatOps.ofBits FTy.f32 0#32) s C) = hH q k v g s C := rfl
theorem hH_3 (q k v : Vec F S1x256x512 .bf16) (g : Vec F S1x1x2x256 .f32) (s : Vec F S1x1x1 .f32) (C : Vec F S1x512x640 .f32) :
    k0_pay98 k0_pay20 (k0_pay84 q) (k0_pay85 k) (k0_pay86 v) (k0_pay92 (iota Kind.tc S256x256 32 [0] iota_S256x256_d0_w32) (iota Kind.tc S256x256 32 [1] iota_S256x256_d1_w32) k0_pay18 k0_pay19 g) (k0_pay94 k0_pay18 g s) C = hH q k v g s C := rfl

theorem nCa_at (x1 x2 : Vec F S1x256x2048 .bf16) (x3 : Vec F S1x4x2x256 .f32) (s0 : Vec F S4x512x640 .f32) (s1 : Vec F S4x1x1 .f32) (a : Fin 4)
    (x : S1x512x640.Idx) (y : S4x512x640.Idx) (h0 : (y 0).val = a.val) (h1 : (y 1).val = (x 1).val) (h2 : (y 2).val = (x 2).val) :
    hCa (slx x1 a) (slx x2 a) (slg x3 a) (slm s1 a) (slc s0 a) x = nCa x1 x2 x3 s0 s1 y := by
  obtain rfl : a = y 0 := Fin.ext h0.symm
  show _ = hCa _ _ _ _ _ _
  congr 1
  have hx : (x 0).val < 1 := (x 0).isLt
  funext b; apply Fin.ext
  fin_cases b
  · show (x 0).val = 0; omega
  · exact h1.symm
  · exact h2.symm
theorem nM_at (x3 : Vec F S1x4x2x256 .f32) (s1 : Vec F S4x1x1 .f32) (a : Fin 4)
    (x : S1x1x1.Idx) (y : S4x1x1.Idx) (h0 : (y 0).val = a.val) :
    hM (slg x3 a) (slm s1 a) x = nM x3 s1 y := by
  obtain rfl : a = y 0 := Fin.ext h0.symm
  show _ = hM _ _ _
  congr 1
  funext b; apply Fin.ext
  have e0 : (x 0).val < 1 := (x 0).isLt
  have e1 : (x 1).val < 1 := (x 1).isLt
  have e2 : (x 2).val < 1 := (x 2).isLt
  have f1 : (y 1).val < 1 := (y 1).isLt
  have f2 : (y 2).val < 1 := (y 2).isLt
  fin_cases b
  · show (x 0).val = 0; omega
  · show (x 1).val = (y 1).val; omega
  · show (x 2).val = (y 2).val; omega
theorem nH_at (x0 x1 x2 : Vec F S1x256x2048 .bf16) (x3 : Vec F S1x4x2x256 .f32) (s0 : Vec F S4x512x640 .f32) (s1 : Vec F S4x1x1 .f32) (a : Fin 4)
    (x : S1x256x512.Idx) (y : S1x256x2048.Idx) (h1 : (y 1).val = (x 1).val) (h2 : (y 2).val = 512 * a.val + (x 2).val) :
    hH (slx x0 a) (slx x1 a) (slx x2 a) (slg x3 a) (slm s1 a) (slc s0 a) x = nH x0 x1 x2 x3 s0 s1 y := by
  have hx0 : (x 0).val < 1 := (x 0).isLt
  have hx : (x 2).val < 512 := (x 2).isLt
  obtain rfl : a = hd (y 2) := Fin.ext (by show a.val = (y 2).val / 512; omega)
  show _ = hH _ _ _ _ _ _ _
  congr 1
  funext b; apply Fin.ext
  fin_cases b
  · show (x 0).val = 0; omega
  · exact h1.symm
  · show (x 2).val = (y 2).val % 512; omega

theorem c5_0 (X : Vec F S1x512x512 .f32) (j : S1x1x512x512.Idx) : k0_pay6 X j = X (ix3 ⟨0, by decide⟩ (j 2) (j 3)) := by
  unfold k0_pay6; pointwise
theorem c6_0 (X : Vec F S1x512x1 .f32) (j : S1x1x512x1.Idx) : k0_pay7 X j = X (ix3 ⟨0, by decide⟩ (j 2) ⟨0, by decide⟩) := by
  unfold k0_pay7; pointwise
theorem c7_0 (X : Vec F S1x1x1 .f32) (j : S1x1x1x1.Idx) : k0_pay8 X j = X (ix3 ⟨0, by decide⟩ ⟨0, by decide⟩ ⟨0, by decide⟩) := by
  unfold k0_pay8; pointwise

theorem c5_1 (X : Vec F S1x512x512 .f32) (j : S1x1x512x512.Idx) : k0_pay9 X j = X (ix3 ⟨0, by decide⟩ (j 2) (j 3)) := by
  unfold k0_pay9; pointwise
theorem c6_1 (X : Vec F S1x512x1 .f32) (j : S1x1x512x1.Idx) : k0_pay11 (k0_pay10 X) j = X (ix3 ⟨0, by decide⟩ (j 2) ⟨0, by decide⟩) := by
  unfold k0_pay11 k0_pay10; pointwise
theorem c7_1 (X : Vec F S1x1x1 .f32) (j : S1x1x1x1.Idx) : k0_pay12 X j = X (ix3 ⟨0, by decide⟩ ⟨0, by decide⟩ ⟨0, by decide⟩) := by
  unfold k0_pay12; pointwise

theorem c5_2 (X : Vec F S1x512x512 .f32) (j : S1x1x512x512.Idx) : k0_pay13 X j = X (ix3 ⟨0, by decide⟩ (j 2) (j 3)) := by
  unfold k0_pay13; pointwise
theorem c6_2 (X : Vec F S1x512x1 .f32) (j : S1x1x512x1.Idx) : k0_pay14 X j = X (ix3 ⟨0, by decide⟩ (j 2) ⟨0, by decide⟩) := by
  unfold k0_pay14; pointwise
theorem c7_2 (X : Vec F S1x1x1 .f32) (j : S1x1x1x1.Idx) : k0_pay15 X j = X (ix3 ⟨0, by decide⟩ ⟨0, by decide⟩ ⟨0, by decide⟩) := by
  unfold k0_pay15; pointwise

theorem c5_3 (X : Vec F S1x512x512 .f32) (j : S1x1x512x512.Idx) : k0_pay3 X j = X (ix3 ⟨0, by decide⟩ (j 2) (j 3)) := by
  unfold k0_pay3; pointwise
theorem c6_3 (X : Vec F S1x512x1 .f32) (j : S1x1x512x1.Idx) : k0_pay4 X j = X (ix3 ⟨0, by decide⟩ (j 2) ⟨0, by decide⟩) := by
  unfold k0_pay4; pointwise
theorem c7_3 (X : Vec F S1x1x1 .f32) (j : S1x1x1x1.Idx) : k0_pay5 X j = X (ix3 ⟨0, by decide⟩ ⟨0, by decide⟩ ⟨0, by decide⟩) := by
  unfold k0_pay5; pointwise

/-- A load inside the last store reads that store. -/
theorem readCov_sub {S : Shape} {e : EltTy} {sg : RefSig} {κ : Kind} {sp : Space} (v : View sg κ sp S e) {off size offL sizeL : Fin S.rank → Nat} (inb) (inbL)
    (w : (Rect.unit (s := S) off size inb).shape.Idx → Elt F e) (L : List (View.Piece (Elt F) S e)) (j : (Rect.unit (s := S) offL sizeL inbL).shape.Idx)
    (x : (Rect.unit (s := S) off size inb).shape.Idx) (h : ∀ a, offL a + (j a).val = off a + (x a).val) :
    v.readCov ((⟨Rect.unit off size inb, w⟩ : View.Piece (Elt F) S e) :: L) (Rect.unit offL sizeL inbL).toLoadRect j = w x := by
  rw [View.readCov_eq_canon']
  have : (Rect.unit (s := S) offL sizeL inbL).idx j = (Rect.unit off size inb).emb x := funext fun a => Fin.ext (by
    rw [Rect.idx_unit_val, h a]; exact (Rect.idx_unit_val off size inb x a).symm)
  show View.canon _ ((Rect.unit (s := S) offL sizeL inbL).idx j) = _
  rw [this, View.canon_cons_emb]
/-- The store of head 0's matrix state is a block of the new states. -/
theorem nCa_p0 (x1 x2 : Vec F S1x256x2048 .bf16) (x3 : Vec F S1x4x2x256 .f32) (s0 : Vec F S4x512x640 .f32) (s1 : Vec F S4x1x1 .f32) (x : S1x512x640.Idx) :
    hCa (slx x1 ⟨0, by decide⟩) (slx x2 ⟨0, by decide⟩) (slg x3 ⟨0, by decide⟩) (slm s1 ⟨0, by decide⟩) (slc s0 ⟨0, by decide⟩) x = nCa x1 x2 x3 s0 s1 ((Rect.unit (s := S4x512x640) ![0, 0, 0] ![1, 512, 640] inb_S4x512x640_S1x512x640_0_0_0).emb x) :=
  have hx : (x 0).val < 1 := (x 0).isLt
  nCa_at _ _ _ _ _ _ _ _ (by show 0 + 1 * (x 0).val = 0; omega) (by show 0 + 1 * (x 1).val = (x 1).val; omega) (by show 0 + 1 * (x 2).val = (x 2).val; omega)
/-- The store of head 0's stabiliser is a block of the new stabilisers. -/
theorem nM_p0 (x3 : Vec F S1x4x2x256 .f32) (s1 : Vec F S4x1x1 .f32) (x : S1x1x1.Idx) :
    hM (slg x3 ⟨0, by decide⟩) (slm s1 ⟨0, by decide⟩) x = nM x3 s1 ((Rect.unit (s := S4x1x1) ![0, 0, 0] ![1, 1, 1] inb_S4x1x1_S1x1x1_0_0_0).emb x) :=
  have hx : (x 0).val < 1 := (x 0).isLt
  nM_at _ _ _ _ _ (by show 0 + 1 * (x 0).val = 0; omega)
/-- The store of head 1's matrix state is a block of the new states. -/
theorem nCa_p1 (x1 x2 : Vec F S1x256x2048 .bf16) (x3 : Vec F S1x4x2x256 .f32) (s0 : Vec F S4x512x640 .f32) (s1 : Vec F S4x1x1 .f32) (x : S1x512x640.Idx) :
    hCa (slx x1 ⟨1, by decide⟩) (slx x2 ⟨1, by decide⟩) (slg x3 ⟨1, by decide⟩) (slm s1 ⟨1, by decide⟩) (slc s0 ⟨1, by decide⟩) x = nCa x1 x2 x3 s0 s1 ((Rect.unit (s := S4x512x640) ![1, 0, 0] ![1, 512, 640] inb_S4x512x640_S1x512x640_1_0_0).emb x) :=
  have hx : (x 0).val < 1 := (x 0).isLt
  nCa_at _ _ _ _ _ _ _ _ (by show 1 + 1 * (x 0).val = 1; omega) (by show 0 + 1 * (x 1).val = (x 1).val; omega) (by show 0 + 1 * (x 2).val = (x 2).val; omega)
/-- The store of head 1's stabiliser is a block of the new stabilisers. -/
theorem nM_p1 (x3 : Vec F S1x4x2x256 .f32) (s1 : Vec F S4x1x1 .f32) (x : S1x1x1.Idx) :
    hM (slg x3 ⟨1, by decide⟩) (slm s1 ⟨1, by decide⟩) x = nM x3 s1 ((Rect.unit (s := S4x1x1) ![1, 0, 0] ![1, 1, 1] inb_S4x1x1_S1x1x1_1_0_0).emb x) :=
  have hx : (x 0).val < 1 := (x 0).isLt
  nM_at _ _ _ _ _ (by show 1 + 1 * (x 0).val = 1; omega)
/-- The store of head 2's matrix state is a block of the new states. -/
theorem nCa_p2 (x1 x2 : Vec F S1x256x2048 .bf16) (x3 : Vec F S1x4x2x256 .f32) (s0 : Vec F S4x512x640 .f32) (s1 : Vec F S4x1x1 .f32) (x : S1x512x640.Idx) :
    hCa (slx x1 ⟨2, by decide⟩) (slx x2 ⟨2, by decide⟩) (slg x3 ⟨2, by decide⟩) (slm s1 ⟨2, by decide⟩) (slc s0 ⟨2, by decide⟩) x = nCa x1 x2 x3 s0 s1 ((Rect.unit (s := S4x512x640) ![2, 0, 0] ![1, 512, 640] inb_S4x512x640_S1x512x640_2_0_0).emb x) :=
  have hx : (x 0).val < 1 := (x 0).isLt
  nCa_at _ _ _ _ _ _ _ _ (by show 2 + 1 * (x 0).val = 2; omega) (by show 0 + 1 * (x 1).val = (x 1).val; omega) (by show 0 + 1 * (x 2).val = (x 2).val; omega)
/-- The store of head 2's stabiliser is a block of the new stabilisers. -/
theorem nM_p2 (x3 : Vec F S1x4x2x256 .f32) (s1 : Vec F S4x1x1 .f32) (x : S1x1x1.Idx) :
    hM (slg x3 ⟨2, by decide⟩) (slm s1 ⟨2, by decide⟩) x = nM x3 s1 ((Rect.unit (s := S4x1x1) ![2, 0, 0] ![1, 1, 1] inb_S4x1x1_S1x1x1_2_0_0).emb x) :=
  have hx : (x 0).val < 1 := (x 0).isLt
  nM_at _ _ _ _ _ (by show 2 + 1 * (x 0).val = 2; omega)
/-- The store of head 3's matrix state is a block of the new states. -/
theorem nCa_p3 (x1 x2 : Vec F S1x256x2048 .bf16) (x3 : Vec F S1x4x2x256 .f32) (s0 : Vec F S4x512x640 .f32) (s1 : Vec F S4x1x1 .f32) (x : S1x512x640.Idx) :
    hCa (slx x1 ⟨3, by decide⟩) (slx x2 ⟨3, by decide⟩) (slg x3 ⟨3, by decide⟩) (slm s1 ⟨3, by decide⟩) (slc s0 ⟨3, by decide⟩) x = nCa x1 x2 x3 s0 s1 ((Rect.unit (s := S4x512x640) ![3, 0, 0] ![1, 512, 640] inb_S4x512x640_S1x512x640_3_0_0).emb x) :=
  have hx : (x 0).val < 1 := (x 0).isLt
  nCa_at _ _ _ _ _ _ _ _ (by show 3 + 1 * (x 0).val = 3; omega) (by show 0 + 1 * (x 1).val = (x 1).val; omega) (by show 0 + 1 * (x 2).val = (x 2).val; omega)
/-- The store of head 3's stabiliser is a block of the new stabilisers. -/
theorem nM_p3 (x3 : Vec F S1x4x2x256 .f32) (s1 : Vec F S4x1x1 .f32) (x : S1x1x1.Idx) :
    hM (slg x3 ⟨3, by decide⟩) (slm s1 ⟨3, by decide⟩) x = nM x3 s1 ((Rect.unit (s := S4x1x1) ![3, 0, 0] ![1, 1, 1] inb_S4x1x1_S1x1x1_3_0_0).emb x) :=
  have hx : (x 0).val < 1 := (x 0).isLt
  nM_at _ _ _ _ _ (by show 3 + 1 * (x 0).val = 3; omega)

/-- Case B: the matrix states carried on. -/
theorem sout0_B_0_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : ¬cond0_1 i) (x0 x1 x2 : Vec F S1x256x2048 .bf16) (x3 : Vec F S1x4x2x256 .f32) (xs0 : Vec F S4x512x640 .f32) (xs1 : Vec F S4x1x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 = nCa x1 x2 x3 xs0 xs1 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hCa_3, hCa_2, hCa_1, hCa_0]
  canon_tiles x h
  all_goals exact nCa_at _ _ _ _ _ _ _ _ (by dsimp only; omega) (by omega) (by omega)

/-- Case B: the stabilisers carried on. -/
theorem sout0_B_1_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : ¬cond0_1 i) (x0 x1 x2 : Vec F S1x256x2048 .bf16) (x3 : Vec F S1x4x2x256 .f32) (xs0 : Vec F S4x512x640 .f32) (xs1 : Vec F S4x1x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 = nM x3 xs1 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hM_3, hM_2, hM_1, hM_0]
  canon_tiles x h
  all_goals exact nM_at _ _ _ _ _ (by dsimp only; omega)

/-- Case B: the outputs' block. -/
theorem out0_B_4_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : ¬cond0_1 i) (x0 x1 x2 : Vec F S1x256x2048 .bf16) (x3 : Vec F S1x4x2x256 .f32) (xs0 : Vec F S4x512x640 .f32) (xs1 : Vec F S4x1x1 .f32) :
    out0_B_4 c i arg2 harg2 arg3 harg3 arg4 harg4 arg5 harg5 arg6 harg6 arg7 harg7 arg8 harg8 arg9 harg9 arg10 harg10 arg11 harg11 hc0 hc1 x0 x1 x2 x3 xs0 xs1 = nH x0 x1 x2 x3 xs0 xs1 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hH_3, hH_2, hH_1, hH_0]
  canon_tiles x h
  all_goals exact nH_at _ _ _ _ _ _ _ _ _ (by omega) (by dsimp only; omega)

/-- Case A: the matrix states carried on. -/
theorem sout0_A_0_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : cond0_0 i) (hc1 : ¬cond0_1 i) (x0 x1 x2 : Vec F S1x256x2048 .bf16) (x3 : Vec F S1x4x2x256 .f32) :
    sout0_A_0 c i arg2 harg2 arg3 harg3 arg4 harg4 arg5 harg5 arg6 harg6 arg7 harg7 arg8 harg8 arg9 harg9 arg10 harg10 arg11 harg11 hc0 hc1 x0 x1 x2 x3 = nCa x1 x2 x3 k0_pay16 k0_pay17 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hCa_3, hCa_2, hCa_1, hCa_0]
  refine View.canon_append_of_piecesOf (nCa x1 x2 x3 k0_pay16 k0_pay17) [_] [_, _, _, _] ⟨fun x => ?_, fun x => ?_, fun x => ?_, fun x => ?_, trivial⟩ y (View.cover_of_tiledL _ ![1, 512, 640] (by sl_kernel_rfl) y)
  exacts [nCa_p3 _ _ _ _ _ x, nCa_p2 _ _ _ _ _ x, nCa_p1 _ _ _ _ _ x, nCa_p0 _ _ _ _ _ x]

/-- Case A: the stabilisers carried on. -/
theorem sout0_A_1_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : cond0_0 i) (hc1 : ¬cond0_1 i) (x0 x1 x2 : Vec F S1x256x2048 .bf16) (x3 : Vec F S1x4x2x256 .f32) :
    sout0_A_1 c i arg2 harg2 arg3 harg3 arg4 harg4 arg5 harg5 arg6 harg6 arg7 harg7 arg8 harg8 arg9 harg9 arg10 harg10 arg11 harg11 hc0 hc1 x0 x1 x2 x3 = nM x3 k0_pay17 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hM_3, hM_2, hM_1, hM_0]
  refine View.canon_append_of_piecesOf (nM x3 k0_pay17) [_] [_, _, _, _] ⟨fun x => ?_, fun x => ?_, fun x => ?_, fun x => ?_, trivial⟩ y (View.cover_of_tiledL _ ![1, 1, 1] (by sl_kernel_rfl) y)
  exacts [nM_p3 _ _ x, nM_p2 _ _ x, nM_p1 _ _ x, nM_p0 _ _ x]

/-- Case A: the outputs' block. -/
theorem out0_A_4_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : cond0_0 i) (hc1 : ¬cond0_1 i) (x0 x1 x2 : Vec F S1x256x2048 .bf16) (x3 : Vec F S1x4x2x256 .f32) :
    out0_A_4 c i arg2 harg2 arg3 harg3 arg4 harg4 arg5 harg5 arg6 harg6 arg7 harg7 arg8 harg8 arg9 harg9 arg10 harg10 arg11 harg11 hc0 hc1 x0 x1 x2 x3 = nH x0 x1 x2 x3 k0_pay16 k0_pay17 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hH_3, hH_2, hH_1, hH_0]
  canon_tiles x h
  all_goals exact nH_at _ _ _ _ _ _ _ _ _ (by omega) (by dsimp only; omega)

/-- Case C: the matrix states carried on. -/
theorem sout0_C_0_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : cond0_1 i) (x0 x1 x2 : Vec F S1x256x2048 .bf16) (x3 : Vec F S1x4x2x256 .f32) (xs0 : Vec F S4x512x640 .f32) (xs1 : Vec F S4x1x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 = nCa x1 x2 x3 xs0 xs1 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hCa_3, hCa_2, hCa_1, hCa_0]
  canon_tiles x h
  all_goals exact nCa_at _ _ _ _ _ _ _ _ (by dsimp only; omega) (by omega) (by omega)

/-- Case C: the stabilisers carried on. -/
theorem sout0_C_1_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : cond0_1 i) (x0 x1 x2 : Vec F S1x256x2048 .bf16) (x3 : Vec F S1x4x2x256 .f32) (xs0 : Vec F S4x512x640 .f32) (xs1 : Vec F S4x1x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 = nM x3 xs1 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hM_3, hM_2, hM_1, hM_0]
  canon_tiles x h
  all_goals exact nM_at _ _ _ _ _ (by dsimp only; omega)

/-- Case C: the outputs' block. -/
theorem out0_C_4_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : cond0_1 i) (x0 x1 x2 : Vec F S1x256x2048 .bf16) (x3 : Vec F S1x4x2x256 .f32) (xs0 : Vec F S4x512x640 .f32) (xs1 : Vec F S4x1x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 = nH x0 x1 x2 x3 xs0 xs1 := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hH_3, hH_2, hH_1, hH_0]
  canon_tiles x h
  all_goals exact nH_at _ _ _ _ _ _ _ _ _ (by omega) (by dsimp only; omega)

/-- The states written out at the last chunk. -/
theorem out0_C_5_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : cond0_1 i) (x0 x1 x2 : Vec F S1x256x2048 .bf16) (x3 : Vec F S1x4x2x256 .f32) (xs0 : Vec F S4x512x640 .f32) (xs1 : Vec F S4x1x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 = fun y => nCa x1 x2 x3 xs0 xs1 (ix3 (y 1) (y 2) ⟨(y 3).val, by have h : (y 3).val < 512 := (y 3).isLt; omega⟩) := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hCa_3, hCa_2, hCa_1, hCa_0]
  canon_tiles x h
  all_goals first | rw [c5_0] | rw [c5_1] | rw [c5_2] | rw [c5_3]
  all_goals refine (readCov_sub _ _ _ _ _ _ (ix3 ⟨0, by decide⟩ (x 2) ⟨(x 3).val, by omega⟩) (fun b => by fin_cases b <;> simp [ix3])).trans (nCa_at _ _ _ _ _ _ _ _ ?_ ?_ ?_)
  all_goals first | (show (y 1).val = _; dsimp only; omega) | (show (y 2).val = (x 2).val; omega) | (show (y 3).val = (x 3).val; omega)

/-- The normalisers written out at the last chunk. -/
theorem out0_C_6_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : cond0_1 i) (x0 x1 x2 : Vec F S1x256x2048 .bf16) (x3 : Vec F S1x4x2x256 .f32) (xs0 : Vec F S4x512x640 .f32) (xs1 : Vec F S4x1x1 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 = fun y => nCa x1 x2 x3 xs0 xs1 (ix3 (y 1) (y 2) ⟨512, by decide⟩) := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hCa_3, hCa_2, hCa_1, hCa_0]
  canon_tiles x h
  all_goals first | rw [c6_0] | rw [c6_1] | rw [c6_2] | rw [c6_3]
  all_goals refine (readCov_sub _ _ _ _ _ _ (ix3 ⟨0, by decide⟩ (x 2) ⟨512, by decide⟩) (fun b => by fin_cases b <;> simp [ix3]; try omega)).trans (nCa_at _ _ _ _ _ _ _ _ ?_ ?_ ?_)
  all_goals first | (show (y 1).val = _; dsimp only; omega) | (show (y 2).val = (x 2).val; omega) | rfl

/-- The stabilisers written out at the last chunk. -/
theorem out0_C_7_eq (c : Dev nD) (i : grid0.Coords) (arg2 : Memref sig .tc .vmem S1x256x2048 .bf16) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .vmem S1x4x2x256 .f32) (harg5 : arg5.IsWhole) (arg6 : Memref sig .tc .vmem S1x256x2048 .f32) (harg6 : arg6.IsWhole) (arg7 : Memref sig .tc .vmem S1x4x512x512 .f32) (harg7 : arg7.IsWhole) (arg8 : Memref sig .tc .vmem S1x4x512x1 .f32) (harg8 : arg8.IsWhole) (arg9 : Memref sig .tc .vmem S1x4x1x1 .f32) (harg9 : arg9.IsWhole) (arg10 : Memref sig .tc .vmem S4x512x640 .f32) (harg10 : arg10.IsWhole) (arg11 : Memref sig .tc .vmem S4x1x1 .f32) (harg11 : arg11.IsWhole) (hc0 : ¬cond0_0 i) (hc1 : cond0_1 i) (x0 x1 x2 : Vec F S1x256x2048 .bf16) (x3 : Vec F S1x4x2x256 .f32) (xs0 : Vec F S4x512x640 .f32) (xs1 : Vec F S4x1x1 .f32) :
    out0_C_7 c i arg2 harg2 arg3 harg3 arg4 harg4 arg5 harg5 arg6 harg6 arg7 harg7 arg8 harg8 arg9 harg9 arg10 harg10 arg11 harg11 hc0 hc1 x0 x1 x2 x3 xs0 xs1 = fun y => nM x3 xs1 (ix3 (y 1) (y 2) (y 3)) := by
  funext y
  frame_open
  simp (disch := decide) only [↓ View.readCov_skip, ↓ View.readCov_cons_toLoadRect, ↓ View.readCov_fill]
  frame_out
  simp only [ldx_0, ldx_1, ldx_2, ldx_3, ldg_0, ldg_1, ldg_2, ldg_3, ldc_0, ldc_1, ldc_2, ldc_3, ldm_0, ldm_1, ldm_2, ldm_3]
  rw [hM_3, hM_2, hM_1, hM_0]
  canon_tiles x h
  all_goals first | rw [c7_0] | rw [c7_1] | rw [c7_2] | rw [c7_3]
  all_goals exact nM_at _ _ _ _ _ (by show (y 1).val = _; dsimp only; omega)

end Cert.KernelIdeal.Scan
end
-- ==== Proof.Math.lean ====
/-
  The stabilised recurrence over the real numbers, in closed form: with the gates' prefix sums written out, a state is one
  weighted sum over the tokens seen so far, and a chunk of tokens carries one such sum to the next.
-/
module
public import Idealize.ShloMosaic.PureOps.Ideal.Laws
public import Mathlib.Algebra.BigOperators.Intervals
public import Mathlib.Tactic.Linarith
public import Mathlib.Tactic.Ring
public import Idealize.ShloMosaic.Lib.Pointwise
@[expose] public section
noncomputable section
namespace Cert.Mlstm
open Finset Idealize.ShloMosaic

/-- The sum of the first `n` log forget gates. -/
def Bx (lf : ℕ → ℝ) (n : ℕ) : ℝ := ∑ s ∈ range n, lf s
/-- A token's log weight, free of the query's position. -/
def us (ig lf : ℕ → ℝ) (s : ℕ) : ℝ := ig s - Bx lf (s + 1)
/-- The running maximum of the log weights, from zero. -/
def Rm (u : ℕ → ℝ) : ℕ → ℝ
  | 0 => 0
  | n + 1 => max (Rm u n) (u n)
/-- The stabiliser after `n` tokens. -/
def St (ig lf : ℕ → ℝ) (n : ℕ) : ℝ := Bx lf n + Rm (us ig lf) n
/-- The values with the column of ones that sums the weights. -/
def va (v : ℕ → ℕ → ℝ) (s e : ℕ) : ℝ := if e < 512 then v s e else if e = 512 then 1 else 0
/-- The matrix state after `n` tokens. -/
def Cs (ig lf : ℕ → ℝ) (k v : ℕ → ℕ → ℝ) (n d e : ℕ) : ℝ :=
  ∑ s ∈ range n, Real.exp (us ig lf s - Rm (us ig lf) n) * k s d * va v s e
/-- The query's product with a key. -/
def qk (q k : ℕ → ℕ → ℝ) (t s : ℕ) : ℝ := ∑ d ∈ range 512, q t d * k s d
/-- The weighted values at token `t`: the numerator, and the denominator at column 512. -/
def Nu (ig lf : ℕ → ℝ) (q k v : ℕ → ℕ → ℝ) (t e : ℕ) : ℝ :=
  ∑ s ∈ range (t + 1), Real.exp (us ig lf s - Rm (us ig lf) (t + 1)) * qk q k t s * va v s e
/-- The layer's output at token `t`. -/
def Ho (ig lf : ℕ → ℝ) (q k v : ℕ → ℕ → ℝ) (t e : ℕ) : ℝ :=
  Nu ig lf q k v t e / max |Nu ig lf q k v t 512| (Real.exp (-St ig lf (t + 1)))

/-- The prefix sum over a chunk after `T` tokens. -/
theorem Bx_add (lf : ℕ → ℝ) (T n : ℕ) : Bx lf (T + n) = Bx lf T + ∑ s ∈ range n, lf (T + s) :=
  sum_range_add _ _ _
/-- The running maximum grows. -/
theorem Rm_mono (u : ℕ → ℝ) (T n : ℕ) : Rm u T ≤ Rm u (T + n) := by
  induction n with
  | zero => exact le_rfl
  | succ n ih => exact ih.trans (le_max_left _ _)
/-- The running maximum is above every weight before it. -/
theorem le_Rm (u : ℕ → ℝ) (T n s : ℕ) (h : s < n) : u (T + s) ≤ Rm u (T + n) := by
  induction n with
  | zero => omega
  | succ n ih =>
    rcases Nat.lt_succ_iff_lt_or_eq.mp h with h | rfl
    · exact (ih h).trans (le_max_left _ _)
    · exact le_max_right _ _
/-- The running maximum is the one carried in or one of the chunk's own weights. -/
theorem Rm_attained (u : ℕ → ℝ) (T n : ℕ) : Rm u (T + n) = Rm u T ∨ ∃ s < n, Rm u (T + n) = u (T + s) := by
  induction n with
  | zero => exact Or.inl rfl
  | succ n ih =>
    rcases le_total (u (T + n)) (Rm u (T + n)) with h | h
    · have e : Rm u (T + (n + 1)) = Rm u (T + n) := max_eq_left h
      rw [e]
      rcases ih with ih | ⟨s, hs, ih⟩
      · exact Or.inl ih
      · exact Or.inr ⟨s, by omega, ih⟩
    · exact Or.inr ⟨n, by omega, max_eq_right h⟩

/-- A sum over a chunk's earlier tokens, as a masked sum over all of them. -/
theorem sum_mask (N t : ℕ) (ht : t < N) (f : ℕ → ℝ) : ∑ x : Fin N, (if x.val ≤ t then f x.val else 0) = ∑ s ∈ range (t + 1), f s := by
  rw [Fin.sum_univ_eq_sum_range (fun x => if x ≤ t then f x else 0) N, ← Finset.sum_filter]
  refine Finset.sum_congr ?_ fun _ _ => rfl
  ext s; simp; omega

/-- The chunk's masked part and the carried part make the numerator after the chunk's token `t`. -/
theorem Nu_chunk (ig lf : ℕ → ℝ) (q k v : ℕ → ℕ → ℝ) (T t e : ℕ) :
    Real.exp (Rm (us ig lf) T - Rm (us ig lf) (T + (t + 1))) * (∑ d ∈ range 512, q (T + t) d * Cs ig lf k v T d e)
      + ∑ s ∈ range (t + 1), (qk q k (T + t) (T + s) * Real.exp (us ig lf (T + s) - Rm (us ig lf) (T + (t + 1)))) * va v (T + s) e
    = Nu ig lf q k v (T + t) e := by
  unfold Nu
  rw [show T + t + 1 = T + (t + 1) from rfl, sum_range_add _ T (t + 1)]
  congr 1
  · unfold Cs qk
    simp only [Finset.mul_sum, Finset.sum_mul]
    rw [Finset.sum_comm]
    refine Finset.sum_congr rfl fun s _ => ?_
    refine Finset.sum_congr rfl fun d _ => ?_
    have h : Real.exp (us ig lf s - Rm (us ig lf) (T + (t + 1))) = Real.exp (Rm (us ig lf) T - Rm (us ig lf) (T + (t + 1))) * Real.exp (us ig lf s - Rm (us ig lf) T) := by
      rw [← Real.exp_add]; congr 1; ring
    rw [h]; ring
  · exact Finset.sum_congr rfl fun s _ => by ring

/-- The carried matrix state and the chunk's own outer products make the state after the chunk. -/
theorem Cs_chunk (ig lf : ℕ → ℝ) (k v : ℕ → ℕ → ℝ) (T n d e : ℕ) :
    Real.exp (Rm (us ig lf) T - Rm (us ig lf) (T + n)) * Cs ig lf k v T d e
      + ∑ s ∈ range n, (k (T + s) d * Real.exp (us ig lf (T + s) - Rm (us ig lf) (T + n))) * va v (T + s) e
    = Cs ig lf k v (T + n) d e := by
  unfold Cs
  rw [sum_range_add _ T n]
  congr 1
  · rw [Finset.mul_sum]
    refine Finset.sum_congr rfl fun s _ => ?_
    have h : Real.exp (us ig lf s - Rm (us ig lf) (T + n)) = Real.exp (Rm (us ig lf) T - Rm (us ig lf) (T + n)) * Real.exp (us ig lf s - Rm (us ig lf) T) := by
      rw [← Real.exp_add]; congr 1; ring
    rw [h]; ring
  · exact Finset.sum_congr rfl fun s _ => by ring

/-- A finite sum of reals, coerced. -/
theorem coe_sum {ι : Type} (S : Finset ι) (f : ι → ℝ) : ∑ x ∈ S, ((f x : ℝ) : EReal) = ((∑ x ∈ S, f x : ℝ) : EReal) := by
  classical
  induction S using Finset.induction_on with
  | empty => simp
  | insert a S ha ih => rw [Finset.sum_insert ha, Finset.sum_insert ha, ih, EReal.coe_add]

/-- The larger of two reals, coerced. -/
theorem coe_max (a b : ℝ) : max (a : EReal) (b : EReal) = ((max a b : ℝ) : EReal) :=
  (Monotone.map_max (f := ((↑) : ℝ → EReal)) (fun _ _ h => EReal.coe_le_coe_iff.mpr h)).symm

/-- The largest of a real and of a masked row of reals, from its bounds and from where it is attained. -/
theorem max_fold (N : ℕ) (p : Fin N → Prop) [DecidablePred p] (f : Fin N → ℝ) (a M : ℝ) (ha : a ≤ M) (hf : ∀ x, p x → f x ≤ M)
    (h : M = a ∨ ∃ x, p x ∧ M = f x) :
    max (a : EReal) (Finset.fold max ⊥ (fun x => if p x then ((f x : ℝ) : EReal) else ⊥) Finset.univ) = (M : EReal) := by
  apply le_antisymm
  · refine max_le (EReal.coe_le_coe_iff.mpr ha) (Finset.fold_max_le _ |>.mpr ⟨bot_le, fun x _ => ?_⟩)
    split
    · exact EReal.coe_le_coe_iff.mpr (hf x ‹_›)
    · exact bot_le
  · rcases h with rfl | ⟨x, hx, rfl⟩
    · exact le_max_left _ _
    · refine le_max_of_le_right (Finset.le_fold_max _ |>.mpr (Or.inr ⟨x, Finset.mem_univ _, ?_⟩))
      rw [if_pos hx]

/-- Every element is a real number. -/
def Fn {s : Shape} (X : s.Idx → EReal) : Prop := ∀ i, X i = ((X i).toReal : EReal)
/-- One batch's and head's rows of a `[8, 2048, 4, 512]` array, over the reals. -/
def arr4 (X : (⟨4, ![8, 2048, 4, 512]⟩ : Shape).Idx → EReal) (b : Fin 8) (a : Fin 4) (s d : ℕ) : ℝ :=
  if h : s < 2048 ∧ d < 512 then (X (ix4 b ⟨s, h.1⟩ a ⟨d, h.2⟩)).toReal else 0
/-- One batch's and head's gates of a `[8, 2048, 4]` array, over the reals. -/
def arr3 (X : (⟨3, ![8, 2048, 4]⟩ : Shape).Idx → EReal) (b : Fin 8) (a : Fin 4) (s : ℕ) : ℝ :=
  if h : s < 2048 then (X (ix3 b ⟨s, h⟩ a)).toReal else 0
/-- An element of a finite array is its real number. -/
theorem arr4_at (X : (⟨4, ![8, 2048, 4, 512]⟩ : Shape).Idx → EReal) (hX : Fn X) (b : Fin 8) (a : Fin 4) (s : Fin 2048) (d : Fin 512) :
    X (ix4 b s a d) = ((arr4 X b a s.val d.val : ℝ) : EReal) := by
  rw [arr4, dif_pos ⟨s.isLt, d.isLt⟩]; exact hX _
/-- A gate of a finite array is its real number. -/
theorem arr3_at (X : (⟨3, ![8, 2048, 4]⟩ : Shape).Idx → EReal) (hX : Fn X) (b : Fin 8) (a : Fin 4) (s : Fin 2048) :
    X (ix3 b s a) = ((arr3 X b a s.val : ℝ) : EReal) := by
  rw [arr3, dif_pos s.isLt]; exact hX _
end Cert.Mlstm
end
-- ==== Proof.Head.lean ====
/-
  One head's chunk over the extended reals: from finite inputs and a carried state in closed form, the payloads are the
  closed form after the chunk.
-/
module
public import proofs.«01_k».proof.Proof.Step
public import proofs.«01_k».proof.Proof.Math
public import Idealize.ShloMosaic.PureOps.Ideal.Laws
public import Idealize.ShloMosaic.Lib.WordCmp
@[expose] public section
set_option maxRecDepth 16384
noncomputable section
namespace Cert.KernelIdeal.Scan
open Cert.KernelIdeal Cert.KernelIdeal.Gen Idealize.ShloMosaic Idealize.ShloMosaic.TcCoe Idealize.SL.Sem
open Cert.Mlstm

/-- A selection by a comparison of two positions. -/
theorem sel_le {α : Type} (x i : ℕ) (hx : x < 2 ^ 31) (hi : i < 2 ^ 31) (a b : α) :
    Scalar.select (IntOp.cmpi CmpIPredicate.sle (BitVec.ofNat 32 x) (BitVec.ofNat 32 i)) a b = if x ≤ i then a else b := by
  unfold Scalar.select
  exact if_congr (WordCmp.cmpi_sle_ofNat_eq_one_iff hx hi) rfl rfl
/-- A selection by an equality of two positions. -/
theorem sel_eq {α : Type} (x i : ℕ) (hx : x < 2 ^ 31) (hi : i < 2 ^ 31) (a b : α) :
    Scalar.select (IntOp.cmpi CmpIPredicate.eq (BitVec.ofNat 32 x) (BitVec.ofNat 32 i)) a b = if x = i then a else b := by
  unfold Scalar.select
  exact if_congr (WordCmp.cmpi_eq_ofNat_eq_one_iff (by omega) (by omega)) rfl rfl
/-- The bit pattern of minus infinity. -/
theorem ofBits_ninf : Ideal.ofBits FTy.f32 4286578688#32 = ⊥ := by
  simp [Ideal.ofBits, Ideal.ieee]
/-- A masked sum of coerced reals over a chunk. -/
theorem esum_mask (t : Fin 256) (f : ℕ → ℝ) :
    ∑ x : Fin 256, (if x.val ≤ t.val then ((f x.val : ℝ) : EReal) else 0) = ((∑ s ∈ Finset.range (t.val + 1), f s : ℝ) : EReal) := by
  rw [← sum_mask 256 t.val t.isLt f, ← coe_sum]
  refine Finset.sum_congr rfl fun x _ => ?_
  split <;> rfl

section Gates
variable (ig lf : ℕ → ℝ) (T : ℕ) (g : Vec Ideal S1x1x2x256 .f32) (s : Vec Ideal S1x1x1 .f32)
  (hi : ∀ x : Fin 256, g (ix4 0 0 0 x) = ((ig (T + x.val) : ℝ) : EReal))
  (hl : ∀ x : Fin 256, g (ix4 0 0 1 x) = ((lf (T + x.val) : ℝ) : EReal))
  (hs : s (ix3 0 0 0) = ((St ig lf T : ℝ) : EReal))
include hi in
/-- The input gates, read down the column. -/
theorem p27 (t : Fin 256) : k0_pay27 g (ix2 t 0) = ((ig (T + t.val) : ℝ) : EReal) := by
  pointwise [k0_pay27, k0_pay19, k0_pay25, k0_pay24]
  rw [Finset.sum_eq_single t]
  · rw [sel_eq _ _ (by omega) (by omega), if_pos rfl, hi]
  · intro b _ hb
    rw [sel_eq _ _ (by omega) (by omega), if_neg fun h => hb (Fin.ext h)]
  · exact fun h => absurd (Finset.mem_univ _) h
include hl in
/-- The forget gates, read down the column. -/
theorem p28 (t : Fin 256) : k0_pay28 g (ix1 t) = ((lf (T + t.val) : ℝ) : EReal) := by
  pointwise [k0_pay28, k0_pay19, k0_pay26, k0_pay24]
  rw [Finset.sum_eq_single t]
  · rw [sel_eq _ _ (by omega) (by omega), if_pos rfl, hl]
  · intro b _ hb
    rw [sel_eq _ _ (by omega) (by omega), if_neg fun h => hb (Fin.ext h)]
  · exact fun h => absurd (Finset.mem_univ _) h
include hl in
/-- The forget gates' prefix sums within the chunk. -/
theorem p29 (t : Fin 256) : k0_pay29 k0_pay18 (k0_pay26 g) (ix2 t 0) = ((∑ s ∈ Finset.range (t.val + 1), lf (T + s) : ℝ) : EReal) := by
  pointwise [k0_pay29, k0_pay18, k0_pay26, k0_pay24]
  rw [← esum_mask t (fun s => lf (T + s))]
  refine Finset.sum_congr rfl fun x _ => ?_
  rw [sel_le _ _ (by omega) (by omega), hl]
include hi hl in
/-- The log weights of the chunk's pairs. -/
theorem p30 (t x : Fin 256) : k0_pay30 (iota .tc S256x256 32 [0] iota_S256x256_d0_w32) (iota .tc S256x256 32 [1] iota_S256x256_d1_w32) k0_pay18 (k0_pay25 g) (k0_pay26 g) (k0_pay28 g) (ix2 t x)
    = if x.val ≤ t.val then ((Bx lf (T + (t.val + 1)) - Bx lf T + (Bx lf T + us ig lf (T + x.val)) : ℝ) : EReal) else ⊥ := by
  pointwise [k0_pay30]
  rw [p29 lf T g hl]
  have h1 : ∑ y : Fin 256, Scalar.select (IntOp.cmpi CmpIPredicate.sle (BitVec.ofNat 32 y.val) (BitVec.ofNat 32 x.val)) (k0_pay28 g (ix1 y)) 0
      = ((∑ s ∈ Finset.range (x.val + 1), lf (T + s) : ℝ) : EReal) := by
    rw [← esum_mask x (fun s => lf (T + s))]
    refine Finset.sum_congr rfl fun y _ => ?_
    rw [sel_le _ _ (by omega) (by omega), p28 lf T g hl]
  rw [h1, ofBits_ninf]
  pointwise [k0_pay18, k0_pay25, k0_pay24]
  rw [sel_le _ _ (by omega) (by omega), hi, ← EReal.coe_sub, ← EReal.coe_add]
  congr 2
  rw [us, show T + x.val + 1 = T + (x.val + 1) from rfl, Bx_add, Bx_add]
  ring
include hl hs in
/-- The carried weight's logarithm. -/
theorem p32 (t : Fin 256) : k0_pay32 k0_pay18 (k0_pay26 g) s (ix2 t 0) = ((Bx lf (T + (t.val + 1)) + Rm (us ig lf) T : ℝ) : EReal) := by
  pointwise [k0_pay32, k0_pay31]
  rw [p29 lf T g hl, hs, ← EReal.coe_add, St, Bx_add]
  congr 1; ring
include hi hl hs in
/-- The stabiliser at every token of the chunk. -/
theorem hMt_eq (t : Fin 256) : hMt g s (ix2 t 0) = ((St ig lf (T + (t.val + 1)) : ℝ) : EReal) := by
  pointwise [hMt, k0_pay33]
  rw [p32 ig lf T g s hl hs, ofBits_ninf]
  simp only [p30 ig lf T g hi hl]
  refine max_fold 256 (fun x => x.val ≤ t.val) (fun x => Bx lf (T + (t.val + 1)) - Bx lf T + (Bx lf T + us ig lf (T + x.val))) _ _ ?_ ?_ ?_
  · have := Rm_mono (us ig lf) T (t.val + 1); unfold St; linarith
  · intro x hx
    have := le_Rm (us ig lf) T (t.val + 1) x.val (by omega); unfold St; linarith
  · rcases Rm_attained (us ig lf) T (t.val + 1) with h | ⟨x, hx, h⟩
    · left; unfold St; rw [h]
    · right
      refine ⟨⟨x, by omega⟩, Nat.lt_succ_iff.mp hx, ?_⟩
      unfold St; rw [h]; ring
include hi hl hs in
/-- The stabiliser after the chunk. -/
theorem hM_eq : hM g s (ix3 0 0 0) = ((St ig lf (T + 256) : ℝ) : EReal) := by
  pointwise [hM, k0_pay40, k0_pay38]
  exact hMt_eq ig lf T g s hi hl hs ⟨255, by decide⟩
end Gates

end Cert.KernelIdeal.Scan
end
-- ==== Proof.Body.lean ====
/-
  One head's chunk over the extended reals: the outputs and the matrix state.
-/
module
public import proofs.«01_k».proof.Proof.Head
@[expose] public section
set_option maxRecDepth 16384
noncomputable section
namespace Cert.KernelIdeal.Scan
open Cert.KernelIdeal Cert.KernelIdeal.Gen Idealize.ShloMosaic Idealize.ShloMosaic.TcCoe Idealize.SL.Sem
open Cert.Mlstm

/-- A pair's masked weight, times coerced reals. -/
theorem masked_term (p : Prop) [Decidable p] (a A M b : ℝ) :
    ((a : EReal) * Ideal.exp ((if p then (A : EReal) else ⊥) - (M : EReal))) * (b : EReal) = if p then ((a * Real.exp (A - M) * b : ℝ) : EReal) else 0 := by
  split
  · rw [← EReal.coe_sub, Ideal.exp_coe, ← EReal.coe_mul, ← EReal.coe_mul]
  · rw [EReal.bot_sub, Ideal.exp_bot, mul_zero, zero_mul]
/-- A sum of products of coerced reals, over 512 columns. -/
theorem edot (f h : ℕ → ℝ) : ∑ x : Fin 512, ((f x.val : ℝ) : EReal) * ((h x.val : ℝ) : EReal) = ((∑ d ∈ Finset.range 512, f d * h d : ℝ) : EReal) := by
  rw [← Fin.sum_univ_eq_sum_range (fun d => f d * h d) 512, ← coe_sum]
  exact Finset.sum_congr rfl fun x _ => (EReal.coe_mul _ _).symm
/-- A query block, read. -/
theorem p21 (q : Vec Ideal S1x256x512 .bf16) (x : Fin 256) (d : Fin 512) : k0_pay21 q (ix2 x d) = q (ix3 0 x d) := by
  pointwise [k0_pay21]
/-- A key block, read. -/
theorem p22 (q : Vec Ideal S1x256x512 .bf16) (x : Fin 256) (d : Fin 512) : k0_pay22 q (ix2 x d) = q (ix3 0 x d) := by
  pointwise [k0_pay22]
/-- A matrix state, read. -/
theorem p35 (C : Vec Ideal S1x512x640 .f32) (d : Fin 512) (e : Fin 640) : k0_pay35 C (ix2 d e) = C (ix3 0 d e) := by
  pointwise [k0_pay35]
/-- The carried stabiliser, read. -/
theorem p31 (s : Vec Ideal S1x1x1 .f32) : k0_pay31 s (ix2 0 0) = s (ix3 0 0 0) := by
  pointwise [k0_pay31]

/-- The outputs' payload, read. -/
theorem p37 (m : FVec Ideal S256x1 .f32) (n : FVec Ideal S256x640 .f32) (t : Fin 256) (e : Fin 512) : k0_pay37 m n (ix3 0 t e) = Ideal.div (n (ix2 t ⟨e.val, by omega⟩))
      (max (FloatOps.absf (n (ix2 t 512))) (Ideal.exp (0 - m (ix2 t 0)))) := by
  pointwise [k0_pay37]
/-- The matrix state's payload, read. -/
theorem p39 (k : FVec Ideal S256x512 .bf16) (i b m : FVec Ideal S256x1 .f32) (s : FVec Ideal S1x1 .f32) (v : FVec Ideal S256x640 .bf16) (C : FVec Ideal S512x640 .f32) (d : Fin 512) (e : Fin 640) :
    k0_pay39 k i b s m v C (ix3 0 d e) = Ideal.exp (b (ix2 255 0) + s (ix2 0 0) - m (ix2 255 0)) * C (ix2 d e) +
      ∑ x, k (ix2 x d) * Ideal.exp (b (ix2 255 0) - b (ix2 x 0) + i (ix2 x 0) - m (ix2 255 0)) * v (ix2 x e) := by
  pointwise [k0_pay39, k0_pay38]
section Body
/-- The output's quotient, over the reals. -/
theorem out_of (n d m : ℝ) : Ideal.div (n : EReal) (max (FloatOps.absf (F := Ideal) (φ := .f32) (d : EReal)) (Ideal.exp (0 - (m : EReal)))) = ((n / max |d| (Real.exp (-m)) : ℝ) : EReal) := by
  have h : max |d| (Real.exp (-m)) ≠ 0 := ne_of_gt (lt_max_of_lt_right (Real.exp_pos _))
  have ha : (FloatOps.absf (F := Ideal) (φ := .f32) (d : EReal) : EReal) = ((|d| : ℝ) : EReal) := by
    show max (d : EReal) (-(d : EReal)) = _
    rw [← EReal.coe_neg, coe_max]; rfl
  rw [ha, zero_sub, ← EReal.coe_neg, Ideal.exp_coe, coe_max, Ideal.div_coe h, ← EReal.coe_mul, mul_one_div]
variable (ig lf : ℕ → ℝ) (qr kr vr : ℕ → ℕ → ℝ) (T : ℕ) (q k v : Vec Ideal S1x256x512 .bf16) (g : Vec Ideal S1x1x2x256 .f32) (s : Vec Ideal S1x1x1 .f32) (C : Vec Ideal S1x512x640 .f32)
  (hq : ∀ (x : Fin 256) (d : Fin 512), q (ix3 0 x d) = ((qr (T + x.val) d.val : ℝ) : EReal))
  (hk : ∀ (x : Fin 256) (d : Fin 512), k (ix3 0 x d) = ((kr (T + x.val) d.val : ℝ) : EReal))
  (hv : ∀ (x : Fin 256) (d : Fin 512), v (ix3 0 x d) = ((vr (T + x.val) d.val : ℝ) : EReal))
  (hi : ∀ x : Fin 256, g (ix4 0 0 0 x) = ((ig (T + x.val) : ℝ) : EReal))
  (hl : ∀ x : Fin 256, g (ix4 0 0 1 x) = ((lf (T + x.val) : ℝ) : EReal))
  (hs : s (ix3 0 0 0) = ((St ig lf T : ℝ) : EReal))
  (hC : ∀ (d : Fin 512) (e : Fin 640), C (ix3 0 d e) = ((Cs ig lf kr vr T d.val e.val : ℝ) : EReal))

include hv in
/-- The values with the column of ones. -/
theorem p34 (x : Fin 256) (e : Fin 640) : k0_pay34 k0_pay20 (k0_pay23 v) (ix2 x e) = ((va vr (T + x.val) e.val : ℝ) : EReal) := by
  pointwise [k0_pay34, k0_pay20, k0_pay23]
  unfold va
  split
  · rw [hv]
  · rw [sel_eq _ 0 (by omega) (by omega)]
    by_cases h : e.val = 512
    · rw [if_pos (by omega), if_pos h]; rfl
    · rw [if_neg (by omega), if_neg h]; rfl
include hq hk hv hi hl hs hC in
/-- The numerators after the chunk's token `t`. -/
theorem hNum_eq (t : Fin 256) (e : Fin 640) : hNum q k v g s C (ix2 t e) = ((Nu ig lf qr kr vr (T + t.val) e.val : ℝ) : EReal) := by
  have hm := hMt_eq ig lf T g s hi hl hs t
  unfold hMt at hm
  pointwise [hNum, k0_pay36]
  rw [hm, p32 ig lf T g s hl hs]
  simp only [p21, p22, p35, hq, hk, hC, p34 vr T v hv, p30 ig lf T g hi hl]
  rw [edot (fun d => qr (T + t.val) d) (fun d => Cs ig lf kr vr T d e.val)]
  simp only [fun x : Fin 256 => edot (fun d => qr (T + t.val) d) (fun d => kr (T + x.val) d), masked_term]
  rw [esum_mask t (fun x => (∑ d ∈ Finset.range 512, qr (T + t.val) d * kr (T + x) d) * Real.exp (Bx lf (T + (t.val + 1)) - Bx lf T + (Bx lf T + us ig lf (T + x)) - St ig lf (T + (t.val + 1))) * va vr (T + x) e.val)]
  rw [← EReal.coe_sub, Ideal.exp_coe, ← EReal.coe_mul, ← EReal.coe_add, ← Nu_chunk]
  have e1 : Bx lf (T + (t.val + 1)) + Rm (us ig lf) T - St ig lf (T + (t.val + 1)) = Rm (us ig lf) T - Rm (us ig lf) (T + (t.val + 1)) := by
    unfold St; ring
  rw [e1]
  refine congrArg _ (congrArg _ (Finset.sum_congr rfl fun x _ => ?_))
  have e2 : Bx lf (T + (t.val + 1)) - Bx lf T + (Bx lf T + us ig lf (T + x)) - St ig lf (T + (t.val + 1)) = us ig lf (T + x) - Rm (us ig lf) (T + (t.val + 1)) := by
    unfold St; ring
  rw [e2]
  unfold qk
  rfl
include hk hv hi hl hs hC in
/-- The matrix state after the chunk. -/
theorem hCa_eq (d : Fin 512) (e : Fin 640) : hCa k v g s C (ix3 0 d e) = ((Cs ig lf kr vr (T + 256) d.val e.val : ℝ) : EReal) := by
  unfold hCa
  rw [p39]
  have f255 : (255 : Fin 256) = ⟨255, by decide⟩ := rfl
  have n255 : (⟨255, by decide⟩ : Fin 256).val + 1 = 256 := rfl
  have h255 := p29 lf T g hl ⟨255, by decide⟩
  have m255 := hMt_eq ig lf T g s hi hl hs ⟨255, by decide⟩
  rw [n255, ← f255] at h255 m255
  rw [h255, m255]
  simp only [p29 lf T g hl, p31, hs, p35, hC, p22, hk, p27 ig T g hi, p34 vr T v hv, ← EReal.coe_sub, ← EReal.coe_add, Ideal.exp_coe, ← EReal.coe_mul]
  rw [coe_sum, Fin.sum_univ_eq_sum_range (fun x => kr (T + x) d.val * Real.exp (∑ s ∈ Finset.range 256, lf (T + s) - ∑ s ∈ Finset.range (x + 1), lf (T + s) + ig (T + x) - St ig lf (T + 256)) * va vr (T + x) e.val) 256,
    ← EReal.coe_add, ← Cs_chunk]
  have e1 : ∑ s ∈ Finset.range 256, lf (T + s) + St ig lf T - St ig lf (T + 256) = Rm (us ig lf) T - Rm (us ig lf) (T + 256) := by
    unfold St; rw [Bx_add]; ring
  rw [e1]
  refine congrArg _ (congrArg _ (Finset.sum_congr rfl fun x _ => ?_))
  have e2 : ∑ s ∈ Finset.range 256, lf (T + s) - ∑ s ∈ Finset.range (x + 1), lf (T + s) + ig (T + x) - St ig lf (T + 256) = us ig lf (T + x) - Rm (us ig lf) (T + 256) := by
    unfold St us; rw [show T + x + 1 = T + (x + 1) from rfl, Bx_add, Bx_add]; ring
  rw [e2]
include hq hk hv hi hl hs hC in
/-- The outputs of the chunk. -/
theorem hH_eq (t : Fin 256) (e : Fin 512) : hH q k v g s C (ix3 0 t e) = ((Ho ig lf qr kr vr (T + t.val) e.val : ℝ) : EReal) := by
  unfold hH
  rw [p37]
  have h1 := hNum_eq ig lf qr kr vr T q k v g s C hq hk hv hi hl hs hC t ⟨e.val, by omega⟩
  have h2 := hNum_eq ig lf qr kr vr T q k v g s C hq hk hv hi hl hs hC t ⟨512, by decide⟩
  have f512 : (512 : Fin 640) = ⟨512, by decide⟩ := rfl
  rw [← f512] at h2
  rw [h1, h2, hMt_eq ig lf T g s hi hl hs t]
  exact out_of _ _ _
end Body
end Cert.KernelIdeal.Scan
end
-- ==== Proof.Fold.lean ====
/-
  The blocks a grid point reads, and what the points leave: point `8 b + c` carries the closed form of batch `b` after
  `256 (c + 1)` tokens.
-/
module
public import proofs.«01_k».proof.Proof.Body
@[expose] public section
set_option maxRecDepth 16384
noncomputable section
namespace Cert.KernelIdeal.Scan
open Cert.KernelIdeal Cert.KernelIdeal.Gen Idealize.ShloMosaic Idealize.ShloMosaic.TcCoe Idealize.SL.Sem
open Cert.Mlstm
variable (m : (ℓ : Loc nD τ sig) → Buf (Elt Ideal) ℓ)

/-- The blocks' places, decided over the grid. -/
theorem widx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, 0, 0, t.val % 8] := by decide +kernel

/-- The queries staged for the launch. -/
theorem Vq (c : Dev nD) (b : Fin 8) (s n : Fin 2048) (a : Fin 4) (d : Fin 512) (hn : n.val = 512 * a.val + d.val) :
    (V m c main_v1 : Vec Ideal S8x2048x2048 .bf16) (ix3 b s n) = (m ((c : Thread nD τ).loc main_arg0) : Vec Ideal S8x2048x4x512 .f32) (ix4 b s a d) := by
  entry_read
  pointwise
  refine congrArg (m ((c : Thread nD τ).loc main_arg0) : Vec Ideal S8x2048x4x512 .f32) ?_
  rw [show (⟨n.val / 512, by omega⟩ : Fin 4) = a from Fin.ext (by dsimp only; omega), show (⟨n.val % 512, by omega⟩ : Fin 512) = d from Fin.ext (by dsimp only; omega)]
/-- The keys staged for the launch. -/
theorem Vk (c : Dev nD) (b : Fin 8) (s n : Fin 2048) (a : Fin 4) (d : Fin 512) (hn : n.val = 512 * a.val + d.val) :
    (V m c main_v3 : Vec Ideal S8x2048x2048 .bf16) (ix3 b s n) = (m ((c : Thread nD τ).loc main_arg1) : Vec Ideal S8x2048x4x512 .f32) (ix4 b s a d) := by
  entry_read
  pointwise
  refine congrArg (m ((c : Thread nD τ).loc main_arg1) : Vec Ideal S8x2048x4x512 .f32) ?_
  rw [show (⟨n.val / 512, by omega⟩ : Fin 4) = a from Fin.ext (by dsimp only; omega), show (⟨n.val % 512, by omega⟩ : Fin 512) = d from Fin.ext (by dsimp only; omega)]
/-- The values staged for the launch. -/
theorem Vv (c : Dev nD) (b : Fin 8) (s n : Fin 2048) (a : Fin 4) (d : Fin 512) (hn : n.val = 512 * a.val + d.val) :
    (V m c main_v5 : Vec Ideal S8x2048x2048 .bf16) (ix3 b s n) = (m ((c : Thread nD τ).loc main_arg2) : Vec Ideal S8x2048x4x512 .f32) (ix4 b s a d) := by
  entry_read
  pointwise
  refine congrArg (m ((c : Thread nD τ).loc main_arg2) : Vec Ideal S8x2048x4x512 .f32) ?_
  rw [show (⟨n.val / 512, by omega⟩ : Fin 4) = a from Fin.ext (by dsimp only; omega), show (⟨n.val % 512, by omega⟩ : Fin 512) = d from Fin.ext (by dsimp only; omega)]
/-- The input gates staged for the launch. -/
theorem Vi (c : Dev nD) (b : Fin 8) (a : Fin 4) (s : Fin 2048) :
    (V m c main_v9 : Vec Ideal S8x4x2x2048 .f32) (ix4 b a 0 s) = (m ((c : Thread nD τ).loc main_arg3) : Vec Ideal S8x2048x4 .f32) (ix3 b s a) := by
  entry_read
  pointwise
/-- The forget gates staged for the launch. -/
theorem Vf (c : Dev nD) (b : Fin 8) (a : Fin 4) (s : Fin 2048) :
    (V m c main_v9 : Vec Ideal S8x4x2x2048 .f32) (ix4 b a 1 s) = (m ((c : Thread nD τ).loc main_arg4) : Vec Ideal S8x2048x4 .f32) (ix3 b s a) := by
  entry_read
  pointwise
/-- The queries' block. -/
theorem blkq (c : Dev nD) (t : Fin cfg0.N) (x : Fin 256) (n : Fin 2048) (b : Fin 8) (s : Fin 2048)
    (hb : b.val = t.val / 8) (hs : s.val = 256 * (t.val % 8) + x.val) :
    (iblk m c 0 t : Vec Ideal S1x256x2048 .bf16) (ix3 0 x n) = (V m c main_v1 : Vec Ideal S8x2048x2048 .bf16) (ix3 b s n) := by
  refine congrArg (V m c main_v1 : Vec Ideal S8x2048x2048 .bf16) ?_
  blk_ext [widx t]
/-- The keys' block. -/
theorem blkk (c : Dev nD) (t : Fin cfg0.N) (x : Fin 256) (n : Fin 2048) (b : Fin 8) (s : Fin 2048)
    (hb : b.val = t.val / 8) (hs : s.val = 256 * (t.val % 8) + x.val) :
    (iblk m c 1 t : Vec Ideal S1x256x2048 .bf16) (ix3 0 x n) = (V m c main_v3 : Vec Ideal S8x2048x2048 .bf16) (ix3 b s n) := by
  refine congrArg (V m c main_v3 : Vec Ideal S8x2048x2048 .bf16) ?_
  blk_ext [widx t]
/-- The values' block. -/
theorem blkv (c : Dev nD) (t : Fin cfg0.N) (x : Fin 256) (n : Fin 2048) (b : Fin 8) (s : Fin 2048)
    (hb : b.val = t.val / 8) (hs : s.val = 256 * (t.val % 8) + x.val) :
    (iblk m c 2 t : Vec Ideal S1x256x2048 .bf16) (ix3 0 x n) = (V m c main_v5 : Vec Ideal S8x2048x2048 .bf16) (ix3 b s n) := by
  refine congrArg (V m c main_v5 : Vec Ideal S8x2048x2048 .bf16) ?_
  blk_ext [widx t]
/-- The gates' block. -/
theorem blkg (c : Dev nD) (t : Fin cfg0.N) (x : Fin 256) (b : Fin 8) (s : Fin 2048) (a : Fin 4) (z : Fin 2)
    (hb : b.val = t.val / 8) (hs : s.val = 256 * (t.val % 8) + x.val) :
    (iblk m c 3 t : Vec Ideal S1x4x2x256 .f32) (ix4 0 a z x) = (V m c main_v9 : Vec Ideal S8x4x2x2048 .f32) (ix4 b a z s) := by
  refine congrArg (V m c main_v9 : Vec Ideal S8x4x2x2048 .f32) ?_
  blk_ext [widx t]

/-- The arguments hold real numbers. -/
structure FinArgs (c : Dev nD) : Prop where
  q : Fn (m ((c : Thread nD τ).loc main_arg0) : Vec Ideal S8x2048x4x512 .f32)
  k : Fn (m ((c : Thread nD τ).loc main_arg1) : Vec Ideal S8x2048x4x512 .f32)
  v : Fn (m ((c : Thread nD τ).loc main_arg2) : Vec Ideal S8x2048x4x512 .f32)
  i : Fn (m ((c : Thread nD τ).loc main_arg3) : Vec Ideal S8x2048x4 .f32)
  f : Fn (m ((c : Thread nD τ).loc main_arg4) : Vec Ideal S8x2048x4 .f32)
/-- The queries of a batch's head. -/
abbrev qs (c : Dev nD) (b : Fin 8) (a : Fin 4) : ℕ → ℕ → ℝ := arr4 (m ((c : Thread nD τ).loc main_arg0)) b a
/-- The keys of a batch's head. -/
abbrev ks (c : Dev nD) (b : Fin 8) (a : Fin 4) : ℕ → ℕ → ℝ := arr4 (m ((c : Thread nD τ).loc main_arg1)) b a
/-- The values of a batch's head. -/
abbrev vs (c : Dev nD) (b : Fin 8) (a : Fin 4) : ℕ → ℕ → ℝ := arr4 (m ((c : Thread nD τ).loc main_arg2)) b a
/-- The input gates of a batch's head. -/
abbrev gi (c : Dev nD) (b : Fin 8) (a : Fin 4) : ℕ → ℝ := arr3 (m ((c : Thread nD τ).loc main_arg3)) b a
/-- The log forget gates of a batch's head. -/
abbrev gf (c : Dev nD) (b : Fin 8) (a : Fin 4) : ℕ → ℝ := arr3 (m ((c : Thread nD τ).loc main_arg4)) b a

section Point
variable (c : Dev nD) (hm : FinArgs m c) (t : Fin cfg0.N) (b : Fin 8) (hb : b.val = t.val / 8) (a : Fin 4)
include hm hb
/-- Head `a`'s columns of the block. -/
theorem rdq (x : Fin 256) (d : Fin 512) : slx (iblk m c 0 t : Vec Ideal S1x256x2048 .bf16) a (ix3 0 x d) = ((qs m c b a (256 * (t.val % 8) + x.val) d.val : ℝ) : EReal) := by
  have hl : 256 * (t.val % 8) + x.val < 2048 := by omega
  refine (blkq m c t x ⟨512 * a.val + d.val, by omega⟩ b ⟨256 * (t.val % 8) + x.val, hl⟩ hb rfl).trans ?_
  rw [Vq m c b _ _ a d rfl]
  exact arr4_at _ hm.q b a ⟨_, hl⟩ d
/-- Head `a`'s columns of the block. -/
theorem rdk (x : Fin 256) (d : Fin 512) : slx (iblk m c 1 t : Vec Ideal S1x256x2048 .bf16) a (ix3 0 x d) = ((ks m c b a (256 * (t.val % 8) + x.val) d.val : ℝ) : EReal) := by
  have hl : 256 * (t.val % 8) + x.val < 2048 := by omega
  refine (blkk m c t x ⟨512 * a.val + d.val, by omega⟩ b ⟨256 * (t.val % 8) + x.val, hl⟩ hb rfl).trans ?_
  rw [Vk m c b _ _ a d rfl]
  exact arr4_at _ hm.k b a ⟨_, hl⟩ d
/-- Head `a`'s columns of the block. -/
theorem rdv (x : Fin 256) (d : Fin 512) : slx (iblk m c 2 t : Vec Ideal S1x256x2048 .bf16) a (ix3 0 x d) = ((vs m c b a (256 * (t.val % 8) + x.val) d.val : ℝ) : EReal) := by
  have hl : 256 * (t.val % 8) + x.val < 2048 := by omega
  refine (blkv m c t x ⟨512 * a.val + d.val, by omega⟩ b ⟨256 * (t.val % 8) + x.val, hl⟩ hb rfl).trans ?_
  rw [Vv m c b _ _ a d rfl]
  exact arr4_at _ hm.v b a ⟨_, hl⟩ d
/-- Head `a`'s gates of the block. -/
theorem rdi (x : Fin 256) : slg (iblk m c 3 t : Vec Ideal S1x4x2x256 .f32) a (ix4 0 0 0 x) = ((gi m c b a (256 * (t.val % 8) + x.val) : ℝ) : EReal) := by
  have hl : 256 * (t.val % 8) + x.val < 2048 := by omega
  refine (blkg m c t x b ⟨256 * (t.val % 8) + x.val, hl⟩ a 0 hb rfl).trans ?_
  rw [Vi m c b a _]
  exact arr3_at _ hm.i b a ⟨_, hl⟩
/-- Head `a`'s gates of the block. -/
theorem rdf (x : Fin 256) : slg (iblk m c 3 t : Vec Ideal S1x4x2x256 .f32) a (ix4 0 0 1 x) = ((gf m c b a (256 * (t.val % 8) + x.val) : ℝ) : EReal) := by
  have hl : 256 * (t.val % 8) + x.val < 2048 := by omega
  refine (blkg m c t x b ⟨256 * (t.val % 8) + x.val, hl⟩ a 1 hb rfl).trans ?_
  rw [Vf m c b a _]
  exact arr3_at _ hm.f b a ⟨_, hl⟩

/-- What is carried into a chunk. -/
structure Carried (T : ℕ) (s0 : Vec Ideal S4x512x640 .f32) (s1 : Vec Ideal S4x1x1 .f32) : Prop where
  C : ∀ (a : Fin 4) (d : Fin 512) (e : Fin 640), s0 (ix3 a d e) = ((Cs (gi m c b a) (gf m c b a) (ks m c b a) (vs m c b a) T d.val e.val : ℝ) : EReal)
  M : ∀ a : Fin 4, s1 (ix3 a 0 0) = ((St (gi m c b a) (gf m c b a) T : ℝ) : EReal)
variable (s0 : Vec Ideal S4x512x640 .f32) (s1 : Vec Ideal S4x1x1 .f32) (hc : Carried m c b (256 * (t.val % 8)) s0 s1)
include hc
/-- The states after a point. -/
theorem nxt : Carried m c b (256 * (t.val % 8) + 256) (nCa (iblk m c 1 t) (iblk m c 2 t) (iblk m c 3 t) s0 s1) (nM (iblk m c 3 t) s1) where
  C := fun a d e => hCa_eq (gi m c b a) (gf m c b a) (ks m c b a) (vs m c b a) (256 * (t.val % 8)) _ _ _ _ _ (rdk m c hm t b hb a) (rdv m c hm t b hb a)
    (rdi m c hm t b hb a) (rdf m c hm t b hb a) (hc.M a) (hc.C a) d e
  M := fun a => hM_eq (gi m c b a) (gf m c b a) (256 * (t.val % 8)) _ _ (rdi m c hm t b hb a) (rdf m c hm t b hb a) (hc.M a)
/-- The outputs at a point. -/
theorem outs (x : Fin 256) (n : Fin 2048) : nH (iblk m c 0 t) (iblk m c 1 t) (iblk m c 2 t) (iblk m c 3 t) s0 s1 (ix3 0 x n)
    = ((Ho (gi m c b (hd n)) (gf m c b (hd n)) (qs m c b (hd n)) (ks m c b (hd n)) (vs m c b (hd n)) (256 * (t.val % 8) + x.val) (n.val % 512) : ℝ) : EReal) :=
  hH_eq (gi m c b (hd n)) (gf m c b (hd n)) (qs m c b (hd n)) (ks m c b (hd n)) (vs m c b (hd n)) (256 * (t.val % 8)) _ _ _ _ _ _ (rdq m c hm t b hb _) (rdk m c hm t b hb _) (rdv m c hm t b hb _)
    (rdi m c hm t b hb _) (rdf m c hm t b hb _) (hc.M _) (hc.C _) x ⟨n.val % 512, _⟩
end Point
end Cert.KernelIdeal.Scan
end
-- ==== Proof.Finite.lean ====
/-
  What the precondition says: every argument's elements are real numbers.
-/
module
public import proofs.«01_k».proof.Defs
public import proofs.«01_k».proof.Proof.Fold
@[expose] public section
noncomputable section
namespace Cert.KernelIdeal.Scan
open Cert.KernelIdeal Cert.KernelIdeal.Gen Idealize.ShloMosaic Idealize.ShloMosaic.TcCoe Idealize.SL.Sem
open Cert.Mlstm

/-- The side conditions of the precondition's operations. -/
theorem preFacts : Cert.Pre_finite.Facts := ⟨by decide, by decide⟩

/-- The bit pattern of plus infinity. -/
theorem ofBits_pinf : Ideal.ofBits FTy.f32 0x7F800000#32 = ⊤ := by
  simp [Ideal.ofBits, Ideal.ieee]
/-- An element below infinity in magnitude is a real number. -/
theorem real_of_lt (x : EReal) (h : max x (-x) < ⊤) : x = (x.toReal : EReal) := by
  refine (EReal.coe_toReal ?_ ?_).symm
  · rintro rfl; simp at h
  · rintro rfl; simp at h
/-- A mask of ones over an array's magnitudes makes the array finite. -/
theorem fn_of_mask {s : Shape} (X : Vec Ideal s .f32) (h0 : (⟨0, ![]⟩ : Shape).BroadcastsInDim s (![] : Fin 0 → Fin s.rank))
    (h : cmpf .olt (Host.absf X) (broadcastInDim s ![] h0 (constant (F := Ideal) (⟨0, ![]⟩ : Shape) .f32 0x7F800000#32)) = fun _ => 1#1) : Fn X := by
  intro i
  have hi := congrFun h i
  refine real_of_lt _ ?_
  have hb : broadcastInDim s ![] h0 (constant (F := Ideal) (⟨0, ![]⟩ : Shape) .f32 0x7F800000#32) i = (⊤ : EReal) := ofBits_pinf
  change FloatOps.cmpf (F := Ideal) (φ := .f32) .olt (max (X i) (-(X i))) (broadcastInDim s ![] h0 (constant (F := Ideal) (⟨0, ![]⟩ : Shape) .f32 0x7F800000#32) i) = 1#1 at hi
  rw [hb] at hi
  rw [Ideal.cmpf_def] at hi
  by_contra hn
  unfold Ideal.cmp at hi
  dsimp only at hi
  rw [decide_eq_false hn] at hi
  exact absurd hi (by decide)

/-- The precondition, read. -/
theorem finArgs (m : (ℓ : Loc nD τ sig) → Buf (Elt Ideal) ℓ) (h : Cert.Pre_KernelIdeal_finite (hPre_finite := preFacts) m) (c : Dev nD) : FinArgs m c := by
  obtain ⟨hq, hk, hv, hi, hf⟩ := h c
  exact ⟨fn_of_mask _ _ hq, fn_of_mask _ _ hk, fn_of_mask _ _ hv, fn_of_mask _ _ hi, fn_of_mask _ _ hf⟩
end Cert.KernelIdeal.Scan
end
-- ==== Proof.Carry.lean ====
/-
  The states carried from point to point, and the result arrays they leave.
-/
module
public import proofs.«01_k».proof.Proof.Fold
@[expose] public section
set_option maxRecDepth 16384
noncomputable section
namespace Cert.KernelIdeal.Scan
open Cert.KernelIdeal Cert.KernelIdeal.Gen Idealize.ShloMosaic Idealize.ShloMosaic.TcCoe Idealize.SL.Sem
open Cert.Mlstm
variable (m : (ℓ : Loc nD τ sig) → Buf (Elt Ideal) ℓ)

/-- The states that a batch's first chunk begins from. -/
theorem start (c : Dev nD) (b : Fin 8) : Carried m c b 0 (k0_pay16 (F := Ideal)) (k0_pay17 (F := Ideal)) where
  C := fun a d e => by
    pointwise [k0_pay16]
    simp [Cs]
  M := fun a => by
    pointwise [k0_pay17]
    simp [St, Bx, Rm]

/-- The states after every point. -/
theorem carried (c : Dev nD) (hm : FinArgs m c) : ∀ (n : ℕ) (hn : n < cfg0.N) (b : Fin 8), b.val = n / 8 →
    Carried m c b (256 * (n % 8) + 256) (outsAt0 m c n hn).2.2.2.2.1 (outsAt0 m c n hn).2.2.2.2.2 := by
  intro n
  induction n with
  | zero =>
    intro hn b hb
    have h0 : (⟨0, hn⟩ : Fin cfg0.N).val % 8 = 0 := rfl
    have h1 : ¬(⟨0, hn⟩ : Fin cfg0.N).val % 8 = 7 := fun h => by simp at h
    have e := outsAt0_A m c ⟨0, hn⟩ h0 h1
    dsimp only at e
    rw [e]
    dsimp only
    rw [sout0_A_0_eq, sout0_A_1_eq]
    exact nxt m c hm ⟨0, hn⟩ b hb _ _ (start m c b)
  | succ n ih =>
    intro hn b hb
    have ih' := ih (Nat.lt_of_succ_lt hn)
    by_cases h0 : (n + 1) % 8 = 0
    · have h1 : ¬(n + 1) % 8 = 7 := by omega
      have e := outsAt0_A m c ⟨n + 1, hn⟩ h0 h1
      dsimp only at e
      rw [e]
      dsimp only
      rw [sout0_A_0_eq, sout0_A_1_eq]
      refine nxt m c hm ⟨n + 1, hn⟩ b hb _ _ ?_
      dsimp only
      rw [h0]
      exact start m c b
    · have ih2 := ih' b (by omega)
      rw [show 256 * (n % 8) + 256 = 256 * ((n + 1) % 8) by omega] at ih2
      by_cases h1 : (n + 1) % 8 = 7
      · have e := outsAt0_C m c ⟨n + 1, hn⟩ h0 h1
        dsimp only at e
        rw [e]
        dsimp only
        rw [sout0_C_0_eq, sout0_C_1_eq]
        exact nxt m c hm ⟨n + 1, hn⟩ b hb _ _ ih2
      · have e := outsAt0_B m c ⟨n + 1, hn⟩ h0 h1
        dsimp only at e
        rw [e]
        dsimp only
        rw [sout0_B_0_eq, sout0_B_1_eq]
        exact nxt m c hm ⟨n + 1, hn⟩ b hb _ _ ih2

/-- What was carried into every point. -/
theorem into (c : Dev nD) (hm : FinArgs m c) (t : Fin cfg0.N) (b : Fin 8) (hb : b.val = t.val / 8) (h0 : ¬t.val % 8 = 0) :
    Carried m c b (256 * (t.val % 8)) (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  have h := carried m c hm (t.val - 1) (Nat.lt_of_le_of_lt (Nat.sub_le _ _) t.isLt) b (by omega)
  rwa [show 256 * ((t.val - 1) % 8) + 256 = 256 * (t.val % 8) by omega] at h

/-- The outputs that every point writes. -/
theorem left4 (c : Dev nD) (hm : FinArgs m c) (t : Fin cfg0.N) (b : Fin 8) (hb : b.val = t.val / 8) (x : Fin 256) (n : Fin 2048) :
    (outsAt0 m c t.val t.isLt).1 (ix3 0 x n)
      = ((Ho (gi m c b (hd n)) (gf m c b (hd n)) (qs m c b (hd n)) (ks m c b (hd n)) (vs m c b (hd n)) (256 * (t.val % 8) + x.val) (n.val % 512) : ℝ) : EReal) := by
  by_cases h0 : t.val % 8 = 0
  · rw [outsAt0_A m c t h0 (by omega)]
    dsimp only
    rw [out0_A_4_eq]
    refine outs m c hm t b hb _ _ ?_ x n
    rw [h0]
    exact start m c b
  · by_cases h1 : t.val % 8 = 7
    · rw [outsAt0_C m c t h0 h1]
      dsimp only
      rw [out0_C_4_eq]
      exact outs m c hm t b hb _ _ (into m c hm t b hb h0) x n
    · rw [outsAt0_B m c t h0 h1]
      dsimp only
      rw [out0_B_4_eq]
      exact outs m c hm t b hb _ _ (into m c hm t b hb h0) x n

/-- The states that a batch's last point writes. -/
theorem left5 (c : Dev nD) (hm : FinArgs m c) (t : Fin cfg0.N) (b : Fin 8) (hb : b.val = t.val / 8) (h1 : t.val % 8 = 7) (a : Fin 4) (d e : Fin 512) :
    (outsAt0 m c t.val t.isLt).2.1 (ix4 0 a d e) = ((Cs (gi m c b a) (gf m c b a) (ks m c b a) (vs m c b a) 2048 d.val e.val : ℝ) : EReal) := by
  rw [outsAt0_C m c t (by omega) h1]
  dsimp only
  rw [out0_C_5_eq]
  have h := (nxt m c hm t b hb _ _ (into m c hm t b hb (by omega))).C a d ⟨e.val, by omega⟩
  rw [show 256 * (t.val % 8) + 256 = 2048 by omega] at h
  exact h
/-- The normalisers that a batch's last point writes. -/
theorem left6 (c : Dev nD) (hm : FinArgs m c) (t : Fin cfg0.N) (b : Fin 8) (hb : b.val = t.val / 8) (h1 : t.val % 8 = 7) (a : Fin 4) (d : Fin 512) :
    (outsAt0 m c t.val t.isLt).2.2.1 (ix4 0 a d 0) = ((Cs (gi m c b a) (gf m c b a) (ks m c b a) (vs m c b a) 2048 d.val 512 : ℝ) : EReal) := by
  rw [outsAt0_C m c t (by omega) h1]
  dsimp only
  rw [out0_C_6_eq]
  have h := (nxt m c hm t b hb _ _ (into m c hm t b hb (by omega))).C a d ⟨512, by decide⟩
  rw [show 256 * (t.val % 8) + 256 = 2048 by omega] at h
  exact h
/-- The stabilisers that a batch's last point writes. -/
theorem left7 (c : Dev nD) (hm : FinArgs m c) (t : Fin cfg0.N) (b : Fin 8) (hb : b.val = t.val / 8) (h1 : t.val % 8 = 7) (a : Fin 4) :
    (outsAt0 m c t.val t.isLt).2.2.2.1 (ix4 0 a 0 0) = ((St (gi m c b a) (gf m c b a) 2048 : ℝ) : EReal) := by
  rw [outsAt0_C m c t (by omega) h1]
  dsimp only
  rw [out0_C_7_eq]
  have h := (nxt m c hm t b hb _ _ (into m c hm t b hb (by omega))).M a
  rw [show 256 * (t.val % 8) + 256 = 2048 by omega] at h
  exact h

/-- The kernel's outputs. -/
theorem G4_eq (c : Dev nD) (hm : FinArgs m c) (b : Fin 8) (s n : Fin 2048) :
    (Value.G4 m c : Vec Ideal S8x2048x2048 .f32) (ix3 b s n)
      = ((Ho (gi m c b (hd n)) (gf m c b (hd n)) (qs m c b (hd n)) (ks m c b (hd n)) (vs m c b (hd n)) s.val (n.val % 512) : ℝ) : EReal) := by
  have hp : Value.pt4Of (ix3 b s n) = 8 * b.val + s.val / 256 := by
    show 8 * (b.val / 1 - 0) + 1 * (s.val / 256 - 0) + 1 * (n.val / 2048 - 0) = _
    omega
  have hN : 8 * b.val + s.val / 256 < cfg0.N := by rw [show cfg0.N = 64 from N_0]; omega
  have h := left4 m c hm ⟨_, hN⟩ b (by dsimp only; omega) ⟨s.val % 256, by omega⟩ n
  dsimp only at h
  rw [show 256 * ((8 * b.val + s.val / 256) % 8) + s.val % 256 = s.val by omega] at h
  have hq : Value.pt4Of (ix3 b s n) < cfg0.N := by rw [hp]; exact hN
  unfold Value.G4
  rw [dif_pos hq, ← Value.outsAt0_sweep m c _ hq]
  have hl : Value.loc4Of (ix3 b s n) = ix3 0 ⟨s.val % 256, by omega⟩ n := by
    funext z; apply Fin.ext
    fin_cases z
    · show b.val % 1 = 0; omega
    · rfl
    · show n.val % 2048 = n.val; omega
  rw [hl]
  simp only [hp]
  exact h

/-- The kernel's final matrix states. -/
theorem G5_eq (c : Dev nD) (hm : FinArgs m c) (b : Fin 8) (a : Fin 4) (d e : Fin 512) :
    (Value.G5 m c : Vec Ideal S8x4x512x512 .f32) (ix4 b a d e) = ((Cs (gi m c b a) (gf m c b a) (ks m c b a) (vs m c b a) 2048 d.val e.val : ℝ) : EReal) := by
  have hp : Value.pt5Of (ix4 b a d e) = 8 * b.val + 7 := by
    show 8 * (1 * (b.val / 1 - 0) + 1 * (a.val / 4 - 0) + 1 * (d.val / 512 - 0) + 1 * (e.val / 512 - 0)) + 7 = _
    omega
  have hN : 8 * b.val + 7 < cfg0.N := by rw [show cfg0.N = 64 from N_0]; omega
  have h := left5 m c hm ⟨_, hN⟩ b (by dsimp only; omega) (by dsimp only; omega) a d e
  dsimp only at h
  have hq : Value.pt5Of (ix4 b a d e) < cfg0.N := by rw [hp]; exact hN
  unfold Value.G5
  rw [dif_pos hq, ← Value.outsAt0_sweep m c _ hq]
  have hl : Value.loc5Of (ix4 b a d e) = ix4 0 a d e := by
    funext z; apply Fin.ext
    fin_cases z
    · show b.val % 1 = 0; omega
    · show a.val % 4 = a.val; omega
    · show d.val % 512 = d.val; omega
    · show e.val % 512 = e.val; omega
  rw [hl]
  simp only [hp]
  exact h

/-- The kernel's final normalisers. -/
theorem G6_eq (c : Dev nD) (hm : FinArgs m c) (b : Fin 8) (a : Fin 4) (d : Fin 512) :
    (Value.G6 m c : Vec Ideal S8x4x512x1 .f32) (ix4 b a d 0) = ((Cs (gi m c b a) (gf m c b a) (ks m c b a) (vs m c b a) 2048 d.val 512 : ℝ) : EReal) := by
  have hp : Value.pt6Of (ix4 b a d 0) = 8 * b.val + 7 := by
    show 8 * (1 * (b.val / 1 - 0) + 1 * (a.val / 4 - 0) + 1 * (d.val / 512 - 0) + 1 * (0 / 1 - 0)) + 7 = _
    omega
  have hN : 8 * b.val + 7 < cfg0.N := by rw [show cfg0.N = 64 from N_0]; omega
  have h := left6 m c hm ⟨_, hN⟩ b (by dsimp only; omega) (by dsimp only; omega) a d
  dsimp only at h
  have hq : Value.pt6Of (ix4 b a d 0) < cfg0.N := by rw [hp]; exact hN
  unfold Value.G6
  rw [dif_pos hq, ← Value.outsAt0_sweep m c _ hq]
  have hl : Value.loc6Of (ix4 b a d 0) = ix4 0 a d 0 := by
    funext z; apply Fin.ext
    fin_cases z
    · show b.val % 1 = 0; omega
    · show a.val % 4 = a.val; omega
    · show d.val % 512 = d.val; omega
    · rfl
  rw [hl]
  simp only [hp]
  exact h

/-- The kernel's final stabilisers. -/
theorem G7_eq (c : Dev nD) (hm : FinArgs m c) (b : Fin 8) (a : Fin 4) :
    (Value.G7 m c : Vec Ideal S8x4x1x1 .f32) (ix4 b a 0 0) = ((St (gi m c b a) (gf m c b a) 2048 : ℝ) : EReal) := by
  have hp : Value.pt7Of (ix4 b a 0 0) = 8 * b.val + 7 := by
    show 8 * (1 * (b.val / 1 - 0) + 1 * (a.val / 4 - 0) + 1 * (0 / 1 - 0) + 1 * (0 / 1 - 0)) + 7 = _
    omega
  have hN : 8 * b.val + 7 < cfg0.N := by rw [show cfg0.N = 64 from N_0]; omega
  have h := left7 m c hm ⟨_, hN⟩ b (by dsimp only; omega) (by dsimp only; omega) a
  dsimp only at h
  have hq : Value.pt7Of (ix4 b a 0 0) < cfg0.N := by rw [hp]; exact hN
  unfold Value.G7
  rw [dif_pos hq, ← Value.outsAt0_sweep m c _ hq]
  have hl : Value.loc7Of (ix4 b a 0 0) = ix4 0 a 0 0 := by
    funext z; apply Fin.ext
    fin_cases z
    · show b.val % 1 = 0; omega
    · show a.val % 4 = a.val; omega
    · rfl
    · rfl
  rw [hl]
  simp only [hp]
  exact h
end Cert.KernelIdeal.Scan
end
-- ==== Proof.Ref.lean ====
/-
  The reference over the extended reals, in closed form: from finite arguments its stages are the sums over the tokens so far.
-/
module
public import proofs.«01_k».proof.Proof.Body
public import proofs.«01_k».proof.Proof.Gen.ReferenceIdeal.Read
@[expose] public section
set_option maxRecDepth 16384
noncomputable section
namespace Cert.ReferenceIdeal.Whole
open Cert.ReferenceIdeal Cert.ReferenceIdeal.Gen Cert.ReferenceIdeal.Read Idealize.ShloMosaic Idealize.ShloMosaic.TcCoe Idealize.SL.Sem
open Cert.Mlstm
open Cert.KernelIdeal.Scan (sel_le sel_eq ofBits_ninf masked_term edot out_of)

/-- A fold that adds a real at every step is the real sum. -/
theorem foldl_real {ι : Type} (f : ι → ℝ) (g : EReal → ι → EReal) (l : List ι) (hg : ∀ r n, n ∈ l → g r n = r + ((f n : ℝ) : EReal)) (z : ℝ) :
    l.foldl g (z : EReal) = ((z + (l.map f).sum : ℝ) : EReal) := by
  induction l generalizing z with
  | nil => simp
  | cons a l ih =>
    rw [List.foldl_cons, hg _ _ List.mem_cons_self, ← EReal.coe_add, ih (fun r n h => hg r n (List.mem_cons_of_mem _ h)), List.map_cons, List.sum_cons, add_assoc]

/-- The window's positions before the row's start hold nothing, the others the row's elements so far. -/
theorem window_sum (f : ℕ → ℝ) (t : ℕ) (ht : t < 2048) : ∑ n ∈ Finset.range 2048, (if 2047 ≤ t + n then f (t + n - 2047) else 0) = ∑ s ∈ Finset.range (t + 1), f s := by
  rw [show 2048 = (2047 - t) + (t + 1) by omega, Finset.sum_range_add _ (2047 - t) (t + 1), Finset.sum_eq_zero, zero_add]
  · refine Finset.sum_congr rfl fun s hs => ?_
    rw [if_pos (by omega), show t + (2047 - t + s) - 2047 = s by omega]
  · intro n hn
    have := Finset.mem_range.mp hn
    rw [if_neg (by omega)]

abbrev W : Shape := ⟨3, ![1, 1, 2048]⟩
theorem numelW : W.numel = 2048 := by decide
/-- A window position's coordinates. -/
theorem symmW (n : Fin W.numel) : W.rowMajor.symm n = ix3 0 0 (n.cast numelW) :=
  (W.rowMajor.symm_apply_eq).2 (Fin.ext (by
    rw [Shape.rowMajor_val_three]
    show n.val = (0 * 1 + 0) * 2048 + n.val
    omega))

/-- The largest of a row, read. -/
theorem rowmax (y : Vec Ideal S8x4x2048x2048 .f32) (z : Vec Ideal S_ .f32) (b : Fin 8) (a : Fin 4) (t : Fin 2048) :
    Host.reduce (FloatOps.maximumf (F := Ideal) (φ := .f32)) y z reducesTo_S8x4x2048x2048_S8x4x2048_d3 h_S_ (ix3 b a t)
      = Finset.fold max (z (Shape.Idx.first h_S_)) (fun s : Fin 2048 => y (ix4 b a t s)) Finset.univ := by
  have h : S8x4x2048x2048.Reduces [3] S8x4x2048 := by decide
  rw [Host.reduce_eq_fold_single _ y z reducesTo_S8x4x2048x2048_S8x4x2048_d3 h h_S_]
  refine congrArg (fun f => Finset.fold max (z (Shape.Idx.first h_S_)) f Finset.univ) (funext fun s => ?_)
  refine congrArg y (funext fun w => Fin.ext ?_)
  fin_cases w <;> rfl
section Args
variable (x0 x1 x2 : Vec Ideal S8x2048x4x512 .f32) (x3 x4 : Vec Ideal S8x2048x4 .f32)
  (h0 : Fn x0) (h1 : Fn x1) (h2 : Fn x2) (h3 : Fn x3) (h4 : Fn x4) (b : Fin 8) (a : Fin 4)

include h4 in
/-- The running sum of the forget gates. -/
theorem r8 (t : Fin 2048) : val_main_v8 (F := Ideal) x4 (ix3 b a t) = ((Bx (arr3 x4 b a) (t.val + 1) : ℝ) : EReal) := by
  have hx : ∀ s : Fin 2048, val_main_v4 (F := Ideal) x4 (ix3 b a s) = ((arr3 x4 b a s.val : ℝ) : EReal) := fun s => by
    pointwise [val_main_v4]
    exact arr3_at x4 h4 b a s
  unfold val_main_v8
  generalize val_main_v4 (F := Ideal) x4 = y at hx
  have hz : val_main_call0_call0_v0 (F := Ideal) = fun _ => ((0 : ℝ) : EReal) := by
    funext i
    pointwise [val_main_call0_call0_v0, val_main_call0_call0_cst]
    exact EReal.coe_zero.symm
  rw [hz]
  unfold Host.reduceWindowAdd
  rw [Ideal.hostReduceWindowAdd_def]
  unfold Ideal.hostReduceWindowAdd Host.reduceWindow
  refine (foldl_real (fun n : Fin W.numel => if 2047 ≤ t.val + n.val then arr3 x4 b a (t.val + n.val - 2047) else 0) _ _ (fun r n _ => ?_) 0).trans ?_
  · have hw0 : (W.rowMajor.symm n 0).val = 0 := by rw [symmW]; rfl
    have hw1 : (W.rowMajor.symm n 1).val = 0 := by rw [symmW]; rfl
    have hw2 : (W.rowMajor.symm n 2).val = n.val := by rw [symmW]; rfl
    have hn : n.val < 2048 := (n.cast numelW).isLt
    have hb := b.isLt
    have ha := a.isLt
    have ht := t.isLt
    dsimp only
    congr 1
    split
    · next hin =>
      have h := hin 2
      change 2047 ≤ t.val * 1 + (W.rowMajor.symm n 2).val ∧ t.val * 1 + (W.rowMajor.symm n 2).val - 2047 < 2048 at h
      rw [hw2] at h
      rw [if_pos (by omega)]
      refine (congrArg y (funext fun z => Fin.ext ?_)).trans (hx ⟨t.val + n.val - 2047, by omega⟩)
      match z with
      | ⟨0, _⟩ => show b.val * 1 + (W.rowMajor.symm n 0).val - 0 = b.val; omega
      | ⟨1, _⟩ => show a.val * 1 + (W.rowMajor.symm n 1).val - 0 = a.val; omega
      | ⟨2, _⟩ => show t.val * 1 + (W.rowMajor.symm n 2).val - 2047 = t.val + n.val - 2047; omega
    · next hin =>
      rw [if_neg fun hle => hin fun z => ?_]
      match z with
      | ⟨0, _⟩ => show 0 ≤ b.val * 1 + (W.rowMajor.symm n 0).val ∧ b.val * 1 + (W.rowMajor.symm n 0).val - 0 < 8; omega
      | ⟨1, _⟩ => show 0 ≤ a.val * 1 + (W.rowMajor.symm n 1).val ∧ a.val * 1 + (W.rowMajor.symm n 1).val - 0 < 4; omega
      | ⟨2, _⟩ => show 2047 ≤ t.val * 1 + (W.rowMajor.symm n 2).val ∧ t.val * 1 + (W.rowMajor.symm n 2).val - 2047 < 2048; omega
  · rw [zero_add, ← Fin.sum_univ_def, Fin.sum_univ_eq_sum_range (fun n => if 2047 ≤ t.val + n then arr3 x4 b a (t.val + n - 2047) else 0), numelW, window_sum _ _ t.isLt]
    rfl

include h3 h4 in
/-- The log weight of a pair of tokens. -/
theorem r18 (t s : Fin 2048) : val_main_v18 (F := Ideal) x3 x4 (ix4 b a t s) = ((Bx (arr3 x4 b a) (t.val + 1) + us (arr3 x3 b a) (arr3 x4 b a) s.val : ℝ) : EReal) := by
  pointwise [val_main_v18, val_main_v15, val_main_v13, val_main_v14, val_main_v11, val_main_v12, val_main_v17, val_main_v16, val_main_v3]
  rw [r8 x4 h4, r8 x4 h4, arr3_at x3 h3, ← EReal.coe_sub, ← EReal.coe_add]
  congr 1
  unfold us
  ring
include h3 h4 in
/-- The masked log weight of a pair of tokens. -/
theorem r19 (t s : Fin 2048) : val_main_v19 (F := Ideal) x3 x4 (ix4 b a t s)
    = if s.val ≤ t.val then ((Bx (arr3 x4 b a) (t.val + 1) + us (arr3 x3 b a) (arr3 x4 b a) s.val : ℝ) : EReal) else ⊥ := by
  pointwise [val_main_v19, val_main_call2_v1, val_main_call2_v2, val_main_call2_v0, val_main_cst_2, val_main_v10, val_main_call1_v0, val_main_call1_v1, val_main_call1_c, val_main_call1_v2, val_main_call1_v3, val_main_call1_v4, val_main_call1_v5, val_main_v9, val_main_c]
  rw [r18 x3 x4 h3 h4, show val_main_call1_c_0 (F := Ideal) ix0 = 0#1 from rfl, show id (constant (F := Ideal) S_ FTy.f32 4286578688#32) ix0 = (⊥ : EReal) from ofBits_ninf]
  unfold Scalar.select IntOp.addi
  rw [BitVec.add_zero]
  have hc : (IntOp.cmpi CmpIPredicate.sge (BitVec.ofNat 32 t.val) (BitVec.ofNat 32 s.val) = 1) ↔ s.val ≤ t.val := WordCmp.cmpi_sge_ofNat_eq_one_iff (by omega) (by omega)
  by_cases h : s.val ≤ t.val
  · rw [if_pos (hc.mpr h), if_pos (show (1#1 : BitVec 1) = 1 from rfl), if_pos h]
  · rw [if_neg (fun hh => h (hc.mp hh)), if_neg (show ¬((0#1 : BitVec 1) = 1) by decide), if_neg h]

include h3 h4 in
/-- The stabiliser. -/
theorem r24 (t : Fin 2048) : val_main_v24 (F := Ideal) x3 x4 (ix3 b a t) = ((St (arr3 x3 b a) (arr3 x4 b a) (t.val + 1) : ℝ) : EReal) := by
  rw [val_main_v24_apply, val_main_v22_apply]
  have hz : val_main_v21 (F := Ideal) (ix3 b a t) = 0 := by
    pointwise [val_main_v21, val_main_v20, val_main_v7, val_main_cst_1]
  rw [hz, r8 x4 h4]
  unfold val_main_v23
  rw [rowmax]
  have hf : (fun s : Fin 2048 => val_main_v19 (F := Ideal) x3 x4 (ix4 b a t s)) = fun s => if s.val ≤ t.val then ((Bx (arr3 x4 b a) (t.val + 1) + us (arr3 x3 b a) (arr3 x4 b a) s.val : ℝ) : EReal) else ⊥ := funext fun s => r19 x3 x4 h3 h4 b a t s
  rw [hf]
  have hi : val_main_cst_3 (F := Ideal) (Shape.Idx.first h_S_) = (⊥ : EReal) := (val_main_cst_3_apply _).trans ofBits_ninf
  rw [hi]
  show max (((Bx (arr3 x4 b a) (t.val + 1) : ℝ) : EReal) + 0) _ = _
  rw [add_zero]
  refine max_fold 2048 (fun x => x.val ≤ t.val) (fun x => Bx (arr3 x4 b a) (t.val + 1) + us (arr3 x3 b a) (arr3 x4 b a) x.val) _ _ ?_ ?_ ?_
  · have h : (0 : ℝ) ≤ Rm (us (arr3 x3 b a) (arr3 x4 b a)) (t.val + 1) := by
      have := Rm_mono (us (arr3 x3 b a) (arr3 x4 b a)) 0 (t.val + 1); rwa [zero_add] at this
    unfold St; linarith
  · intro x hx
    have := le_Rm (us (arr3 x3 b a) (arr3 x4 b a)) 0 (t.val + 1) x.val (by omega)
    rw [zero_add, zero_add] at this; unfold St; linarith
  · rcases Rm_attained (us (arr3 x3 b a) (arr3 x4 b a)) 0 (t.val + 1) with h | ⟨x, hx, h⟩
    · left; rw [zero_add] at h; unfold St; rw [h]; exact add_zero _
    · right
      rw [zero_add, zero_add] at h
      refine ⟨⟨x, by omega⟩, Nat.lt_succ_iff.mp hx, ?_⟩
      unfold St; rw [h]

/-- A masked sum of coerced reals over the tokens. -/
theorem esum_tok (t : Fin 2048) (f : ℕ → ℝ) :
    ∑ x : Fin 2048, (if x.val ≤ t.val then ((f x.val : ℝ) : EReal) else 0) = ((∑ s ∈ Finset.range (t.val + 1), f s : ℝ) : EReal) := by
  rw [← sum_mask 2048 t.val t.isLt f, ← coe_sum]
  refine Finset.sum_congr rfl fun x _ => ?_
  split <;> rfl
include h0 h1 in
/-- The query's product with a key. -/
theorem r31 (t s : Fin 2048) : val_main_v31 (F := Ideal) x0 x1 (ix4 b a t s) = ((qk (arr4 x0 b a) (arr4 x1 b a) t.val s.val : ℝ) : EReal) := by
  rw [val_main_v31_apply]
  unfold qk
  rw [← edot]
  refine Finset.sum_congr rfl fun d _ => ?_
  rw [← arr4_at x0 h0, ← arr4_at x1 h1]
  pointwise [val_main_v0, val_main_v1]
include h0 h1 h3 h4 in
/-- The weighted product of a pair of tokens. -/
theorem r32 (t s : Fin 2048) : val_main_v32 (F := Ideal) x0 x1 x3 x4 (ix4 b a t s)
    = ((qk (arr4 x0 b a) (arr4 x1 b a) t.val s.val : ℝ) : EReal) * Ideal.exp ((if s.val ≤ t.val then ((Bx (arr3 x4 b a) (t.val + 1) + us (arr3 x3 b a) (arr3 x4 b a) s.val : ℝ) : EReal) else ⊥) - ((St (arr3 x3 b a) (arr3 x4 b a) (t.val + 1) : ℝ) : EReal)) := by
  pointwise [val_main_v32, val_main_v28, val_main_v27, val_main_v26, val_main_v25]
  rw [r31 x0 x1 h0 h1, r19 x3 x4 h3 h4, r24 x3 x4 h3 h4]
/-- A term of the weighted sums. -/
theorem term_eq (ig lf : ℕ → ℝ) (t s : ℕ) (w v : ℝ) :
    w * Real.exp (Bx lf (t + 1) + us ig lf s - St ig lf (t + 1)) * v = Real.exp (us ig lf s - Rm (us ig lf) (t + 1)) * w * v := by
  unfold St
  rw [show Bx lf (t + 1) + us ig lf s - (Bx lf (t + 1) + Rm (us ig lf) (t + 1)) = us ig lf s - Rm (us ig lf) (t + 1) by ring]
  ring
include h0 h1 h2 h3 h4 in
/-- The numerator. -/
theorem r38 (t : Fin 2048) (e : Fin 512) : val_main_v38 (F := Ideal) x0 x1 x2 x3 x4 (ix4 b a t e)
    = ((Nu (arr3 x3 b a) (arr3 x4 b a) (arr4 x0 b a) (arr4 x1 b a) (arr4 x2 b a) t.val e.val : ℝ) : EReal) := by
  rw [val_main_v38_apply, val_main_v36_apply]
  have hz : val_main_v34 (F := Ideal) x0 (ix4 b a t e) = 0 := by
    rw [val_main_v34_apply]
    refine Finset.sum_eq_zero fun d _ => ?_
    rw [show ∀ i, val_main_v5 (F := Ideal) i = (0 : EReal) from fun i => by pointwise [val_main_v5, val_main_cst]]
    exact mul_zero _
  rw [hz]
  show _ * (0 : EReal) + _ = _
  rw [mul_zero, zero_add, val_main_v37_apply]
  unfold Nu
  rw [← esum_tok]
  refine Finset.sum_congr rfl fun s _ => ?_
  have hl : lidx_main_v37 (ix4 b a t e) s = ix4 b a t s := by funext w; fin_cases w <;> rfl
  have hv : val_main_v2 (F := Ideal) x2 (ridx_main_v37 (ix4 b a t e) s) = ((arr4 x2 b a s.val e.val : ℝ) : EReal) := by
    rw [← arr4_at x2 h2]
    pointwise [val_main_v2]
  rw [hl, hv, r32 x0 x1 x3 x4 h0 h1 h3 h4, masked_term]
  split
  · rw [term_eq, va, if_pos e.isLt]
  · rfl
include h0 h1 h3 h4 in
/-- The denominator, before its floor. -/
theorem r42 (t : Fin 2048) : val_main_v42 (F := Ideal) x0 x1 x3 x4 (ix3 b a t)
    = ((Nu (arr3 x3 b a) (arr3 x4 b a) (arr4 x0 b a) (arr4 x1 b a) (arr4 x2 b a) t.val 512 : ℝ) : EReal) := by
  rw [val_main_v42_apply, val_main_v40_apply]
  have hz : val_main_v39 (F := Ideal) x0 (ix3 b a t) = 0 := by
    rw [val_main_v39_apply]
    refine Finset.sum_eq_zero fun d _ => ?_
    rw [show ∀ i, val_main_v6 (F := Ideal) i = (0 : EReal) from fun i => by pointwise [val_main_v6, val_main_cst_0]]
    exact mul_zero _
  rw [hz]
  show _ * (0 : EReal) + _ = _
  rw [mul_zero, zero_add, val_main_v41_apply, show ∀ i, val_main_cst_4 (F := Ideal) i = (0 : EReal) from fun i => by pointwise [val_main_cst_4], zero_add]
  unfold Nu
  rw [← esum_tok]
  refine Finset.sum_congr rfl fun s _ => ?_
  have hl : idx_main_v41 (ix3 b a t) s = ix4 b a t s := by funext w; fin_cases w <;> rfl
  rw [hl, r32 x0 x1 x3 x4 h0 h1 h3 h4]
  have hm := masked_term (s.val ≤ t.val) (qk (arr4 x0 b a) (arr4 x1 b a) t.val s.val) (Bx (arr3 x4 b a) (t.val + 1) + us (arr3 x3 b a) (arr3 x4 b a) s.val) (St (arr3 x3 b a) (arr3 x4 b a) (t.val + 1)) 1
  rw [EReal.coe_one, mul_one] at hm
  rw [hm]
  split
  · rw [term_eq, va, if_neg (by decide), if_pos rfl]
  · rfl
include h0 h1 h2 h3 h4 in
/-- The layer's output, by head. -/
theorem r49 (t : Fin 2048) (e : Fin 512) : val_main_v49 (F := Ideal) x0 x1 x2 x3 x4 (ix4 b a t e)
    = ((Ho (arr3 x3 b a) (arr3 x4 b a) (arr4 x0 b a) (arr4 x1 b a) (arr4 x2 b a) t.val e.val : ℝ) : EReal) := by
  have h48 : val_main_v48 (F := Ideal) x0 x1 x3 x4 (ix4 b a t e) = val_main_v46 (F := Ideal) x0 x1 x3 x4 (ix3 b a t) := by
    pointwise [val_main_v48, val_main_v47]
  rw [val_main_v49_apply, r38 x0 x1 x2 x3 x4 h0 h1 h2 h3 h4, h48, val_main_v46_apply, val_main_v43_apply, val_main_v45_apply, val_main_v44_apply, r42 x0 x1 x2 x3 x4 h0 h1 h3 h4, r24 x3 x4 h3 h4]
  have h := out_of (Nu (arr3 x3 b a) (arr3 x4 b a) (arr4 x0 b a) (arr4 x1 b a) (arr4 x2 b a) t.val e.val) (Nu (arr3 x3 b a) (arr3 x4 b a) (arr4 x0 b a) (arr4 x1 b a) (arr4 x2 b a) t.val 512) (St (arr3 x3 b a) (arr3 x4 b a) (t.val + 1))
  rw [zero_sub] at h
  exact h
include h0 h1 h2 h3 h4 in
/-- The layer's output. -/
theorem r79 (s n : Fin 2048) (hn : n.val / 512 = a.val) : val_main_v79 (F := Ideal) x0 x1 x2 x3 x4 (ix3 b s n)
    = ((Ho (arr3 x3 b a) (arr3 x4 b a) (arr4 x0 b a) (arr4 x1 b a) (arr4 x2 b a) s.val (n.val % 512) : ℝ) : EReal) := by
  have h : val_main_v79 (F := Ideal) x0 x1 x2 x3 x4 (ix3 b s n) = val_main_v49 (F := Ideal) x0 x1 x2 x3 x4 (ix4 b a s ⟨n.val % 512, by omega⟩) := by
    pointwise [val_main_v79, val_main_v78]
    rw [show (⟨n.val / 512, by omega⟩ : Fin 4) = a from Fin.ext hn]
  rw [h]
  exact r49 x0 x1 x2 x3 x4 h0 h1 h2 h3 h4 b a s ⟨n.val % 512, by omega⟩
include h3 h4 in
/-- The last stabiliser. -/
theorem r51 : val_main_v51 (F := Ideal) x3 x4 (ix2 b a) = ((St (arr3 x3 b a) (arr3 x4 b a) 2048 : ℝ) : EReal) := by
  pointwise [val_main_v51, val_main_v50]
  exact r24 x3 x4 h3 h4 b a ⟨2047, by decide⟩
include h3 h4 in
/-- The last stabiliser, as it is returned. -/
theorem r81 : val_main_v81 (F := Ideal) x3 x4 (ix4 b a 0 0) = ((St (arr3 x3 b a) (arr3 x4 b a) 2048 : ℝ) : EReal) := by
  pointwise [val_main_v81]
  exact r51 x3 x4 h3 h4 b a
include h3 h4 in
/-- A token's weight in the final state. -/
theorem r59 (s : Fin 2048) : val_main_v59 (F := Ideal) x3 x4 (ix3 b a s)
    = ((Real.exp (us (arr3 x3 b a) (arr3 x4 b a) s.val - Rm (us (arr3 x3 b a) (arr3 x4 b a)) 2048) : ℝ) : EReal) := by
  pointwise [val_main_v59, val_main_v58, val_main_v57, val_main_v56, val_main_v55, val_main_v54, val_main_v53, val_main_v52, val_main_v3]
  rw [r51 x3 x4 h3 h4, r8 x4 h4, r8 x4 h4, arr3_at x3 h3, ← EReal.coe_sub, ← EReal.coe_add, ← EReal.coe_sub, Ideal.exp_coe]
  congr 2
  show Bx (arr3 x4 b a) 2048 - _ + _ - _ = _
  rw [St]
  generalize Rm (us (arr3 x3 b a) (arr3 x4 b a)) 2048 = R
  unfold us
  ring
include h1 h2 h3 h4 in
/-- The final matrix state. -/
theorem r72 (d e : Fin 512) : val_main_v72 (F := Ideal) x1 x2 x3 x4 (ix4 b a d e)
    = ((Cs (arr3 x3 b a) (arr3 x4 b a) (arr4 x1 b a) (arr4 x2 b a) 2048 d.val e.val : ℝ) : EReal) := by
  rw [val_main_v72_apply, val_main_v67_apply, show ∀ i, val_main_v5 (F := Ideal) i = (0 : EReal) from fun i => by pointwise [val_main_v5, val_main_cst]]
  show _ * (0 : EReal) + _ = _
  rw [mul_zero, zero_add, val_main_v71_apply]
  unfold Cs
  rw [← Fin.sum_univ_eq_sum_range (fun s => Real.exp (us (arr3 x3 b a) (arr3 x4 b a) s - Rm (us (arr3 x3 b a) (arr3 x4 b a)) 2048) * arr4 x1 b a s d.val * va (arr4 x2 b a) s e.val) 2048, ← coe_sum]
  refine Finset.sum_congr rfl fun s _ => ?_
  have hk : val_main_v70 (F := Ideal) x1 x3 x4 (lidx_main_v71 (ix4 b a d e) s)
      = val_main_v59 (F := Ideal) x3 x4 (ix3 b a s) * x1 (ix4 b s a d) := by
    pointwise [val_main_v70, val_main_v69, val_main_v68, val_main_v1]
  have hv : val_main_v2 (F := Ideal) x2 (ridx_main_v71 (ix4 b a d e) s) = x2 (ix4 b s a e) := by
    pointwise [val_main_v2]
  rw [hk, hv, r59 x3 x4 h3 h4, arr4_at x1 h1, arr4_at x2 h2, ← EReal.coe_mul, ← EReal.coe_mul, va, if_pos e.isLt]
include h1 h3 h4 in
/-- The final normaliser. -/
theorem r80 (d : Fin 512) : val_main_v80 (F := Ideal) x1 x3 x4 (ix4 b a d 0)
    = ((Cs (arr3 x3 b a) (arr3 x4 b a) (arr4 x1 b a) (arr4 x2 b a) 2048 d.val 512 : ℝ) : EReal) := by
  have h : val_main_v80 (F := Ideal) x1 x3 x4 (ix4 b a d 0) = val_main_v77 (F := Ideal) x1 x3 x4 (ix3 b a d) := by
    pointwise [val_main_v80]
  rw [h, val_main_v77_apply, val_main_v75_apply, show ∀ i, val_main_v6 (F := Ideal) i = (0 : EReal) from fun i => by pointwise [val_main_v6, val_main_cst_0]]
  show _ * (0 : EReal) + _ = _
  rw [mul_zero, zero_add, val_main_v76_apply]
  unfold Cs
  rw [← Fin.sum_univ_eq_sum_range (fun s => Real.exp (us (arr3 x3 b a) (arr3 x4 b a) s - Rm (us (arr3 x3 b a) (arr3 x4 b a)) 2048) * arr4 x1 b a s d.val * va (arr4 x2 b a) s 512) 2048, ← coe_sum]
  refine Finset.sum_congr rfl fun s _ => ?_
  have hl : lidx_main_v76 (ix3 b a d) s = ix3 b a s := by funext w; fin_cases w <;> rfl
  have hk : val_main_v1 (F := Ideal) x1 (ridx_main_v76 (ix3 b a d) s) = x1 (ix4 b s a d) := by
    pointwise [val_main_v1]
  rw [hl, hk, r59 x3 x4 h3 h4, arr4_at x1 h1, ← EReal.coe_mul, va, if_neg (by decide), if_pos rfl, mul_one]
end Args
end Cert.ReferenceIdeal.Whole
end
-- ==== Proof.Claims.lean ====
/-
  The kernel's results are the reference's, and the runs that say so.
-/
module
public import proofs.«01_k».proof.Proof.Finite
public import proofs.«01_k».proof.Proof.Carry
public import proofs.«01_k».proof.Proof.Ref
public import proofs.«01_k».proof.Proof.Gen.Kernel.Frame
public import Idealize.ShloMosaic.Adequacy
@[expose] public section
noncomputable section
namespace Cert.Proof
open Idealize.ShloMosaic Idealize.ShloMosaic.TcCoe Idealize.SL.Sem Cert.Mlstm Cert.KernelIdeal.Scan Cert.ReferenceIdeal.Whole
open Cert.KernelIdeal (nD τ sig S8x2048x2048 S8x4x512x512 S8x4x512x1 S8x4x1x1)
open Cert.KernelIdeal.Gen

variable (m : (ℓ : Loc nD τ sig) → Buf (Elt Ideal) ℓ)
/-- An argument of the kernel. -/
abbrev A0 (c : Dev nD) : Vec Ideal Cert.KernelIdeal.S8x2048x4x512 .f32 := m ((c : Thread nD τ).loc Cert.KernelIdeal.main_arg0)
@[inherit_doc A0] abbrev A1 (c : Dev nD) : Vec Ideal Cert.KernelIdeal.S8x2048x4x512 .f32 := m ((c : Thread nD τ).loc Cert.KernelIdeal.main_arg1)
@[inherit_doc A0] abbrev A2 (c : Dev nD) : Vec Ideal Cert.KernelIdeal.S8x2048x4x512 .f32 := m ((c : Thread nD τ).loc Cert.KernelIdeal.main_arg2)
@[inherit_doc A0] abbrev A3 (c : Dev nD) : Vec Ideal Cert.KernelIdeal.S8x2048x4 .f32 := m ((c : Thread nD τ).loc Cert.KernelIdeal.main_arg3)
@[inherit_doc A0] abbrev A4 (c : Dev nD) : Vec Ideal Cert.KernelIdeal.S8x2048x4 .f32 := m ((c : Thread nD τ).loc Cert.KernelIdeal.main_arg4)

/-- An index of rank three is its coordinates. -/
theorem eta3 {x y z : ℕ} (i : (⟨3, ![x, y, z]⟩ : Shape).Idx) : i = ix3 (i 0) (i 1) (i 2) := by
  funext w; fin_cases w <;> rfl
/-- An index of rank four is its coordinates. -/
theorem eta4 {x y z u : ℕ} (i : (⟨4, ![x, y, z, u]⟩ : Shape).Idx) : i = ix4 (i 0) (i 1) (i 2) (i 3) := by
  funext w; fin_cases w <;> rfl

/-- The two outputs agree. -/
theorem same0 (c : Dev nD) (h : FinArgs m c) : (Cert.KernelIdeal.Value.G4 m c : Vec Ideal S8x2048x2048 .f32) = Cert.ReferenceIdeal.Read.val_main_v79 (F := Ideal) (A0 m c) (A1 m c) (A2 m c) (A3 m c) (A4 m c) := by
  funext i
  obtain ⟨b, s, n, rfl⟩ : ∃ (b : Fin 8) (s n : Fin 2048), i = ix3 b s n := ⟨i 0, i 1, i 2, eta3 i⟩
  rw [G4_eq m c h b s n]
  exact (r79 (A0 m c) (A1 m c) (A2 m c) (A3 m c) (A4 m c) h.q h.k h.v h.i h.f b (hd n) s n rfl).symm
/-- The two final matrix states agree. -/
theorem same1 (c : Dev nD) (h : FinArgs m c) : (Cert.KernelIdeal.Value.G5 m c : Vec Ideal S8x4x512x512 .f32) = Cert.ReferenceIdeal.Read.val_main_v72 (F := Ideal) (A1 m c) (A2 m c) (A3 m c) (A4 m c) := by
  funext i
  obtain ⟨b, a, d, e, rfl⟩ : ∃ (b : Fin 8) (a : Fin 4) (d e : Fin 512), i = ix4 b a d e := ⟨i 0, i 1, i 2, i 3, eta4 i⟩
  rw [G5_eq m c h b a d e]
  exact (r72 (A1 m c) (A2 m c) (A3 m c) (A4 m c) h.k h.v h.i h.f b a d e).symm
/-- The two final normalisers agree. -/
theorem same2 (c : Dev nD) (h : FinArgs m c) : (Cert.KernelIdeal.Value.G6 m c : Vec Ideal S8x4x512x1 .f32) = Cert.ReferenceIdeal.Read.val_main_v80 (F := Ideal) (A1 m c) (A3 m c) (A4 m c) := by
  funext i
  obtain ⟨b, a, d, e, rfl⟩ : ∃ (b : Fin 8) (a : Fin 4) (d : Fin 512) (e : Fin 1), i = ix4 b a d e := ⟨i 0, i 1, i 2, i 3, eta4 i⟩
  obtain rfl : e = 0 := Subsingleton.elim _ _
  rw [G6_eq m c h b a d]
  exact (r80 (A1 m c) (A2 m c) (A3 m c) (A4 m c) h.k h.i h.f b a d).symm
/-- The two final stabilisers agree. -/
theorem same3 (c : Dev nD) (h : FinArgs m c) : (Cert.KernelIdeal.Value.G7 m c : Vec Ideal S8x4x1x1 .f32) = Cert.ReferenceIdeal.Read.val_main_v81 (F := Ideal) (A3 m c) (A4 m c) := by
  funext i
  obtain ⟨b, a, d, e, rfl⟩ : ∃ (b : Fin 8) (a : Fin 4) (d : Fin 1) (e : Fin 1), i = ix4 b a d e := ⟨i 0, i 1, i 2, i 3, eta4 i⟩
  obtain rfl : d = 0 := Subsingleton.elim _ _
  obtain rfl : e = 0 := Subsingleton.elim _ _
  rw [G7_eq m c h b a]
  exact (r81 (A3 m c) (A4 m c) h.i h.f b a).symm

/-- The reference runs and its arguments end unchanged. -/
theorem frameR : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The kernel's four results are the reference's. -/
theorem alg : Cert.algebraic_KernelIdeal_ReferenceIdeal_pre_finite (hKernelIdeal := Cert.KernelIdeal.Gen.facts) (hReferenceIdeal := Cert.ReferenceIdeal.Gen.facts) (hPre_finite := preFacts) := by
  intro m g m' g' hpre hargs
  refine ⟨fun c => Cert.KernelIdeal.Value.G4 m c, fun c => Cert.KernelIdeal.Value.G5 m c, fun c => Cert.KernelIdeal.Value.G6 m c, fun c => Cert.KernelIdeal.Value.G7 m c, ?_, ?_⟩
  · exact Cert.KernelIdeal.Value.run m g
  · refine (θ_run Cert.ReferenceIdeal.defs _ _).mono (fun r h c => ?_) (Cert.ReferenceIdeal.Value.run (F := Ideal) m' g')
    obtain ⟨e0, e1, e2, e3, ea⟩ := h c
    have hm := finArgs m hpre c
    obtain ⟨a0, a1, a2, a3, a4⟩ := hargs c
    refine ⟨?_, ?_, ?_, ?_, ea⟩
    · rw [e0, Cert.ReferenceIdeal.Read.val_main_v79_eq, a0, a1, a2, a3, a4]
      exact (same0 m c hm).symm
    · rw [e1, Cert.ReferenceIdeal.Read.val_main_v72_eq, a1, a2, a3, a4]
      exact (same1 m c hm).symm
    · rw [e2, Cert.ReferenceIdeal.Read.val_main_v80_eq, a1, a3, a4]
      exact (same2 m c hm).symm
    · rw [e3, Cert.ReferenceIdeal.Read.val_main_v81_eq, a3, a4]
      exact (same3 m c hm).symm
end Cert.Proof
end
-- ==== Proof.Tiles.lean ====
module

public import Idealize.ShloMosaic.Lib.Claim

@[expose] public section

/-! What the experts' kernel needs of its five tables of 256 words: the batch row, the row tile and the expert of each
tile, whether it is computed, and whether it is the first of its expert. -/

namespace Cert.Tiles

/-- Two tiles name the same rows. -/
def Same (w : Fin 5 → Fin 256 → BitVec 32) (t u : Fin 256) : Prop := w 0 t = w 0 u ∧ w 1 t = w 1 u

/-- The tables' words are in range, the first tile is computed and loads its expert, a tile that is not computed repeats
    the one before it, one that does not load its expert has the same as the one before it, and a tile naming rows named
    before repeats the one before it. -/
structure Good (w : Fin 5 → Fin 256 → BitVec 32) : Prop where
  b : ∀ t, (w 0 t).toNat < 8
  r : ∀ t, (w 1 t).toNat < 32
  e : ∀ t, (w 2 t).toNat < 16
  v0 : ∀ t : Fin 256, t.val = 0 → w 3 t = 1#32
  f0 : ∀ t : Fin 256, t.val = 0 → w 4 t = 1#32
  still : ∀ t u : Fin 256, t.val + 1 = u.val → (Same w t u ∧ w 2 t = w 2 u) ∨ w 3 u = 1#32
  kept : ∀ t u : Fin 256, t.val + 1 = u.val → w 2 t = w 2 u ∨ w 4 u = 1#32
  again : ∀ s t u : Fin 256, s.val ≤ t.val → t.val + 1 = u.val → Same w s u → Same w t u ∧ w 2 t = w 2 u

/-- All tiles between two that name the same rows name them too, with the same expert. -/
theorem Good.between {w : Fin 5 → Fin 256 → BitVec 32} (g : Good w) (s : Fin 256) :
    ∀ (n : ℕ) (u : Fin 256), s.val + n = u.val → Same w s u → ∀ t : Fin 256, s.val ≤ t.val → t.val ≤ u.val →
      Same w t u ∧ w 2 t = w 2 u := by
  intro n
  induction n with
  | zero =>
    intro u hu _ t h1 h2
    obtain rfl : t = u := Fin.ext (by omega)
    exact ⟨⟨rfl, rfl⟩, rfl⟩
  | succ n ih =>
    intro u hu hs t h1 h2
    by_cases h : t = u
    · subst h; exact ⟨⟨rfl, rfl⟩, rfl⟩
    have hn : t.val ≠ u.val := fun e => h (Fin.ext e)
    have hp : s.val + n < 256 := by have := u.isLt; omega
    obtain ⟨k1, k2⟩ := g.again s ⟨s.val + n, hp⟩ u (by show s.val ≤ s.val + n; omega) (by show s.val + n + 1 = u.val; omega) hs
    obtain ⟨j1, j2⟩ := ih ⟨s.val + n, hp⟩ rfl ⟨hs.1.trans k1.1.symm, hs.2.trans k1.2.symm⟩ t h1 (by show t.val ≤ s.val + n; omega)
    exact ⟨⟨j1.1.trans k1.1, j1.2.trans k1.2⟩, j2.trans k2⟩

/-- Two tiles that name the same rows have the same expert. -/
theorem Good.expert {w : Fin 5 → Fin 256 → BitVec 32} (g : Good w) (s u : Fin 256) (h : Same w s u) : w 2 s = w 2 u := by
  rcases Nat.le_total s.val u.val with hl | hl
  · exact (g.between s (u.val - s.val) u (by omega) h s le_rfl hl).2
  · exact (g.between u (s.val - u.val) s (by omega) ⟨h.1.symm, h.2.symm⟩ u le_rfl hl).2.symm

end Cert.Tiles
end
-- ==== Proof.ExpertsIdeal.lean ====
module

public import proofs.«01_k».proof.Proof.Gen.Kernel11Ideal.Launch
public import proofs.«01_k».proof.Proof.Gen.Kernel11Ideal.Skeleton
public import proofs.«01_k».proof.Proof.Tiles
public import Idealize.ShloMosaic.Lib.Pipeline.Frame
public import Idealize.ShloMosaic.Lib.Pipeline.FrameBody
public import Idealize.ShloMosaic.Lib.Pipeline.TableIdle
public import Idealize.ShloMosaic.Lib.Claim
public import Idealize.ShloMosaic.Lib.Exec
public import Idealize.ShloMosaic.Lib.VecWindow
public import Idealize.ShloMosaic.Lib.Tactic

@[expose] public section

set_option maxRecDepth 16384

noncomputable section

namespace Cert.Kernel11Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

/-- Assertions over this program's machine. -/
abbrev Assn (F : FTy → Type) [FloatOps F] : Type := sProp (MT nD τ sig Unit (Elt F) ℕ (UR sig nD τ) ℕ)

/-- A memref's read after one store of its whole extent that may have been skipped: the stored contents, or, skipped,
    the contents found, if those were already the same. -/
theorem read_kept {s : Shape} {e : EltTy} (a : Memref sig .tc .vmem s e) (h : a.IsWhole) (C : Prop) [Decidable C]
    (x u p : Vec F s e) {off : Fin s.rank → ℕ} (inb : ∀ k, off k + s.size k ≤ s.size k) (hu : C ∨ u = x) (hp : p = x) :
    a.view.read (Elt F) (if hc : C then a.view.writes (Elt F) (h.unread u) [⟨Rect.unit off s.size inb, p⟩] else h.unread u) = x := by
  by_cases hc : C
  · rw [dif_pos hc, View.read_writes_full, hp]
  · rw [dif_neg hc, h.read_unread]; exact hu.resolve_left hc

/-- A load of a memref's whole extent reads its contents. -/
theorem load_all {s : Shape} {e : EltTy} (a : Memref sig .tc .vmem s e) (h : a.IsWhole) (x : Vec F s e) {off : Fin s.rank → ℕ}
    (inb : ∀ k, off k + s.size k ≤ s.size k) : a.view.readAt (Elt F) (Rect.unit off s.size inb).toLoadRect (h.unread x) = x := by
  rw [View.readAt_full, h.read_unread]

/-- The body's test of a flag word: whether it is one. -/
theorem flag (w : BitVec 32) : k0_cond2 w = 1#1 ↔ w = 1#32 := by
  unfold k0_cond2
  by_cases h : w = 1#32
  · subst h; exact ⟨fun _ => rfl, fun _ => by decide⟩
  · refine ⟨fun hh => absurd hh ?_, fun e => absurd e h⟩
    have e : Scalar.cmpi CmpIPredicate.eq w 1#32 = 0#1 := by
      have hb : (w == 1#32) = false := beq_eq_false_iff_ne.mpr h
      show BitVec.ofBool (w == 1#32) = 0#1
      rw [hb]; rfl
    simp only [e]; decide

/-- The place of a grid point in a table. -/
abbrev pos (i : grid0.Coords) : S256.Idx := fun a => ⟨k0_off2 i a, by have h := k0_off2_inb i a; obtain rfl : a = 0 := Subsingleton.elim _ _; exact h⟩

/-- The kernel's table 0, whole. -/
abbrev t0 : Memref sig .tc .smem S256 .i32 := Memref.whole main_arg0
/-- The kernel's table 1, whole. -/
abbrev t1 : Memref sig .tc .smem S256 .i32 := Memref.whole main_arg1
/-- The kernel's table 2, whole. -/
abbrev t2 : Memref sig .tc .smem S256 .i32 := Memref.whole main_arg2
/-- The kernel's table 3, whole. -/
abbrev t3 : Memref sig .tc .smem S256 .i32 := Memref.whole main_arg3
/-- The kernel's table 4, whole. -/
abbrev t4 : Memref sig .tc .smem S256 .i32 := Memref.whole main_arg4

/-- The contents of a table's buffer on core `c`. -/
abbrev TBuf (c : Dev nD) (M : Memref sig .tc .smem S256 .i32) : Type := Buf (Elt F) (M.view.loc (c : Thread nD τ))
/-- A table held for reading, at the half share the pipeline lends. -/
abbrev held (c : Dev nD) (M : Memref sig .tc .smem S256 .i32) (f : TBuf (F := F) c M) : Assn F :=
  M.view.loc (c : Thread nD τ) ↦{fullShare.right} f

set_option maxHeartbeats 1000000 in
/-- The body at a grid point, whatever its flags: given that the stored expert is the point's or is loaded now, and that the
    result's buffer holds the point's value or is computed now, it leaves both so. -/
theorem run (c : Dev nD) (i : grid0.Coords) (a6 : Memref sig .tc .vmem S1x256x1024 .f32) (h6 : a6.IsWhole)
    (a7 : Memref sig .tc .vmem S1x1024x512 .f32) (h7 : a7.IsWhole) (a8 : Memref sig .tc .vmem S1x1024x512 .f32) (h8 : a8.IsWhole)
    (a9 : Memref sig .tc .vmem S1x512x1024 .f32) (h9 : a9.IsWhole) (a10 : Memref sig .tc .vmem S1x256x1024 .f32) (h10 : a10.IsWhole)
    (a11 : Memref sig .tc .vmem S1024x512 .bf16) (h11 : a11.IsWhole) (a12 : Memref sig .tc .vmem S1024x512 .bf16) (h12 : a12.IsWhole)
    (a13 : Memref sig .tc .vmem S512x1024 .bf16) (h13 : a13.IsWhole)
    (x0 : Vec F S1x256x1024 .f32) (x1 x2 : Vec F S1x1024x512 .f32) (x3 : Vec F S1x512x1024 .f32) (o : Vec F S1x256x1024 .f32)
    (s0 s1 : Vec F S1024x512 .bf16) (s2 : Vec F S512x1024 .bf16)
    (y3 : TBuf (F := F) c t3) (y4 : TBuf (F := F) c t4)
    (hF : (y4 (pos i) : BitVec 32) = 1#32 ∨ s0 = k0_pay1 x1 ∧ s1 = k0_pay2 x2 ∧ s2 = k0_pay3 x3)
    (hV : (y3 (pos i) : BitVec 32) = 1#32 ∨ o = k0_pay4 x0 (k0_pay1 x1) (k0_pay2 x2) (k0_pay3 x3)) (E : Set ℕ) (Q : PUnit → Assn F) :
    iprop(owns (c : Thread nD τ) a6 fullShare x0 ∗ owns (c : Thread nD τ) a7 fullShare x1 ∗ owns (c : Thread nD τ) a8 fullShare x2
        ∗ owns (c : Thread nD τ) a9 fullShare x3 ∗ owns (c : Thread nD τ) a10 fullShare o ∗ owns (c : Thread nD τ) a11 fullShare s0
        ∗ owns (c : Thread nD τ) a12 fullShare s1 ∗ owns (c : Thread nD τ) a13 fullShare s2 ∗ held c t3 y3 ∗ held c t4 y4
        ∗ (iprop(owns (c : Thread nD τ) a6 fullShare x0 ∗ owns (c : Thread nD τ) a7 fullShare x1 ∗ owns (c : Thread nD τ) a8 fullShare x2
            ∗ owns (c : Thread nD τ) a9 fullShare x3 ∗ owns (c : Thread nD τ) a10 fullShare (k0_pay4 x0 (k0_pay1 x1) (k0_pay2 x2) (k0_pay3 x3))
            ∗ owns (c : Thread nD τ) a11 fullShare (k0_pay1 x1) ∗ owns (c : Thread nD τ) a12 fullShare (k0_pay2 x2)
            ∗ owns (c : Thread nD τ) a13 fullShare (k0_pay3 x3) ∗ held c t3 y3 ∗ held c t4 y4) -∗ Q ⟨⟩))
      ⊢ wp frame (wpE (defs₀ (F := F)) Variants.none c none) E
          (cc0_moe_experts i t0 (Memref.isWhole_whole _) t1 (Memref.isWhole_whole _) t2 (Memref.isWhole_whole _) t3 (Memref.isWhole_whole _)
            t4 (Memref.isWhole_whole _) a6 h6 a7 h7 a8 h8 a9 h9 a10 h10 a11 h11 a12 h12 a13 h13) Q := by
  simp only [cc0_moe_experts_eq_skeleton]; unfold cc0_moe_experts_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, T3, T4, Hk⟩
  obtain rfl := h6.eq_unread hf0; obtain rfl := h7.eq_unread hf1; obtain rfl := h8.eq_unread hf2; obtain rfl := h9.eq_unread hf3
  obtain rfl := h10.eq_unread hf4; obtain rfl := h11.eq_unread hg0; obtain rfl := h12.eq_unread hg1; obtain rfl := h13.eq_unread hg2
  sl_exec
  have w4 : run.sl.v4 c i y4 = 1#1 ↔ (y4 (pos i) : BitVec 32) = 1#32 := by
    unfold run.sl.v4 run.sl.v3 run.sl.v2 run.sl.r
    rw [← flag]
    exact Iff.of_eq (congrArg (fun w : BitVec 32 => k0_cond2 w = 1#1) (congrArg y4 (funext fun a => Fin.ext rfl)))
  have w3 : k0_cond2 (run.sl.r_1 c i y3) = 1#1 ↔ (y3 (pos i) : BitVec 32) = 1#32 := by
    unfold run.sl.r_1
    rw [← flag]
    exact Iff.of_eq (congrArg (fun w : BitVec 32 => k0_cond2 w = 1#1) (congrArg y3 (funext fun a => Fin.ext rfl)))
  have k0 := fun p hp => read_kept (F := F) a11 h11 (run.sl.v4 c i y4 = 1#1) (k0_pay1 x1) s0 p inb_S1024x512_S1024x512_0_0
    (hF.imp w4.mpr fun h => h.1) hp
  have k1 := fun p hp => read_kept (F := F) a12 h12 (run.sl.v4 c i y4 = 1#1) (k0_pay2 x2) s1 p inb_S1024x512_S1024x512_0_0
    (hF.imp w4.mpr fun h => h.2.1) hp
  have k2 := fun p hp => read_kept (F := F) a13 h13 (run.sl.v4 c i y4 = 1#1) (k0_pay3 x3) s2 p inb_S512x1024_S512x1024_0_0
    (hF.imp w4.mpr fun h => h.2.2) hp
  have k4 := fun p hp => read_kept (F := F) a10 h10 (k0_cond2 (run.sl.r_1 c i y3) = 1#1) (k0_pay4 x0 (k0_pay1 x1) (k0_pay2 x2) (k0_pay3 x3)) o p
    inb_S1x256x1024_S1x256x1024_0_0_0 (hV.imp w3.mpr id) hp
  have l1 : k0_pay1 (View.readAt (Elt F) a7.view (Rect.unit ![0, 0, 0] S1x1024x512.size inb_S1x1024x512_S1x1024x512_0_0_0).toLoadRect (h7.unread x1)) = k0_pay1 x1 :=
    congrArg k0_pay1 (load_all a7 h7 x1 _)
  have l2 : k0_pay2 (View.readAt (Elt F) a8.view (Rect.unit ![0, 0, 0] S1x1024x512.size inb_S1x1024x512_S1x1024x512_0_0_0).toLoadRect (h8.unread x2)) = k0_pay2 x2 :=
    congrArg k0_pay2 (load_all a8 h8 x2 _)
  have l3 : k0_pay3 (View.readAt (Elt F) a9.view (Rect.unit ![0, 0, 0] S1x512x1024.size inb_S1x512x1024_S1x512x1024_0_0_0).toLoadRect (h9.unread x3)) = k0_pay3 x3 :=
    congrArg k0_pay3 (load_all a9 h9 x3 _)
  have v13 : run.sl.v13 c i a7 h7 a11 h11 x1 s0 y4 = k0_pay1 x1 := by
    unfold run.sl.v13; rw [View.readAt_full]; exact k0 _ l1
  have v15 : run.sl.v15 c i a8 h8 a12 h12 x2 s1 y4 = k0_pay2 x2 := by
    unfold run.sl.v15; rw [View.readAt_full]; exact k1 _ l2
  have v25 : run.sl.v25 c i a9 h9 a13 h13 x3 s2 y4 = k0_pay3 x3 := by
    unfold run.sl.v25; rw [View.readAt_full]; exact k2 _ l3
  sl_step
  iapply Hk
  isplitl [H0]
  · iexists _; isplitr; · ipureintro; exact h6.read_unread _
    iexact H0
  isplitl [H1]
  · iexists _; isplitr; · ipureintro; exact h7.read_unread _
    iexact H1
  isplitl [H2]
  · iexists _; isplitr; · ipureintro; exact h8.read_unread _
    iexact H2
  isplitl [H3]
  · iexists _; isplitr; · ipureintro; exact h9.read_unread _
    iexact H3
  isplitl [H4]
  · iexists _; isplitr; swap; · iexact H4
    ipureintro; refine k4 _ ?_; rw [v13, v15, v25, load_all]
  isplitl [S0]
  · iexists _; isplitr; swap; · iexact S0
    ipureintro; exact k0 _ l1
  isplitl [S1]
  · iexists _; isplitr; swap; · iexact S1
    ipureintro; exact k1 _ l2
  isplitl [S2]
  · iexists _; isplitr; swap; · iexact S2
    ipureintro; exact k2 _ l3
  isplitl [T3]; · iexact T3
  iexact T4

end Cert.Kernel11Ideal.Tile
end
-- ==== Proof.ExpertsFrameIdeal.lean ====
module

public import proofs.«01_k».proof.Proof.ExpertsIdeal

@[expose] public section

set_option maxRecDepth 16384

noncomputable section

namespace Cert.Kernel11Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen Cert.Tiles

variable {F : FTy → Type} [FloatOps F]

/-! ## The tables' words, and where the windows' blocks lie -/

/-- The place of tile `t` in a table. -/
def pl (t : Fin 256) : S256.Idx := fun a => ⟨t.val, by obtain rfl : a = 0 := Subsingleton.elim _ _; exact t.isLt⟩

/-- The words of the five tables. -/
def words (T : pre0.Contents (Elt F)) : Fin 5 → Fin 256 → BitVec 32 := fun
  | 0 => fun t => T 0 (pl t) | 1 => fun t => T 1 (pl t) | 2 => fun t => T 2 (pl t) | 3 => fun t => T 3 (pl t)
  | 4 => fun t => T 4 (pl t)

/-- The grid's only coordinate is the point itself. -/
theorem coord (t : Fin grid0.N) : (grid0.coords t 0).val = t.val := by
  have h : t.val < 256 := t.isLt.trans_eq N_0
  show t.val / grid0.stride 0 % grid0.bound 0 = t.val
  rw [show grid0.stride 0 = 1 by decide, show grid0.bound 0 = 256 by decide]
  omega

/-- An index of a table, as a word and back. -/
theorem cast_nat : ∀ n : Fin 256, (Scalar.indexCast (BitVec.ofNat 32 n.val)).toNat = n.val := by decide

/-- The place of a grid point in a table, by the point. -/
theorem at_pos (t : Fin grid0.N) : pos (grid0.coords t) = pl (t.cast N_0) := by
  funext a
  obtain rfl : a = 0 := Subsingleton.elim _ _
  refine Fin.ext ?_
  show (Scalar.indexCast (BitVec.ofNat 32 (grid0.coords t 0).val)).toNat = t.val
  rw [coord]
  exact cast_nat (t.cast N_0)

/-- The rows' block at a grid point, in words. -/
theorem ix_rows (T : pre0.Contents (Elt F)) (t : Fin grid0.N) :
    ix0 T 0 (grid0.coords t) = ![(words T 0 (t.cast N_0)).toNat, (words T 1 (t.cast N_0)).toNat, 0] := by
  funext a
  match a with
  | 0 => exact congrArg (fun p => BitVec.toNat (T 0 p : BitVec 32)) ((funext fun k => Fin.ext rfl : _ = pos (grid0.coords t)).trans (at_pos t))
  | 1 => exact congrArg (fun p => BitVec.toNat (T 1 p : BitVec 32)) ((funext fun k => Fin.ext rfl : _ = pos (grid0.coords t)).trans (at_pos t))
  | 2 => rfl

/-- The first weights' block at a grid point: the expert of the tile. -/
theorem ix_expert (T : pre0.Contents (Elt F)) (t : Fin grid0.N) :
    ix0 T 1 (grid0.coords t) = ![(words T 2 (t.cast N_0)).toNat, 0, 0] := by
  funext a
  match a with
  | 0 => exact congrArg (fun p => BitVec.toNat (T 2 p : BitVec 32)) ((funext fun k => Fin.ext rfl : _ = pos (grid0.coords t)).trans (at_pos t))
  | 1 => rfl
  | 2 => rfl

/-- The second weights take the same block as the first. -/
theorem ix_expert2 (T : pre0.Contents (Elt F)) (i : grid0.Coords) : ix0 T 2 i = ix0 T 1 i := rfl
/-- The third weights take the same block as the first. -/
theorem ix_expert3 (T : pre0.Contents (Elt F)) (i : grid0.Coords) : ix0 T 3 i = ix0 T 1 i := rfl
/-- The result takes the block of the rows. -/
theorem ix_result (T : pre0.Contents (Elt F)) (i : grid0.Coords) : ix0 T 4 i = ix0 T 0 i := rfl

/-- Whether the result's window is idle at a point: whether the tile is not computed. -/
theorem idle_iff (T : pre0.Contents (Elt F)) (t : Fin grid0.N) : idle0 T 4 (grid0.coords t) = false ↔ words T 3 (t.cast N_0) = 1#32 := by
  have e : (Pipeline.Prefetch.Contents.atD T 3 (k0_off2 (grid0.coords t)) : BitVec 32) = words T 3 (t.cast N_0) := by
    refine Eq.trans (dif_pos fun a => ?_) (congrArg (T 3) ((funext fun k => Fin.ext rfl : _ = pos (grid0.coords t)).trans (at_pos t)))
    match a with
    | ⟨0, _⟩ => exact k0_off2_inb (grid0.coords t) 0
    | ⟨k + 1, h⟩ => exact absurd h (Nat.not_lt.2 (Nat.le_add_left _ _))
  have e' : idle0 T 4 (grid0.coords t) = !(k0_cond2 (words T 3 (t.cast N_0)) == 1#1) := congrArg (fun w => !(k0_cond2 w == 1#1)) e
  rw [e', ← flag]
  simp

/-- Two points' row blocks lie at one place just if their tiles name the same rows. -/
theorem rows_eq (T : pre0.Contents (Elt F)) (t u : Fin grid0.N) :
    ix0 T 0 (grid0.coords t) = ix0 T 0 (grid0.coords u) ↔ Same (words T) (t.cast N_0) (u.cast N_0) := by
  rw [ix_rows, ix_rows]
  refine ⟨fun h => ⟨BitVec.eq_of_toNat_eq (congrFun h 0), BitVec.eq_of_toNat_eq (congrFun h 1)⟩, fun h => by rw [h.1, h.2]⟩

/-- With the same expert, two points' weights lie at one place. -/
theorem expert_eq (T : pre0.Contents (Elt F)) (t u : Fin grid0.N) (h : words T 2 (t.cast N_0) = words T 2 (u.cast N_0)) :
    ix0 T 1 (grid0.coords t) = ix0 T 1 (grid0.coords u) := by
  rw [ix_expert, ix_expert, h]

/-! ## The side condition of the tables -/

/-- At tables in order the windows' blocks are inside their arrays, and no rows are read again after they were written. -/
theorem ok_of (T : pre0.Contents (Elt F)) (g : Good (words T)) : ok0 T := by
  have at0 : ∀ i : grid0.Coords, ∃ t : Fin grid0.N, grid0.coords t = i := fun i => by
    refine ⟨⟨(i 0).val, by rw [N_0]; exact (i 0).isLt⟩, ?_⟩
    funext a
    obtain rfl : a = 0 := Subsingleton.elim _ _
    exact Fin.ext (coord _)
  have rows : ∀ (i : grid0.Coords) a, (ix0 T 0 i a + 1) * S1x256x1024.size a ≤ S8x8192x1024.size a := fun i => by
    obtain ⟨t, rfl⟩ := at0 i
    rw [ix_rows]
    have h0 := g.b (t.cast N_0); have h1 := g.r (t.cast N_0)
    intro a
    match a with
    | 0 => show ((words T 0 (t.cast N_0)).toNat + 1) * 1 ≤ 8; omega
    | 1 => show ((words T 1 (t.cast N_0)).toNat + 1) * 256 ≤ 8192; omega
    | 2 => show (0 + 1) * 1024 ≤ 1024; omega
  have up : ∀ (i : grid0.Coords) a, (ix0 T 1 i a + 1) * S1x1024x512.size a ≤ S16x1024x512.size a := fun i => by
    obtain ⟨t, rfl⟩ := at0 i
    rw [ix_expert]
    have h0 := g.e (t.cast N_0)
    intro a
    match a with
    | 0 => show ((words T 2 (t.cast N_0)).toNat + 1) * 1 ≤ 16; omega
    | 1 => show (0 + 1) * 1024 ≤ 1024; omega
    | 2 => show (0 + 1) * 512 ≤ 512; omega
  have down : ∀ (i : grid0.Coords) a, (ix0 T 3 i a + 1) * S1x512x1024.size a ≤ S16x512x1024.size a := fun i => by
    obtain ⟨t, rfl⟩ := at0 i
    rw [ix_expert3, ix_expert]
    have h0 := g.e (t.cast N_0)
    intro a
    match a with
    | 0 => show ((words T 2 (t.cast N_0)).toNat + 1) * 1 ≤ 16; omega
    | 1 => show (0 + 1) * 512 ≤ 512; omega
    | 2 => show (0 + 1) * 1024 ≤ 1024; omega
  refine ⟨fun i => ⟨rows i, Or.inl rfl⟩, fun i => ⟨up i, Or.inl rfl⟩, fun i => ⟨up i, Or.inl rfl⟩, fun i => ⟨down i, Or.inl rfl⟩,
    fun i => ⟨rows i, Or.inl rfl⟩, ?_⟩
  refine ⟨rfl, rfl, rfl, fun a a' h => ?_, fun i a a' h => ?_, fun u u' hlt hf _ he => ?_⟩
  · obtain rfl : a = a' := Fin.ext h
    rfl
  · obtain rfl : a = a' := Fin.ext h
    rfl
  · have hs := (rows_eq T u' u).mp he
    have hu : u.val ≠ 0 := by omega
    have hl := u.isLt
    have hk := (g.between (u'.cast N_0) (u.val - u'.val) (u.cast N_0) (by show u'.val + (u.val - u'.val) = u.val; omega) hs
      ((⟨u.val - 1, by omega⟩ : Fin grid0.N).cast N_0) (by show u'.val ≤ u.val - 1; omega) (by show u.val - 1 ≤ u.val; omega)).1
    have hix := (rows_eq T ⟨u.val - 1, by omega⟩ u).mpr hk
    unfold Pipeline.WinSpec.fetchAt at hf
    rw [Bool.and_eq_true] at hf
    have h2 := hf.2
    rw [Bool.or_eq_true, decide_eq_true_eq, decide_eq_true_eq] at h2
    rcases h2 with h2 | ⟨_, h2⟩
    · exact hu h2
    · exact h2 hix.symm

/-! ## The pipeline at the tables found -/

variable (m : (ℓ : Loc nD τ sig) → Buf (Elt F) ℓ) (ρ : Dev nD → PrngReg)

/-- A buffer's contents as the pipeline finds it: the result's at the copied rows, every other as given. -/
abbrev V (c : Dev nD) (b : Ref sig .tc) : Buf (Elt F) ((c : Thread nD τ).loc b) := StableHlo.after hostOps0 (fun b => m (c, b)) b

/-- The host does nothing before the call. -/
theorem no_fresh : (hostOps0 : List (HloOp τ sig (Elt F))).Forall fun op => op.fresh = ∅ := by
  simp only [List.Forall]; repeat' constructor

set_option maxHeartbeats 800000 in
/-- The host program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub no_fresh main_chain

/-- The prefix changes the result's buffer only. -/
theorem V_other (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-- The tables as found. -/
def tbl : pre0.Contents (Elt F) := fun j => V m (0 : Dev nD) (pre0.ref j)

/-- The tables at the call are those of the initial memory. -/
theorem V_pre (c : Dev nD) (j : Fin 5) : V m c (pre0.ref j) = tbl m j := by
  obtain rfl : c = 0 := Subsingleton.elim _ _; rfl

/-- The tables are in order. -/
abbrev Fit : Prop := Good (words (tbl m))
/-- The tables, with the fact that their words are in range. -/
abbrev adm (g : Fit m) : (pcfg0 (F := F)).Adm := ⟨tbl m, ok_of _ g⟩
/-- The pipeline at the tables found. -/
abbrev cfgM (g : Fit m) : Pipeline.Cfg sig Λ₀ := cfg0 (adm m g)

/-- The five tables lent to the body, one by one. -/
theorem lent (c : Dev nD) : (Pipeline.ΦT pre0 (tbl m) c : Assn F)
    = iprop(held c t0 (tbl m 0) ∗ held c t1 (tbl m 1) ∗ held c t2 (tbl m 2) ∗ held c t3 (tbl m 3) ∗ held c t4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- A window's block at a point, read off its array as found. -/
def iblk (g : Fit m) (c : Dev nD) (w : Fin (cfgM m g).W) (t : Fin (cfgM m g).N) :
    (((cfgM m g).win w).xblock ((cfgM m g).grid.coords t)).Idx → Elt F ((cfgM m g).win w).elt :=
  (((cfgM m g).win w).blk t).view.read (Elt F) (V m c (Pipeline.arrRef spec0 w))

/-- The staging buffer of window 0 at a grid point. -/
abbrev ms0 (g : Fit m) (t : Fin (cfgM m g).N) : Memref sig .tc .vmem S1x256x1024 .f32 := spec0_0.stage ((cfgM m g).slots t 0)
/-- The staging buffer of window 1 at a grid point. -/
abbrev ms1 (g : Fit m) (t : Fin (cfgM m g).N) : Memref sig .tc .vmem S1x1024x512 .f32 := spec0_1.stage ((cfgM m g).slots t 1)
/-- The staging buffer of window 2 at a grid point. -/
abbrev ms2 (g : Fit m) (t : Fin (cfgM m g).N) : Memref sig .tc .vmem S1x1024x512 .f32 := spec0_2.stage ((cfgM m g).slots t 2)
/-- The staging buffer of window 3 at a grid point. -/
abbrev ms3 (g : Fit m) (t : Fin (cfgM m g).N) : Memref sig .tc .vmem S1x512x1024 .f32 := spec0_3.stage ((cfgM m g).slots t 3)
/-- The staging buffer of window 4 at a grid point. -/
abbrev ms4 (g : Fit m) (t : Fin (cfgM m g).N) : Memref sig .tc .vmem S1x256x1024 .f32 := spec0_4.stage ((cfgM m g).slots t 4)
/-- The scratch that keeps the first weights of the current expert. -/
abbrev sc0 : Memref sig .tc .vmem S1024x512 .bf16 := Memref.whole cc0_scratch0
/-- The scratch that keeps the second weights of the current expert. -/
abbrev sc1 : Memref sig .tc .vmem S1024x512 .bf16 := Memref.whole cc0_scratch1
/-- The scratch that keeps the third weights of the current expert. -/
abbrev sc2 : Memref sig .tc .vmem S512x1024 .bf16 := Memref.whole cc0_scratch2

/-- What the class's invariant holds: the three stored weights at some contents and the generator's register. -/
theorem rest_eq (c : Dev nD) : (Pipeline.ΦA spec0 c : Assn F)
    = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The value of a point: the gated expert on its rows. -/
def val (g : Fit m) (c : Dev nD) (t : Fin (cfgM m g).N) : Vec F S1x256x1024 .f32 :=
  k0_pay4 (iblk m g c 0 t) (k0_pay1 (iblk m g c 1 t)) (k0_pay2 (iblk m g c 2 t)) (k0_pay3 (iblk m g c 3 t))

/-- What is kept between points: after the first, the stored weights are those of the point before. -/
def Kept (g : Fit m) (c : Dev nD) (t : Fin ((cfgM m g).N + 1)) : Assn F :=
  iprop((∃ s0 s1 s2, ⌜∀ p : Fin (cfgM m g).N, p.val + 1 = t.val → s0 = k0_pay1 (iblk m g c 1 p) ∧ s1 = k0_pay2 (iblk m g c 2 p) ∧ s2 = k0_pay3 (iblk m g c 3 p)⌝
      ∗ owns (c : Thread nD τ) sc0 fullShare s0 ∗ owns (c : Thread nD τ) sc1 fullShare s1 ∗ owns (c : Thread nD τ) sc2 fullShare s2)
    ∗ (∃ r, prngReg c r) ∗ Pipeline.ΦT pre0 (tbl m) c)

/-- The pipeline's proof data: the inputs' buffers at their blocks, the result's at the point's value. -/
def dats (g : Fit m) (_ : Fin 1) (c : Dev nD) : Dat τ (Elt F) Unit ℕ (UR sig nD τ) ℕ (cfgM m g) c where
  A w := V m c (Pipeline.arrRef spec0 w)
  after w t := match w with
    | ⟨0, _⟩ => iblk m g c 0 t
    | ⟨1, _⟩ => iblk m g c 1 t
    | ⟨2, _⟩ => iblk m g c 2 t
    | ⟨3, _⟩ => iblk m g c 3 t
    | ⟨4, _⟩ => val m g c t
  Φ t := Kept m g c t
  q _ := fullShare
  owed _ := 0

/-- The arrays of the call are those of the initial memory. -/
theorem A_eq (g : Fit m) (c : Dev nD) (w : Fin (cfgM m g).W) : (dats m g 0 c).A w = V m c (Pipeline.arrRef spec0 w) := by
  dsimp only [dats]

/-- Window 0's buffer after a grid point. -/
theorem after0 (g : Fit m) (c : Dev nD) (t : Fin (cfgM m g).N) : (dats m g 0 c).after 0 t = iblk m g c 0 t := by dsimp only [dats]; try rfl
/-- Window 1's buffer after a grid point. -/
theorem after1 (g : Fit m) (c : Dev nD) (t : Fin (cfgM m g).N) : (dats m g 0 c).after 1 t = iblk m g c 1 t := by dsimp only [dats]; try rfl
/-- Window 2's buffer after a grid point. -/
theorem after2 (g : Fit m) (c : Dev nD) (t : Fin (cfgM m g).N) : (dats m g 0 c).after 2 t = iblk m g c 2 t := by dsimp only [dats]; try rfl
/-- Window 3's buffer after a grid point. -/
theorem after3 (g : Fit m) (c : Dev nD) (t : Fin (cfgM m g).N) : (dats m g 0 c).after 3 t = iblk m g c 3 t := by dsimp only [dats]; try rfl
/-- Window 4's buffer after a grid point. -/
theorem after4 (g : Fit m) (c : Dev nD) (t : Fin (cfgM m g).N) : (dats m g 0 c).after 4 t = val m g c t := by dsimp only [dats]; try rfl

/-- What window 0's buffer holds once fetched. -/
theorem fetched0 (g : Fit m) (c : Dev nD) (t : Fin (cfgM m g).N) (d) : (dats m g 0 c).fetched 0 t d = iblk m g c 0 t := by
  unfold Dat.fetched Dat.blockOf iblk; rw [A_eq]; try rfl
/-- What window 1's buffer holds once fetched. -/
theorem fetched1 (g : Fit m) (c : Dev nD) (t : Fin (cfgM m g).N) (d) : (dats m g 0 c).fetched 1 t d = iblk m g c 1 t := by
  unfold Dat.fetched Dat.blockOf iblk; rw [A_eq]; try rfl
/-- What window 2's buffer holds once fetched. -/
theorem fetched2 (g : Fit m) (c : Dev nD) (t : Fin (cfgM m g).N) (d) : (dats m g 0 c).fetched 2 t d = iblk m g c 2 t := by
  unfold Dat.fetched Dat.blockOf iblk; rw [A_eq]; try rfl
/-- What window 3's buffer holds once fetched. -/
theorem fetched3 (g : Fit m) (c : Dev nD) (t : Fin (cfgM m g).N) (d) : (dats m g 0 c).fetched 3 t d = iblk m g c 3 t := by
  unfold Dat.fetched Dat.blockOf iblk; rw [A_eq]; try rfl

/-- Window 0's buffer before a grid point. -/
theorem before0 (g : Fit m) (c : Dev nD) (t : Fin (cfgM m g).N) (d) : (dats m g 0 c).before 0 t d = iblk m g c 0 t :=
  ((dats m g 0 c).before_in_eq_fetched 0 rfl (fun _ => rfl) (fun _ _ _ => rfl) (fun t => by rw [after0]; unfold Dat.blockOf iblk; rw [A_eq]; try rfl) t d).trans
    (fetched0 m g c t d)
/-- Window 1's buffer before a grid point. -/
theorem before1 (g : Fit m) (c : Dev nD) (t : Fin (cfgM m g).N) (d) : (dats m g 0 c).before 1 t d = iblk m g c 1 t :=
  ((dats m g 0 c).before_in_eq_fetched 1 rfl (fun _ => rfl) (fun _ _ _ => rfl) (fun t => by rw [after1]; unfold Dat.blockOf iblk; rw [A_eq]; try rfl) t d).trans
    (fetched1 m g c t d)
/-- Window 2's buffer before a grid point. -/
theorem before2 (g : Fit m) (c : Dev nD) (t : Fin (cfgM m g).N) (d) : (dats m g 0 c).before 2 t d = iblk m g c 2 t :=
  ((dats m g 0 c).before_in_eq_fetched 2 rfl (fun _ => rfl) (fun _ _ _ => rfl) (fun t => by rw [after2]; unfold Dat.blockOf iblk; rw [A_eq]; try rfl) t d).trans
    (fetched2 m g c t d)
/-- Window 3's buffer before a grid point. -/
theorem before3 (g : Fit m) (c : Dev nD) (t : Fin (cfgM m g).N) (d) : (dats m g 0 c).before 3 t d = iblk m g c 3 t :=
  ((dats m g 0 c).before_in_eq_fetched 3 rfl (fun _ => rfl) (fun _ _ _ => rfl) (fun t => by rw [after3]; unfold Dat.blockOf iblk; rw [A_eq]; try rfl) t d).trans
    (fetched3 m g c t d)

/-- Where two tiles have the same expert, the weights' blocks are the same. -/
theorem weights_eq (g : Fit m) (c : Dev nD) (t u : Fin (cfgM m g).N) (h : words (tbl m) 2 (t.cast N_0) = words (tbl m) 2 (u.cast N_0)) :
    k0_pay1 (iblk m g c 1 t) = k0_pay1 (iblk m g c 1 u) ∧ k0_pay2 (iblk m g c 2 t) = k0_pay2 (iblk m g c 2 u)
      ∧ k0_pay3 (iblk m g c 3 t) = k0_pay3 (iblk m g c 3 u) := by
  have e := expert_eq (tbl m) t u h
  have d1 : (((cfgM m g).win 1).block.Idx → Elt F ((cfgM m g).win 1).elt) := (dats m g 0 c).after 1 t
  have d2 : (((cfgM m g).win 2).block.Idx → Elt F ((cfgM m g).win 2).elt) := (dats m g 0 c).after 2 t
  have d3 : (((cfgM m g).win 3).block.Idx → Elt F ((cfgM m g).win 3).elt) := (dats m g 0 c).after 3 t
  refine ⟨congrArg k0_pay1 ?_, congrArg k0_pay2 ?_, congrArg k0_pay3 ?_⟩
  · exact (fetched1 m g c t d1).symm.trans (((dats m g 0 c).fetched_congr 1 e rfl d1).trans (fetched1 m g c u d1))
  · exact (fetched2 m g c t d2).symm.trans (((dats m g 0 c).fetched_congr 2 e rfl d2).trans (fetched2 m g c u d2))
  · exact (fetched3 m g c t d3).symm.trans (((dats m g 0 c).fetched_congr 3 e rfl d3).trans (fetched3 m g c u d3))

/-- Tiles that name the same rows with the same expert have the same value. -/
theorem val_eq (g : Fit m) (c : Dev nD) (t u : Fin (cfgM m g).N) (hr : Same (words (tbl m)) (t.cast N_0) (u.cast N_0))
    (he : words (tbl m) 2 (t.cast N_0) = words (tbl m) 2 (u.cast N_0)) : val m g c t = val m g c u := by
  have e := (rows_eq (tbl m) t u).mpr hr
  have d0 : (((cfgM m g).win 0).block.Idx → Elt F ((cfgM m g).win 0).elt) := (dats m g 0 c).after 0 t
  have x : (iblk m g c 0 t : Vec F S1x256x1024 .f32) = iblk m g c 0 u :=
    (fetched0 m g c t d0).symm.trans (((dats m g 0 c).fetched_congr 0 e rfl d0).trans (fetched0 m g c u d0))
  obtain ⟨h1, h2, h3⟩ := weights_eq m g c t u he
  unfold val
  rw [h1, h2, h3]
  exact congrArg (fun y => k0_pay4 y _ _ _) x

/-- The result's window is not written back after a point whose next names the same rows. -/
theorem no_flush (g : Fit m) (t u : Fin (cfgM m g).N) (h : t.val + 1 = u.val) (hr : Same (words (tbl m)) (t.cast N_0) (u.cast N_0)) :
    ((cfgM m g).win 4).flush t = false := by
  have e := (rows_eq (tbl m) t u).mpr hr
  unfold Pipeline.Window.flush
  have hl := u.isLt
  rw [Bool.and_eq_false_iff]
  refine Or.inr ?_
  rw [Bool.or_eq_false_iff, decide_eq_false_iff_not, decide_eq_false_iff_not]
  refine ⟨fun k => by have : t.val + 1 = (cfgM m g).N := k; omega, fun ⟨k, hk⟩ => hk ?_⟩
  exact (congrArg ((cfgM m g).win 4).index (Fin.ext h : (⟨t.val + 1, k⟩ : Fin (cfgM m g).N) = u)).trans e.symm

/-- At a tile that is not computed the result's buffer already holds the point's value. -/
theorem before4 (g : Fit m) (c : Dev nD) (d) : ∀ (n : ℕ) (t : Fin (cfgM m g).N), t.val = n → words (tbl m) 3 (t.cast N_0) ≠ 1#32 →
    (dats m g 0 c).before 4 t d = val m g c t := by
  intro n
  induction n with
  | zero => exact fun t ht hv => absurd (g.v0 (t.cast N_0) ht) hv
  | succ n ih =>
    intro t ht hv
    have hl := t.isLt
    have hp : n < (cfgM m g).N := by omega
    have hs := (g.still ((⟨n, hp⟩ : Fin (cfgM m g).N).cast N_0) (t.cast N_0) ht.symm).resolve_right hv
    have e1 := (dats m g 0 c).before_of_pos 4 t (by omega) rfl d
    have ep : (⟨t.val - 1, Nat.lt_of_le_of_lt (Nat.sub_le _ _) t.isLt⟩ : Fin (cfgM m g).N) = ⟨n, hp⟩ := Fin.ext (by show t.val - 1 = n; omega)
    rw [ep, no_flush m g ⟨n, hp⟩ t ht.symm hs.1, if_neg Bool.false_ne_true] at e1
    rw [e1, ← val_eq m g c ⟨n, hp⟩ t hs.1 hs.2]
    unfold Dat.left
    by_cases hq : words (tbl m) 3 ((⟨n, hp⟩ : Fin (cfgM m g).N).cast N_0) = 1#32
    · have hi : (cfgM m g).idle 4 ((cfgM m g).grid.coords ⟨n, hp⟩) = false := (idle_iff (tbl m) ⟨n, hp⟩).mpr hq
      rw [hi]
      exact after4 m g c _
    · have hi : (cfgM m g).idle 4 ((cfgM m g).grid.coords ⟨n, hp⟩) = true := by
        rw [← Bool.not_eq_false]; exact fun h => hq ((idle_iff (tbl m) ⟨n, hp⟩).mp h)
      rw [hi]
      exact ih ⟨n, hp⟩ rfl hq

/-! ## The body obligation -/

/-- The kernel's body at a point, on what the pipeline calls it with. -/
abbrev bodyAt (g : Fit m) (t : Fin (cfgM m g).N) : Prog (TpuEff nD τ sig (Elt F) Λ₀ .tc) PUnit :=
  cc0_moe_experts (grid0.coords t) t0 (Memref.isWhole_whole _) t1 (Memref.isWhole_whole _) t2 (Memref.isWhole_whole _)
    t3 (Memref.isWhole_whole _) t4 (Memref.isWhole_whole _)
    (ms0 m g t) (hstage0_0 (((cfgM m g).slots t 0).cast nbuf0_0)) (ms1 m g t) (hstage0_1 (((cfgM m g).slots t 1).cast nbuf0_1))
    (ms2 m g t) (hstage0_2 (((cfgM m g).slots t 2).cast nbuf0_2)) (ms3 m g t) (hstage0_3 (((cfgM m g).slots t 3).cast nbuf0_3))
    (ms4 m g t) (hstage0_4 (((cfgM m g).slots t 4).cast nbuf0_4))
    sc0 (Memref.isWhole_whole _) sc1 (Memref.isWhole_whole _) sc2 (Memref.isWhole_whole _)

/-- The result's buffer at the point's value is what the obligation asks of it, computed at the point or not. -/
theorem leaves4 (g : Fit m) (c : Dev nD) (t : Fin (cfgM m g).N) :
    owns (c : Thread nD τ) (ms4 m g t) fullShare (val m g c t) ⊢ ((dats m g 0 c).leavesExact 4 t : Assn F) := by
  by_cases hv : words (tbl m) 3 (t.cast N_0) = 1#32
  · have hi : (cfgM m g).idle 4 ((cfgM m g).grid.coords t) = false := (idle_iff (tbl m) t).mpr hv
    unfold Dat.leavesExact
    rw [hi, after4]
    exact .rfl
  · have hi : (cfgM m g).idle 4 ((cfgM m g).grid.coords t) = true := by
      rw [← Bool.not_eq_false]; exact fun h => hv ((idle_iff (tbl m) t).mp h)
    unfold Dat.leavesExact
    rw [hi]
    cases hf : ((cfgM m g).win 4).flush t
    · iintro H
      iexists ((dats m g 0 c).after 4 t)
      rw [before4 m g c ((dats m g 0 c).after 4 t) t.val t rfl hv]
      iexact H
    · rw [after4]
      exact .rfl

set_option maxHeartbeats 1000000 in
/-- The body at a point: from what is kept and the windows' buffers to the same of the next point. -/
theorem sound (g : Fit m) (c : Dev nD) (t : Fin (cfgM m g).N) :
    iprop((dats m g 0 c).Φ t.castSucc ∗ (dats m g 0 c).owesAt () t.castSucc
      ∗ (∃ d, owns (c : Thread nD τ) (ms0 m g t) fullShare ((dats m g 0 c).before 0 t d))
      ∗ (∃ d, owns (c : Thread nD τ) (ms1 m g t) fullShare ((dats m g 0 c).before 1 t d))
      ∗ (∃ d, owns (c : Thread nD τ) (ms2 m g t) fullShare ((dats m g 0 c).before 2 t d))
      ∗ (∃ d, owns (c : Thread nD τ) (ms3 m g t) fullShare ((dats m g 0 c).before 3 t d))
      ∗ (∃ d, owns (c : Thread nD τ) (ms4 m g t) fullShare ((dats m g 0 c).before 4 t d)))
    ⊢ wp frame (wpE (defs₀ (F := F)) Variants.none c none) Set.univ (bodyAt m g t) (fun _ =>
      iprop((dats m g 0 c).Φ t.succ ∗ (dats m g 0 c).owesAt () t.succ
        ∗ owns (c : Thread nD τ) (ms0 m g t) fullShare ((dats m g 0 c).after 0 t)
        ∗ owns (c : Thread nD τ) (ms1 m g t) fullShare ((dats m g 0 c).after 1 t)
        ∗ owns (c : Thread nD τ) (ms2 m g t) fullShare ((dats m g 0 c).after 2 t)
        ∗ owns (c : Thread nD τ) (ms3 m g t) fullShare ((dats m g 0 c).after 3 t)
        ∗ (dats m g 0 c).leavesExact 4 t)) := by
  simp only [before0, before1, before2, before3]
  rw [show (dats m g 0 c).owesAt () t.succ = (dats m g 0 c).owesAt () t.castSucc from rfl, after0, after1, after2, after3,
    show (dats m g 0 c).Φ t.succ = Kept m g c t.succ from rfl, show (dats m g 0 c).Φ t.castSucc = Kept m g c t.castSucc from rfl]
  unfold Kept
  rw [lent]
  iintro ⟨⟨⟨%s0, %s1, %s2, %hs, S0, S1, S2⟩, Hg, ⟨T0, T1, T2, T3, T4⟩⟩, Ho, ⟨%d0, H0⟩, ⟨%d1, H1⟩, ⟨%d2, H2⟩, ⟨%d3, H3⟩, ⟨%d4, H4⟩⟩
  have e3 : (tbl m 3 (pos (grid0.coords t)) : BitVec 32) = words (tbl m) 3 (t.cast N_0) := congrArg (tbl m 3) (at_pos t)
  have e4 : (tbl m 4 (pos (grid0.coords t)) : BitVec 32) = words (tbl m) 4 (t.cast N_0) := congrArg (tbl m 4) (at_pos t)
  have hF : (tbl m 4 (pos (grid0.coords t)) : BitVec 32) = 1#32
      ∨ s0 = k0_pay1 (iblk m g c 1 t) ∧ s1 = k0_pay2 (iblk m g c 2 t) ∧ s2 = k0_pay3 (iblk m g c 3 t) := by
    by_cases h0 : t.val = 0
    · exact Or.inl (e4.trans (g.f0 (t.cast N_0) h0))
    have hl := t.isLt
    have hp : t.val - 1 < (cfgM m g).N := by omega
    rcases g.kept ((⟨t.val - 1, hp⟩ : Fin (cfgM m g).N).cast N_0) (t.cast N_0) (by show t.val - 1 + 1 = t.val; omega) with h | h
    · obtain ⟨k0, k1, k2⟩ := hs ⟨t.val - 1, hp⟩ (by show t.val - 1 + 1 = t.val; omega)
      obtain ⟨w0, w1, w2⟩ := weights_eq m g c ⟨t.val - 1, hp⟩ t h
      exact Or.inr ⟨k0.trans w0, k1.trans w1, k2.trans w2⟩
    · exact Or.inl (e4.trans h)
  have hV : (tbl m 3 (pos (grid0.coords t)) : BitVec 32) = 1#32
      ∨ (dats m g 0 c).before 4 t d4 = k0_pay4 (iblk m g c 0 t) (k0_pay1 (iblk m g c 1 t)) (k0_pay2 (iblk m g c 2 t)) (k0_pay3 (iblk m g c 3 t)) := by
    by_cases hv : words (tbl m) 3 (t.cast N_0) = 1#32
    · exact Or.inl (e3.trans hv)
    · exact Or.inr (before4 m g c d4 t.val t rfl hv)
  iapply (run c (grid0.coords t) _ _ _ _ _ _ _ _ _ _ _ _ _ _ _ _ (iblk m g c 0 t) (iblk m g c 1 t) (iblk m g c 2 t) (iblk m g c 3 t)
    ((dats m g 0 c).before 4 t d4) s0 s1 s2 (tbl m 3) (tbl m 4) hF hV Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [T3]; · iexact T3
  isplitl [T4]; · iexact T4
  iintro ⟨H0, H1, H2, H3, H4, S0, S1, S2, T3, T4⟩
  isplitl [S0 S1 S2 Hg T0 T1 T2 T3 T4]
  · isplitl [S0 S1 S2]
    · iexists _; iexists _; iexists _
      isplitr; swap
      · isplitl [S0]; · iexact S0
        isplitl [S1]; · iexact S1
        iexact S2
      · ipureintro
        intro p hp
        obtain rfl : p = t := Fin.ext (Nat.succ_injective hp)
        exact ⟨rfl, rfl, rfl⟩
    isplitl [Hg]; · iexact Hg
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  isplitl [H3]; · iexact H3
  iapply (leaves4 m g c t)
  iexact H4

/-- One grid point, at every program of the call. -/
theorem row (g : Fit m) (t : Fin (cfgM m g).N) :
    defs₀ (F := F) .tc (cfgM m g).body ((cfgM m g).bodyArgs t ((cfgM m g).slots t)) = bodyAt m g t := by
  unfold defs₀; rw [Defs.onTc_tc]

/-- What one grid point owes, for all grid points. -/
theorem obligation (g : Fit m) (c : Dev nD) : BodyObligation (dats (F := F) m g 0 c) (defs₀ (F := F)) Variants.none () Set.univ := fun t => by
  rw [bigSep_W0, bigSep_W0, row m g]
  exact triple_restated (sound m g c t) rfl .rfl fun _ => .rfl

/-! ## The run -/

/-- What the call hands the first grid point. -/
theorem enter (g : Fit m) (c : Dev nD) : iprop(Pipeline.ΦA spec0 c ∗ Pipeline.ΦT pre0 (tbl m) c) ⊢ ((dats m g 0 c).Φ 0 : Assn F) := by
  rw [show (dats m g 0 c).Φ 0 = Kept m g c 0 from rfl]
  unfold Kept
  rw [rest_eq]
  iintro ⟨⟨⟨⟨%s0, S0⟩, ⟨%s1, S1⟩, ⟨%s2, S2⟩⟩, Hg⟩, HT⟩
  isplitl [S0 S1 S2]
  · iexists s0; iexists s1; iexists s2
    isplitr; swap
    · isplitl [S0]; · iexact S0
      isplitl [S1]; · iexact S1
      iexact S2
    · ipureintro
      exact fun p hp => absurd hp (Nat.succ_ne_zero _)
  isplitl [Hg]; · iexact Hg
  iexact HT

/-- What the last grid point hands back. -/
theorem leave (g : Fit m) (c : Dev nD) : ((dats m g 0 c).Φ (Fin.last (cfgM m g).N) : Assn F) ⊢ Pipeline.ΦA spec0 c := by
  rw [show (dats m g 0 c).Φ (Fin.last (cfgM m g).N) = Kept m g c (Fin.last (cfgM m g).N) from rfl]
  unfold Kept
  rw [rest_eq]
  iintro ⟨⟨%s0, %s1, %s2, %hs, S0, S1, S2⟩, Hg, HT⟩
  isplitl [S0 S1 S2]
  · isplitl [S0]; · iexists _; iexact S0
    isplitl [S1]; · iexists _; iexact S1
    iexists _; iexact S2
  iexact Hg

-- the theorem's implicit arguments are found by unifying its conclusion with this one
set_option backward.isDefEq.respectTransparency.types false in
/-- Under tables in order the program terminates, the result's array as the data computes it, all else as found. -/
theorem runs (g : Fit m) : θ_run defs (onTc (τ := τ) (main (F := F))) (s₀ m ρ)
    (fun r => (Pipeline.FramePost (Pipeline.pin pcfgs fun _ => adm m g) (dats m g) 0 (V m)) r ∧ r.2.sem = fun _ => 0) :=
  Pipeline.θ_run_frameP_track (Q' := _) pcfgs (fun _ => adm m g) (dats m g) (0 : Fin 1) launch0 defs₀ Variants.none m ρ main
    (hbody := fun c => (obligation m g c).loose) (hshare := fun c => (dats m g 0 c).share_full fun _ => rfl)
    (howed := fun _ _ => rfl) (V := V m) (hmain := hmain m Variants.none) (hA := A_eq m g) (hpf := V_pre m)
    (hin := enter m g) (hout := leave m g)

/-- The frame: the program terminates with its arguments and semaphores unchanged. -/
theorem frame (g : Fit m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hr => ⟨fun c => ⟨
      ((hr.1 c).2 main_arg0 (by decide : main_arg0 ∈ Pipeline.restRefs sig spec0)).trans (V_other m c _ (by decide)),
      ((hr.1 c).2 main_arg1 (by decide : main_arg1 ∈ Pipeline.restRefs sig spec0)).trans (V_other m c _ (by decide)),
      ((hr.1 c).2 main_arg2 (by decide : main_arg2 ∈ Pipeline.restRefs sig spec0)).trans (V_other m c _ (by decide)),
      ((hr.1 c).2 main_arg3 (by decide : main_arg3 ∈ Pipeline.restRefs sig spec0)).trans (V_other m c _ (by decide)),
      ((hr.1 c).2 main_arg4 (by decide : main_arg4 ∈ Pipeline.restRefs sig spec0)).trans (V_other m c _ (by decide)),
      ((hr.1 c).1 0).trans (((dats m g 0 c).arrAt_in 0 rfl _).trans ((A_eq m g c 0).trans (V_other m c main_arg5 (by decide)))),
      ((hr.1 c).1 1).trans (((dats m g 0 c).arrAt_in 1 rfl _).trans ((A_eq m g c 1).trans (V_other m c main_arg6 (by decide)))),
      ((hr.1 c).1 2).trans (((dats m g 0 c).arrAt_in 2 rfl _).trans ((A_eq m g c 2).trans (V_other m c main_arg7 (by decide)))),
      ((hr.1 c).1 3).trans (((dats m g 0 c).arrAt_in 3 rfl _).trans ((A_eq m g c 3).trans (V_other m c main_arg8 (by decide))))⟩, hr.2⟩)
    (runs m ρ g)

end Cert.Kernel11Ideal.Tile
end
-- ==== Proof.TilesPre.lean ====
module

public import proofs.«01_k».proof.Pre_tiles
public import proofs.«01_k».proof.Proof.Tiles
public import Idealize.ShloMosaic.Lib.WordCmp

@[expose] public section

set_option maxRecDepth 16384

namespace Cert.Tiles
open Idealize.ShloMosaic Idealize.ShloMosaic.WordCmp Cert.Pre_tiles

/-- The side conditions of the precondition's operations. -/
theorem preFacts : Cert.Pre_tiles.Facts :=
  ⟨by decide, by decide, by decide, by decide, by decide, by decide, by decide, by decide, by decide, by decide⟩

attribute [local instance] preFacts

/-- The place of tile `t` in a table. -/
def at1 (t : Fin 256) : S256.Idx := fun a => ⟨t.val, by obtain rfl : a = 0 := Subsingleton.elim _ _; exact t.isLt⟩
/-- The place of the pair of tiles `t` and `t + 1` in a table of pairs. -/
def at2 (t : Fin 255) : S255.Idx := fun a => ⟨t.val, by obtain rfl : a = 0 := Subsingleton.elim _ _; exact t.isLt⟩
/-- The place of tile `s` against the pair `t`. -/
def at3 (s : Fin 256) (t : Fin 255) : S256x255.Idx := fun a => match a with
  | 0 => s
  | 1 => t

/-- The five tables by tile. -/
def five (a0 a1 a2 a3 a4 : IVec S256 32) : Fin 5 → Fin 256 → BitVec 32 := fun
  | 0 => fun t => a0 (at1 t) | 1 => fun t => a1 (at1 t) | 2 => fun t => a2 (at1 t) | 3 => fun t => a3 (at1 t)
  | 4 => fun t => a4 (at1 t)

/-- A word tested to lie between zero and a bound is below it. -/
theorem below (x : BitVec 32) (n : ℕ) (hn : n < 2 ^ 31) (h0 : IntOp.cmpi .sge x 0#32 = 1#1)
    (h1 : IntOp.cmpi .slt x (BitVec.ofNat 32 n) = 1#1) : x.toNat < n := by
  rw [cmpi_sge_eq, ofBool_decide_eq_one_iff] at h0
  rw [cmpi_slt_eq, ofBool_decide_eq_one_iff] at h1
  rw [BitVec.toInt_eq_toNat_cond, BitVec.toInt_eq_toNat_cond] at h0 h1
  simp only [BitVec.toNat_ofNat] at h0 h1
  have := x.isLt
  split at h0 <;> split at h1 <;> omega

/-- Words tested equal are equal. -/
theorem eq_of (x y : BitVec 32) (h : IntOp.cmpi .eq x y = 1#1) : x = y := by
  rw [cmpi_eq_eq, ofBool_decide_eq_one_iff] at h; exact h

/-- A disjunction of bits that holds has a bit that holds. -/
theorem or_of (x y : BitVec 1) (h : IntOp.ori x y = 1#1) : x = 1#1 ∨ y = 1#1 := by
  revert x y; decide
/-- A conjunction of bits that holds has both bits. -/
theorem and_of (x y : BitVec 1) (h : IntOp.andi x y = 1#1) : x = 1#1 ∧ y = 1#1 := by
  revert x y; decide
/-- A negated bit that holds is not set. -/
theorem not_of (x : BitVec 1) (h : ~~~x = 1#1) : ¬ x = 1#1 := by
  revert x; decide

variable {F : FTy → Type} [FloatOps F] (a0 a1 a2 a3 a4 : IVec S256 32) (a5 : FVec F S8x8192x1024 .f32)
  (a6 a7 : FVec F S16x1024x512 .f32) (a8 : FVec F S16x512x1024 .f32)

/-- The condition on the tables puts them in order. -/
theorem good_of
    (h0 : (fn (F := F) a0 a1 a2 a3 a4 a5 a6 a7 a8).1 = fun _ => 1#1)
    (h1 : (fn (F := F) a0 a1 a2 a3 a4 a5 a6 a7 a8).2.1 = fun _ => 1#1)
    (h2 : (fn (F := F) a0 a1 a2 a3 a4 a5 a6 a7 a8).2.2.1 = fun _ => 1#1)
    (h3 : (fn (F := F) a0 a1 a2 a3 a4 a5 a6 a7 a8).2.2.2.1 = fun _ => 1#1)
    (h4 : (fn (F := F) a0 a1 a2 a3 a4 a5 a6 a7 a8).2.2.2.2.1 = fun _ => 1#1)
    (h5 : (fn (F := F) a0 a1 a2 a3 a4 a5 a6 a7 a8).2.2.2.2.2.1 = fun _ => 1#1)
    (h6 : (fn (F := F) a0 a1 a2 a3 a4 a5 a6 a7 a8).2.2.2.2.2.2.1 = fun _ => 1#1)
    (h7 : (fn (F := F) a0 a1 a2 a3 a4 a5 a6 a7 a8).2.2.2.2.2.2.2.1 = fun _ => 1#1)
    (h8 : (fn (F := F) a0 a1 a2 a3 a4 a5 a6 a7 a8).2.2.2.2.2.2.2.2.1 = fun _ => 1#1)
    (h9 : (fn (F := F) a0 a1 a2 a3 a4 a5 a6 a7 a8).2.2.2.2.2.2.2.2.2.1 = fun _ => 1#1)
    (h10 : (fn (F := F) a0 a1 a2 a3 a4 a5 a6 a7 a8).2.2.2.2.2.2.2.2.2.2 = fun _ => 1#1) :
    Good (five a0 a1 a2 a3 a4) := by
  -- the slices' places
  have lo : ∀ (a : IVec S256 32) (t u : Fin 256) (h : t.val + 1 = u.val) (k),
      extractStridedSlice S255 ![0] a k (at2 ⟨t.val, by have := u.isLt; omega⟩) = a (at1 t) := fun a t u h k =>
    congrArg a (funext fun k => by obtain rfl : k = 0 := Subsingleton.elim _ _; exact Fin.ext (by show 0 + t.val = t.val; omega))
  have hi : ∀ (a : IVec S256 32) (t u : Fin 256) (h : t.val + 1 = u.val) (k),
      extractStridedSlice S255 ![1] a k (at2 ⟨t.val, by have := u.isLt; omega⟩) = a (at1 u) := fun a t u h k =>
    congrArg a (funext fun k => by obtain rfl : k = 0 := Subsingleton.elim _ _; exact Fin.ext (by show 1 + t.val = u.val; omega))
  have one : ∀ (a : IVec S256 32) (t : Fin 256) (h), t.val = 0 → extractStridedSlice S1 ![0] a h (Shape.Idx.first (by decide)) = a (at1 t) := fun a t h ht =>
    congrArg a (funext fun k => by obtain rfl : k = 0 := Subsingleton.elim _ _; exact Fin.ext (by show 0 + 0 = t.val; omega))
  have still : ∀ t u : Fin 256, t.val + 1 = u.val →
      IntOp.andi (IntOp.andi (IntOp.cmpi .eq (a0 (at1 u)) (a0 (at1 t))) (IntOp.cmpi .eq (a1 (at1 u)) (a1 (at1 t))))
        (IntOp.cmpi .eq (a2 (at1 u)) (a2 (at1 t))) = 1#1 →
      Same (five a0 a1 a2 a3 a4) t u ∧ five a0 a1 a2 a3 a4 2 t = five a0 a1 a2 a3 a4 2 u := fun t u _ h => by
    obtain ⟨hab, hc⟩ := and_of _ _ h
    obtain ⟨ha, hb⟩ := and_of _ _ hab
    exact ⟨⟨(eq_of _ _ ha).symm, (eq_of _ _ hb).symm⟩, (eq_of _ _ hc).symm⟩
  refine ⟨fun t => below _ 8 (by decide) (congrFun h0 (at1 t)) (congrFun h1 (at1 t)),
    fun t => below _ 32 (by decide) (congrFun h2 (at1 t)) (congrFun h3 (at1 t)),
    fun t => below _ 16 (by decide) (congrFun h4 (at1 t)) (congrFun h5 (at1 t)), fun t ht => ?_, fun t ht => ?_, ?_, ?_, ?_⟩
  · exact (one a3 t Facts.slices_S256_S1_0 ht).symm.trans (eq_of _ _ (congrFun h6 (Shape.Idx.first (by decide))))
  · exact (one a4 t Facts.slices_S256_S1_0 ht).symm.trans (eq_of _ _ (congrFun h7 (Shape.Idx.first (by decide))))
  · intro t u hu
    have hl := u.isLt
    have h := or_of _ _ (congrFun h8 (at2 ⟨t.val, by omega⟩))
    rcases h with h | h
    · left
      refine still t u hu (Eq.trans ?_ h)
      rw [← hi a0 t u hu Facts.slices_S256_S255_1, ← lo a0 t u hu Facts.slices_S256_S255_0, ← hi a1 t u hu Facts.slices_S256_S255_1,
        ← lo a1 t u hu Facts.slices_S256_S255_0, ← hi a2 t u hu Facts.slices_S256_S255_1, ← lo a2 t u hu Facts.slices_S256_S255_0]
      rfl
    · exact Or.inr ((hi a3 t u hu Facts.slices_S256_S255_1).symm.trans (eq_of _ _ h))
  · intro t u hu
    have hl := u.isLt
    have h := or_of _ _ (congrFun h9 (at2 ⟨t.val, by omega⟩))
    rcases h with h | h
    · left
      have h' := eq_of _ _ h
      exact ((lo a2 t u hu Facts.slices_S256_S255_0).symm.trans (h'.symm)).trans (hi a2 t u hu Facts.slices_S256_S255_1)
    · exact Or.inr ((hi a4 t u hu Facts.slices_S256_S255_1).symm.trans (eq_of _ _ h))
  · intro s t u hst hu hs
    have hl := u.isLt
    have col : ∀ (a : IVec S256 32) , broadcastInDim S256x255 ![0, 1] Facts.bcast_S256x1_S256x255_0_1
        (broadcastInDim S256x1 ![0] Facts.bcast_S256_S256x1_0 a) (at3 s ⟨t.val, by omega⟩) = a (at1 s) := fun a =>
      congrArg a (funext fun k => by obtain rfl : k = 0 := Subsingleton.elim _ _; exact Fin.ext rfl)
    have row : ∀ {w : ℕ} (a : IVec S255 w) , broadcastInDim S256x255 ![0, 1] Facts.bcast_S1x255_S256x255_0_1
        (broadcastInDim S1x255 ![1] Facts.bcast_S255_S1x255_1 a) (at3 s ⟨t.val, by omega⟩) = a (at2 ⟨t.val, by omega⟩) := fun a =>
      congrArg a (funext fun k => by obtain rfl : k = 0 := Subsingleton.elim _ _; exact Fin.ext rfl)
    have h := or_of _ _ (congrFun h10 (at3 s ⟨t.val, by omega⟩))
    rcases h with h | h
    · exfalso
      rcases or_of _ _ h with h | h
      · refine not_of _ h ?_
        refine Eq.trans (b := IntOp.andi (IntOp.cmpi .eq (a0 (at1 s)) (a0 (at1 u))) (IntOp.cmpi .eq (a1 (at1 s)) (a1 (at1 u)))) ?_ ?_
        · rw [← hi a0 t u hu Facts.slices_S256_S255_1, ← hi a1 t u hu Facts.slices_S256_S255_1, ← col a0, ← col a1, ← row (extractStridedSlice S255 ![1] a0 _),
            ← row (extractStridedSlice S255 ![1] a1 _)]
          rfl
        · rw [show a0 (at1 s) = a0 (at1 u) from hs.1, show a1 (at1 s) = a1 (at1 u) from hs.2, cmpi_eq_eq, cmpi_eq_eq]
          simp
          rfl
      · refine not_of _ h ?_
        refine Eq.trans (b := IntOp.cmpi .sle (BitVec.ofNat 32 s.val) (BitVec.ofNat 32 t.val)) ?_ ?_
        · rw [show BitVec.ofNat 32 s.val = (iotaInDim S256 32 0) (at1 s) from rfl, show BitVec.ofNat 32 t.val = (iotaInDim S255 32 0) (at2 ⟨t.val, by omega⟩) from rfl,
            ← col (iotaInDim S256 32 0), ← row (iotaInDim S255 32 0)]
          rfl
        · rw [cmpi_sle_eq, ofBool_decide_eq_one_iff, BitVec.toInt_eq_toNat_cond, BitVec.toInt_eq_toNat_cond]
          simp only [BitVec.toNat_ofNat]
          split <;> split <;> omega
    · have h := (row _).symm.trans h
      refine still t u hu (Eq.trans ?_ h)
      rw [← hi a0 t u hu Facts.slices_S256_S255_1, ← lo a0 t u hu Facts.slices_S256_S255_0, ← hi a1 t u hu Facts.slices_S256_S255_1,
        ← lo a1 t u hu Facts.slices_S256_S255_0, ← hi a2 t u hu Facts.slices_S256_S255_1, ← lo a2 t u hu Facts.slices_S256_S255_0]
      rfl

end Cert.Tiles
end
-- ==== Proof.ExpertsFit.lean ====
module

public import proofs.«01_k».proof.Defs
public import proofs.«01_k».proof.Proof.ExpertsFrame
public import proofs.«01_k».proof.Proof.ExpertsFrameIdeal
public import proofs.«01_k».proof.Proof.TilesPre

@[expose] public section

set_option maxRecDepth 16384

noncomputable section

namespace Cert.Kernel11.Tile

open Cert.Kernel11 Cert.Kernel11.Gen Idealize.ShloMosaic Idealize.ShloMosaic.TcCoe Idealize.SL.Sem Cert.Tiles

/-- The condition on the arguments' tables puts the tables found in order. -/
theorem fit (m : (ℓ : Loc nD τ sig) → Buf (Elt Bits) ℓ) (h : Cert.Pre_Kernel11 (hPre_tiles := preFacts) m) : Fit m := by
  obtain ⟨h0, h1, h2, h3, h4, h5, h6, h7, h8, h9, h10⟩ := h 0
  have g := good_of _ _ _ _ _ _ _ _ _ h0 h1 h2 h3 h4 h5 h6 h7 h8 h9 h10
  refine Eq.mp (congrArg Good (Eq.symm (?_ : words (tbl m) = _))) g
  funext j t
  match j with
  | 0 => exact congrFun (V_other m 0 main_arg0 (by decide)) _
  | 1 => exact congrFun (V_other m 0 main_arg1 (by decide)) _
  | 2 => exact congrFun (V_other m 0 main_arg2 (by decide)) _
  | 3 => exact congrFun (V_other m 0 main_arg3 (by decide)) _
  | 4 => exact congrFun (V_other m 0 main_arg4 (by decide)) _

end Cert.Kernel11.Tile

namespace Cert.Kernel11Ideal.Tile

open Cert.Kernel11Ideal Cert.Kernel11Ideal.Gen Idealize.ShloMosaic Idealize.ShloMosaic.TcCoe Idealize.SL.Sem Cert.Tiles

/-- The condition on the arguments' tables puts the tables found in order. -/
theorem fit (m : (ℓ : Loc nD τ sig) → Buf (Elt Ideal) ℓ) (h : Cert.Pre_Kernel11Ideal (hPre_tiles := preFacts) m) : Fit m := by
  obtain ⟨h0, h1, h2, h3, h4, h5, h6, h7, h8, h9, h10⟩ := h 0
  have g := good_of _ _ _ _ _ _ _ _ _ h0 h1 h2 h3 h4 h5 h6 h7 h8 h9 h10
  refine Eq.mp (congrArg Good (Eq.symm (?_ : words (tbl m) = _))) g
  funext j t
  match j with
  | 0 => exact congrFun (V_other m 0 main_arg0 (by decide)) _
  | 1 => exact congrFun (V_other m 0 main_arg1 (by decide)) _
  | 2 => exact congrFun (V_other m 0 main_arg2 (by decide)) _
  | 3 => exact congrFun (V_other m 0 main_arg3 (by decide)) _
  | 4 => exact congrFun (V_other m 0 main_arg4 (by decide)) _

end Cert.Kernel11Ideal.Tile
end
-- ==== Proof.ExpertsRef.lean ====
module

public import proofs.«01_k».proof.Proof.Gen.Reference11Ideal.Read
public import Idealize.ShloMosaic.Lib.Pointwise
public import Idealize.ShloMosaic.Lib.ValueIdx
public import Idealize.ShloMosaic.Lib.IdealHost
public import Idealize.ShloMosaic.Lib.WordCmp
public import Idealize.ShloMosaic.PureOps.Ideal.Laws

@[expose] public section

set_option maxRecDepth 16384

noncomputable section

/-! The experts' reference read element by element: a row named by a tile takes the tile's expert, every other is kept. -/

namespace Cert.Experts

open Cert.Reference11Ideal Cert.Reference11Ideal.Gen Cert.Reference11Ideal.Read Idealize.ShloMosaic Idealize.ShloMosaic.TcCoe Idealize.ShloMosaic.WordCmp
open scoped BigOperators

/-- The gated unit: `h` times the logistic of `h`. -/
def act (h : EReal) : EReal := Ideal.div h (1 + Ideal.exp (0 - h))

/-- The exponential is not negative. -/
theorem exp_nonneg (z : EReal) : 0 ≤ Ideal.exp z := by
  induction z using EReal.rec with
  | bot => exact le_rfl
  | top => exact le_top
  | coe r => exact EReal.coe_nonneg.mpr (Real.exp_pos r).le

/-- The gated unit as a product with the logistic. -/
theorem act_mul (h : EReal) : h * Ideal.div 1 (1 + Ideal.exp (-h)) = act h := by
  unfold act Ideal.div
  rw [zero_sub]
  have hz : (1 : EReal) + Ideal.exp (-h) ≠ 0 := by
    refine ne_of_gt (lt_of_lt_of_le (zero_lt_one (α := EReal)) ?_)
    exact le_add_of_nonneg_right (exp_nonneg _)
  rw [if_neg hz, if_neg hz, one_mul]

/-- A sum of bits tested positive is one of the bits set. -/
theorem any_bit {n : ℕ} (f : Fin n → BitVec 1) :
    Ideal.cmp .ogt (0 + ∑ k, (((f k).toNat : ℝ) : EReal)) 0 = 1#1 ↔ ∃ k, f k = 1#1 := by
  have hz : ∀ k, (0 : EReal) ≤ (((f k).toNat : ℝ) : EReal) := fun k => EReal.coe_nonneg.mpr (Nat.cast_nonneg _)
  rw [zero_add]
  show BitVec.ofBool (decide (_ < _)) = 1#1 ↔ _
  rw [ofBool_decide_eq_one_iff]
  constructor
  · intro h
    by_contra hn
    refine h.ne' (Finset.sum_eq_zero fun k _ => ?_)
    have hk : f k = 0#1 := by
      have := fun e => hn ⟨k, e⟩
      generalize f k = b at this ⊢
      revert b; decide
    rw [hk]; simp
  · rintro ⟨k, hk⟩
    refine lt_of_lt_of_le ?_ (Finset.single_le_sum (fun k _ => hz k) (Finset.mem_univ k))
    rw [hk]; simp

variable (x0 x1 x2 : IVec S256 32) (x5 : FVec Ideal S8x8192x1024 .f32) (x6 x7 : FVec Ideal S16x1024x512 .f32) (x8 : FVec Ideal S16x512x1024 .f32)

/-- Expert `e` of the row at a place. -/
def ex (e : Fin 16) (b : Fin 8) (s : Fin 8192) (d : Fin 1024) : EReal :=
  ∑ f : Fin 512, act (∑ k : Fin 1024, x5 (ix3 b s k) * x6 (ix3 e k f)) * (∑ k : Fin 1024, x5 (ix3 b s k) * x7 (ix3 e k f))
    * x8 (ix3 e f d)

/-- A tile's place in a table. -/
def ti (t : Fin 256) : S256.Idx := fun a => ⟨t.val, by obtain rfl : a = 0 := Subsingleton.elim _ _; exact t.isLt⟩

/-- The reference's experts. -/
theorem experts_ref (i : S8x8192x1024.Idx) (e : Fin 16) :
    val_main_v6 (F := Ideal) x5 x6 x7 x8 (ridx_main_v53 i e) = ex x5 x6 x7 x8 e (i 0) (i 1) (i 2) := by
  rw [val_main_v6_apply]
  unfold ex
  refine Finset.sum_congr rfl fun f _ => ?_
  rw [val_main_v5_apply, val_main_v2_apply, val_main_call0_v5_apply, val_main_call0_v4_apply, val_main_call0_cst_0_apply, val_main_call0_v3_apply,
    val_main_call0_v2_apply, val_main_call0_cst_apply, val_main_call0_v1_apply, val_main_call0_v0_apply, val_main_v1_apply, val_main_v0_apply,
    val_main_v4_apply, val_main_v3_apply]
  have h6 : ∀ k : Fin 1024, x6 (lidx_main_v0 (idx_main_v1 (lidx_main_v6 (ridx_main_v53 i e) f)) k) * x5 (ridx_main_v0 (idx_main_v1 (lidx_main_v6 (ridx_main_v53 i e) f)) k)
      = x5 (ix3 (i 0) (i 1) k) * x6 (ix3 e k f) := fun k => by
    rw [mul_comm]
    congr 2 <;> (funext a; fin_cases a <;> rfl)
  have h7 : ∀ k : Fin 1024, x7 (lidx_main_v3 (idx_main_v4 (lidx_main_v6 (ridx_main_v53 i e) f)) k) * x5 (ridx_main_v3 (idx_main_v4 (lidx_main_v6 (ridx_main_v53 i e) f)) k)
      = x5 (ix3 (i 0) (i 1) k) * x7 (ix3 e k f) := fun k => by
    rw [mul_comm]
    congr 2 <;> (funext a; fin_cases a <;> rfl)
  rw [Finset.sum_congr rfl fun k _ => h6 k, Finset.sum_congr rfl fun k _ => h7 k]
  generalize (∑ k : Fin 1024, x5 (ix3 (i 0) (i 1) k) * x6 (ix3 e k f)) = h
  generalize (∑ k : Fin 1024, x5 (ix3 (i 0) (i 1) k) * x7 (ix3 e k f)) = g
  refine congrArg₂ (· * ·) (congrArg (· * g) ?_) (congrArg x8 (by funext a; fin_cases a <;> rfl))
  rw [← act_mul, ← Ideal.ofBits_one_f32]
  rfl

/-- Tile `t` names the row and expert. -/
def Names (t : Fin 256) (e b s : ℕ) : Prop := (x2 (ti t)).toNat = e ∧ (x0 (ti t)).toNat = b ∧ (x1 (ti t)).toNat = s / 256

/-- The bit of a tile, an expert and a row. -/
theorem bit (h0 : ∀ t, (x0 (ti t)).toNat < 8) (h1 : ∀ t, (x1 (ti t)).toNat < 32) (h2 : ∀ t, (x2 (ti t)).toNat < 16) (i : S16x8x8192.Idx) (t : Fin 256) :
    val_main_v43 (F := Ideal) x0 x1 x2 (idx_main_v45 i t) = 1#1 ↔ Names x0 x1 x2 t (i 0).val (i 1).val (i 2).val := by
  rw [val_main_v43_apply, val_main_v41_apply, val_main_v39_apply, val_main_v38_apply, val_main_v36_apply, val_main_v33_apply, val_main_v37_apply,
    val_main_v35_apply, val_main_v34_apply, val_main_v42_apply, val_main_v40_apply, val_main_v32_apply, val_main_v30_apply, val_main_v17_apply,
    val_main_v16_apply, val_main_v14_apply, val_main_v11_apply, val_main_v15_apply, val_main_v13_apply, val_main_v12_apply, val_main_v31_apply,
    val_main_v29_apply, val_main_v28_apply, val_main_v21_apply, val_main_v19_apply, val_main_v20_apply, val_main_v18_apply, val_main_v27_apply,
    val_main_v25_apply, val_main_v24_apply, val_main_v26_apply, val_main_v23_apply, val_main_v22_apply, val_main_v10_apply,
    val_main_v8_apply, val_main_v9_apply, val_main_v7_apply, val_main_c_apply, val_main_c_0_apply]
  have hb := h0 t
  have hr := h1 t
  have he := h2 t
  have i0 : (i 0).val < 16 := (i 0).isLt
  have i1 : (i 1).val < 8 := (i 1).isLt
  have i2 : (i 2).val < 8192 := (i 2).isLt
  refine Iff.trans (b := IntOp.andi (IntOp.cmpi .eq (x2 (ti t)) (BitVec.ofNat 32 (i 0).val))
    (IntOp.andi (IntOp.cmpi .eq (x0 (ti t)) (BitVec.ofNat 32 (i 1).val)) (IntOp.andi (IntOp.cmpi .sle (x1 (ti t) * 256#32) (BitVec.ofNat 32 (i 2).val))
      (IntOp.cmpi .slt (BitVec.ofNat 32 (i 2).val) (x1 (ti t) * 256#32 + 256#32)))) = 1#1) (Eq.to_iff (congrArg (· = 1#1) ?_)) ?_
  · have p : ∀ j : S256.Idx, (j 0).val = t.val → j = ti t := fun j hj => funext fun a => by
      obtain rfl : a = 0 := Subsingleton.elim _ _
      exact Fin.ext hj
    refine congrArg₂ IntOp.andi (congrArg₂ _ (congrArg x2 (p _ rfl)) rfl) (congrArg₂ IntOp.andi (congrArg₂ _ (congrArg x0 (p _ rfl)) rfl)
      (congrArg₂ IntOp.andi (congrArg₂ _ (congrArg (fun j => x1 j * 256#32) (p _ rfl)) rfl) (congrArg₂ _ rfl (congrArg (fun j => x1 j * 256#32 + 256#32) (p _ rfl)))))
  · have ha : ∀ x y : BitVec 1, IntOp.andi x y = 1#1 ↔ x = 1#1 ∧ y = 1#1 := by decide
    unfold Names
    generalize x0 (ti t) = y0 at *
    generalize x1 (ti t) = y1 at *
    generalize x2 (ti t) = y2 at *
    have n1 : (y1 * 256#32).toNat = y1.toNat * 256 := by rw [BitVec.toNat_mul]; simp only [BitVec.toNat_ofNat]; omega
    have n2 : (y1 * 256#32 + 256#32).toNat = y1.toNat * 256 + 256 := by rw [BitVec.toNat_add, n1]; simp only [BitVec.toNat_ofNat]; omega
    have n3 : (BitVec.ofNat 32 (i 2).val).toNat = (i 2).val := by rw [BitVec.toNat_ofNat]; omega
    have n4 : (BitVec.ofNat 32 (i 1).val).toNat = (i 1).val := by rw [BitVec.toNat_ofNat]; omega
    have n5 : (BitVec.ofNat 32 (i 0).val).toNat = (i 0).val := by rw [BitVec.toNat_ofNat]; omega
    rw [ha, ha, ha, cmpi_eq_eq_toNat, cmpi_eq_eq_toNat, cmpi_sle_of_lt (by rw [n1]; omega) (by rw [n3]; omega),
      cmpi_slt_of_lt (by rw [n3]; omega) (by rw [n2]; omega), ofBool_decide_eq_one_iff, ofBool_decide_eq_one_iff, ofBool_decide_eq_one_iff,
      ofBool_decide_eq_one_iff, n1, n2, n3, n4, n5]
    omega

/-- Whether an expert takes a row: whether some tile names both. -/
theorem taker (h0 : ∀ t, (x0 (ti t)).toNat < 8) (h1 : ∀ t, (x1 (ti t)).toNat < 32) (h2 : ∀ t, (x2 (ti t)).toNat < 16) (i : S16x8x8192.Idx) :
    val_main_v47 (F := Ideal) x0 x1 x2 i = 1#1 ↔ ∃ t, Names x0 x1 x2 t (i 0).val (i 1).val (i 2).val := by
  rw [val_main_v47_apply, val_main_v45_apply, val_main_v46_apply, val_main_cst_apply, val_main_cst_1_apply]
  refine Iff.trans ?_ ((any_bit fun t => val_main_v43 (F := Ideal) x0 x1 x2 (idx_main_v45 i t)).trans (exists_congr fun t => bit x0 x1 x2 h0 h1 h2 i t))
  rw [← Ideal.ofBits_zero_f32]
  exact Iff.rfl

/-- Whether a row is taken: whether some tile names it. -/
theorem taken (h0 : ∀ t, (x0 (ti t)).toNat < 8) (h1 : ∀ t, (x1 (ti t)).toNat < 32) (h2 : ∀ t, (x2 (ti t)).toNat < 16) (i : S8x8192x1024.Idx) :
    val_main_call1_v0 (F := Ideal) x0 x1 x2 i = 1#1 ↔ ∃ (e : Fin 16) (t : Fin 256), Names x0 x1 x2 t e.val (i 0).val (i 1).val := by
  rw [val_main_call1_v0_apply, val_main_v52_apply, val_main_v51_apply, val_main_v49_apply, val_main_v50_apply, val_main_cst_2_apply, val_main_cst_3_apply]
  refine Iff.trans ?_ ((any_bit fun e : Fin 16 => val_main_v47 (F := Ideal) x0 x1 x2 (idx_main_v49 (idx_main_v52 (idx_main_call1_v0 i)) e)).trans
    (exists_congr fun e => taker x0 x1 x2 h0 h1 h2 _))
  rw [← Ideal.ofBits_zero_f32]
  exact Iff.rfl

/-- A row no tile names is kept. -/
theorem ref_kept (h0 : ∀ t, (x0 (ti t)).toNat < 8) (h1 : ∀ t, (x1 (ti t)).toNat < 32) (h2 : ∀ t, (x2 (ti t)).toNat < 16) (i : S8x8192x1024.Idx)
    (hn : ∀ t : Fin 256, ¬((x0 (ti t)).toNat = (i 0).val ∧ (x1 (ti t)).toNat = (i 1).val / 256)) :
    val_main_v54 (F := Ideal) x0 x1 x2 x5 x6 x7 x8 i = x5 i := by
  rw [val_main_v54_apply]
  have h : ¬ val_main_call1_v0 (F := Ideal) x0 x1 x2 i = 1#1 := fun h => by
    obtain ⟨e, t, h⟩ := (taken x0 x1 x2 h0 h1 h2 i).mp h
    exact hn t h.2
  exact if_neg h

/-- A row a tile names takes the tile's expert, where all tiles naming it have the same. -/
theorem ref_taken (h0 : ∀ t, (x0 (ti t)).toNat < 8) (h1 : ∀ t, (x1 (ti t)).toNat < 32) (h2 : ∀ t, (x2 (ti t)).toNat < 16) (i : S8x8192x1024.Idx)
    (t : Fin 256) (ht : (x0 (ti t)).toNat = (i 0).val ∧ (x1 (ti t)).toNat = (i 1).val / 256)
    (hu : ∀ u : Fin 256, (x0 (ti u)).toNat = (i 0).val ∧ (x1 (ti u)).toNat = (i 1).val / 256 → x2 (ti u) = x2 (ti t)) :
    val_main_v54 (F := Ideal) x0 x1 x2 x5 x6 x7 x8 i = ex x5 x6 x7 x8 ⟨(x2 (ti t)).toNat, h2 t⟩ (i 0) (i 1) (i 2) := by
  rw [val_main_v54_apply]
  have h : val_main_call1_v0 (F := Ideal) x0 x1 x2 i = 1#1 := (taken x0 x1 x2 h0 h1 h2 i).mpr ⟨⟨(x2 (ti t)).toNat, h2 t⟩, t, rfl, ht.1, ht.2⟩
  refine (if_pos h).trans ?_
  rw [val_main_v53_apply, Finset.sum_eq_single (⟨(x2 (ti t)).toNat, h2 t⟩ : Fin 16)]
  · rw [val_main_v48_apply, (taker x0 x1 x2 h0 h1 h2 _).mpr ⟨t, rfl, ht.1, ht.2⟩, experts_ref]
    show (((1#1 : BitVec 1).toNat : ℝ) : EReal) * _ = _
    simp
  · intro e _ hne
    have hb : ¬ val_main_v47 (F := Ideal) x0 x1 x2 (lidx_main_v53 i e) = 1#1 := fun hb => by
      obtain ⟨u, hu2, hu0, hu1⟩ := (taker x0 x1 x2 h0 h1 h2 _).mp hb
      refine hne (Fin.ext ?_)
      have := hu u ⟨hu0, hu1⟩
      show e.val = (x2 (ti t)).toNat
      rw [← this]
      exact hu2.symm
    have hk : val_main_v47 (F := Ideal) x0 x1 x2 (lidx_main_v53 i e) = 0#1 := by
      generalize val_main_v47 (F := Ideal) x0 x1 x2 (lidx_main_v53 i e) = b at hb ⊢
      revert b; decide
    rw [val_main_v48_apply, hk]
    show (((0#1 : BitVec 1).toNat : ℝ) : EReal) * _ = _
    simp
  · exact fun h => absurd (Finset.mem_univ _) h

end Cert.Experts
end
-- ==== Proof.ExpertsPay.lean ====
module

public import proofs.«01_k».proof.Proof.Gen.Kernel11Ideal.Skeleton
public import proofs.«01_k».proof.Proof.ExpertsRef
public import Idealize.ShloMosaic.Lib.Pointwise
public import Idealize.ShloMosaic.Lib.ValueIdx
public import Idealize.ShloMosaic.Lib.IdealHost
public import Idealize.ShloMosaic.PureOps.Ideal.Laws

@[expose] public section

set_option maxRecDepth 16384

noncomputable section

namespace Cert.Kernel11Ideal.Tile

open Cert.Kernel11Ideal Cert.Kernel11Ideal.Gen Idealize.ShloMosaic Idealize.ShloMosaic.TcCoe
open Cert.Experts (act)
open scoped BigOperators

/-- A point's value, element by element. -/
theorem pay_apply (x : Vec Ideal S1x256x1024 .f32) (a b : Vec Ideal S1x1024x512 .f32) (c : Vec Ideal S1x512x1024 .f32) (r : Fin 256) (d : Fin 1024) :
    k0_pay4 x (k0_pay1 a) (k0_pay2 b) (k0_pay3 c) (ix3 0 r d)
      = ∑ f : Fin 512, act (∑ k : Fin 1024, x (ix3 0 r k) * a (ix3 0 k f)) * (∑ k : Fin 1024, x (ix3 0 r k) * b (ix3 0 k f))
        * c (ix3 0 f d) := by
  pointwise [k0_pay4, k0_pay1, k0_pay2, k0_pay3, act]

end Cert.Kernel11Ideal.Tile
end
-- ==== Proof.ExpertsValue.lean ====
module

public import proofs.«01_k».proof.Proof.ExpertsFrameIdeal
public import proofs.«01_k».proof.Proof.ExpertsPay
public import proofs.«01_k».proof.Proof.ExpertsFit
public import proofs.«01_k».proof.Proof.Gen.Reference11Ideal.Run
public import Idealize.ShloMosaic.Lib.Pipeline.ValueKit
public import Idealize.ShloMosaic.Lib.Pipeline.ReadBack
public import Idealize.ShloMosaic.Adequacy

@[expose] public section

set_option maxRecDepth 16384

noncomputable section

namespace Cert.Kernel11Ideal.Tile

open Cert.Kernel11Ideal Cert.Kernel11Ideal.Gen Idealize.ShloMosaic Idealize.ShloMosaic.TcCoe Idealize.SL.Sem
open Idealize.ShloMosaic.Pipeline (Dat)
open Cert.Tiles
open scoped BigOperators

variable (m : (ℓ : Loc nD τ sig) → Buf (Elt Ideal) ℓ)

/-- The arguments. -/
abbrev X0 (c : Dev nD) : IVec S256 32 := m ((c.tc : Thread nD τ).loc main_arg0)
/-- The tiles' row blocks. -/
abbrev X1 (c : Dev nD) : IVec S256 32 := m ((c.tc : Thread nD τ).loc main_arg1)
/-- The tiles' experts. -/
abbrev X2 (c : Dev nD) : IVec S256 32 := m ((c.tc : Thread nD τ).loc main_arg2)
/-- The rows. -/
abbrev X5 (c : Dev nD) : FVec Ideal S8x8192x1024 .f32 := m ((c.tc : Thread nD τ).loc main_arg5)
/-- The first weights. -/
abbrev X6 (c : Dev nD) : FVec Ideal S16x1024x512 .f32 := m ((c.tc : Thread nD τ).loc main_arg6)
/-- The gate weights. -/
abbrev X7 (c : Dev nD) : FVec Ideal S16x1024x512 .f32 := m ((c.tc : Thread nD τ).loc main_arg7)
/-- The last weights. -/
abbrev X8 (c : Dev nD) : FVec Ideal S16x512x1024 .f32 := m ((c.tc : Thread nD τ).loc main_arg8)

/-- The tables' words are those of the arguments. -/
theorem words_tbl (c : Dev nD) (t : Fin 256) : words (tbl m) 0 t = X0 m c (pl t) ∧ words (tbl m) 1 t = X1 m c (pl t) ∧ words (tbl m) 2 t = X2 m c (pl t) := by
  obtain rfl : c = 0 := Subsingleton.elim _ _
  exact ⟨congrFun (V_other m 0 main_arg0 (by decide)) _, congrFun (V_other m 0 main_arg1 (by decide)) _, congrFun (V_other m 0 main_arg2 (by decide)) _⟩

variable (g : Fit m)

/-- The place of a point's rows in their array. -/
theorem emb_rows (t : Fin (cfgM m g).N) (b : Fin 8) (r : Fin 256) (s : Fin 8192) (d : Fin 1024)
    (hb : (words (tbl m) 0 (t.cast N_0)).toNat = b.val) (hs : (words (tbl m) 1 (t.cast N_0)).toNat * 256 + r.val = s.val) :
    (((cfgM m g).win 0).blk t).view.emb (ix3 (0 : Fin 1) r d) = (ix3 b s d : S8x8192x1024.Idx) := by
  have e := ix_rows (tbl m) t
  generalize (words (tbl m) 0 (t.cast N_0)).toNat = n0 at e hb
  generalize (words (tbl m) 1 (t.cast N_0)).toNat = n1 at e hs
  have e1 : ix0 (tbl m) 0 (grid0.coords t) 1 = n1 := congrFun e 1
  funext a
  refine Fin.ext (Eq.trans (((cfgM m g).win 0).rect_emb_val t (ix3 (0 : Fin 1) r d) a) ?_)
  match a with
  | ⟨0, _⟩ => refine Eq.trans (congrArg (· * 1 + 0) (congrFun e 0)) ?_; show n0 * 1 + 0 = b.val; rw [Nat.mul_one, Nat.add_zero]; exact hb
  | ⟨1, _⟩ => exact Eq.trans (congrArg (· * 256 + r.val) e1) hs
  | ⟨2, _⟩ => refine Eq.trans (congrArg (· * 1024 + d.val) (congrFun e 2)) ?_; show 0 * 1024 + d.val = d.val; rw [Nat.zero_mul, Nat.zero_add]

/-- The place of a point's result in its array. -/
theorem emb_result (t : Fin (cfgM m g).N) (b : Fin 8) (r : Fin 256) (s : Fin 8192) (d : Fin 1024)
    (hb : (words (tbl m) 0 (t.cast N_0)).toNat = b.val) (hs : (words (tbl m) 1 (t.cast N_0)).toNat * 256 + r.val = s.val) :
    (((cfgM m g).win 4).blk t).view.emb (ix3 (0 : Fin 1) r d) = (ix3 b s d : S8x8192x1024.Idx) := by
  have e := ix_rows (tbl m) t
  generalize (words (tbl m) 0 (t.cast N_0)).toNat = n0 at e hb
  generalize (words (tbl m) 1 (t.cast N_0)).toNat = n1 at e hs
  have e1 : ix0 (tbl m) 0 (grid0.coords t) 1 = n1 := congrFun e 1
  funext a
  refine Fin.ext (Eq.trans (((cfgM m g).win 4).rect_emb_val t (ix3 (0 : Fin 1) r d) a) ?_)
  match a with
  | ⟨0, _⟩ => refine Eq.trans (congrArg (· * 1 + 0) (congrFun e 0)) ?_; show n0 * 1 + 0 = b.val; rw [Nat.mul_one, Nat.add_zero]; exact hb
  | ⟨1, _⟩ => exact Eq.trans (congrArg (· * 256 + r.val) e1) hs
  | ⟨2, _⟩ => refine Eq.trans (congrArg (· * 1024 + d.val) (congrFun e 2)) ?_; show 0 * 1024 + d.val = d.val; rw [Nat.zero_mul, Nat.zero_add]

/-- The place of a point's first weights in their array. -/
theorem emb_w1 (t : Fin (cfgM m g).N) (e : Fin 16) (k : Fin 1024) (f : Fin 512) (he : (words (tbl m) 2 (t.cast N_0)).toNat = e.val) :
    (((cfgM m g).win 1).blk t).view.emb (ix3 (0 : Fin 1) k f) = (ix3 e k f : S16x1024x512.Idx) := by
  have h := ix_expert (tbl m) t
  funext a
  refine Fin.ext (Eq.trans (((cfgM m g).win 1).rect_emb_val t (ix3 (0 : Fin 1) k f) a) ?_)
  match a with
  | ⟨0, _⟩ => refine Eq.trans (congrArg (· * 1 + 0) (congrFun h 0)) ?_; show (words (tbl m) 2 (t.cast N_0)).toNat * 1 + 0 = e.val; omega
  | ⟨1, _⟩ => refine Eq.trans (congrArg (· * 1024 + k.val) (congrFun h 1)) ?_; show 0 * 1024 + k.val = k.val; omega
  | ⟨2, _⟩ => refine Eq.trans (congrArg (· * 512 + f.val) (congrFun h 2)) ?_; show 0 * 512 + f.val = f.val; omega

/-- The place of a point's second weights in their array. -/
theorem emb_w3 (t : Fin (cfgM m g).N) (e : Fin 16) (k : Fin 1024) (f : Fin 512) (he : (words (tbl m) 2 (t.cast N_0)).toNat = e.val) :
    (((cfgM m g).win 2).blk t).view.emb (ix3 (0 : Fin 1) k f) = (ix3 e k f : S16x1024x512.Idx) := by
  have h := ix_expert (tbl m) t
  funext a
  refine Fin.ext (Eq.trans (((cfgM m g).win 2).rect_emb_val t (ix3 (0 : Fin 1) k f) a) ?_)
  match a with
  | ⟨0, _⟩ => refine Eq.trans (congrArg (· * 1 + 0) (congrFun h 0)) ?_; show (words (tbl m) 2 (t.cast N_0)).toNat * 1 + 0 = e.val; omega
  | ⟨1, _⟩ => refine Eq.trans (congrArg (· * 1024 + k.val) (congrFun h 1)) ?_; show 0 * 1024 + k.val = k.val; omega
  | ⟨2, _⟩ => refine Eq.trans (congrArg (· * 512 + f.val) (congrFun h 2)) ?_; show 0 * 512 + f.val = f.val; omega

/-- The place of a point's last weights in their array. -/
theorem emb_w2 (t : Fin (cfgM m g).N) (e : Fin 16) (f : Fin 512) (d : Fin 1024) (he : (words (tbl m) 2 (t.cast N_0)).toNat = e.val) :
    (((cfgM m g).win 3).blk t).view.emb (ix3 (0 : Fin 1) f d) = (ix3 e f d : S16x512x1024.Idx) := by
  have h := ix_expert (tbl m) t
  funext a
  refine Fin.ext (Eq.trans (((cfgM m g).win 3).rect_emb_val t (ix3 (0 : Fin 1) f d) a) ?_)
  match a with
  | ⟨0, _⟩ => refine Eq.trans (congrArg (· * 1 + 0) (congrFun h 0)) ?_; show (words (tbl m) 2 (t.cast N_0)).toNat * 1 + 0 = e.val; omega
  | ⟨1, _⟩ => refine Eq.trans (congrArg (· * 512 + f.val) (congrFun h 1)) ?_; show 0 * 512 + f.val = f.val; omega
  | ⟨2, _⟩ => refine Eq.trans (congrArg (· * 1024 + d.val) (congrFun h 2)) ?_; show 0 * 1024 + d.val = d.val; rw [Nat.zero_mul, Nat.zero_add]

/-- A point's value is its expert on its rows. -/
theorem val_apply (c : Dev nD) (t : Fin (cfgM m g).N) (b : Fin 8) (r : Fin 256) (s : Fin 8192) (d : Fin 1024) (e : Fin 16)
    (hb : (words (tbl m) 0 (t.cast N_0)).toNat = b.val) (hs : (words (tbl m) 1 (t.cast N_0)).toNat * 256 + r.val = s.val)
    (he : (words (tbl m) 2 (t.cast N_0)).toNat = e.val) :
    val m g c t (ix3 0 r d) = Cert.Experts.ex (X5 m c) (X6 m c) (X7 m c) (X8 m c) e b s d := by
  unfold val
  refine (pay_apply _ _ _ _ r d).trans ?_
  unfold Cert.Experts.ex
  have hx : ∀ k : Fin 1024, (iblk m g c 0 t : Vec Ideal S1x256x1024 .f32) (ix3 0 r k) = X5 m c (ix3 b s k) := fun k =>
    (congrArg (V m c main_arg5 : Vec Ideal S8x8192x1024 .f32) (emb_rows m g t b r s k hb hs)).trans (congrFun (V_other m c main_arg5 (by decide)) _)
  have h1 : ∀ (k : Fin 1024) (f : Fin 512), (iblk m g c 1 t : Vec Ideal S1x1024x512 .f32) (ix3 0 k f) = X6 m c (ix3 e k f) := fun k f =>
    (congrArg (V m c main_arg6 : Vec Ideal S16x1024x512 .f32) (emb_w1 m g t e k f he)).trans (congrFun (V_other m c main_arg6 (by decide)) _)
  have h2 : ∀ (k : Fin 1024) (f : Fin 512), (iblk m g c 2 t : Vec Ideal S1x1024x512 .f32) (ix3 0 k f) = X7 m c (ix3 e k f) := fun k f =>
    (congrArg (V m c main_arg7 : Vec Ideal S16x1024x512 .f32) (emb_w3 m g t e k f he)).trans (congrFun (V_other m c main_arg7 (by decide)) _)
  have h3 : ∀ (f : Fin 512), (iblk m g c 3 t : Vec Ideal S1x512x1024 .f32) (ix3 0 f d) = X8 m c (ix3 e f d) := fun f =>
    (congrArg (V m c main_arg8 : Vec Ideal S16x512x1024 .f32) (emb_w2 m g t e f d he)).trans (congrFun (V_other m c main_arg8 (by decide)) _)
  refine Finset.sum_congr rfl fun f _ => ?_
  refine congrArg₂ (· * ·) (congrArg₂ (· * ·) (congrArg _ (Finset.sum_congr rfl fun k _ => ?_)) (Finset.sum_congr rfl fun k _ => ?_)) (h3 f)
  · exact congrArg₂ (· * ·) (hx k) (h1 k f)
  · exact congrArg₂ (· * ·) (hx k) (h2 k f)

/-- The reference's result at the kernel's arguments. -/
abbrev U (c : Dev nD) : FVec Ideal S8x8192x1024 .f32 :=
  Cert.Reference11Ideal.Read.val_main_v54 (F := Ideal) (X0 m c) (X1 m c) (X2 m c) (X5 m c) (X6 m c) (X7 m c) (X8 m c)

/-- The batch rows are in range. -/
theorem range0 (g : Fit m) (c : Dev nD) (t : Fin 256) : (X0 m c (Cert.Experts.ti t)).toNat < 8 := by
  have := g.b t; rw [(words_tbl m c t).1] at this; exact this
/-- The row tiles are in range. -/
theorem range1 (g : Fit m) (c : Dev nD) (t : Fin 256) : (X1 m c (Cert.Experts.ti t)).toNat < 32 := by
  have := g.r t; rw [(words_tbl m c t).2.1] at this; exact this
/-- The experts are in range. -/
theorem range2 (g : Fit m) (c : Dev nD) (t : Fin 256) : (X2 m c (Cert.Experts.ti t)).toNat < 16 := by
  have := g.e t; rw [(words_tbl m c t).2.2] at this; exact this

/-- A point's value is the reference on its rows. -/
theorem val_ref (c : Dev nD) (t : Fin (cfgM m g).N) (b : Fin 8) (r : Fin 256) (s : Fin 8192) (d : Fin 1024)
    (hb : (words (tbl m) 0 (t.cast N_0)).toNat = b.val) (hs : (words (tbl m) 1 (t.cast N_0)).toNat * 256 + r.val = s.val) :
    val m g c t (ix3 0 r d) = U m c (ix3 b s d) := by
  obtain ⟨w0, w1, w2⟩ := words_tbl m c (t.cast N_0)
  have hr := r.isLt
  refine (val_apply m g c t b r s d ⟨_, range2 m g c (t.cast N_0)⟩ hb hs (congrArg BitVec.toNat w2)).trans ?_
  refine (Cert.Experts.ref_taken _ _ _ _ _ _ _ (range0 m g c) (range1 m g c) (range2 m g c) (ix3 b s d) (t.cast N_0) ⟨?_, ?_⟩ fun u hu => ?_).symm
  · exact (congrArg BitVec.toNat w0).symm.trans hb
  · refine (congrArg BitVec.toNat w1).symm.trans ?_
    show (words (tbl m) 1 (t.cast N_0)).toNat = s.val / 256
    omega
  · obtain ⟨v0, v1, v2⟩ := words_tbl m c u
    refine v2.symm.trans ((g.expert u (t.cast N_0) ⟨?_, ?_⟩).trans w2)
    · exact BitVec.eq_of_toNat_eq ((congrArg BitVec.toNat v0).trans (hu.1.trans hb.symm))
    · refine BitVec.eq_of_toNat_eq ((congrArg BitVec.toNat v1).trans (hu.2.trans ?_))
      show s.val / 256 = (words (tbl m) 1 (t.cast N_0)).toNat
      omega

/-- A place of a block of rows is a row and a column. -/
theorem block_place (y : S1x256x1024.Idx) : ∃ (r : Fin 256) (d : Fin 1024), y = ix3 (0 : Fin 1) r d := by
  refine ⟨y 1, y 2, funext fun a => ?_⟩
  match a with
  | ⟨0, _⟩ => exact Subsingleton.elim (α := Fin 1) _ _
  | ⟨1, _⟩ => rfl
  | ⟨2, _⟩ => rfl

/-- What a point writes back is the reference's block. -/
theorem flushed_ref (c : Dev nD) (t : Fin (cfgM m g).N) : (dats m g 0 c).flushed 4 t = (((cfgM m g).win 4).blk t).view.read (Elt Ideal) (U m c) := by
  rw [show (dats m g 0 c).flushed 4 t = val m g c t from after4 m g c t]
  funext (y : S1x256x1024.Idx)
  have hb := g.b (t.cast N_0)
  have hr := g.r (t.cast N_0)
  obtain ⟨r, d, rfl⟩ := block_place y
  have hl := r.isLt
  obtain ⟨b, hb⟩ : ∃ b : Fin 8, (words (tbl m) 0 (t.cast N_0)).toNat = b.val := ⟨⟨_, hb⟩, rfl⟩
  obtain ⟨s, hs⟩ : ∃ s : Fin 8192, (words (tbl m) 1 (t.cast N_0)).toNat * 256 + r.val = s.val :=
    ⟨⟨(words (tbl m) 1 (t.cast N_0)).toNat * 256 + r.val, by omega⟩, rfl⟩
  rw [val_ref m g c t b r s d hb hs]
  generalize U m c = u
  exact (congrArg u (emb_result m g t b r s d hb hs)).symm

/-- A point naming the rows of another writes back after it. -/
theorem flusher (c : Dev nD) : ∀ (n : ℕ) (t : Fin (cfgM m g).N), t.val + n + 1 = (cfgM m g).N →
    ∃ u : Fin (cfgM m g).N, ((cfgM m g).win 4).flush u = true ∧ Same (words (tbl m)) (t.cast N_0) (u.cast N_0) := by
  intro n
  induction n with
  | zero =>
    intro t ht
    refine ⟨t, ?_, rfl, rfl⟩
    unfold Pipeline.Window.flush
    rw [Bool.and_eq_true]
    refine ⟨rfl, ?_⟩
    rw [Bool.or_eq_true, decide_eq_true_eq]
    exact Or.inl (by omega)
  | succ n ih =>
    intro t ht
    by_cases hf : ((cfgM m g).win 4).flush t = true
    · exact ⟨t, hf, rfl, rfl⟩
    · have hp : t.val + 1 < (cfgM m g).N := by omega
      have hs : ix0 (tbl m) 0 (grid0.coords ⟨t.val + 1, hp⟩) = ix0 (tbl m) 0 (grid0.coords t) := by
        by_contra hne
        refine hf ?_
        unfold Pipeline.Window.flush
        rw [Bool.and_eq_true]
        refine ⟨rfl, ?_⟩
        rw [Bool.or_eq_true, decide_eq_true_eq, decide_eq_true_eq]
        exact Or.inr ⟨hp, hne⟩
      have hS := (rows_eq (tbl m) _ t).mp hs
      obtain ⟨u, hu, hq⟩ := ih ⟨t.val + 1, hp⟩ (by show t.val + 1 + n + 1 = _; omega)
      exact ⟨u, hu, hS.1.symm.trans hq.1, hS.2.symm.trans hq.2⟩

/-- The result's array is the reference's result. -/
theorem array_ref (c : Dev nD) (i : S8x8192x1024.Idx) : ((dats m g 0 c).arrAt 4 (cfgM m g).N : Vec Ideal S8x8192x1024 .f32) i = U m c i := by
  by_cases h : ∃ t : Fin 256, (X0 m c (Cert.Experts.ti t)).toNat = (i 0).val ∧ (X1 m c (Cert.Experts.ti t)).toNat = (i 1).val / 256
  · obtain ⟨t', h0, h1⟩ := h
    obtain ⟨t, rfl⟩ : ∃ t : Fin (cfgM m g).N, t.cast N_0 = t' := ⟨t'.cast N_0.symm, rfl⟩
    obtain ⟨u, hu, hq⟩ := flusher m g c ((cfgM m g).N - t.val - 1) t (by have := t.isLt; omega)
    obtain ⟨w0, w1, w2⟩ := words_tbl m c (t.cast N_0)
    refine (dats m g 0 c).arrAt_apply_of_mem 4 (U m c) (fun t _ => flushed_ref m g c t) (cfgM m g).N u i u.isLt hu ?_
    have e := emb_result m g u (i 0) ⟨(i 1).val % 256, Nat.mod_lt _ (by decide)⟩ (i 1) (i 2)
      ((congrArg BitVec.toNat (hq.1.symm.trans w0)).trans h0) (by
        have e1 := (congrArg BitVec.toNat (hq.2.symm.trans w1)).trans h1
        rw [e1]
        show (i 1).val / 256 * 256 + (i 1).val % 256 = (i 1).val
        omega)
    have ei : (ix3 (i 0) (i 1) (i 2) : S8x8192x1024.Idx) = i := by funext a; fin_cases a <;> rfl
    exact (e.trans ei) ▸ View.emb_mem_set _ _
  · have hn : ∀ t : Fin 256, ¬((X0 m c (Cert.Experts.ti t)).toNat = (i 0).val ∧ (X1 m c (Cert.Experts.ti t)).toNat = (i 1).val / 256) := fun t ht => h ⟨t, ht⟩
    refine ((dats m g 0 c).arrAt_apply_of_forall_not_mem 4 (cfgM m g).N i fun t _ _ hi => ?_).trans ?_
    · obtain ⟨y, _, hy⟩ := Finset.mem_map.mp hi
      have hb := g.b (t.cast N_0)
      have hr := g.r (t.cast N_0)
      obtain ⟨r, d, rfl⟩ := block_place y
      have hl := r.isLt
      obtain ⟨b, hb⟩ : ∃ b : Fin 8, (words (tbl m) 0 (t.cast N_0)).toNat = b.val := ⟨⟨_, hb⟩, rfl⟩
      obtain ⟨s, hs⟩ : ∃ s : Fin 8192, (words (tbl m) 1 (t.cast N_0)).toNat * 256 + r.val = s.val :=
        ⟨⟨(words (tbl m) 1 (t.cast N_0)).toNat * 256 + r.val, by omega⟩, rfl⟩
      have e : (ix3 b s d : S8x8192x1024.Idx) = i := (emb_result m g t b r s d hb hs).symm.trans hy
      obtain ⟨w0, w1, w2⟩ := words_tbl m c (t.cast N_0)
      refine hn (t.cast N_0) ⟨?_, ?_⟩
      · rw [← e]
        exact (congrArg BitVec.toNat w0).symm.trans hb
      · rw [← e]
        refine (congrArg BitVec.toNat w1).symm.trans ?_
        show (words (tbl m) 1 (t.cast N_0)).toNat = s.val / 256
        omega
    · refine Eq.trans ?_ (Cert.Experts.ref_kept _ _ _ _ _ _ _ (range0 m g c) (range1 m g c) (range2 m g c) i hn).symm
      rw [A_eq]
      show (V m c main_v0 : Vec Ideal S8x8192x1024 .f32) i = X5 m c i
      entry_read
      rfl

/-- The kernel's run, with its result at the reference's. -/
theorem run_ref (ρ : Dev nD → PrngReg) (g : Fit m) : θ_run defs (onTc (τ := τ) (main (F := Ideal))) ⟨m, fun _ => 0, ρ⟩ (fun r => ∀ c : Dev nD,
      r.2.mem ((c.tc : Thread nD τ).loc main_v0) = U m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => ⟨((hr.1 c).1 4).trans (funext fun i => array_ref m g c i),
      ((hr.1 c).2 main_arg0 (by decide : main_arg0 ∈ Pipeline.restRefs sig spec0)).trans (V_other m c _ (by decide)),
      ((hr.1 c).2 main_arg1 (by decide : main_arg1 ∈ Pipeline.restRefs sig spec0)).trans (V_other m c _ (by decide)),
      ((hr.1 c).2 main_arg2 (by decide : main_arg2 ∈ Pipeline.restRefs sig spec0)).trans (V_other m c _ (by decide)),
      ((hr.1 c).2 main_arg3 (by decide : main_arg3 ∈ Pipeline.restRefs sig spec0)).trans (V_other m c _ (by decide)),
      ((hr.1 c).2 main_arg4 (by decide : main_arg4 ∈ Pipeline.restRefs sig spec0)).trans (V_other m c _ (by decide)),
      ((hr.1 c).1 0).trans (((dats m g 0 c).arrAt_in 0 rfl _).trans ((A_eq m g c 0).trans (V_other m c main_arg5 (by decide)))),
      ((hr.1 c).1 1).trans (((dats m g 0 c).arrAt_in 1 rfl _).trans ((A_eq m g c 1).trans (V_other m c main_arg6 (by decide)))),
      ((hr.1 c).1 2).trans (((dats m g 0 c).arrAt_in 2 rfl _).trans ((A_eq m g c 2).trans (V_other m c main_arg7 (by decide)))),
      ((hr.1 c).1 3).trans (((dats m g 0 c).arrAt_in 3 rfl _).trans ((A_eq m g c 3).trans (V_other m c main_arg8 (by decide))))⟩)
    (runs m ρ g)

/-- The reference runs and its arguments end unchanged. -/
theorem frameR : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The experts' result is the reference's. -/
theorem alg : Cert.algebraic_Kernel11Ideal_Reference11Ideal (hKernel11Ideal := Cert.Kernel11Ideal.Gen.facts) (hReference11Ideal := Cert.Reference11Ideal.Gen.facts)
    (hPre_tiles := preFacts) := by
  intro m ρ m' ρ' hpre hargs
  refine ⟨fun c => U m c, run_ref m ρ (fit m hpre), ?_⟩
  refine (θ_run Cert.Reference11Ideal.defs _ _).mono (fun r h c => ?_) (Cert.Reference11Ideal.Value.run (F := Ideal) m' ρ')
  obtain ⟨e0, ea⟩ := h c
  obtain ⟨a0, a1, a2, a3, a4, a5, a6, a7, a8⟩ := hargs c
  refine ⟨?_, ea⟩
  rw [e0, Cert.Reference11Ideal.Read.val_main_v54_eq, a0, a1, a2, a5, a6, a7, a8]

end Cert.Kernel11Ideal.Tile
end
-- ==== Proof.Inp.lean ====
/-
  The recurrent layer's input projection: its blocks, put together, are the conditioned stream times the weights.
-/
module
public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Adequacy
@[expose] public section
set_option maxRecDepth 16384
noncomputable section
namespace Cert.Kernel2Ideal.Inp
open Cert.Kernel2Ideal Cert.Kernel2Ideal.Gen Idealize.ShloMosaic Idealize.ShloMosaic.TcCoe Idealize.SL.Sem
variable (m : (ℓ : Loc nD τ sig) → Buf (Elt Ideal) ℓ)
/-- The tokens' stream. -/
abbrev X (c : Dev nD) : Vec Ideal S8x2048x1024 .f32 := m ((c : Thread nD τ).loc main_arg0)
/-- The conditioning vectors. -/
abbrev Md (c : Dev nD) : Vec Ideal S8x1x6144 .f32 := m ((c : Thread nD τ).loc main_arg1)
/-- The weights. -/
abbrev W (c : Dev nD) : Vec Ideal S1024x4096 .f32 := m ((c : Thread nD τ).loc main_arg2)
/-- The constant one, as the programs write it. -/
abbrev one : EReal := Ideal.ofBits .f32 0x3F800000#32
/-- The conditioned stream times the weights. -/
def prod (x : Vec Ideal S8x2048x1024 .f32) (md : Vec Ideal S8x1x6144 .f32) (w : Vec Ideal S1024x4096 .f32) (b : Fin 8) (s : Fin 2048) (n : Fin 4096) : EReal :=
  ∑ k : Fin 1024, (x (ix3 b s k) * (one + md (ix3 b 0 ⟨1024 + k.val, by omega⟩)) + md (ix3 b 0 ⟨k.val, by omega⟩)) * w (ix2 k n)

/-- The blocks' places, decided over the grid. -/
theorem widx : ∀ t : Fin cfg0.N, win0_0.index t = ![t.val / 4, t.val % 4, 0] ∧ win0_1.index t = ![t.val / 4, 0, 1]
    ∧ win0_2.index t = ![t.val / 4, 0, 0] ∧ win0_3.index t = ![0, 0] ∧ win0_4.index t = ![t.val / 4, t.val % 4, 0] ∧ win0_5.index t = ![t.val / 4, t.val % 4, 0] := by decide +kernel
/-- Every point writes its blocks back. -/
theorem flushes : ∀ t : Fin cfg0.N, (cfg0.win 4).flush t = true ∧ (cfg0.win 5).flush t = true := by decide +kernel
/-- The staged weights are the weights. -/
theorem staged (c : Dev nD) (k : Fin 1024) (n : Fin 4096) :
    (V m c main_v0 : Vec Ideal S1024x4096 .bf16) (ix2 k n) = W m c (ix2 k n) := by
  entry_read
  rfl
/-- The tokens' block. -/
theorem blkx (c : Dev nD) (t : Fin cfg0.N) (x : Fin 512) (k : Fin 1024) (b : Fin 8) (s : Fin 2048)
    (hb : b.val = t.val / 4) (hs : s.val = 512 * (t.val % 4) + x.val) :
    (iblk m c 0 t : Vec Ideal S1x512x1024 .f32) (ix3 0 x k) = X m c (ix3 b s k) := by
  show _ = (m ((c : Thread nD τ).loc main_arg0) : Vec Ideal S8x2048x1024 .f32) _
  rw [← V_main_arg0 m c]
  refine congrArg (V m c main_arg0 : Vec Ideal S8x2048x1024 .f32) ?_
  blk_ext [widx t]
/-- The scales' block. -/
theorem blksc (c : Dev nD) (t : Fin cfg0.N) (k : Fin 1024) (b : Fin 8) (hb : b.val = t.val / 4) :
    (iblk m c 1 t : Vec Ideal S1x1x1024 .f32) (ix3 0 0 k) = Md m c (ix3 b 0 ⟨1024 + k.val, by omega⟩) := by
  show _ = (m ((c : Thread nD τ).loc main_arg1) : Vec Ideal S8x1x6144 .f32) _
  rw [← V_main_arg1 m c]
  refine congrArg (V m c main_arg1 : Vec Ideal S8x1x6144 .f32) ?_
  blk_ext [widx t]
/-- The shifts' block. -/
theorem blksh (c : Dev nD) (t : Fin cfg0.N) (k : Fin 1024) (b : Fin 8) (hb : b.val = t.val / 4) :
    (iblk m c 2 t : Vec Ideal S1x1x1024 .f32) (ix3 0 0 k) = Md m c (ix3 b 0 ⟨k.val, by omega⟩) := by
  show _ = (m ((c : Thread nD τ).loc main_arg1) : Vec Ideal S8x1x6144 .f32) _
  rw [← V_main_arg1 m c]
  refine congrArg (V m c main_arg1 : Vec Ideal S8x1x6144 .f32) ?_
  blk_ext [widx t]
/-- The weights' block is the weights. -/
theorem blkw (c : Dev nD) (t : Fin cfg0.N) (k : Fin 1024) (n : Fin 4096) :
    (iblk m c 3 t : Vec Ideal S1024x4096 .bf16) (ix2 k n) = W m c (ix2 k n) := by
  refine Eq.trans (congrArg (V m c main_v0 : Vec Ideal S1024x4096 .bf16) ?_) (staged m c k n)
  blk_ext [widx t]
/-- The product of a block. -/
theorem pay1 (x : Vec Ideal S1x512x1024 .f32) (sc sh : Vec Ideal S1x1x1024 .f32) (w : Vec Ideal S1024x4096 .bf16) (s : Fin 512) (n : Fin 4096) :
    k0_pay1 x sc sh w (ix2 s n) = ∑ k : Fin 1024, (x (ix3 0 s k) * (one + sc (ix3 0 0 k)) + sh (ix3 0 0 k)) * w (ix2 k n) := by
  pointwise [k0_pay1]
/-- A column of the product of point `t`'s block. -/
theorem blockdot (c : Dev nD) (b : Fin 8) (s : Fin 2048) (n : Fin 4096) (t : Fin cfg0.N) (ht : t.val = 4 * b.val + s.val / 512) :
    k0_pay1 (View.ld (iblk m c 0 t) r0_0) (View.ld (iblk m c 1 t) r0_1) (View.ld (iblk m c 2 t) r0_1) (View.ld (iblk m c 3 t) r0_2) (ix2 ⟨s.val % 512, by omega⟩ n)
      = prod (X m c) (Md m c) (W m c) b s n := by
  have e0 : View.ld (iblk m c 0 t) r0_0 = iblk m c 0 t := View.ld_unit_lit (S := S1x512x1024) _ (iblk m c 0 t) (by decide)
  have e1 : View.ld (iblk m c 1 t) r0_1 = iblk m c 1 t := View.ld_unit_lit (S := S1x1x1024) _ (iblk m c 1 t) (by decide)
  have e2 : View.ld (iblk m c 2 t) r0_1 = iblk m c 2 t := View.ld_unit_lit (S := S1x1x1024) _ (iblk m c 2 t) (by decide)
  have e3 : View.ld (iblk m c 3 t) r0_2 = iblk m c 3 t := View.ld_unit_lit (S := S1024x4096) _ (iblk m c 3 t) (by decide)
  rw [e0, e1, e2, e3, pay1]
  refine Finset.sum_congr rfl fun k _ => ?_
  rw [blkx m c t ⟨s.val % 512, by omega⟩ k b s (by omega) (by dsimp only; omega), blksc m c t k b (by omega), blksh m c t k b (by omega), blkw m c t k n]
/-- The first half's final elements. -/
theorem first (c : Dev nD) (b : Fin 8) (s : Fin 2048) (n : Fin 2048) :
    ((dats m 0 c).arrAt 4 cfg0.N : Vec Ideal S8x2048x2048 .f32) (ix3 b s n) = prod (X m c) (Md m c) (W m c) b s ⟨n.val, by omega⟩ := by
  have hN : 4 * b.val + s.val / 512 < cfg0.N := by rw [show cfg0.N = 32 from N_0]; omega
  obtain ⟨t, ht⟩ : ∃ t : Fin cfg0.N, t.val = 4 * b.val + s.val / 512 := ⟨⟨_, hN⟩, rfl⟩
  have hf := congrFun (Value.blocks4 m c t (flushes t).1) (ix3 0 ⟨s.val % 512, by omega⟩ n)
  have he : ((cfg0.win 4).blk t).view.emb (ix3 0 ⟨s.val % 512, by omega⟩ n) = ix3 b s n := by
    blk_ext [widx t]
  rw [Value.flushed4] at hf
  have h' : (dats m 0 c).arrAt 4 cfg0.N (((cfg0.win 4).blk t).view.emb (ix3 0 ⟨s.val % 512, by omega⟩ n)) = out0_4 (iblk m c 0 t) (iblk m c 1 t) (iblk m c 2 t) (iblk m c 3 t) (ix3 0 ⟨s.val % 512, by omega⟩ n) := hf
  rw [he] at h'
  refine h'.trans ?_
  unfold out0_4
  rw [Value.canon4_eq]
  exact blockdot m c b s ⟨n.val, by omega⟩ t ht
/-- The second half's final elements. -/
theorem second (c : Dev nD) (b : Fin 8) (s : Fin 2048) (n : Fin 2048) :
    ((dats m 0 c).arrAt 5 cfg0.N : Vec Ideal S8x2048x2048 .f32) (ix3 b s n) = prod (X m c) (Md m c) (W m c) b s ⟨n.val + 2048, by omega⟩ := by
  have hN : 4 * b.val + s.val / 512 < cfg0.N := by rw [show cfg0.N = 32 from N_0]; omega
  obtain ⟨t, ht⟩ : ∃ t : Fin cfg0.N, t.val = 4 * b.val + s.val / 512 := ⟨⟨_, hN⟩, rfl⟩
  have hf := congrFun (Value.blocks5 m c t (flushes t).2) (ix3 0 ⟨s.val % 512, by omega⟩ n)
  have he : ((cfg0.win 5).blk t).view.emb (ix3 0 ⟨s.val % 512, by omega⟩ n) = ix3 b s n := by
    blk_ext [widx t]
  rw [Value.flushed5] at hf
  have h' : (dats m 0 c).arrAt 5 cfg0.N (((cfg0.win 5).blk t).view.emb (ix3 0 ⟨s.val % 512, by omega⟩ n)) = out0_5 (iblk m c 0 t) (iblk m c 1 t) (iblk m c 2 t) (iblk m c 3 t) (ix3 0 ⟨s.val % 512, by omega⟩ n) := hf
  rw [he] at h'
  refine h'.trans ?_
  unfold out0_5
  rw [Value.canon5_eq]
  exact blockdot m c b s ⟨n.val + 2048, by omega⟩ t ht

open Cert.Reference2Ideal.Read in
/-- The reference's product at an index. -/
theorem refprod (x : Vec Ideal S8x2048x1024 .f32) (md : Vec Ideal S8x1x6144 .f32) (w : Vec Ideal S1024x4096 .f32) (b : Fin 8) (s : Fin 2048) (n : Fin 4096) :
    val_main_v12 (F := Ideal) x md w (ix3 b s n) = prod x md w b s n := by
  rw [val_main_v12_apply]
  unfold prod
  refine Finset.sum_congr rfl fun k _ => ?_
  rw [show lidx_main_v12 (ix3 b s n) k = ix3 b s k by funext w; fin_cases w <;> rfl,
    show ridx_main_v12 (ix3 b s n) k = ix2 k n by funext w; fin_cases w <;> rfl]
  rw [val_main_v11_apply, val_main_v10_apply, val_main_v9_apply, val_main_v8_apply, val_main_v7_apply, val_main_v6_apply, val_main_v1_apply, val_main_v0_apply]
  rw [show idx_main_v0 (idx_main_v10 (ix3 b s k)) = ix3 b 0 ⟨k.val, by omega⟩ by funext w; fin_cases w <;> rfl,
    show idx_main_v1 (idx_main_v8 (ix3 b s k)) = ix3 b 0 ⟨1024 + k.val, by omega⟩ by funext w; fin_cases w <;> rfl]
  rfl
/-- The reference runs and its arguments end unchanged. -/
theorem frameR : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)
/-- The first half is the reference's. -/
theorem first_eq (c : Dev nD) : ((dats m 0 c).arrAt 4 cfg0.N : Vec Ideal S8x2048x2048 .f32) = Cert.Reference2Ideal.Read.val_main_v13 (F := Ideal) (X m c) (Md m c) (W m c) := by
  funext i
  obtain ⟨b, s, n, rfl⟩ : ∃ (b : Fin 8) (s : Fin 2048) (n : Fin 2048), i = ix3 b s n := ⟨i 0, i 1, i 2, by funext w; fin_cases w <;> rfl⟩
  rw [first, Cert.Reference2Ideal.Read.val_main_v13_apply, show Cert.Reference2Ideal.Read.idx_main_v13 (ix3 b s n) = ix3 b s ⟨n.val, by omega⟩ by funext w; fin_cases w <;> rfl]
  exact (refprod _ _ _ _ _ _).symm
/-- The second half is the reference's. -/
theorem second_eq (c : Dev nD) : ((dats m 0 c).arrAt 5 cfg0.N : Vec Ideal S8x2048x2048 .f32) = Cert.Reference2Ideal.Read.val_main_v14 (F := Ideal) (X m c) (Md m c) (W m c) := by
  funext i
  obtain ⟨b, s, n, rfl⟩ : ∃ (b : Fin 8) (s : Fin 2048) (n : Fin 2048), i = ix3 b s n := ⟨i 0, i 1, i 2, by funext w; fin_cases w <;> rfl⟩
  rw [second, Cert.Reference2Ideal.Read.val_main_v14_apply,
    show Cert.Reference2Ideal.Read.idx_main_v14 (ix3 b s n) = ix3 b s ⟨n.val + 2048, by omega⟩ by funext w; fin_cases w <;> first | rfl | exact Fin.ext (Nat.add_comm _ _)]
  exact (refprod _ _ _ _ _ _).symm
/-- The projection's two results are the reference's. -/
theorem alg : Cert.algebraic_Kernel2Ideal_Reference2Ideal (hKernel2Ideal := Cert.Kernel2Ideal.Gen.facts) (hReference2Ideal := Cert.Reference2Ideal.Gen.facts) := by
  intro m g m' g' _ hargs
  refine ⟨fun c => (dats m 0 c).arrAt 4 cfg0.N, fun c => (dats m 0 c).arrAt 5 cfg0.N, Cert.Kernel2Ideal.Value.run_blocks m g, ?_⟩
  refine (θ_run Cert.Reference2Ideal.defs _ _).mono (fun r h c => ?_) (Cert.Reference2Ideal.Value.run (F := Ideal) m' g')
  obtain ⟨e0, e1, ea⟩ := h c
  obtain ⟨a0, a1, a2⟩ := hargs c
  refine ⟨?_, ?_, ea⟩
  · rw [e0, a0, a1, a2]
    exact (first_eq m c).symm
  · rw [e1, a0, a1, a2]
    exact (second_eq m c).symm
end Cert.Kernel2Ideal.Inp
end
-- ==== Proof.Keys.lean ====
/-
  The shared keys and values of the prompt: the projection's blocks, put together, are the two products.
-/
module
public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Adequacy
@[expose] public section
set_option maxRecDepth 16384
noncomputable section
namespace Cert.Kernel3Ideal.Keys
open Cert.Kernel3Ideal Cert.Kernel3Ideal.Gen Idealize.ShloMosaic Idealize.ShloMosaic.TcCoe Idealize.SL.Sem
variable (m : (ℓ : Loc nD τ sig) → Buf (Elt Ideal) ℓ)
/-- The tokens' stream. -/
abbrev X (c : Dev nD) : Vec Ideal S8x2048x1024 .f32 := m ((c : Thread nD τ).loc main_arg0)
/-- The keys' weights. -/
abbrev Wk (c : Dev nD) : Vec Ideal S1024x1024 .f32 := m ((c : Thread nD τ).loc main_arg1)
/-- The values' weights. -/
abbrev Wv (c : Dev nD) : Vec Ideal S1024x1024 .f32 := m ((c : Thread nD τ).loc main_arg2)
/-- The keys that the run leaves. -/
abbrev K (c : Dev nD) : Vec Ideal S8x2048x1024 .f32 := (dats m 0 c).arrAt 2 cfg0.N
/-- The values that the run leaves. -/
abbrev U (c : Dev nD) : Vec Ideal S8x2048x1024 .f32 := (dats m 0 c).arrAt 3 cfg0.N

/-- The blocks' places, decided over the grid. -/
theorem widx : ∀ t : Fin cfg0.N, win0_0.index t = ![t.val / 4, t.val % 4, 0] ∧ win0_1.index t = ![0, 0]
    ∧ win0_2.index t = ![t.val / 4, t.val % 4, 0] ∧ win0_3.index t = ![t.val / 4, t.val % 4, 0] := by decide +kernel

/-- The two weights, staged side by side: the keys' part. -/
theorem wk (c : Dev nD) (k n : Fin 1024) (n' : Fin 2048) (hn : n'.val = n.val) :
    (V m c main_v1 : Vec Ideal S1024x2048 .bf16) (ix2 k n') = Wk m c (ix2 k n) := by
  entry_read
  pointwise
  rw [dif_pos (by omega)]
  exact congrArg (fun z => Wk m c (ix2 k z)) (Fin.ext hn)
/-- The two weights, staged side by side: the values' part. -/
theorem wv (c : Dev nD) (k n : Fin 1024) (n' : Fin 2048) (hn : n'.val = n.val + 1024) :
    (V m c main_v1 : Vec Ideal S1024x2048 .bf16) (ix2 k n') = Wv m c (ix2 k n) := by
  entry_read
  pointwise
  rw [dif_neg (by omega)]
  exact congrArg (fun z => Wv m c (ix2 k z)) (Fin.ext (by dsimp only; omega))
/-- The tokens' block. -/
theorem blkx (c : Dev nD) (t : Fin cfg0.N) (x : Fin 512) (k : Fin 1024) (b : Fin 8) (s : Fin 2048)
    (hb : b.val = t.val / 4) (hs : s.val = 512 * (t.val % 4) + x.val) :
    (iblk m c 0 t : Vec Ideal S1x512x1024 .f32) (ix3 0 x k) = X m c (ix3 b s k) := by
  show _ = (m ((c : Thread nD τ).loc main_arg0) : Vec Ideal S8x2048x1024 .f32) _
  rw [← V_main_arg0 m c]
  refine congrArg (V m c main_arg0 : Vec Ideal S8x2048x1024 .f32) ?_
  blk_ext [widx t]
/-- The weights' block is the weights. -/
theorem blkw (c : Dev nD) (t : Fin cfg0.N) (k : Fin 1024) (n : Fin 2048) :
    (iblk m c 1 t : Vec Ideal S1024x2048 .bf16) (ix2 k n) = (V m c main_v1 : Vec Ideal S1024x2048 .bf16) (ix2 k n) := by
  refine congrArg (V m c main_v1 : Vec Ideal S1024x2048 .bf16) ?_
  blk_ext [widx t]
/-- The product of a block. -/
theorem pay1 (x : Vec Ideal S1x512x1024 .f32) (w : Vec Ideal S1024x2048 .bf16) (s : Fin 512) (n : Fin 2048) :
    k0_pay1 x w (ix2 s n) = ∑ k : Fin 1024, x (ix3 0 s k) * w (ix2 k n) := by
  pointwise [k0_pay1]
/-- Every point writes its blocks back. -/
theorem flushes : ∀ t : Fin cfg0.N, (cfg0.win 2).flush t = true ∧ (cfg0.win 3).flush t = true := by decide +kernel
/-- A column of the product of point `t`'s block. -/
theorem blockdot (c : Dev nD) (b : Fin 8) (s : Fin 2048) (n : Fin 2048) (t : Fin cfg0.N) (ht : t.val = 4 * b.val + s.val / 512) :
    k0_pay1 (View.ld (iblk m c 0 t) r0_0) (View.ld (iblk m c 1 t) r0_1) (ix2 ⟨s.val % 512, by omega⟩ n)
      = ∑ k : Fin 1024, X m c (ix3 b s k) * (V m c main_v1 : Vec Ideal S1024x2048 .bf16) (ix2 k n) := by
  have e0 : View.ld (iblk m c 0 t) r0_0 = iblk m c 0 t := View.ld_unit_lit (S := S1x512x1024) _ (iblk m c 0 t) (by decide)
  have e1 : View.ld (iblk m c 1 t) r0_1 = iblk m c 1 t := View.ld_unit_lit (S := S1024x2048) _ (iblk m c 1 t) (by decide)
  rw [e0, e1, pay1]
  refine Finset.sum_congr rfl fun k _ => ?_
  rw [blkx m c t ⟨s.val % 512, by omega⟩ k b s (by omega) (by dsimp only; omega), blkw m c t k n]
/-- The keys' final elements. -/
theorem keys (c : Dev nD) (b : Fin 8) (s : Fin 2048) (n : Fin 1024) :
    K m c (ix3 b s n) = ∑ k : Fin 1024, X m c (ix3 b s k) * Wk m c (ix2 k n) := by
  have hN : 4 * b.val + s.val / 512 < cfg0.N := by rw [show cfg0.N = 32 from N_0]; omega
  obtain ⟨t, ht⟩ : ∃ t : Fin cfg0.N, t.val = 4 * b.val + s.val / 512 := ⟨⟨_, hN⟩, rfl⟩
  have hf := congrFun (Value.blocks2 m c t (flushes t).1) (ix3 0 ⟨s.val % 512, by omega⟩ n)
  have he : ((cfg0.win 2).blk t).view.emb (ix3 0 ⟨s.val % 512, by omega⟩ n) = ix3 b s n := by
    blk_ext [widx t]
  rw [Value.flushed2] at hf
  have h' : (dats m 0 c).arrAt 2 cfg0.N (((cfg0.win 2).blk t).view.emb (ix3 0 ⟨s.val % 512, by omega⟩ n)) = out0_2 (iblk m c 0 t) (iblk m c 1 t) (ix3 0 ⟨s.val % 512, by omega⟩ n) := hf
  rw [he] at h'
  refine h'.trans ?_
  unfold out0_2
  rw [Value.canon2_eq]
  refine (blockdot m c b s ⟨n.val, by omega⟩ t ht).trans (Finset.sum_congr rfl fun k _ => ?_)
  rw [wk m c k n ⟨n.val, by omega⟩ rfl]
/-- The values' final elements. -/
theorem values (c : Dev nD) (b : Fin 8) (s : Fin 2048) (n : Fin 1024) :
    U m c (ix3 b s n) = ∑ k : Fin 1024, X m c (ix3 b s k) * Wv m c (ix2 k n) := by
  have hN : 4 * b.val + s.val / 512 < cfg0.N := by rw [show cfg0.N = 32 from N_0]; omega
  obtain ⟨t, ht⟩ : ∃ t : Fin cfg0.N, t.val = 4 * b.val + s.val / 512 := ⟨⟨_, hN⟩, rfl⟩
  have hf := congrFun (Value.blocks3 m c t (flushes t).2) (ix3 0 ⟨s.val % 512, by omega⟩ n)
  have he : ((cfg0.win 3).blk t).view.emb (ix3 0 ⟨s.val % 512, by omega⟩ n) = ix3 b s n := by
    blk_ext [widx t]
  rw [Value.flushed3] at hf
  have h' : (dats m 0 c).arrAt 3 cfg0.N (((cfg0.win 3).blk t).view.emb (ix3 0 ⟨s.val % 512, by omega⟩ n)) = out0_3 (iblk m c 0 t) (iblk m c 1 t) (ix3 0 ⟨s.val % 512, by omega⟩ n) := hf
  rw [he] at h'
  refine h'.trans ?_
  unfold out0_3
  rw [Value.canon3_eq]
  refine (blockdot m c b s ⟨n.val + 1024, by omega⟩ t ht).trans (Finset.sum_congr rfl fun k _ => ?_)
  rw [wv m c k n ⟨n.val + 1024, by omega⟩ rfl]

/-- The reference's products at an index. -/
theorem refdot (x : Vec Ideal S8x2048x1024 .f32) (w : Vec Ideal S1024x1024 .f32) (b : Fin 8) (s : Fin 2048) (n : Fin 1024) :
    Cert.Reference3Ideal.Read.val_main_v0 (F := Ideal) x w (ix3 b s n) = ∑ k : Fin 1024, x (ix3 b s k) * w (ix2 k n) := by
  rw [Cert.Reference3Ideal.Read.val_main_v0_apply]
  refine Finset.sum_congr rfl fun k _ => ?_
  rw [show Cert.Reference3Ideal.Read.lidx_main_v0 (ix3 b s n) k = ix3 b s k by funext w; fin_cases w <;> rfl,
    show Cert.Reference3Ideal.Read.ridx_main_v0 (ix3 b s n) k = ix2 k n by funext w; fin_cases w <;> rfl]
/-- The keys are the reference's. -/
theorem keys_eq (c : Dev nD) : K m c = Cert.Reference3Ideal.Read.val_main_v0 (F := Ideal) (X m c) (Wk m c) := by
  funext i
  obtain ⟨b, s, n, rfl⟩ : ∃ (b : Fin 8) (s : Fin 2048) (n : Fin 1024), i = ix3 b s n := ⟨i 0, i 1, i 2, by funext w; fin_cases w <;> rfl⟩
  rw [keys, refdot]
/-- The values are the reference's. -/
theorem values_eq (c : Dev nD) : U m c = Cert.Reference3Ideal.Read.val_main_v0 (F := Ideal) (X m c) (Wv m c) := by
  funext i
  obtain ⟨b, s, n, rfl⟩ : ∃ (b : Fin 8) (s : Fin 2048) (n : Fin 1024), i = ix3 b s n := ⟨i 0, i 1, i 2, by funext w; fin_cases w <;> rfl⟩
  rw [values, refdot]

/-- The reference runs and its arguments end unchanged. -/
theorem frameR : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)
/-- The projection's two results are the reference's. -/
theorem alg : Cert.algebraic_Kernel3Ideal_Reference3Ideal (hKernel3Ideal := Cert.Kernel3Ideal.Gen.facts) (hReference3Ideal := Cert.Reference3Ideal.Gen.facts) := by
  intro m g m' g' _ hargs
  refine ⟨fun c => K m c, fun c => U m c, Cert.Kernel3Ideal.Value.run_blocks m g, ?_⟩
  refine (θ_run Cert.Reference3Ideal.defs _ _).mono (fun r h c => ?_) (Cert.Reference3Ideal.Value.run (F := Ideal) m' g')
  obtain ⟨e0, e1, ea⟩ := h c
  obtain ⟨a0, a1, a2⟩ := hargs c
  refine ⟨?_, ?_, ea⟩
  · rw [e0, a0, a1]
    exact (keys_eq m c).symm
  · rw [e1, a0, a2]
    exact (values_eq m c).symm
end Cert.Kernel3Ideal.Keys
end
-- ==== Proof.Queries.lean ====
/-
  The queries of the attention layer: the projection's blocks, put together, are the conditioned stream times the weights, scaled.
-/
module
public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Adequacy
@[expose] public section
set_option maxRecDepth 16384
noncomputable section
namespace Cert.Kernel4Ideal.Queries
open Cert.Kernel4Ideal Cert.Kernel4Ideal.Gen Idealize.ShloMosaic Idealize.ShloMosaic.TcCoe Idealize.SL.Sem
variable (m : (ℓ : Loc nD τ sig) → Buf (Elt Ideal) ℓ)
/-- The tokens' stream. -/
abbrev X (c : Dev nD) : Vec Ideal S8x2048x1024 .f32 := m ((c : Thread nD τ).loc main_arg0)
/-- The conditioning vectors. -/
abbrev Md (c : Dev nD) : Vec Ideal S8x1x6144 .f32 := m ((c : Thread nD τ).loc main_arg1)
/-- The weights. -/
abbrev W (c : Dev nD) : Vec Ideal S1024x1024 .f32 := m ((c : Thread nD τ).loc main_arg2)
/-- The constant one, as the programs write it. -/
abbrev one : EReal := Ideal.ofBits .f32 0x3F800000#32
/-- The conditioned stream times the weights. -/
def prod (x : Vec Ideal S8x2048x1024 .f32) (md : Vec Ideal S8x1x6144 .f32) (w : Vec Ideal S1024x1024 .f32) (b : Fin 8) (s : Fin 2048) (n : Fin 1024) : EReal :=
  ∑ k : Fin 1024, (x (ix3 b s k) * (one + md (ix3 b 0 ⟨1024 + k.val, by omega⟩)) + md (ix3 b 0 ⟨k.val, by omega⟩)) * w (ix2 k n)

/-- The blocks' places, decided over the grid. -/
theorem widx : ∀ t : Fin cfg0.N, win0_0.index t = ![t.val / 4, t.val % 4, 0] ∧ win0_1.index t = ![t.val / 4, 0, 1]
    ∧ win0_2.index t = ![t.val / 4, 0, 0] ∧ win0_3.index t = ![0, 0] ∧ win0_4.index t = ![t.val / 4, t.val % 4, 0] := by decide +kernel
/-- Every point writes its blocks back. -/
theorem flushes : ∀ t : Fin cfg0.N, (cfg0.win 4).flush t = true := by decide +kernel
/-- The staged weights are the weights. -/
theorem staged (c : Dev nD) (k : Fin 1024) (n : Fin 1024) :
    (V m c main_v0 : Vec Ideal S1024x1024 .bf16) (ix2 k n) = W m c (ix2 k n) := by
  entry_read
  rfl
/-- The tokens' block. -/
theorem blkx (c : Dev nD) (t : Fin cfg0.N) (x : Fin 512) (k : Fin 1024) (b : Fin 8) (s : Fin 2048)
    (hb : b.val = t.val / 4) (hs : s.val = 512 * (t.val % 4) + x.val) :
    (iblk m c 0 t : Vec Ideal S1x512x1024 .f32) (ix3 0 x k) = X m c (ix3 b s k) := by
  show _ = (m ((c : Thread nD τ).loc main_arg0) : Vec Ideal S8x2048x1024 .f32) _
  rw [← V_main_arg0 m c]
  refine congrArg (V m c main_arg0 : Vec Ideal S8x2048x1024 .f32) ?_
  blk_ext [widx t]
/-- The scales' block. -/
theorem blksc (c : Dev nD) (t : Fin cfg0.N) (k : Fin 1024) (b : Fin 8) (hb : b.val = t.val / 4) :
    (iblk m c 1 t : Vec Ideal S1x1x1024 .f32) (ix3 0 0 k) = Md m c (ix3 b 0 ⟨1024 + k.val, by omega⟩) := by
  show _ = (m ((c : Thread nD τ).loc main_arg1) : Vec Ideal S8x1x6144 .f32) _
  rw [← V_main_arg1 m c]
  refine congrArg (V m c main_arg1 : Vec Ideal S8x1x6144 .f32) ?_
  blk_ext [widx t]
/-- The shifts' block. -/
theorem blksh (c : Dev nD) (t : Fin cfg0.N) (k : Fin 1024) (b : Fin 8) (hb : b.val = t.val / 4) :
    (iblk m c 2 t : Vec Ideal S1x1x1024 .f32) (ix3 0 0 k) = Md m c (ix3 b 0 ⟨k.val, by omega⟩) := by
  show _ = (m ((c : Thread nD τ).loc main_arg1) : Vec Ideal S8x1x6144 .f32) _
  rw [← V_main_arg1 m c]
  refine congrArg (V m c main_arg1 : Vec Ideal S8x1x6144 .f32) ?_
  blk_ext [widx t]
/-- The weights' block is the weights. -/
theorem blkw (c : Dev nD) (t : Fin cfg0.N) (k : Fin 1024) (n : Fin 1024) :
    (iblk m c 3 t : Vec Ideal S1024x1024 .bf16) (ix2 k n) = W m c (ix2 k n) := by
  refine Eq.trans (congrArg (V m c main_v0 : Vec Ideal S1024x1024 .bf16) ?_) (staged m c k n)
  blk_ext [widx t]
/-- The queries' scale, as the programs write it. -/
abbrev scale : EReal := Ideal.ofBits .f32 0x3E000000#32
/-- The scaled product of a block. -/
theorem pay1 (x : Vec Ideal S1x512x1024 .f32) (sc sh : Vec Ideal S1x1x1024 .f32) (w : Vec Ideal S1024x1024 .bf16) (s : Fin 512) (n : Fin 1024) :
    k0_pay1 x sc sh w (ix3 0 s n) = (∑ k : Fin 1024, (x (ix3 0 s k) * (one + sc (ix3 0 0 k)) + sh (ix3 0 0 k)) * w (ix2 k n)) * scale := by
  pointwise [k0_pay1]
/-- An element of the scaled product of point `t`'s block. -/
theorem blockdot (c : Dev nD) (b : Fin 8) (s : Fin 2048) (n : Fin 1024) (t : Fin cfg0.N) (ht : t.val = 4 * b.val + s.val / 512) :
    k0_pay1 (View.ld (iblk m c 0 t) r0_0) (View.ld (iblk m c 1 t) r0_1) (View.ld (iblk m c 2 t) r0_1) (View.ld (iblk m c 3 t) r0_2) (ix3 0 ⟨s.val % 512, by omega⟩ n)
      = prod (X m c) (Md m c) (W m c) b s n * scale := by
  have e0 : View.ld (iblk m c 0 t) r0_0 = iblk m c 0 t := View.ld_unit_lit (S := S1x512x1024) _ (iblk m c 0 t) (by decide)
  have e1 : View.ld (iblk m c 1 t) r0_1 = iblk m c 1 t := View.ld_unit_lit (S := S1x1x1024) _ (iblk m c 1 t) (by decide)
  have e2 : View.ld (iblk m c 2 t) r0_1 = iblk m c 2 t := View.ld_unit_lit (S := S1x1x1024) _ (iblk m c 2 t) (by decide)
  have e3 : View.ld (iblk m c 3 t) r0_2 = iblk m c 3 t := View.ld_unit_lit (S := S1024x1024) _ (iblk m c 3 t) (by decide)
  rw [e0, e1, e2, e3, pay1]
  refine congrArg (· * scale) (Finset.sum_congr rfl fun k _ => ?_)
  rw [blkx m c t ⟨s.val % 512, by omega⟩ k b s (by omega) (by dsimp only; omega), blksc m c t k b (by omega), blksh m c t k b (by omega), blkw m c t k n]
/-- The queries' final elements. -/
theorem queries (c : Dev nD) (b : Fin 8) (s : Fin 2048) (n : Fin 1024) :
    ((dats m 0 c).arrAt 4 cfg0.N : Vec Ideal S8x2048x1024 .bf16) (ix3 b s n) = prod (X m c) (Md m c) (W m c) b s n * scale := by
  have hN : 4 * b.val + s.val / 512 < cfg0.N := by rw [show cfg0.N = 32 from N_0]; omega
  obtain ⟨t, ht⟩ : ∃ t : Fin cfg0.N, t.val = 4 * b.val + s.val / 512 := ⟨⟨_, hN⟩, rfl⟩
  have hf := congrFun (Value.blocks4 m c t (flushes t)) (ix3 0 ⟨s.val % 512, by omega⟩ n)
  have he : ((cfg0.win 4).blk t).view.emb (ix3 0 ⟨s.val % 512, by omega⟩ n) = ix3 b s n := by
    blk_ext [widx t]
  rw [Value.flushed4] at hf
  have h' : (dats m 0 c).arrAt 4 cfg0.N (((cfg0.win 4).blk t).view.emb (ix3 0 ⟨s.val % 512, by omega⟩ n)) = out0_4 (iblk m c 0 t) (iblk m c 1 t) (iblk m c 2 t) (iblk m c 3 t) (ix3 0 ⟨s.val % 512, by omega⟩ n) := hf
  rw [he] at h'
  refine h'.trans ?_
  have ho : out0_4 (iblk m c 0 t) (iblk m c 1 t) (iblk m c 2 t) (iblk m c 3 t) = k0_pay1 (View.ld (iblk m c 0 t) r0_0) (View.ld (iblk m c 1 t) r0_1) (View.ld (iblk m c 2 t) r0_1) (View.ld (iblk m c 3 t) r0_2) := by
    unfold out0_4
    exact View.canon_cons_unit_lit (S := S1x512x1024) _ _ _ (by decide)
  rw [ho]
  exact blockdot m c b s n t ht

open Cert.Reference4Ideal.Read in
/-- The reference's product at an index. -/
theorem refprod (x : Vec Ideal S8x2048x1024 .f32) (md : Vec Ideal S8x1x6144 .f32) (w : Vec Ideal S1024x1024 .f32) (b : Fin 8) (s : Fin 2048) (n : Fin 1024) :
    val_main_v12 (F := Ideal) x md w (ix3 b s n) = prod x md w b s n := by
  rw [val_main_v12_apply]
  unfold prod
  refine Finset.sum_congr rfl fun k _ => ?_
  rw [show lidx_main_v12 (ix3 b s n) k = ix3 b s k by funext w; fin_cases w <;> rfl,
    show ridx_main_v12 (ix3 b s n) k = ix2 k n by funext w; fin_cases w <;> rfl]
  rw [val_main_v11_apply, val_main_v10_apply, val_main_v9_apply, val_main_v8_apply, val_main_v7_apply, val_main_v6_apply, val_main_v1_apply, val_main_v0_apply]
  rw [show idx_main_v0 (idx_main_v10 (ix3 b s k)) = ix3 b 0 ⟨k.val, by omega⟩ by funext w; fin_cases w <;> rfl,
    show idx_main_v1 (idx_main_v8 (ix3 b s k)) = ix3 b 0 ⟨1024 + k.val, by omega⟩ by funext w; fin_cases w <;> rfl]
  rfl
/-- The reference runs and its arguments end unchanged. -/
theorem frameR : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)
/-- The queries are the reference's. -/
theorem queries_eq (c : Dev nD) : ((dats m 0 c).arrAt 4 cfg0.N : Vec Ideal S8x2048x1024 .bf16) = Cert.Reference4Ideal.Read.val_main_v15 (F := Ideal) (X m c) (Md m c) (W m c) := by
  funext i
  obtain ⟨b, s, n, rfl⟩ : ∃ (b : Fin 8) (s : Fin 2048) (n : Fin 1024), i = ix3 b s n := ⟨i 0, i 1, i 2, by funext w; fin_cases w <;> rfl⟩
  rw [queries, Cert.Reference4Ideal.Read.val_main_v15_apply, Cert.Reference4Ideal.Read.val_main_v14_apply, refprod, Cert.Reference4Ideal.Read.val_main_v13_apply]
  rfl
/-- The projection's result is the reference's. -/
theorem alg : Cert.algebraic_Kernel4Ideal_Reference4Ideal (hKernel4Ideal := Cert.Kernel4Ideal.Gen.facts) (hReference4Ideal := Cert.Reference4Ideal.Gen.facts) := by
  intro m g m' g' _ hargs
  refine ⟨fun c => (dats m 0 c).arrAt 4 cfg0.N, Cert.Kernel4Ideal.Value.run_blocks m g, ?_⟩
  refine (θ_run Cert.Reference4Ideal.defs _ _).mono (fun r h c => ?_) (Cert.Reference4Ideal.Value.run (F := Ideal) m' g')
  obtain ⟨e0, ea⟩ := h c
  obtain ⟨a0, a1, a2⟩ := hargs c
  refine ⟨?_, ea⟩
  rw [e0, a0, a1, a2]
  exact (queries_eq m c).symm
end Cert.Kernel4Ideal.Queries
end
-- ==== Proof.StepKeys.lean ====
/-
  The decoding step's new keys and values: the projection's blocks, put side by side, are the two products. The split products add nothing at real numbers.
-/
module
public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Finite
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Adequacy
@[expose] public section
set_option maxRecDepth 16384
noncomputable section
namespace Cert.Kernel5Ideal.StepKeys
open Cert.Mlstm Cert.Kernel5Ideal Cert.Kernel5Ideal.Gen Idealize.ShloMosaic Idealize.ShloMosaic.TcCoe Idealize.SL.Sem
variable (m : (ℓ : Loc nD τ sig) → Buf (Elt Ideal) ℓ)
/-- The tokens' stream. -/
abbrev X (c : Dev nD) : Vec Ideal S32x1x1024 .f32 := m ((c : Thread nD τ).loc main_arg0)
/-- The keys' weights. -/
abbrev Wk (c : Dev nD) : Vec Ideal S1024x1024 .f32 := m ((c : Thread nD τ).loc main_arg1)
/-- The values' weights. -/
abbrev Wv (c : Dev nD) : Vec Ideal S1024x1024 .f32 := m ((c : Thread nD τ).loc main_arg2)

/-- The side conditions of the precondition's operations. -/
theorem preFacts : Cert.Pre_finite5.Facts := ⟨by decide, by decide⟩
/-- The precondition, read. -/
theorem fin (m : (ℓ : Loc nD τ sig) → Buf (Elt Ideal) ℓ) (h : Cert.Pre_Kernel5Ideal_finite5 (hPre_finite5 := preFacts) m) (c : Dev nD) :
    Fn (X m c) ∧ Fn (Wk m c) ∧ Fn (Wv m c) := by
  obtain ⟨hx, hk, hv⟩ := h c
  exact ⟨Cert.KernelIdeal.Scan.fn_of_mask _ _ hx, Cert.KernelIdeal.Scan.fn_of_mask _ _ hk, Cert.KernelIdeal.Scan.fn_of_mask _ _ hv⟩

/-- The blocks' places, decided over the grid. -/
theorem widx : ∀ t : Fin cfg0.N, win0_0.index t = ![0, 0, 0] ∧ win0_1.index t = ![0, t.val]
    ∧ win0_2.index t = ![0, 0, t.val] := by decide +kernel
/-- Every point writes its block back. -/
theorem flushes : ∀ t : Fin cfg0.N, (cfg0.win 2).flush t = true := by decide +kernel
/-- The two weights side by side. -/
def both (wk wv : Vec Ideal S1024x1024 .f32) (k : Fin 1024) (n : Fin 2048) : EReal :=
  if h : n.val < 1024 then wk (ix2 k ⟨n.val, h⟩) else wv (ix2 k ⟨n.val - 1024, by omega⟩)
/-- The staged weights are the two side by side. -/
theorem staged (c : Dev nD) (k : Fin 1024) (n : Fin 2048) :
    (V m c main_v1 : Vec Ideal S1024x2048 .f32) (ix2 k n) = both (Wk m c) (Wv m c) k n := by
  entry_read
  pointwise
  rfl
/-- The staged tokens. -/
theorem stagedx (c : Dev nD) (b : Fin 32) (k : Fin 1024) :
    (V m c main_v0 : Vec Ideal S1x32x1024 .f32) (ix3 0 b k) = X m c (ix3 b 0 k) := by
  entry_read
  pointwise
/-- The tokens' block. -/
theorem blkx (c : Dev nD) (t : Fin cfg0.N) (b : Fin 32) (k : Fin 1024) :
    (iblk m c 0 t : Vec Ideal S1x32x1024 .f32) (ix3 0 b k) = X m c (ix3 b 0 k) := by
  refine Eq.trans (congrArg (V m c main_v0 : Vec Ideal S1x32x1024 .f32) ?_) (stagedx m c b k)
  blk_ext [widx t]
/-- The weights' block. -/
theorem blkw (c : Dev nD) (t : Fin cfg0.N) (k : Fin 1024) (n : Fin 1024) (n' : Fin 2048) (hn : n'.val = 1024 * t.val + n.val) :
    (iblk m c 1 t : Vec Ideal S1024x1024 .f32) (ix2 k n) = both (Wk m c) (Wv m c) k n' := by
  refine Eq.trans (congrArg (V m c main_v1 : Vec Ideal S1024x2048 .f32) ?_) (staged m c k n')
  blk_ext [widx t]
/-- The three split products of a block. -/
theorem pay1 (x : Vec Ideal S1x32x1024 .f32) (w : Vec Ideal S1024x1024 .f32) (s : Fin 32) (n : Fin 1024) :
    k0_pay1 x w (ix3 0 s n) = (∑ k : Fin 1024, x (ix3 0 s k) * w (ix2 k n)) + (∑ k : Fin 1024, (x (ix3 0 s k) - x (ix3 0 s k)) * w (ix2 k n))
      + (∑ k : Fin 1024, x (ix3 0 s k) * (w (ix2 k n) - w (ix2 k n))) := by
  pointwise [k0_pay1]
/-- A real number less itself. -/
theorem sub_self_real (x : EReal) (h : x = (x.toReal : EReal)) : x - x = 0 := by
  rw [h, ← EReal.coe_sub, sub_self, EReal.coe_zero]
/-- At real numbers the split products are the product. -/
theorem split_sum (x w : Fin 1024 → EReal) (hx : ∀ k, x k = ((x k).toReal : EReal)) (hw : ∀ k, w k = ((w k).toReal : EReal)) :
    (∑ k, x k * w k) + (∑ k, (x k - x k) * w k) + (∑ k, x k * (w k - w k)) = ∑ k, x k * w k := by
  have h1 : ∑ k, (x k - x k) * w k = 0 := Finset.sum_eq_zero fun k _ => by rw [sub_self_real _ (hx k), zero_mul]
  have h2 : ∑ k, x k * (w k - w k) = 0 := Finset.sum_eq_zero fun k _ => by rw [sub_self_real _ (hw k), mul_zero]
  rw [h1, h2, add_zero, add_zero]
/-- Real weights side by side are real. -/
theorem both_real (wk wv : Vec Ideal S1024x1024 .f32) (hk : Fn wk) (hv : Fn wv) (k : Fin 1024) (n : Fin 2048) :
    both wk wv k n = ((both wk wv k n).toReal : EReal) := by
  unfold both
  split
  · exact hk _
  · exact hv _
/-- The final elements. -/
theorem final (c : Dev nD) (hx : Fn (X m c)) (hk : Fn (Wk m c)) (hv : Fn (Wv m c)) (b : Fin 32) (n : Fin 2048) :
    ((dats m 0 c).arrAt 2 cfg0.N : Vec Ideal S1x32x2048 .f32) (ix3 0 b n) = ∑ k : Fin 1024, X m c (ix3 b 0 k) * both (Wk m c) (Wv m c) k n := by
  have hN : n.val / 1024 < cfg0.N := by rw [show cfg0.N = 2 from N_0]; omega
  obtain ⟨t, ht⟩ : ∃ t : Fin cfg0.N, t.val = n.val / 1024 := ⟨⟨_, hN⟩, rfl⟩
  have hf := congrFun (Value.blocks2 m c t (flushes t)) (ix3 0 b ⟨n.val % 1024, by omega⟩)
  have he : ((cfg0.win 2).blk t).view.emb (ix3 0 b ⟨n.val % 1024, by omega⟩) = ix3 0 b n := by
    blk_ext [widx t]
  rw [Value.flushed2] at hf
  have h' : (dats m 0 c).arrAt 2 cfg0.N (((cfg0.win 2).blk t).view.emb (ix3 0 b ⟨n.val % 1024, by omega⟩)) = out0_2 (iblk m c 0 t) (iblk m c 1 t) (ix3 0 b ⟨n.val % 1024, by omega⟩) := hf
  rw [he] at h'
  refine h'.trans ?_
  have ho : out0_2 (iblk m c 0 t) (iblk m c 1 t) = k0_pay1 (View.ld (iblk m c 0 t) r0_0) (View.ld (iblk m c 1 t) r0_1) := by
    unfold out0_2
    exact View.canon_cons_unit_lit (S := S1x32x1024) _ _ _ (by decide)
  have e0 : View.ld (iblk m c 0 t) r0_0 = iblk m c 0 t := View.ld_unit_lit (S := S1x32x1024) _ (iblk m c 0 t) (by decide)
  have e1 : View.ld (iblk m c 1 t) r0_1 = iblk m c 1 t := View.ld_unit_lit (S := S1024x1024) _ (iblk m c 1 t) (by decide)
  rw [ho, e0, e1, pay1]
  have hw : ∀ k : Fin 1024, (iblk m c 1 t : Vec Ideal S1024x1024 .f32) (ix2 k ⟨n.val % 1024, by omega⟩) = both (Wk m c) (Wv m c) k n :=
    fun k => blkw m c t k ⟨n.val % 1024, by omega⟩ n (by dsimp only; omega)
  simp only [blkx, hw]
  exact split_sum (fun k => X m c (ix3 b 0 k)) (fun k => both (Wk m c) (Wv m c) k n) (fun k => hx _) (fun k => both_real _ _ hk hv k n)

open Cert.Reference5Ideal.Read in
/-- A product of the reference at an index. -/
theorem refdot (x : Vec Ideal S32x1x1024 .f32) (w : Vec Ideal S1024x1024 .f32) (b : Fin 32) (n : Fin 1024) :
    val_main_v0 (F := Ideal) x w (ix3 b 0 n) = ∑ k : Fin 1024, x (ix3 b 0 k) * w (ix2 k n) := by
  rw [val_main_v0_apply]
  refine Finset.sum_congr rfl fun k _ => ?_
  rw [show lidx_main_v0 (ix3 b 0 n) k = ix3 b 0 k by funext w; fin_cases w <;> rfl,
    show ridx_main_v0 (ix3 b 0 n) k = ix2 k n by funext w; fin_cases w <;> rfl]
open Cert.Reference5Ideal.Read in
/-- The reference's products side by side. -/
theorem refboth (x : Vec Ideal S32x1x1024 .f32) (wk wv : Vec Ideal S1024x1024 .f32) (b : Fin 32) (n : Fin 2048) :
    val_main_v3 (F := Ideal) x wk wv (ix3 0 b n) = ∑ k : Fin 1024, x (ix3 b 0 k) * both wk wv k n := by
  have h : val_main_v3 (F := Ideal) x wk wv (ix3 0 b n)
      = if h : n.val < 1024 then val_main_v0 (F := Ideal) x wk (ix3 b 0 ⟨n.val, h⟩) else val_main_v0 (F := Ideal) x wv (ix3 b 0 ⟨n.val - 1024, by omega⟩) := by
    rw [val_main_v3_apply, show idx_main_v3 (ix3 0 b n) = ix3 b 0 n by funext w; fin_cases w <;> first | rfl | exact Fin.ext (by simp; omega) | exact Fin.ext (by simp)]
    unfold val_main_v2
    rw [show val_main_v1 (F := Ideal) x wv = val_main_v0 (F := Ideal) x wv from rfl]
    generalize val_main_v0 (F := Ideal) x wk = p
    generalize val_main_v0 (F := Ideal) x wv = q
    pointwise
  rw [h]
  unfold both
  split <;> exact refdot _ _ _ _
/-- The reference runs and its arguments end unchanged. -/
theorem frameR : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)
/-- The array is the reference's. -/
theorem final_eq (c : Dev nD) (hx : Fn (X m c)) (hk : Fn (Wk m c)) (hv : Fn (Wv m c)) :
    ((dats m 0 c).arrAt 2 cfg0.N : Vec Ideal S1x32x2048 .f32) = Cert.Reference5Ideal.Read.val_main_v3 (F := Ideal) (X m c) (Wk m c) (Wv m c) := by
  funext i
  obtain ⟨b, n, rfl⟩ : ∃ (b : Fin 32) (n : Fin 2048), i = ix3 0 b n := ⟨i 1, i 2, by funext w; fin_cases w <;> first | rfl | exact Subsingleton.elim (α := Fin 1) _ _⟩
  rw [final m c hx hk hv, refboth]
/-- The projection's result is the reference's. -/
theorem alg : Cert.algebraic_Kernel5Ideal_Reference5Ideal_pre_finite5 (hKernel5Ideal := Cert.Kernel5Ideal.Gen.facts) (hReference5Ideal := Cert.Reference5Ideal.Gen.facts)
    (hPre_finite5 := preFacts) := by
  intro m g m' g' hpre hargs
  refine ⟨fun c => (dats m 0 c).arrAt 2 cfg0.N, Cert.Kernel5Ideal.Value.run_blocks m g, ?_⟩
  refine (θ_run Cert.Reference5Ideal.defs _ _).mono (fun r h c => ?_) (Cert.Reference5Ideal.Value.run (F := Ideal) m' g')
  obtain ⟨e0, ea⟩ := h c
  obtain ⟨a0, a1, a2⟩ := hargs c
  obtain ⟨hx, hk, hv⟩ := fin m hpre c
  refine ⟨?_, ea⟩
  rw [e0, a0, a1, a2]
  exact (final_eq m c hx hk hv).symm
end Cert.Kernel5Ideal.StepKeys
end
-- ==== Proof.CellMath.lean ====
/-
  One decoding step of one head of the recurrence, over the reals: the stabiliser, the state and the output.
-/
module
public import proofs.«01_k».proof.Proof.Body
@[expose] public section
noncomputable section
namespace Cert.Cell

/-- The new stabiliser, from the input gate `i`, the log forget gate `l` and the old stabiliser `s`. -/
def mx (i l s : ℝ) : ℝ := max (l + s) i
/-- The weight of the old state. -/
def old (i l s : ℝ) : ℝ := Real.exp (l + s - mx i l s)
/-- The weight of the new token. -/
def new (i l s : ℝ) : ℝ := Real.exp (i - mx i l s)
/-- One element of the new matrix state. -/
def cel (i l s k v c : ℝ) : ℝ := old i l s * c + new i l s * (k * v)
/-- One element of the new normaliser. -/
def nel (i l s k n : ℝ) : ℝ := old i l s * n + new i l s * k
/-- One element of the output. -/
def out (i l s : ℝ) (q k n : Fin 512 → ℝ) (v : ℝ) (c : Fin 512 → ℝ) : ℝ :=
  (∑ d, q d * cel i l s (k d) v (c d)) / max |∑ d, q d * nel i l s (k d) (n d)| (Real.exp (-mx i l s))

/-- The query against the new state is the query against the old one, plus its product with the new key. -/
theorem num_split (a b v : ℝ) (q k c : Fin 512 → ℝ) :
    ∑ d, q d * (a * c d + b * (k d * v)) = a * (∑ d, q d * c d) + ((∑ d, q d * k d) * b) * v := by
  rw [Finset.mul_sum, Finset.sum_mul, Finset.sum_mul, ← Finset.sum_add_distrib]
  exact Finset.sum_congr rfl fun d _ => by ring
/-- The same for the normaliser. -/
theorem den_split (a b : ℝ) (q k n : Fin 512 → ℝ) :
    ∑ d, q d * (a * n d + b * k d) = a * (∑ d, q d * n d) + (∑ d, q d * k d) * b := by
  rw [Finset.mul_sum, Finset.sum_mul, ← Finset.sum_add_distrib]
  exact Finset.sum_congr rfl fun d _ => by ring
/-- A sum of products of reals. -/
theorem dot_real {ι : Type} [Fintype ι] (f g : ι → EReal) (f' g' : ι → ℝ) (hf : ∀ x, f x = ((f' x : ℝ) : EReal)) (hg : ∀ x, g x = ((g' x : ℝ) : EReal)) :
    ∑ x, f x * g x = ((∑ x, f' x * g' x : ℝ) : EReal) := by
  classical
  simp only [hf, hg, ← EReal.coe_mul]
  induction (Finset.univ : Finset ι) using Finset.induction_on with
  | empty => simp
  | insert x s hx ih => rw [Finset.sum_insert hx, Finset.sum_insert hx, ih, EReal.coe_add]
/-- At real numbers the parts left over by a product's split add nothing. -/
theorem split_any {ι : Type} [Fintype ι] (x w : ι → EReal) (x' w' : ι → ℝ) (hx : ∀ k, x k = ((x' k : ℝ) : EReal)) (hw : ∀ k, w k = ((w' k : ℝ) : EReal)) :
    (∑ k, x k * w k) + (∑ k, (x k - x k) * w k) + (∑ k, x k * (w k - w k)) = ((∑ k, x' k * w' k : ℝ) : EReal) := by
  have h1 : ∑ k, (x k - x k) * w k = 0 := Finset.sum_eq_zero fun k _ => by rw [hx, ← EReal.coe_sub, sub_self, EReal.coe_zero, zero_mul]
  have h2 : ∑ k, x k * (w k - w k) = 0 := Finset.sum_eq_zero fun k _ => by rw [hw, ← EReal.coe_sub, sub_self, EReal.coe_zero, mul_zero]
  rw [h1, h2, add_zero, add_zero, dot_real x w x' w' hx hw]
end Cert.Cell
-- ==== Proof.CellHead.lean ====
/-
  One head of the decoding step's kernel, read element by element at real inputs.
-/
module
public import proofs.«01_k».proof.Proof.CellMath
public import proofs.«01_k».proof.Proof.Gen.Kernel6Ideal.Value
public import Idealize.ShloMosaic.Lib.Pointwise
public import Idealize.ShloMosaic.Lib.ValueIdx
public import Idealize.ShloMosaic.Lib.Pipeline.ValueKit
public import Idealize.ShloMosaic.PureOps.Ideal.Laws
@[expose] public section
set_option maxRecDepth 16384
noncomputable section
namespace Cert.Kernel6Ideal.Cell
open Cert.Cell Cert.Kernel6Ideal Cert.Kernel6Ideal.Gen Idealize.ShloMosaic Idealize.ShloMosaic.TcCoe Idealize.SL.Sem
open Cert.KernelIdeal.Scan (sel_eq out_of)
open Cert.Mlstm (coe_max)
section Defs
variable {F : FTy → Type} [FloatOps F]
/-- One head's new stabiliser, as stored. -/
def hM (g : Vec F S1x1x1x2 .f32) (s : Vec F S1x1x1x1 .f32) : FVec F S1x1x1x1 .f32 := k0_pay22 (k0_pay8 g s)
/-- One head's new matrix state. -/
def hC (k v : Vec F S1x1x512 .f32) (g : Vec F S1x1x1x2 .f32) (s : Vec F S1x1x1x1 .f32) (C : Vec F S1x1x512x512 .f32) : FVec F S1x1x512x512 .f32 :=
  k0_pay20 (k0_pay14 (k0_pay9 g s) (k0_pay10 g s) (k0_pay11 k) (k0_pay12 v) C)
/-- One head's new normaliser. -/
def hN (k : Vec F S1x1x512 .f32) (g : Vec F S1x1x1x2 .f32) (s : Vec F S1x1x1x1 .f32) (n : Vec F S1x1x1x512 .f32) : FVec F S1x1x1x512 .f32 :=
  k0_pay21 (k0_pay15 (k0_pay3 k) (k0_pay9 g s) (k0_pay10 g s) n)
/-- One head's output. -/
def hH (q k v : Vec F S1x1x512 .f32) (g : Vec F S1x1x1x2 .f32) (s : Vec F S1x1x1x1 .f32) (C : Vec F S1x1x512x512 .f32) (n : Vec F S1x1x1x512 .f32) : FVec F S1x1x512 .f32 :=
  k0_pay19 (k0_pay16 (k0_pay9 g s) (k0_pay10 g s) (k0_pay11 k) (k0_pay12 v) (k0_pay13 q) C) (k0_pay17 (k0_pay2 q) (k0_pay3 k) (k0_pay9 g s) (k0_pay10 g s) n) (k0_pay18 (k0_pay8 g s))
end Defs
section Real
variable (q k v : Vec Ideal S1x1x512 .f32) (g : Vec Ideal S1x1x1x2 .f32) (s : Vec Ideal S1x1x1x1 .f32) (C : Vec Ideal S1x1x512x512 .f32) (n : Vec Ideal S1x1x1x512 .f32)
  (i l r : ℝ) (q' k' v' n' : Fin 512 → ℝ) (c' : Fin 512 → Fin 512 → ℝ)
  (hq : ∀ d : Fin 512, q (ix3 0 0 d) = ((q' d : ℝ) : EReal))
  (hk : ∀ d : Fin 512, k (ix3 0 0 d) = ((k' d : ℝ) : EReal))
  (hv : ∀ d : Fin 512, v (ix3 0 0 d) = ((v' d : ℝ) : EReal))
  (hn : ∀ d : Fin 512, n (ix4 0 0 0 d) = ((n' d : ℝ) : EReal))
  (hc : ∀ d e : Fin 512, C (ix4 0 0 d e) = ((c' d e : ℝ) : EReal))
  (hi : g (ix4 0 0 0 0) = ((i : ℝ) : EReal)) (hl : g (ix4 0 0 0 1) = ((l : ℝ) : EReal)) (hr : s (ix4 0 0 0 0) = ((r : ℝ) : EReal))
include hi hl hr in
/-- The new stabiliser. -/
theorem p8 : k0_pay8 g s (ix2 0 0) = ((mx i l r : ℝ) : EReal) := by
  pointwise [k0_pay8, k0_pay6, k0_pay7, k0_pay5, k0_pay4]
  rw [hl, hr, hi, ← EReal.coe_add]
  exact coe_max _ _
include hi hl hr in
/-- The weight of the old state. -/
theorem p9 : k0_pay9 g s (ix2 0 0) = ((old i l r : ℝ) : EReal) := by
  have h8 := p8 g s i l r hi hl hr
  unfold k0_pay9
  generalize k0_pay8 g s = y at h8
  pointwise [k0_pay6, k0_pay7, k0_pay4]
  rw [h8, hl, hr, ← EReal.coe_add, ← EReal.coe_sub]
  exact Ideal.exp_coe _
include hi hl hr in
/-- The weight of the new token. -/
theorem p10 : k0_pay10 g s (ix2 0 0) = ((new i l r : ℝ) : EReal) := by
  have h8 := p8 g s i l r hi hl hr
  unfold k0_pay10
  generalize k0_pay8 g s = y at h8
  pointwise [k0_pay5, k0_pay4]
  rw [h8, hi, ← EReal.coe_sub]
  exact Ideal.exp_coe _
/-- A row put first among eight, the others zero. -/
theorem first (u : EReal) (x : Fin 8) (r : ℝ) (h : u = (r : EReal)) :
    Scalar.select (IntOp.cmpi CmpIPredicate.eq (BitVec.ofNat 32 x.val) 0#32) u 0 = (((if x = 0 then r else 0) : ℝ) : EReal) := by
  fin_cases x <;> first | exact h | exact EReal.coe_zero.symm
include hk in
/-- The keys' rows. -/
theorem p11 (x : Fin 8) (d : Fin 512) : k0_pay11 k (ix2 x d) = (((if x = 0 then k' d else 0) : ℝ) : EReal) := by
  pointwise [k0_pay11, k0_pay3, k0_pay1]
  exact first _ x _ (hk d)
include hv in
/-- The values' rows. -/
theorem p12 (x : Fin 8) (d : Fin 512) : k0_pay12 v (ix2 x d) = (((if x = 0 then v' d else 0) : ℝ) : EReal) := by
  pointwise [k0_pay12, k0_pay1]
  exact first _ x _ (hv d)
include hq in
/-- The queries' first row. -/
theorem p13 (d : Fin 512) : k0_pay13 q (ix2 0 d) = ((q' d : ℝ) : EReal) := by
  pointwise [k0_pay13, k0_pay2, k0_pay1]
  exact hq d
/-- The state's update, with the split product in full. -/
theorem p14 (a b : FVec Ideal S1x1 .f32) (k8 v8 : FVec Ideal S8x512 .f32) (d e : Fin 512) : k0_pay14 a b k8 v8 C (ix2 d e)
    = a (ix2 0 0) * C (ix4 0 0 d e) + b (ix2 0 0) * (∑ x : Fin 8, k8 (ix2 x d) * v8 (ix2 x e) + ∑ x : Fin 8, (k8 (ix2 x d) - k8 (ix2 x d)) * v8 (ix2 x e)
      + ∑ x : Fin 8, k8 (ix2 x d) * (v8 (ix2 x e) - v8 (ix2 x e))) := by
  pointwise [k0_pay14]
include hk hv hc hi hl hr in
/-- The new matrix state before it is stored. -/
theorem st (d e : Fin 512) : k0_pay14 (k0_pay9 g s) (k0_pay10 g s) (k0_pay11 k) (k0_pay12 v) C (ix2 d e) = ((cel i l r (k' d) (v' e) (c' d e) : ℝ) : EReal) := by
  rw [p14, split_any _ _ _ _ (fun x => p11 k k' hk x d) (fun x => p12 v v' hv x e), p9 g s i l r hi hl hr, p10 g s i l r hi hl hr, hc,
    ← EReal.coe_mul, ← EReal.coe_mul, ← EReal.coe_add]
  simp [cel]
include hk hv hc hi hl hr in
/-- The new matrix state. -/
theorem hC_at (d e : Fin 512) : hC k v g s C (ix4 0 0 d e) = ((cel i l r (k' d) (v' e) (c' d e) : ℝ) : EReal) := by
  have h := st k v g s C i l r k' v' c' hk hv hc hi hl hr d e
  unfold hC
  generalize k0_pay14 (k0_pay9 g s) (k0_pay10 g s) (k0_pay11 k) (k0_pay12 v) C = y at h
  pointwise [k0_pay20]
  exact h
include hk hn hi hl hr in
/-- The new normaliser before it is stored. -/
theorem sn (d : Fin 512) : k0_pay15 (k0_pay3 k) (k0_pay9 g s) (k0_pay10 g s) n (ix2 0 d) = ((nel i l r (k' d) (n' d) : ℝ) : EReal) := by
  have h9 := p9 g s i l r hi hl hr
  have h10 := p10 g s i l r hi hl hr
  generalize k0_pay9 g s = a at h9
  generalize k0_pay10 g s = b at h10
  pointwise [k0_pay15, k0_pay3]
  rw [h9, h10, hk, hn, ← EReal.coe_mul, ← EReal.coe_mul, ← EReal.coe_add]
  rfl
include hk hn hi hl hr in
/-- The new normaliser. -/
theorem hN_at (d : Fin 512) : hN k g s n (ix4 0 0 0 d) = ((nel i l r (k' d) (n' d) : ℝ) : EReal) := by
  have h := sn k g s n i l r k' n' hk hn hi hl hr d
  unfold hN
  generalize k0_pay15 (k0_pay3 k) (k0_pay9 g s) (k0_pay10 g s) n = y at h
  pointwise [k0_pay21]
  exact h
include hi hl hr in
/-- The new stabiliser, as stored. -/
theorem hM_at : hM g s (ix4 0 0 0 0) = ((mx i l r : ℝ) : EReal) := by
  have h := p8 g s i l r hi hl hr
  unfold hM
  generalize k0_pay8 g s = y at h
  pointwise [k0_pay22]
  exact h
/-- The numerators, with the split product in full. -/
theorem p16 (a b : FVec Ideal S1x1 .f32) (k8 v8 q8 : FVec Ideal S8x512 .f32) (e : Fin 512) : k0_pay16 a b k8 v8 q8 C (ix2 0 e)
    = ∑ x : Fin 512, q8 (ix2 0 x) * k0_pay14 a b k8 v8 C (ix2 x e) + ∑ x : Fin 512, (q8 (ix2 0 x) - q8 (ix2 0 x)) * k0_pay14 a b k8 v8 C (ix2 x e)
      + ∑ x : Fin 512, q8 (ix2 0 x) * (k0_pay14 a b k8 v8 C (ix2 x e) - k0_pay14 a b k8 v8 C (ix2 x e)) := by
  unfold k0_pay16
  generalize k0_pay14 a b k8 v8 C = y
  pointwise
/-- The denominators. -/
theorem p17 (q k : FVec Ideal S1x512 .f32) (a b : FVec Ideal S1x1 .f32) : k0_pay17 q k a b n (ix2 0 0)
    = FloatOps.absf (F := Ideal) (φ := .f32) (∑ x : Fin 512, q (ix2 0 x) * k0_pay15 k a b n (ix2 0 x)) := by
  unfold k0_pay17
  generalize k0_pay15 k a b n = y
  pointwise
include hq in
/-- The queries, read. -/
theorem p2 (d : Fin 512) : k0_pay2 q (ix2 0 d) = ((q' d : ℝ) : EReal) := by
  pointwise [k0_pay2]
  exact hq d
include hq hk hv hc hn hi hl hr in
/-- One head's output. -/
theorem hH_at (e : Fin 512) : hH q k v g s C n (ix3 0 0 e) = ((out i l r q' k' n' (v' e) (fun d => c' d e) : ℝ) : EReal) := by
  have hnum : k0_pay16 (k0_pay9 g s) (k0_pay10 g s) (k0_pay11 k) (k0_pay12 v) (k0_pay13 q) C (ix2 0 e) = ((∑ d, q' d * cel i l r (k' d) (v' e) (c' d e) : ℝ) : EReal) := by
    rw [p16]
    exact split_any _ _ _ _ (fun d => p13 q q' hq d) (fun d => st k v g s C i l r k' v' c' hk hv hc hi hl hr d e)
  have hden : k0_pay17 (k0_pay2 q) (k0_pay3 k) (k0_pay9 g s) (k0_pay10 g s) n (ix2 0 0)
      = FloatOps.absf (F := Ideal) (φ := .f32) ((∑ d, q' d * nel i l r (k' d) (n' d) : ℝ) : EReal) := by
    rw [p17, dot_real _ _ _ _ (fun d => p2 q q' hq d) (fun d => sn k g s n i l r k' n' hk hn hi hl hr d)]
  have h8 := p8 g s i l r hi hl hr
  unfold hH
  generalize k0_pay16 (k0_pay9 g s) (k0_pay10 g s) (k0_pay11 k) (k0_pay12 v) (k0_pay13 q) C = a at hnum
  generalize k0_pay17 (k0_pay2 q) (k0_pay3 k) (k0_pay9 g s) (k0_pay10 g s) n = b at hden
  generalize k0_pay8 g s = y at h8
  pointwise [k0_pay19, k0_pay18]
  rw [hnum, hden, h8]
  exact out_of _ _ _
end Real
end Cert.Kernel6Ideal.Cell
-- ==== Proof.CellRef.lean ====
/-
  The reference's decoding step, read element by element at real inputs.
-/
module
public import proofs.«01_k».proof.Proof.CellMath
public import proofs.«01_k».proof.Proof.Ref
public import proofs.«01_k».proof.Proof.Finite
public import proofs.«01_k».proof.Proof.Gen.Reference6Ideal.Run
public import proofs.«01_k».proof.Proof.Gen.Reference6Ideal.Read
@[expose] public section
set_option maxRecDepth 16384
noncomputable section
namespace Cert.Reference6Ideal.Cell
open Cert.Cell Cert.Reference6Ideal Cert.Reference6Ideal.Gen Cert.Reference6Ideal.Read Idealize.ShloMosaic Idealize.ShloMosaic.TcCoe Idealize.SL.Sem
open Cert.KernelIdeal.Scan (ofBits_ninf out_of)
open Cert.Mlstm (coe_max Fn)
open Cert.ReferenceIdeal.Whole (foldl_real)

/-- The window of the running sum: one element. -/
abbrev W : Shape := ⟨3, ![1, 1, 1]⟩
theorem numelW : W.numel = 1 := by decide
/-- The largest of a row of one, read. -/
theorem rowmax (y : Vec Ideal S32x4x1x1 .f32) (z : Vec Ideal S_ .f32) (b : Fin 32) (a : Fin 4) :
    Host.reduce (FloatOps.maximumf (F := Ideal) (φ := .f32)) y z reducesTo_S32x4x1x1_S32x4x1_d3 h_S_ (ix3 b a 0)
      = Finset.fold max (z (Shape.Idx.first h_S_)) (fun s : Fin 1 => y (ix4 b a 0 s)) Finset.univ := by
  have h : S32x4x1x1.Reduces [3] S32x4x1 := by decide
  rw [Host.reduce_eq_fold_single _ y z reducesTo_S32x4x1x1_S32x4x1_d3 h h_S_]
  refine congrArg (fun f => Finset.fold max (z (Shape.Idx.first h_S_)) f Finset.univ) (funext fun s => ?_)
  refine congrArg y (funext fun w => Fin.ext ?_)
  fin_cases w <;> rfl
variable (x0 x1 x2 : Vec Ideal S32x1x4x512 .f32) (x3 x4 : Vec Ideal S32x1x4 .f32) (x5 : Vec Ideal S32x4x512x512 .f32) (x6 : Vec Ideal S32x4x512 .f32) (x7 : Vec Ideal S32x4 .f32)
  (b : Fin 32) (a : Fin 4) (i l r : ℝ) (q' k' v' n' : Fin 512 → ℝ) (c' : Fin 512 → Fin 512 → ℝ)
  (hq : ∀ d : Fin 512, x0 (ix4 b 0 a d) = ((q' d : ℝ) : EReal))
  (hk : ∀ d : Fin 512, x1 (ix4 b 0 a d) = ((k' d : ℝ) : EReal))
  (hv : ∀ d : Fin 512, x2 (ix4 b 0 a d) = ((v' d : ℝ) : EReal))
  (hi : x3 (ix3 b 0 a) = ((i : ℝ) : EReal)) (hl : x4 (ix3 b 0 a) = ((l : ℝ) : EReal)) (hr : x7 (ix2 b a) = ((r : ℝ) : EReal))
  (hc : ∀ d e : Fin 512, x5 (ix4 b a d e) = ((c' d e : ℝ) : EReal))
  (hn : ∀ d : Fin 512, x6 (ix3 b a d) = ((n' d : ℝ) : EReal))
include hl in
/-- The running sum of one forget gate. -/
theorem r5 : val_main_v5 (F := Ideal) x4 (ix3 b a 0) = ((l : ℝ) : EReal) := by
  have hx : val_main_v4 (F := Ideal) x4 (ix3 b a 0) = ((l : ℝ) : EReal) := by
    pointwise [val_main_v4]
    exact hl
  unfold val_main_v5
  generalize val_main_v4 (F := Ideal) x4 = y at hx
  have hz : val_main_call0_call0_v0 (F := Ideal) = fun _ => ((0 : ℝ) : EReal) := by
    funext j
    pointwise [val_main_call0_call0_v0, val_main_call0_call0_cst]
    exact EReal.coe_zero.symm
  rw [hz]
  unfold Host.reduceWindowAdd
  rw [Ideal.hostReduceWindowAdd_def]
  unfold Ideal.hostReduceWindowAdd Host.reduceWindow
  refine (foldl_real (fun n : Fin W.numel => l) _ _ (fun s n _ => ?_) 0).trans ?_
  · have w0 : (W.rowMajor.symm n 0).val < 1 := (W.rowMajor.symm n 0).isLt
    have w1 : (W.rowMajor.symm n 1).val < 1 := (W.rowMajor.symm n 1).isLt
    have w2 : (W.rowMajor.symm n 2).val < 1 := (W.rowMajor.symm n 2).isLt
    have hb := b.isLt
    have ha := a.isLt
    dsimp only
    congr 1
    split
    · refine (congrArg y (funext fun z => Fin.ext ?_)).trans hx
      match z with
      | ⟨0, _⟩ => show b.val * 1 + (W.rowMajor.symm n 0).val - 0 = b.val; omega
      | ⟨1, _⟩ => show a.val * 1 + (W.rowMajor.symm n 1).val - 0 = a.val; omega
      | ⟨2, _⟩ => show 0 * 1 + (W.rowMajor.symm n 2).val - 0 = 0; omega
    · next hin =>
      refine absurd (fun z => ?_) hin
      match z with
      | ⟨0, _⟩ => show 0 ≤ b.val * 1 + (W.rowMajor.symm n 0).val ∧ b.val * 1 + (W.rowMajor.symm n 0).val - 0 < 32; omega
      | ⟨1, _⟩ => show 0 ≤ a.val * 1 + (W.rowMajor.symm n 1).val ∧ a.val * 1 + (W.rowMajor.symm n 1).val - 0 < 4; omega
      | ⟨2, _⟩ => show 0 ≤ 0 * 1 + (W.rowMajor.symm n 2).val ∧ 0 * 1 + (W.rowMajor.symm n 2).val - 0 < 1; omega
  · rw [zero_add, ← Fin.sum_univ_def]
    show (((∑ _ : Fin 1, l) : ℝ) : EReal) = _
    rw [Fin.sum_univ_one]
include hi hl in
/-- The one log weight: the input gate. -/
theorem r13 : val_main_v13 (F := Ideal) x3 x4 (ix4 b a 0 0) = ((i : ℝ) : EReal) := by
  have h5 := r5 x4 b a l hl
  have h3 : val_main_v3 (F := Ideal) x3 (ix3 b a 0) = ((i : ℝ) : EReal) := by
    pointwise [val_main_v3]
    exact hi
  rw [val_main_v13_apply]
  have hm : val_main_call2_v1 (F := Ideal) (ix4 b a 0 0) = 1#1 := by
    rw [val_main_call2_v1_apply, show idx_main_call2_v1 (ix4 b a 0 0) = ix2 0 0 by funext w; fin_cases w <;> rfl]
    rfl
  have h12 : val_main_v12 (F := Ideal) x3 x4 (ix4 b a 0 0) = ((i : ℝ) : EReal) := by
    pointwise [val_main_v12, val_main_v10, val_main_v11, val_main_v8, val_main_v9]
    rw [h5, h3, ← EReal.coe_sub, ← EReal.coe_add, sub_self, zero_add]
  rw [hm, h12]
  exact if_pos rfl
include hl hr in
/-- The old state's log weight. -/
theorem r15 : val_main_v15 (F := Ideal) x4 x7 (ix3 b a 0) = ((l + r : ℝ) : EReal) := by
  have h5 := r5 x4 b a l hl
  pointwise [val_main_v15, val_main_v14]
  rw [h5, hr, ← EReal.coe_add]
include hi hl hr in
/-- The new stabiliser. -/
theorem r17 : val_main_v17 (F := Ideal) x3 x4 x7 (ix3 b a 0) = ((mx i l r : ℝ) : EReal) := by
  rw [val_main_v17_apply, r15 x4 x7 b a l r hl hr]
  unfold val_main_v16
  have h13 := r13 x3 x4 b a i l hi hl
  generalize val_main_v13 (F := Ideal) x3 x4 = y at h13
  rw [rowmax, show val_main_cst_0 (F := Ideal) (Shape.Idx.first h_S_) = (⊥ : EReal) from (val_main_cst_0_apply _).trans ofBits_ninf]
  have h1 : (Finset.univ : Finset (Fin 1)) = {0} := rfl
  rw [h1, Finset.fold_singleton, h13]
  show max _ (max _ ⊥) = _
  rw [max_bot_right, coe_max]
  rfl
include hi hl hr in
/-- The weight of the old state. -/
theorem r22 : val_main_v22 (F := Ideal) x3 x4 x7 (ix3 b a 0) = ((old i l r : ℝ) : EReal) := by
  have h15 := r15 x4 x7 b a l r hl hr
  have h17 := r17 x3 x4 x7 b a i l r hi hl hr
  rw [val_main_v22_apply, val_main_v21_apply, h15, h17]
  show Ideal.exp (((l + r : ℝ) : EReal) - ((mx i l r : ℝ) : EReal)) = _
  rw [← EReal.coe_sub, Ideal.exp_coe]
  rfl
include hi hl hr in
/-- The weight of the new token. -/
theorem r20 : val_main_v20 (F := Ideal) x3 x4 x7 (ix4 b a 0 0) = ((new i l r : ℝ) : EReal) := by
  have h13 := r13 x3 x4 b a i l hi hl
  have h17 := r17 x3 x4 x7 b a i l r hi hl hr
  rw [val_main_v20_apply, val_main_v19_apply, h13, val_main_v18_apply, show idx_main_v18 (ix4 b a 0 0) = ix3 b a 0 by funext w; fin_cases w <;> rfl, h17]
  show Ideal.exp (((i : ℝ) : EReal) - ((mx i l r : ℝ) : EReal)) = _
  rw [← EReal.coe_sub, Ideal.exp_coe]
  rfl
include hi hl hr in
/-- The stabiliser at the chunk's end. -/
theorem r42 : val_main_v42 (F := Ideal) x3 x4 x7 (ix2 b a) = ((mx i l r : ℝ) : EReal) := by
  have h17 := r17 x3 x4 x7 b a i l r hi hl hr
  generalize hy : val_main_v17 (F := Ideal) x3 x4 x7 = y at h17
  unfold val_main_v42
  rw [hy]
  pointwise
  exact h17
include hi hl hr in
/-- The weight of the new token at the chunk's end. -/
theorem r47 : val_main_v47 (F := Ideal) x3 x4 x7 (ix3 b a 0) = ((new i l r : ℝ) : EReal) := by
  have h5 := r5 x4 b a l hl
  have h42 := r42 x3 x4 x7 b a i l r hi hl hr
  have h3 : val_main_v3 (F := Ideal) x3 (ix3 b a 0) = ((i : ℝ) : EReal) := by
    pointwise [val_main_v3]
    exact hi
  rw [val_main_v47_apply, val_main_v46_apply, val_main_v44_apply, val_main_v43_apply, h5, h3]
  rw [val_main_v45_apply, show idx_main_v45 (ix3 b a 0) = ix2 b a by funext w; fin_cases w <;> rfl, h42]
  show Ideal.exp ((((l : ℝ) : EReal) - ((l : ℝ) : EReal)) + ((i : ℝ) : EReal) - ((mx i l r : ℝ) : EReal)) = _
  rw [← EReal.coe_sub, ← EReal.coe_add, ← EReal.coe_sub, Ideal.exp_coe, sub_self, zero_add]
  rfl
include hi hl hr in
/-- The weight of the old state at the chunk's end. -/
theorem r51 : val_main_v51 (F := Ideal) x3 x4 x7 (ix2 b a) = ((old i l r : ℝ) : EReal) := by
  have h5 := r5 x4 b a l hl
  have h42 := r42 x3 x4 x7 b a i l r hi hl hr
  have h48 : val_main_v48 (F := Ideal) x4 (ix2 b a) = ((l : ℝ) : EReal) := by
    generalize hy : val_main_v5 (F := Ideal) x4 = y at h5
    unfold val_main_v48
    rw [hy]
    pointwise
    exact h5
  rw [val_main_v51_apply, val_main_v50_apply, val_main_v49_apply, h48, h42, hr]
  show Ideal.exp (((l : ℝ) : EReal) + ((r : ℝ) : EReal) - ((mx i l r : ℝ) : EReal)) = _
  rw [← EReal.coe_add, ← EReal.coe_sub, Ideal.exp_coe]
  rfl
include hk hv hi hl hr hc in
/-- The new matrix state. -/
theorem r59 (d e : Fin 512) : val_main_v59 (F := Ideal) x1 x2 x3 x4 x5 x7 (ix4 b a d e) = ((cel i l r (k' d) (v' e) (c' d e) : ℝ) : EReal) := by
  have h47 := r47 x3 x4 x7 b a i l r hi hl hr
  have h51 := r51 x3 x4 x7 b a i l r hi hl hr
  have h54 : val_main_v54 (F := Ideal) x3 x4 x5 x7 (ix4 b a d e) = ((old i l r * c' d e : ℝ) : EReal) := by
    generalize hy : val_main_v51 (F := Ideal) x3 x4 x7 = y at h51
    unfold val_main_v54 val_main_v53 val_main_v52
    rw [hy]
    pointwise
    rw [h51, hc, ← EReal.coe_mul]
  have h57 : val_main_v57 (F := Ideal) x1 x3 x4 x7 (ix4 b a 0 d) = ((new i l r * k' d : ℝ) : EReal) := by
    generalize hy : val_main_v47 (F := Ideal) x3 x4 x7 = y at h47
    unfold val_main_v57 val_main_v56 val_main_v55
    rw [hy]
    pointwise [val_main_v1]
    rw [h47, hk, ← EReal.coe_mul]
  have h2 : val_main_v2 (F := Ideal) x2 (ix4 b a 0 e) = ((v' e : ℝ) : EReal) := by
    pointwise [val_main_v2]
    exact hv e
  rw [val_main_v59_apply, h54, val_main_v58_apply, Fin.sum_univ_one,
    show lidx_main_v58 (ix4 b a d e) 0 = ix4 b a 0 d by funext w; fin_cases w <;> rfl,
    show ridx_main_v58 (ix4 b a d e) 0 = ix4 b a 0 e by funext w; fin_cases w <;> rfl, h57, h2, ← EReal.coe_mul]
  show ((old i l r * c' d e : ℝ) : EReal) + ((new i l r * k' d * v' e : ℝ) : EReal) = _
  rw [← EReal.coe_add, mul_assoc]
  rfl
include hk hi hl hr hn in
/-- The new normaliser. -/
theorem r64 (d : Fin 512) : val_main_v64 (F := Ideal) x1 x3 x4 x6 x7 (ix3 b a d) = ((nel i l r (k' d) (n' d) : ℝ) : EReal) := by
  have h47 := r47 x3 x4 x7 b a i l r hi hl hr
  have h51 := r51 x3 x4 x7 b a i l r hi hl hr
  have h62 : val_main_v62 (F := Ideal) x3 x4 x6 x7 (ix3 b a d) = ((old i l r * n' d : ℝ) : EReal) := by
    generalize hy : val_main_v51 (F := Ideal) x3 x4 x7 = y at h51
    unfold val_main_v62 val_main_v61 val_main_v60
    rw [hy]
    pointwise
    rw [h51, hn, ← EReal.coe_mul]
  have h1 : val_main_v1 (F := Ideal) x1 (ix4 b a 0 d) = ((k' d : ℝ) : EReal) := by
    pointwise [val_main_v1]
    exact hk d
  rw [val_main_v64_apply, h62, val_main_v63_apply, Fin.sum_univ_one,
    show lidx_main_v63 (ix3 b a d) 0 = ix3 b a 0 by funext w; fin_cases w <;> rfl,
    show ridx_main_v63 (ix3 b a d) 0 = ix4 b a 0 d by funext w; fin_cases w <;> rfl, h47, h1, ← EReal.coe_mul]
  show ((old i l r * n' d : ℝ) : EReal) + ((new i l r * k' d : ℝ) : EReal) = _
  rw [← EReal.coe_add]
  rfl
include hq hk in
/-- The query against the key. -/
theorem r23 : val_main_v23 (F := Ideal) x0 x1 (ix4 b a 0 0) = ((∑ d, q' d * k' d : ℝ) : EReal) := by
  rw [val_main_v23_apply]
  refine dot_real _ _ q' k' (fun d => ?_) (fun d => ?_)
  · rw [show lidx_main_v23 (ix4 b a 0 0) d = ix4 b a 0 d by funext w; fin_cases w <;> rfl]
    pointwise [val_main_v0]
    exact hq d
  · rw [show ridx_main_v23 (ix4 b a 0 0) d = ix4 b a 0 d by funext w; fin_cases w <;> rfl]
    pointwise [val_main_v1]
    exact hk d
include hq hk hi hl hr in
/-- The new token's weight in the output. -/
theorem r24 : val_main_v24 (F := Ideal) x0 x1 x3 x4 x7 (ix4 b a 0 0) = (((∑ d, q' d * k' d) * new i l r : ℝ) : EReal) := by
  rw [val_main_v24_apply, r23 x0 x1 b a q' k' hq hk, r20 x3 x4 x7 b a i l r hi hl hr]
  exact (EReal.coe_mul _ _).symm
include hq hk hv hi hl hr hc in
/-- The numerators. -/
theorem r30 (e : Fin 512) : val_main_v30 (F := Ideal) x0 x1 x2 x3 x4 x5 x7 (ix4 b a 0 e) = ((∑ d, q' d * cel i l r (k' d) (v' e) (c' d e) : ℝ) : EReal) := by
  have h22 := r22 x3 x4 x7 b a i l r hi hl hr
  have h27 : val_main_v27 (F := Ideal) x3 x4 x7 (ix4 b a 0 e) = ((old i l r : ℝ) : EReal) := by
    generalize hy : val_main_v22 (F := Ideal) x3 x4 x7 = y at h22
    unfold val_main_v27 val_main_v25
    rw [hy]
    pointwise
    exact h22
  have h26 : val_main_v26 (F := Ideal) x0 x5 (ix4 b a 0 e) = ((∑ d, q' d * c' d e : ℝ) : EReal) := by
    rw [val_main_v26_apply]
    refine dot_real _ _ q' (fun d => c' d e) (fun d => ?_) (fun d => ?_)
    · rw [show lidx_main_v26 (ix4 b a 0 e) d = ix4 b a 0 d by funext w; fin_cases w <;> rfl]
      pointwise [val_main_v0]
      exact hq d
    · rw [show ridx_main_v26 (ix4 b a 0 e) d = ix4 b a d e by funext w; fin_cases w <;> rfl]
      exact hc d e
  have h2 : val_main_v2 (F := Ideal) x2 (ix4 b a 0 e) = ((v' e : ℝ) : EReal) := by
    pointwise [val_main_v2]
    exact hv e
  rw [val_main_v30_apply, val_main_v28_apply, h27, h26, val_main_v29_apply, Fin.sum_univ_one,
    show lidx_main_v29 (ix4 b a 0 e) 0 = ix4 b a 0 0 by funext w; fin_cases w <;> rfl,
    show ridx_main_v29 (ix4 b a 0 e) 0 = ix4 b a 0 e by funext w; fin_cases w <;> rfl, r24 x0 x1 x3 x4 x7 b a i l r q' k' hq hk hi hl hr, h2]
  show ((old i l r : ℝ) : EReal) * ((∑ d, q' d * c' d e : ℝ) : EReal) + (((∑ d, q' d * k' d) * new i l r : ℝ) : EReal) * ((v' e : ℝ) : EReal) = _
  rw [← EReal.coe_mul, ← EReal.coe_mul, ← EReal.coe_add]
  exact congrArg _ (num_split _ _ _ q' k' fun d => c' d e).symm
include hq hk hi hl hr hn in
/-- The denominators. -/
theorem r34 : val_main_v34 (F := Ideal) x0 x1 x3 x4 x6 x7 (ix3 b a 0) = ((∑ d, q' d * nel i l r (k' d) (n' d) : ℝ) : EReal) := by
  have h31 : val_main_v31 (F := Ideal) x0 x6 (ix3 b a 0) = ((∑ d, q' d * n' d : ℝ) : EReal) := by
    rw [val_main_v31_apply]
    refine dot_real _ _ q' n' (fun d => ?_) (fun d => ?_)
    · rw [show lidx_main_v31 (ix3 b a 0) d = ix4 b a 0 d by funext w; fin_cases w <;> rfl]
      pointwise [val_main_v0]
      exact hq d
    · rw [show ridx_main_v31 (ix3 b a 0) d = ix3 b a d by funext w; fin_cases w <;> rfl]
      exact hn d
  rw [val_main_v34_apply, val_main_v32_apply, r22 x3 x4 x7 b a i l r hi hl hr, h31, val_main_v33_apply, Fin.sum_univ_one,
    show idx_main_v33 (ix3 b a 0) 0 = ix4 b a 0 0 by funext w; fin_cases w <;> rfl, r24 x0 x1 x3 x4 x7 b a i l r q' k' hq hk hi hl hr,
    show val_main_cst_1 (F := Ideal) (Shape.Idx.first h_S_) = (0 : EReal) by pointwise [val_main_cst_1], zero_add]
  show ((old i l r : ℝ) : EReal) * ((∑ d, q' d * n' d : ℝ) : EReal) + (((∑ d, q' d * k' d) * new i l r : ℝ) : EReal) = _
  rw [← EReal.coe_mul, ← EReal.coe_add]
  exact congrArg _ (den_split _ _ q' k' n').symm
include hq hk hv hi hl hr hc hn in
/-- The output, by head. -/
theorem r41 (e : Fin 512) : val_main_v41 (F := Ideal) x0 x1 x2 x3 x4 x5 x6 x7 (ix4 b a 0 e) = ((out i l r q' k' n' (v' e) (fun d => c' d e) : ℝ) : EReal) := by
  rw [val_main_v41_apply, r30 x0 x1 x2 x3 x4 x5 x7 b a i l r q' k' v' c' hq hk hv hi hl hr hc, val_main_v40_apply, val_main_v39_apply,
    show idx_main_v39 (idx_main_v40 (ix4 b a 0 e)) = ix3 b a 0 by funext w; fin_cases w <;> rfl,
    val_main_v38_apply, val_main_v35_apply, val_main_v37_apply, val_main_v36_apply, r34 x0 x1 x3 x4 x6 x7 b a i l r q' k' n' hq hk hi hl hr hn, r17 x3 x4 x7 b a i l r hi hl hr]
  have h := out_of (∑ d, q' d * cel i l r (k' d) (v' e) (c' d e)) (∑ d, q' d * nel i l r (k' d) (n' d)) (mx i l r)
  rw [zero_sub] at h
  exact h
include hq hk hv hi hl hr hc hn in
/-- The output. -/
theorem r66 (e : Fin 512) (n : Fin 2048) (hne : n.val = 512 * a.val + e.val) :
    val_main_v66 (F := Ideal) x0 x1 x2 x3 x4 x5 x6 x7 (ix3 b 0 n) = ((out i l r q' k' n' (v' e) (fun d => c' d e) : ℝ) : EReal) := by
  have h := r41 x0 x1 x2 x3 x4 x5 x6 x7 b a i l r q' k' v' n' c' hq hk hv hi hl hr hc hn e
  generalize hy : val_main_v41 (F := Ideal) x0 x1 x2 x3 x4 x5 x6 x7 = y at h
  unfold val_main_v66 val_main_v65
  rw [hy]
  pointwise
  rw [← h]
  congr 1
  have := a.isLt
  have := e.isLt
  funext w; fin_cases w <;> first | rfl | exact Fin.ext (by simp; omega)
include hk hi hl hr hn in
/-- The new normaliser, as returned. -/
theorem r67 (d : Fin 512) : val_main_v67 (F := Ideal) x1 x3 x4 x6 x7 (ix4 b a 0 d) = ((nel i l r (k' d) (n' d) : ℝ) : EReal) := by
  have h := r64 x1 x3 x4 x6 x7 b a i l r k' n' hk hi hl hr hn d
  generalize hy : val_main_v64 (F := Ideal) x1 x3 x4 x6 x7 = y at h
  unfold val_main_v67
  rw [hy]
  pointwise
  exact h
include hi hl hr in
/-- The new stabiliser, as returned. -/
theorem r68 : val_main_v68 (F := Ideal) x3 x4 x7 (ix4 b a 0 0) = ((mx i l r : ℝ) : EReal) := by
  have h := r42 x3 x4 x7 b a i l r hi hl hr
  generalize hy : val_main_v42 (F := Ideal) x3 x4 x7 = y at h
  unfold val_main_v68
  rw [hy]
  pointwise
  exact h
end Cert.Reference6Ideal.Cell
-- ==== Proof.Cell.lean ====
/-
  The decoding step of the recurrence: the kernel's four heads, block by block, are the reference's.
-/
module
public import proofs.«01_k».proof.Defs
public import proofs.«01_k».proof.Proof.CellHead
public import proofs.«01_k».proof.Proof.CellRef
public import Idealize.ShloMosaic.Lib.Pipeline.ReadBack
public import Idealize.ShloMosaic.Adequacy
@[expose] public section
set_option maxRecDepth 16384
noncomputable section
namespace Cert.Kernel6Ideal.Cell
open Cert.Cell Cert.Kernel6Ideal Cert.Kernel6Ideal.Gen Idealize.ShloMosaic Idealize.ShloMosaic.TcCoe Idealize.SL.Sem
open Cert.Mlstm (Fn)
section Heads
variable {F : FTy → Type} [FloatOps F]
/-- Head `a`'s columns of a block. -/
def slx (x : Vec F S1x1x2048 .f32) (a : Fin 4) : Vec F S1x1x512 .f32 := fun j => x (ix3 0 0 ⟨512 * a.val + (j 2).val, by have h : (j 2).val < 512 := (j 2).isLt; have h' := a.isLt; omega⟩)
/-- Head `a`'s gates. -/
def slg (x : Vec F S1x4x1x2 .f32) (a : Fin 4) : Vec F S1x1x1x2 .f32 := fun j => x (ix4 0 a 0 (j 3))
/-- Head `a`'s stabiliser. -/
def slm (x : Vec F S1x4x1x1 .f32) (a : Fin 4) : Vec F S1x1x1x1 .f32 := fun _ => x (ix4 0 a 0 0)
/-- Head `a`'s matrix state. -/
def slc (x : Vec F S1x4x512x512 .f32) (a : Fin 4) : Vec F S1x1x512x512 .f32 := fun j => x (ix4 0 a (j 2) (j 3))
/-- Head `a`'s normaliser. -/
def sln (x : Vec F S1x4x1x512 .f32) (a : Fin 4) : Vec F S1x1x1x512 .f32 := fun j => x (ix4 0 a 0 (j 3))
/-- The loads of head 0. -/
theorem ldx_0 (x : Vec F S1x1x2048 .f32) : View.ld x r0_0 = slx x ⟨0, by decide⟩ :=
  funext fun j => View.ld_unit_apply_of _ _ _ _ _ _ fun b => by
    have h0 : (j 0).val < 1 := (j 0).isLt
    have h1 : (j 1).val < 1 := (j 1).isLt
    fin_cases b <;> simp [ix3] <;> omega
/-- The loads of head 0. -/
theorem ldg_0 (x : Vec F S1x4x1x2 .f32) : View.ld x r0_1 = slg x ⟨0, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 0. -/
theorem ldm_0 (x : Vec F S1x4x1x1 .f32) : View.ld x r0_2 = slm x ⟨0, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    have h3 : (j 3).val < 1 := (j 3).isLt
    fin_cases b <;> simp [ix4] <;> omega
/-- The loads of head 0. -/
theorem ldc_0 (x : Vec F S1x4x512x512 .f32) : View.ld x r0_3 = slc x ⟨0, by decide⟩ :=
  funext fun j => View.ld_unit_apply_of _ _ _ _ _ _ fun b => by
    have h0 : (j 0).val < 1 := (j 0).isLt
    have h1 : (j 1).val < 1 := (j 1).isLt
    fin_cases b <;> simp [ix4] <;> omega
/-- The loads of head 0. -/
theorem ldn_0 (x : Vec F S1x4x1x512 .f32) : View.ld x r0_4 = sln x ⟨0, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 1. -/
theorem ldx_1 (x : Vec F S1x1x2048 .f32) : View.ld x r0_5 = slx x ⟨1, by decide⟩ :=
  funext fun j => View.ld_unit_apply_of _ _ _ _ _ _ fun b => by
    have h0 : (j 0).val < 1 := (j 0).isLt
    have h1 : (j 1).val < 1 := (j 1).isLt
    fin_cases b <;> simp [ix3] <;> omega
/-- The loads of head 1. -/
theorem ldg_1 (x : Vec F S1x4x1x2 .f32) : View.ld x r0_6 = slg x ⟨1, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 1. -/
theorem ldm_1 (x : Vec F S1x4x1x1 .f32) : View.ld x r0_7 = slm x ⟨1, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    have h3 : (j 3).val < 1 := (j 3).isLt
    fin_cases b <;> simp [ix4] <;> omega
/-- The loads of head 1. -/
theorem ldc_1 (x : Vec F S1x4x512x512 .f32) : View.ld x r0_8 = slc x ⟨1, by decide⟩ :=
  funext fun j => View.ld_unit_apply_of _ _ _ _ _ _ fun b => by
    have h0 : (j 0).val < 1 := (j 0).isLt
    have h1 : (j 1).val < 1 := (j 1).isLt
    fin_cases b <;> simp [ix4] <;> omega
/-- The loads of head 1. -/
theorem ldn_1 (x : Vec F S1x4x1x512 .f32) : View.ld x r0_9 = sln x ⟨1, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 2. -/
theorem ldx_2 (x : Vec F S1x1x2048 .f32) : View.ld x r0_10 = slx x ⟨2, by decide⟩ :=
  funext fun j => View.ld_unit_apply_of _ _ _ _ _ _ fun b => by
    have h0 : (j 0).val < 1 := (j 0).isLt
    have h1 : (j 1).val < 1 := (j 1).isLt
    fin_cases b <;> simp [ix3] <;> omega
/-- The loads of head 2. -/
theorem ldg_2 (x : Vec F S1x4x1x2 .f32) : View.ld x r0_11 = slg x ⟨2, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 2. -/
theorem ldm_2 (x : Vec F S1x4x1x1 .f32) : View.ld x r0_12 = slm x ⟨2, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    have h3 : (j 3).val < 1 := (j 3).isLt
    fin_cases b <;> simp [ix4] <;> omega
/-- The loads of head 2. -/
theorem ldc_2 (x : Vec F S1x4x512x512 .f32) : View.ld x r0_13 = slc x ⟨2, by decide⟩ :=
  funext fun j => View.ld_unit_apply_of _ _ _ _ _ _ fun b => by
    have h0 : (j 0).val < 1 := (j 0).isLt
    have h1 : (j 1).val < 1 := (j 1).isLt
    fin_cases b <;> simp [ix4] <;> omega
/-- The loads of head 2. -/
theorem ldn_2 (x : Vec F S1x4x1x512 .f32) : View.ld x r0_14 = sln x ⟨2, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 3. -/
theorem ldx_3 (x : Vec F S1x1x2048 .f32) : View.ld x r0_15 = slx x ⟨3, by decide⟩ :=
  funext fun j => View.ld_unit_apply_of _ _ _ _ _ _ fun b => by
    have h0 : (j 0).val < 1 := (j 0).isLt
    have h1 : (j 1).val < 1 := (j 1).isLt
    fin_cases b <;> simp [ix3] <;> omega
/-- The loads of head 3. -/
theorem ldg_3 (x : Vec F S1x4x1x2 .f32) : View.ld x r0_16 = slg x ⟨3, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The loads of head 3. -/
theorem ldm_3 (x : Vec F S1x4x1x1 .f32) : View.ld x r0_17 = slm x ⟨3, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    have h3 : (j 3).val < 1 := (j 3).isLt
    fin_cases b <;> simp [ix4] <;> omega
/-- The loads of head 3. -/
theorem ldc_3 (x : Vec F S1x4x512x512 .f32) : View.ld x r0_18 = slc x ⟨3, by decide⟩ :=
  funext fun j => View.ld_unit_apply_of _ _ _ _ _ _ fun b => by
    have h0 : (j 0).val < 1 := (j 0).isLt
    have h1 : (j 1).val < 1 := (j 1).isLt
    fin_cases b <;> simp [ix4] <;> omega
/-- The loads of head 3. -/
theorem ldn_3 (x : Vec F S1x4x1x512 .f32) : View.ld x r0_19 = sln x ⟨3, by decide⟩ :=
  funext fun j => View.ld_unit_apply_of _ _ _ _ _ _ fun b => by
    have h0 : (j 0).val < 1 := (j 0).isLt
    have h1 : (j 1).val < 1 := (j 1).isLt
    have h2 : (j 2).val < 1 := (j 2).isLt
    fin_cases b <;> simp [ix4] <;> omega
/-- The head that column `n` of a block belongs to. -/
def hd (n : Fin 2048) : Fin 4 := ⟨n.val / 512, by omega⟩
/-- The outputs of all heads. -/
def nH (x0 x1 x2 : Vec F S1x1x2048 .f32) (x3 : Vec F S1x4x1x2 .f32) (x4 : Vec F S1x4x512x512 .f32) (x5 : Vec F S1x4x1x512 .f32) (x6 : Vec F S1x4x1x1 .f32) : Vec F S1x1x2048 .f32 :=
  fun y => hH (slx x0 (hd (y 2))) (slx x1 (hd (y 2))) (slx x2 (hd (y 2))) (slg x3 (hd (y 2))) (slm x6 (hd (y 2))) (slc x4 (hd (y 2))) (sln x5 (hd (y 2)))
    (ix3 0 0 ⟨(y 2).val % 512, Nat.mod_lt _ (by decide)⟩)
/-- The matrix states of all heads. -/
def nC (x1 x2 : Vec F S1x1x2048 .f32) (x3 : Vec F S1x4x1x2 .f32) (x4 : Vec F S1x4x512x512 .f32) (x6 : Vec F S1x4x1x1 .f32) : Vec F S1x4x512x512 .f32 :=
  fun y => hC (slx x1 (y 1)) (slx x2 (y 1)) (slg x3 (y 1)) (slm x6 (y 1)) (slc x4 (y 1)) (ix4 0 0 (y 2) (y 3))
/-- The normalisers of all heads. -/
def nN (x1 : Vec F S1x1x2048 .f32) (x3 : Vec F S1x4x1x2 .f32) (x5 : Vec F S1x4x1x512 .f32) (x6 : Vec F S1x4x1x1 .f32) : Vec F S1x4x1x512 .f32 :=
  fun y => hN (slx x1 (y 1)) (slg x3 (y 1)) (slm x6 (y 1)) (sln x5 (y 1)) (ix4 0 0 0 (y 3))
/-- The stabilisers of all heads. -/
def nM (x3 : Vec F S1x4x1x2 .f32) (x6 : Vec F S1x4x1x1 .f32) : Vec F S1x4x1x1 .f32 :=
  fun y => hM (slg x3 (y 1)) (slm x6 (y 1)) (ix4 0 0 0 0)
theorem nH_at (x0 x1 x2 : Vec F S1x1x2048 .f32) (x3 : Vec F S1x4x1x2 .f32) (x4 : Vec F S1x4x512x512 .f32) (x5 : Vec F S1x4x1x512 .f32) (x6 : Vec F S1x4x1x1 .f32) (a : Fin 4) (x : S1x1x512.Idx) (y : S1x1x2048.Idx) (h2 : (y 2).val = 512 * a.val + (x 2).val) :
    hH (slx x0 a) (slx x1 a) (slx x2 a) (slg x3 a) (slm x6 a) (slc x4 a) (sln x5 a) x = nH x0 x1 x2 x3 x4 x5 x6 y := by
  have e0 : (x 0).val < 1 := (x 0).isLt
  have e1 : (x 1).val < 1 := (x 1).isLt
  have hx : (x 2).val < 512 := (x 2).isLt
  obtain rfl : a = hd (y 2) := Fin.ext (by show a.val = (y 2).val / 512; omega)
  show _ = hH _ _ _ _ _ _ _ _
  congr 1
  funext b; apply Fin.ext
  fin_cases b
  · show (x 0).val = 0; omega
  · show (x 1).val = 0; omega
  · show (x 2).val = (y 2).val % 512; omega
theorem nC_at (x1 x2 : Vec F S1x1x2048 .f32) (x3 : Vec F S1x4x1x2 .f32) (x4 : Vec F S1x4x512x512 .f32) (x6 : Vec F S1x4x1x1 .f32) (a : Fin 4) (x : S1x1x512x512.Idx) (y : S1x4x512x512.Idx)
    (h1 : (y 1).val = a.val) (h2 : (y 2).val = (x 2).val) (h3 : (y 3).val = (x 3).val) :
    hC (slx x1 a) (slx x2 a) (slg x3 a) (slm x6 a) (slc x4 a) x = nC x1 x2 x3 x4 x6 y := by
  have e0 : (x 0).val < 1 := (x 0).isLt
  have e1 : (x 1).val < 1 := (x 1).isLt
  obtain rfl : a = y 1 := Fin.ext h1.symm
  show _ = hC _ _ _ _ _ _
  congr 1
  funext b; apply Fin.ext
  fin_cases b
  · show (x 0).val = 0; omega
  · show (x 1).val = 0; omega
  · exact h2.symm
  · exact h3.symm
theorem nN_at (x1 : Vec F S1x1x2048 .f32) (x3 : Vec F S1x4x1x2 .f32) (x5 : Vec F S1x4x1x512 .f32) (x6 : Vec F S1x4x1x1 .f32) (a : Fin 4) (x : S1x1x1x512.Idx) (y : S1x4x1x512.Idx)
    (h1 : (y 1).val = a.val) (h3 : (y 3).val = (x 3).val) :
    hN (slx x1 a) (slg x3 a) (slm x6 a) (sln x5 a) x = nN x1 x3 x5 x6 y := by
  have e0 : (x 0).val < 1 := (x 0).isLt
  have e1 : (x 1).val < 1 := (x 1).isLt
  have e2 : (x 2).val < 1 := (x 2).isLt
  obtain rfl : a = y 1 := Fin.ext h1.symm
  show _ = hN _ _ _ _ _
  congr 1
  funext b; apply Fin.ext
  fin_cases b
  · show (x 0).val = 0; omega
  · show (x 1).val = 0; omega
  · show (x 2).val = 0; omega
  · exact h3.symm
theorem nM_at (x3 : Vec F S1x4x1x2 .f32) (x6 : Vec F S1x4x1x1 .f32) (a : Fin 4) (x : S1x1x1x1.Idx) (y : S1x4x1x1.Idx)
    (h1 : (y 1).val = a.val) : hM (slg x3 a) (slm x6 a) x = nM x3 x6 y := by
  have e0 : (x 0).val < 1 := (x 0).isLt
  have e1 : (x 1).val < 1 := (x 1).isLt
  have e2 : (x 2).val < 1 := (x 2).isLt
  have e3 : (x 3).val < 1 := (x 3).isLt
  obtain rfl : a = y 1 := Fin.ext h1.symm
  show _ = hM _ _ _
  congr 1
  funext b; apply Fin.ext
  fin_cases b
  · show (x 0).val = 0; omega
  · show (x 1).val = 0; omega
  · show (x 2).val = 0; omega
  · show (x 3).val = 0; omega
/-- The stores of result 0, head by head. -/
theorem pieces7 (x0 x1 x2 : Vec F S1x1x2048 .f32) (x3 : Vec F S1x4x1x2 .f32) (x4 : Vec F S1x4x512x512 .f32) (x5 : Vec F S1x4x1x512 .f32) (x6 : Vec F S1x4x1x1 .f32) : out0_7 x0 x1 x2 x3 x4 x5 x6 =
    View.canon [⟨r0_15, hH (View.ld x0 r0_15) (View.ld x1 r0_15) (View.ld x2 r0_15) (View.ld x3 r0_16) (View.ld x6 r0_17) (View.ld x4 r0_18) (View.ld x5 r0_19)⟩,
      ⟨r0_10, hH (View.ld x0 r0_10) (View.ld x1 r0_10) (View.ld x2 r0_10) (View.ld x3 r0_11) (View.ld x6 r0_12) (View.ld x4 r0_13) (View.ld x5 r0_14)⟩,
      ⟨r0_5, hH (View.ld x0 r0_5) (View.ld x1 r0_5) (View.ld x2 r0_5) (View.ld x3 r0_6) (View.ld x6 r0_7) (View.ld x4 r0_8) (View.ld x5 r0_9)⟩,
      ⟨r0_0, hH (View.ld x0 r0_0) (View.ld x1 r0_0) (View.ld x2 r0_0) (View.ld x3 r0_1) (View.ld x6 r0_2) (View.ld x4 r0_3) (View.ld x5 r0_4)⟩] := by
  unfold_out out0_7
  rfl
/-- Result 0 of a point. -/
theorem out7_eq (x0 x1 x2 : Vec F S1x1x2048 .f32) (x3 : Vec F S1x4x1x2 .f32) (x4 : Vec F S1x4x512x512 .f32) (x5 : Vec F S1x4x1x512 .f32) (x6 : Vec F S1x4x1x1 .f32) : out0_7 x0 x1 x2 x3 x4 x5 x6 = nH x0 x1 x2 x3 x4 x5 x6 := by
  rw [pieces7]
  funext y
  simp only [ldc_0, ldc_1, ldc_2, ldc_3, ldg_0, ldg_1, ldg_2, ldg_3, ldm_0, ldm_1, ldm_2, ldm_3, ldn_0, ldn_1, ldn_2, ldn_3, ldx_0, ldx_1, ldx_2, ldx_3]
  canon_tiles x h
  all_goals exact nH_at _ _ _ _ _ _ _ _ _ _ (by dsimp only; omega)
/-- The stores of result 1, head by head. -/
theorem pieces8 (x0 x1 x2 : Vec F S1x1x2048 .f32) (x3 : Vec F S1x4x1x2 .f32) (x4 : Vec F S1x4x512x512 .f32) (x5 : Vec F S1x4x1x512 .f32) (x6 : Vec F S1x4x1x1 .f32) : out0_8 x0 x1 x2 x3 x4 x5 x6 =
    View.canon [⟨r0_18, hC (View.ld x1 r0_15) (View.ld x2 r0_15) (View.ld x3 r0_16) (View.ld x6 r0_17) (View.ld x4 r0_18)⟩,
      ⟨r0_13, hC (View.ld x1 r0_10) (View.ld x2 r0_10) (View.ld x3 r0_11) (View.ld x6 r0_12) (View.ld x4 r0_13)⟩,
      ⟨r0_8, hC (View.ld x1 r0_5) (View.ld x2 r0_5) (View.ld x3 r0_6) (View.ld x6 r0_7) (View.ld x4 r0_8)⟩,
      ⟨r0_3, hC (View.ld x1 r0_0) (View.ld x2 r0_0) (View.ld x3 r0_1) (View.ld x6 r0_2) (View.ld x4 r0_3)⟩] := by
  unfold_out out0_8
  rfl
/-- Result 1 of a point. -/
theorem out8_eq (x0 x1 x2 : Vec F S1x1x2048 .f32) (x3 : Vec F S1x4x1x2 .f32) (x4 : Vec F S1x4x512x512 .f32) (x5 : Vec F S1x4x1x512 .f32) (x6 : Vec F S1x4x1x1 .f32) : out0_8 x0 x1 x2 x3 x4 x5 x6 = nC x1 x2 x3 x4 x6 := by
  rw [pieces8]
  funext y
  simp only [ldc_0, ldc_1, ldc_2, ldc_3, ldg_0, ldg_1, ldg_2, ldg_3, ldm_0, ldm_1, ldm_2, ldm_3, ldx_0, ldx_1, ldx_2, ldx_3]
  canon_tiles x h
  all_goals exact nC_at _ _ _ _ _ _ _ _ (by dsimp only; omega) (by omega) (by omega)
/-- The stores of result 2, head by head. -/
theorem pieces9 (x0 x1 x2 : Vec F S1x1x2048 .f32) (x3 : Vec F S1x4x1x2 .f32) (x4 : Vec F S1x4x512x512 .f32) (x5 : Vec F S1x4x1x512 .f32) (x6 : Vec F S1x4x1x1 .f32) : out0_9 x0 x1 x2 x3 x4 x5 x6 =
    View.canon [⟨r0_19, hN (View.ld x1 r0_15) (View.ld x3 r0_16) (View.ld x6 r0_17) (View.ld x5 r0_19)⟩,
      ⟨r0_14, hN (View.ld x1 r0_10) (View.ld x3 r0_11) (View.ld x6 r0_12) (View.ld x5 r0_14)⟩,
      ⟨r0_9, hN (View.ld x1 r0_5) (View.ld x3 r0_6) (View.ld x6 r0_7) (View.ld x5 r0_9)⟩,
      ⟨r0_4, hN (View.ld x1 r0_0) (View.ld x3 r0_1) (View.ld x6 r0_2) (View.ld x5 r0_4)⟩] := by
  unfold_out out0_9
  rfl
/-- Result 2 of a point. -/
theorem out9_eq (x0 x1 x2 : Vec F S1x1x2048 .f32) (x3 : Vec F S1x4x1x2 .f32) (x4 : Vec F S1x4x512x512 .f32) (x5 : Vec F S1x4x1x512 .f32) (x6 : Vec F S1x4x1x1 .f32) : out0_9 x0 x1 x2 x3 x4 x5 x6 = nN x1 x3 x5 x6 := by
  rw [pieces9]
  funext y
  simp only [ldg_0, ldg_1, ldg_2, ldg_3, ldm_0, ldm_1, ldm_2, ldm_3, ldn_0, ldn_1, ldn_2, ldn_3, ldx_0, ldx_1, ldx_2, ldx_3]
  canon_tiles x h
  all_goals exact nN_at _ _ _ _ _ _ _ (by dsimp only; omega) (by omega)
/-- The stores of result 3, head by head. -/
theorem pieces10 (x0 x1 x2 : Vec F S1x1x2048 .f32) (x3 : Vec F S1x4x1x2 .f32) (x4 : Vec F S1x4x512x512 .f32) (x5 : Vec F S1x4x1x512 .f32) (x6 : Vec F S1x4x1x1 .f32) : out0_10 x0 x1 x2 x3 x4 x5 x6 =
    View.canon [⟨r0_17, hM (View.ld x3 r0_16) (View.ld x6 r0_17)⟩,
      ⟨r0_12, hM (View.ld x3 r0_11) (View.ld x6 r0_12)⟩,
      ⟨r0_7, hM (View.ld x3 r0_6) (View.ld x6 r0_7)⟩,
      ⟨r0_2, hM (View.ld x3 r0_1) (View.ld x6 r0_2)⟩] := by
  unfold_out out0_10
  rfl
/-- Result 3 of a point. -/
theorem out10_eq (x0 x1 x2 : Vec F S1x1x2048 .f32) (x3 : Vec F S1x4x1x2 .f32) (x4 : Vec F S1x4x512x512 .f32) (x5 : Vec F S1x4x1x512 .f32) (x6 : Vec F S1x4x1x1 .f32) : out0_10 x0 x1 x2 x3 x4 x5 x6 = nM x3 x6 := by
  rw [pieces10]
  funext y
  simp only [ldg_0, ldg_1, ldg_2, ldg_3, ldm_0, ldm_1, ldm_2, ldm_3]
  canon_tiles x h
  all_goals exact nM_at _ _ _ _ _ (by dsimp only; omega)
end Heads
section Grid
variable (m : (ℓ : Loc nD τ sig) → Buf (Elt Ideal) ℓ)
/-- The query. -/
abbrev X0 (c : Dev nD) : Vec Ideal S32x1x4x512 .f32 := m ((c : Thread nD τ).loc main_arg0)
/-- The key. -/
abbrev X1 (c : Dev nD) : Vec Ideal S32x1x4x512 .f32 := m ((c : Thread nD τ).loc main_arg1)
/-- The value. -/
abbrev X2 (c : Dev nD) : Vec Ideal S32x1x4x512 .f32 := m ((c : Thread nD τ).loc main_arg2)
/-- The input gates. -/
abbrev X3 (c : Dev nD) : Vec Ideal S32x1x4 .f32 := m ((c : Thread nD τ).loc main_arg3)
/-- The log forget gates. -/
abbrev X4 (c : Dev nD) : Vec Ideal S32x1x4 .f32 := m ((c : Thread nD τ).loc main_arg4)
/-- The matrix states. -/
abbrev X5 (c : Dev nD) : Vec Ideal S32x4x512x512 .f32 := m ((c : Thread nD τ).loc main_arg5)
/-- The normalisers. -/
abbrev X6 (c : Dev nD) : Vec Ideal S32x4x512 .f32 := m ((c : Thread nD τ).loc main_arg6)
/-- The stabilisers. -/
abbrev X7 (c : Dev nD) : Vec Ideal S32x4 .f32 := m ((c : Thread nD τ).loc main_arg7)

/-- The side conditions of the precondition's operations. -/
theorem preFacts : Cert.Pre_finite6.Facts := ⟨by decide, by decide, by decide, by decide, by decide⟩
/-- All inputs are real numbers. -/
structure Fins (c : Dev nD) : Prop where
  f0 : Fn (X0 m c)
  f1 : Fn (X1 m c)
  f2 : Fn (X2 m c)
  f3 : Fn (X3 m c)
  f4 : Fn (X4 m c)
  f5 : Fn (X5 m c)
  f6 : Fn (X6 m c)
  f7 : Fn (X7 m c)
/-- The precondition, read. -/
theorem fin (h : Cert.Pre_Kernel6Ideal_finite6 (hPre_finite6 := preFacts) m) (c : Dev nD) : Fins m c := by
  obtain ⟨h0, h1, h2, h3, h4, h5, h6, h7⟩ := h c
  exact ⟨Cert.KernelIdeal.Scan.fn_of_mask _ _ h0, Cert.KernelIdeal.Scan.fn_of_mask _ _ h1, Cert.KernelIdeal.Scan.fn_of_mask _ _ h2, Cert.KernelIdeal.Scan.fn_of_mask _ _ h3,
    Cert.KernelIdeal.Scan.fn_of_mask _ _ h4, Cert.KernelIdeal.Scan.fn_of_mask _ _ h5, Cert.KernelIdeal.Scan.fn_of_mask _ _ h6, Cert.KernelIdeal.Scan.fn_of_mask _ _ h7⟩
/-- The blocks' places, decided over the grid. -/
theorem widx : ∀ t : Fin cfg0.N, win0_0.index t = ![t.val, 0, 0] ∧ win0_1.index t = ![t.val, 0, 0] ∧ win0_2.index t = ![t.val, 0, 0]
    ∧ win0_3.index t = ![t.val, 0, 0, 0] ∧ win0_4.index t = ![t.val, 0, 0, 0] ∧ win0_5.index t = ![t.val, 0, 0, 0] ∧ win0_6.index t = ![t.val, 0, 0, 0]
    ∧ win0_7.index t = ![t.val, 0, 0] ∧ win0_8.index t = ![t.val, 0, 0, 0] ∧ win0_9.index t = ![t.val, 0, 0, 0] ∧ win0_10.index t = ![t.val, 0, 0, 0] := by decide +kernel
/-- Every point writes its blocks back. -/
theorem flushes : ∀ t : Fin cfg0.N, (cfg0.win 7).flush t = true ∧ (cfg0.win 8).flush t = true ∧ (cfg0.win 9).flush t = true ∧ (cfg0.win 10).flush t = true := by decide +kernel
/-- Head `a`'s query at a point. -/
theorem blk0 (c : Dev nD) (t : Fin cfg0.N) (b : Fin 32) (hb : b.val = t.val) (a : Fin 4) (d : Fin 512) :
    slx (iblk m c 0 t : Vec Ideal S1x1x2048 .f32) a (ix3 0 0 d) = X0 m c (ix4 b 0 a d) := by
  have ha := a.isLt
  have hd := d.isLt
  have hs : (V m c main_v4 : Vec Ideal S32x1x2048 .f32) (ix3 b 0 ⟨512 * a.val + d.val, by omega⟩) = X0 m c (ix4 b 0 a d) := by
    entry_read
    pointwise
  refine Eq.trans (congrArg (V m c main_v4 : Vec Ideal S32x1x2048 .f32) ?_) hs
  blk_ext [widx t]
/-- Head `a`'s key at a point. -/
theorem blk1 (c : Dev nD) (t : Fin cfg0.N) (b : Fin 32) (hb : b.val = t.val) (a : Fin 4) (d : Fin 512) :
    slx (iblk m c 1 t : Vec Ideal S1x1x2048 .f32) a (ix3 0 0 d) = X1 m c (ix4 b 0 a d) := by
  have ha := a.isLt
  have hd := d.isLt
  have hs : (V m c main_v5 : Vec Ideal S32x1x2048 .f32) (ix3 b 0 ⟨512 * a.val + d.val, by omega⟩) = X1 m c (ix4 b 0 a d) := by
    entry_read
    pointwise
  refine Eq.trans (congrArg (V m c main_v5 : Vec Ideal S32x1x2048 .f32) ?_) hs
  blk_ext [widx t]
/-- Head `a`'s value at a point. -/
theorem blk2 (c : Dev nD) (t : Fin cfg0.N) (b : Fin 32) (hb : b.val = t.val) (a : Fin 4) (d : Fin 512) :
    slx (iblk m c 2 t : Vec Ideal S1x1x2048 .f32) a (ix3 0 0 d) = X2 m c (ix4 b 0 a d) := by
  have ha := a.isLt
  have hd := d.isLt
  have hs : (V m c main_v6 : Vec Ideal S32x1x2048 .f32) (ix3 b 0 ⟨512 * a.val + d.val, by omega⟩) = X2 m c (ix4 b 0 a d) := by
    entry_read
    pointwise
  refine Eq.trans (congrArg (V m c main_v6 : Vec Ideal S32x1x2048 .f32) ?_) hs
  blk_ext [widx t]
/-- The staged gates. -/
theorem stagedg (c : Dev nD) (b : Fin 32) (a : Fin 4) (j : Fin 2) :
    (V m c main_v3 : Vec Ideal S32x4x1x2 .f32) (ix4 b a 0 j) = if j.val = 0 then X3 m c (ix3 b 0 a) else X4 m c (ix3 b 0 a) := by
  entry_read
  pointwise
  have ha := a.isLt
  by_cases hj : j.val = 0
  · rw [if_pos hj, dif_pos (by omega)]
    refine congrArg (X3 m c) ?_
    funext w; fin_cases w <;> first | rfl | exact Fin.ext (by simp [hj]; done) | exact Fin.ext (by simp [ix3]; omega)
  · rw [if_neg hj, dif_neg (by omega)]
    refine congrArg (X4 m c) ?_
    have hj1 : j.val = 1 := by omega
    funext w; fin_cases w <;> first | rfl | exact Fin.ext (by simp [hj1]; done) | exact Fin.ext (by simp [ix3]; omega)
/-- Head `a`'s gates at a point. -/
theorem blk3 (c : Dev nD) (t : Fin cfg0.N) (b : Fin 32) (hb : b.val = t.val) (a : Fin 4) (j : Fin 2) :
    slg (iblk m c 3 t : Vec Ideal S1x4x1x2 .f32) a (ix4 0 0 0 j) = if j.val = 0 then X3 m c (ix3 b 0 a) else X4 m c (ix3 b 0 a) := by
  refine Eq.trans (congrArg (V m c main_v3 : Vec Ideal S32x4x1x2 .f32) ?_) (stagedg m c b a j)
  blk_ext [widx t]
/-- Head `a`'s matrix state at a point. -/
theorem blk4 (c : Dev nD) (t : Fin cfg0.N) (b : Fin 32) (hb : b.val = t.val) (a : Fin 4) (d e : Fin 512) :
    slc (iblk m c 4 t : Vec Ideal S1x4x512x512 .f32) a (ix4 0 0 d e) = X5 m c (ix4 b a d e) := by
  refine Eq.trans (congrArg (V m c main_arg5 : Vec Ideal S32x4x512x512 .f32) ?_) (show (V m c main_arg5 : Vec Ideal S32x4x512x512 .f32) (ix4 b a d e) = X5 m c (ix4 b a d e) by entry_read; rfl)
  blk_ext [widx t]
/-- Head `a`'s normaliser at a point. -/
theorem blk5 (c : Dev nD) (t : Fin cfg0.N) (b : Fin 32) (hb : b.val = t.val) (a : Fin 4) (d : Fin 512) :
    sln (iblk m c 5 t : Vec Ideal S1x4x1x512 .f32) a (ix4 0 0 0 d) = X6 m c (ix3 b a d) := by
  refine Eq.trans (congrArg (V m c main_v7 : Vec Ideal S32x4x1x512 .f32) ?_) (show (V m c main_v7 : Vec Ideal S32x4x1x512 .f32) (ix4 b a 0 d) = X6 m c (ix3 b a d) by entry_read; pointwise)
  blk_ext [widx t]
/-- Head `a`'s stabiliser at a point. -/
theorem blk6 (c : Dev nD) (t : Fin cfg0.N) (b : Fin 32) (hb : b.val = t.val) (a : Fin 4) :
    slm (iblk m c 6 t : Vec Ideal S1x4x1x1 .f32) a (ix4 0 0 0 0) = X7 m c (ix2 b a) := by
  refine Eq.trans (congrArg (V m c main_v8 : Vec Ideal S32x4x1x1 .f32) ?_) (show (V m c main_v8 : Vec Ideal S32x4x1x1 .f32) (ix4 b a 0 0) = X7 m c (ix2 b a) by entry_read; pointwise)
  blk_ext [widx t]
/-- Result 0, block by block. -/
theorem arr7 (c : Dev nD) (t : Fin cfg0.N) (b : Fin 32) (hb : b.val = t.val) (n : Fin 2048) :
    ((dats m 0 c).arrAt 7 cfg0.N : Vec Ideal S32x1x2048 .f32) (ix3 b 0 n) = nH (iblk m c 0 t) (iblk m c 1 t) (iblk m c 2 t) (iblk m c 3 t) (iblk m c 4 t) (iblk m c 5 t) (iblk m c 6 t) (ix3 0 0 n) := by
  have hf := congrFun (Value.blocks7 m c t (flushes t).1) (ix3 0 0 n)
  have he : ((cfg0.win 7).blk t).view.emb (ix3 0 0 n) = ix3 b 0 n := by
    blk_ext [widx t]
  rw [Value.flushed7] at hf
  have h' : (dats m 0 c).arrAt 7 cfg0.N (((cfg0.win 7).blk t).view.emb (ix3 0 0 n)) = out0_7 (iblk m c 0 t) (iblk m c 1 t) (iblk m c 2 t) (iblk m c 3 t) (iblk m c 4 t) (iblk m c 5 t) (iblk m c 6 t) (ix3 0 0 n) := hf
  rw [he, out7_eq] at h'
  exact h'
/-- Result 1, block by block. -/
theorem arr8 (c : Dev nD) (t : Fin cfg0.N) (b : Fin 32) (hb : b.val = t.val) (a : Fin 4) (d e : Fin 512) :
    ((dats m 0 c).arrAt 8 cfg0.N : Vec Ideal S32x4x512x512 .f32) (ix4 b a d e) = nC (iblk m c 1 t) (iblk m c 2 t) (iblk m c 3 t) (iblk m c 4 t) (iblk m c 6 t) (ix4 0 a d e) := by
  have hf := congrFun (Value.blocks8 m c t (flushes t).2.1) (ix4 0 a d e)
  have he : ((cfg0.win 8).blk t).view.emb (ix4 0 a d e) = ix4 b a d e := by
    blk_ext [widx t]
  rw [Value.flushed8] at hf
  have h' : (dats m 0 c).arrAt 8 cfg0.N (((cfg0.win 8).blk t).view.emb (ix4 0 a d e)) = out0_8 (iblk m c 0 t) (iblk m c 1 t) (iblk m c 2 t) (iblk m c 3 t) (iblk m c 4 t) (iblk m c 5 t) (iblk m c 6 t) (ix4 0 a d e) := hf
  rw [he, out8_eq] at h'
  exact h'
/-- Result 2, block by block. -/
theorem arr9 (c : Dev nD) (t : Fin cfg0.N) (b : Fin 32) (hb : b.val = t.val) (a : Fin 4) (d : Fin 512) :
    ((dats m 0 c).arrAt 9 cfg0.N : Vec Ideal S32x4x1x512 .f32) (ix4 b a 0 d) = nN (iblk m c 1 t) (iblk m c 3 t) (iblk m c 5 t) (iblk m c 6 t) (ix4 0 a 0 d) := by
  have hf := congrFun (Value.blocks9 m c t (flushes t).2.2.1) (ix4 0 a 0 d)
  have he : ((cfg0.win 9).blk t).view.emb (ix4 0 a 0 d) = ix4 b a 0 d := by
    blk_ext [widx t]
  rw [Value.flushed9] at hf
  have h' : (dats m 0 c).arrAt 9 cfg0.N (((cfg0.win 9).blk t).view.emb (ix4 0 a 0 d)) = out0_9 (iblk m c 0 t) (iblk m c 1 t) (iblk m c 2 t) (iblk m c 3 t) (iblk m c 4 t) (iblk m c 5 t) (iblk m c 6 t) (ix4 0 a 0 d) := hf
  rw [he, out9_eq] at h'
  exact h'
/-- Result 3, block by block. -/
theorem arr10 (c : Dev nD) (t : Fin cfg0.N) (b : Fin 32) (hb : b.val = t.val) (a : Fin 4) :
    ((dats m 0 c).arrAt 10 cfg0.N : Vec Ideal S32x4x1x1 .f32) (ix4 b a 0 0) = nM (iblk m c 3 t) (iblk m c 6 t) (ix4 0 a 0 0) := by
  have hf := congrFun (Value.blocks10 m c t (flushes t).2.2.2) (ix4 0 a 0 0)
  have he : ((cfg0.win 10).blk t).view.emb (ix4 0 a 0 0) = ix4 b a 0 0 := by
    blk_ext [widx t]
  rw [Value.flushed10] at hf
  have h' : (dats m 0 c).arrAt 10 cfg0.N (((cfg0.win 10).blk t).view.emb (ix4 0 a 0 0)) = out0_10 (iblk m c 0 t) (iblk m c 1 t) (iblk m c 2 t) (iblk m c 3 t) (iblk m c 4 t) (iblk m c 5 t) (iblk m c 6 t) (ix4 0 a 0 0) := hf
  rw [he, out10_eq] at h'
  exact h'
/-- The point that holds row `b`. -/
theorem point (b : Fin 32) : ∃ t : Fin cfg0.N, b.val = t.val := ⟨⟨b.val, by rw [show cfg0.N = 32 from N_0]; exact b.isLt⟩, rfl⟩
/-- The output is the reference's. -/
theorem final7 (c : Dev nD) (hf : Fins m c) : ((dats m 0 c).arrAt 7 cfg0.N : Vec Ideal S32x1x2048 .f32) = Cert.Reference6Ideal.Read.val_main_v66 (F := Ideal) (X0 m c) (X1 m c) (X2 m c) (X3 m c) (X4 m c) (X5 m c) (X6 m c) (X7 m c) := by
  funext j
  obtain ⟨b, n, rfl⟩ : ∃ (b : Fin 32) (n : Fin 2048), j = ix3 b 0 n := ⟨j 0, j 2, by funext w; fin_cases w <;> first | rfl | exact Subsingleton.elim (α := Fin 1) _ _⟩
  obtain ⟨t, hb⟩ := point b
  have hn := n.isLt
  obtain ⟨a, ha⟩ : ∃ a : Fin 4, a.val = n.val / 512 := ⟨⟨n.val / 512, by omega⟩, rfl⟩
  obtain ⟨e, he⟩ : ∃ e : Fin 512, e.val = n.val % 512 := ⟨⟨n.val % 512, by omega⟩, rfl⟩
  rw [arr7 m c t b hb n, ← nH_at _ _ _ _ _ _ _ a (ix3 0 0 e) (ix3 0 0 n) (by show n.val = 512 * a.val + e.val; omega)]
  rw [hH_at _ _ _ _ _ _ _ (X3 m c (ix3 b 0 a)).toReal (X4 m c (ix3 b 0 a)).toReal (X7 m c (ix2 b a)).toReal (fun d => (X0 m c (ix4 b 0 a d)).toReal) (fun d => (X1 m c (ix4 b 0 a d)).toReal) (fun d => (X2 m c (ix4 b 0 a d)).toReal) (fun d => (X6 m c (ix3 b a d)).toReal) (fun d e => (X5 m c (ix4 b a d e)).toReal) (fun d => (blk0 m c t b hb a d).trans (hf.f0 _)) (fun d => (blk1 m c t b hb a d).trans (hf.f1 _)) (fun d => (blk2 m c t b hb a d).trans (hf.f2 _)) (fun d => (blk5 m c t b hb a d).trans (hf.f6 _)) (fun d e => (blk4 m c t b hb a d e).trans (hf.f5 _)) ((blk3 m c t b hb a 0).trans (hf.f3 _)) ((blk3 m c t b hb a 1).trans (hf.f4 _)) ((blk6 m c t b hb a).trans (hf.f7 _)) e]
  exact (Cert.Reference6Ideal.Cell.r66 (X0 m c) (X1 m c) (X2 m c) (X3 m c) (X4 m c) (X5 m c) (X6 m c) (X7 m c) b a (X3 m c (ix3 b 0 a)).toReal (X4 m c (ix3 b 0 a)).toReal (X7 m c (ix2 b a)).toReal (fun d => (X0 m c (ix4 b 0 a d)).toReal) (fun d => (X1 m c (ix4 b 0 a d)).toReal) (fun d => (X2 m c (ix4 b 0 a d)).toReal) (fun d => (X6 m c (ix3 b a d)).toReal) (fun d e => (X5 m c (ix4 b a d e)).toReal) (fun d => hf.f0 _) (fun d => hf.f1 _) (fun d => hf.f2 _) (hf.f3 _) (hf.f4 _) (hf.f7 _) (fun d e => hf.f5 _) (fun d => hf.f6 _) e n (by omega)).symm
/-- The new matrix states are the reference's. -/
theorem final8 (c : Dev nD) (hf : Fins m c) : ((dats m 0 c).arrAt 8 cfg0.N : Vec Ideal S32x4x512x512 .f32) = Cert.Reference6Ideal.Read.val_main_v59 (F := Ideal) (X1 m c) (X2 m c) (X3 m c) (X4 m c) (X5 m c) (X7 m c) := by
  funext j
  obtain ⟨b, a, d, e, rfl⟩ : ∃ (b : Fin 32) (a : Fin 4) (d e : Fin 512), j = ix4 b a d e := ⟨j 0, j 1, j 2, j 3, by funext w; fin_cases w <;> rfl⟩
  obtain ⟨t, hb⟩ := point b
  rw [arr8 m c t b hb a d e, ← nC_at _ _ _ _ _ a (ix4 0 0 d e) (ix4 0 a d e) rfl rfl rfl]
  rw [hC_at _ _ _ _ _ (X3 m c (ix3 b 0 a)).toReal (X4 m c (ix3 b 0 a)).toReal (X7 m c (ix2 b a)).toReal (fun d => (X1 m c (ix4 b 0 a d)).toReal) (fun d => (X2 m c (ix4 b 0 a d)).toReal) (fun d e => (X5 m c (ix4 b a d e)).toReal) (fun d => (blk1 m c t b hb a d).trans (hf.f1 _)) (fun d => (blk2 m c t b hb a d).trans (hf.f2 _)) (fun d e => (blk4 m c t b hb a d e).trans (hf.f5 _)) ((blk3 m c t b hb a 0).trans (hf.f3 _)) ((blk3 m c t b hb a 1).trans (hf.f4 _)) ((blk6 m c t b hb a).trans (hf.f7 _)) d e]
  exact (Cert.Reference6Ideal.Cell.r59 (X1 m c) (X2 m c) (X3 m c) (X4 m c) (X5 m c) (X7 m c) b a (X3 m c (ix3 b 0 a)).toReal (X4 m c (ix3 b 0 a)).toReal (X7 m c (ix2 b a)).toReal (fun d => (X1 m c (ix4 b 0 a d)).toReal) (fun d => (X2 m c (ix4 b 0 a d)).toReal) (fun d e => (X5 m c (ix4 b a d e)).toReal) (fun d => hf.f1 _) (fun d => hf.f2 _) (hf.f3 _) (hf.f4 _) (hf.f7 _) (fun d e => hf.f5 _) d e).symm
/-- The new normalisers are the reference's. -/
theorem final9 (c : Dev nD) (hf : Fins m c) : ((dats m 0 c).arrAt 9 cfg0.N : Vec Ideal S32x4x1x512 .f32) = Cert.Reference6Ideal.Read.val_main_v67 (F := Ideal) (X1 m c) (X3 m c) (X4 m c) (X6 m c) (X7 m c) := by
  funext j
  obtain ⟨b, a, d, rfl⟩ : ∃ (b : Fin 32) (a : Fin 4) (d : Fin 512), j = ix4 b a 0 d := ⟨j 0, j 1, j 3, by funext w; fin_cases w <;> first | rfl | exact Subsingleton.elim (α := Fin 1) _ _⟩
  obtain ⟨t, hb⟩ := point b
  rw [arr9 m c t b hb a d, ← nN_at _ _ _ _ a (ix4 0 0 0 d) (ix4 0 a 0 d) rfl rfl]
  rw [hN_at _ _ _ _ (X3 m c (ix3 b 0 a)).toReal (X4 m c (ix3 b 0 a)).toReal (X7 m c (ix2 b a)).toReal (fun d => (X1 m c (ix4 b 0 a d)).toReal) (fun d => (X6 m c (ix3 b a d)).toReal) (fun d => (blk1 m c t b hb a d).trans (hf.f1 _)) (fun d => (blk5 m c t b hb a d).trans (hf.f6 _)) ((blk3 m c t b hb a 0).trans (hf.f3 _)) ((blk3 m c t b hb a 1).trans (hf.f4 _)) ((blk6 m c t b hb a).trans (hf.f7 _)) d]
  exact (Cert.Reference6Ideal.Cell.r67 (X1 m c) (X3 m c) (X4 m c) (X6 m c) (X7 m c) b a (X3 m c (ix3 b 0 a)).toReal (X4 m c (ix3 b 0 a)).toReal (X7 m c (ix2 b a)).toReal (fun d => (X1 m c (ix4 b 0 a d)).toReal) (fun d => (X6 m c (ix3 b a d)).toReal) (fun d => hf.f1 _) (hf.f3 _) (hf.f4 _) (hf.f7 _) (fun d => hf.f6 _) d).symm
/-- The new stabilisers are the reference's. -/
theorem final10 (c : Dev nD) (hf : Fins m c) : ((dats m 0 c).arrAt 10 cfg0.N : Vec Ideal S32x4x1x1 .f32) = Cert.Reference6Ideal.Read.val_main_v68 (F := Ideal) (X3 m c) (X4 m c) (X7 m c) := by
  funext j
  obtain ⟨b, a, rfl⟩ : ∃ (b : Fin 32) (a : Fin 4), j = ix4 b a 0 0 := ⟨j 0, j 1, by funext w; fin_cases w <;> first | rfl | exact Subsingleton.elim (α := Fin 1) _ _⟩
  obtain ⟨t, hb⟩ := point b
  rw [arr10 m c t b hb a, ← nM_at _ _ a (ix4 0 0 0 0) (ix4 0 a 0 0) rfl]
  rw [hM_at _ _ (X3 m c (ix3 b 0 a)).toReal (X4 m c (ix3 b 0 a)).toReal (X7 m c (ix2 b a)).toReal ((blk3 m c t b hb a 0).trans (hf.f3 _)) ((blk3 m c t b hb a 1).trans (hf.f4 _)) ((blk6 m c t b hb a).trans (hf.f7 _))]
  exact (Cert.Reference6Ideal.Cell.r68 (X3 m c) (X4 m c) (X7 m c) b a (X3 m c (ix3 b 0 a)).toReal (X4 m c (ix3 b 0 a)).toReal (X7 m c (ix2 b a)).toReal (hf.f3 _) (hf.f4 _) (hf.f7 _)).symm
/-- The reference runs and its arguments end unchanged. -/
theorem frameR : Cert.quiescent_Reference6Ideal (hReference6Ideal := Cert.Reference6Ideal.Gen.facts) := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)
/-- The decoding step's results are the reference's. -/
theorem alg : Cert.algebraic_Kernel6Ideal_Reference6Ideal_pre_finite6 (hKernel6Ideal := Cert.Kernel6Ideal.Gen.facts) (hReference6Ideal := Cert.Reference6Ideal.Gen.facts)
    (hPre_finite6 := preFacts) := by
  intro m g m' g' hpre hargs
  refine ⟨fun c => (dats m 0 c).arrAt 7 cfg0.N, fun c => (dats m 0 c).arrAt 8 cfg0.N, fun c => (dats m 0 c).arrAt 9 cfg0.N, fun c => (dats m 0 c).arrAt 10 cfg0.N,
    Cert.Kernel6Ideal.Value.run_blocks m g, ?_⟩
  refine (θ_run Cert.Reference6Ideal.defs _ _).mono (fun r h c => ?_) (Cert.Reference6Ideal.Value.run (F := Ideal) m' g')
  obtain ⟨e0, e1, e2, e3, ea⟩ := h c
  obtain ⟨a0, a1, a2, a3, a4, a5, a6, a7⟩ := hargs c
  have hf := fin m hpre c
  refine ⟨?_, ?_, ?_, ?_, ea⟩
  · rw [e0, Cert.Reference6Ideal.Read.val_main_v66_eq, a0, a1, a2, a3, a4, a5, a6, a7]
    exact (final7 m c hf).symm
  · rw [e1, Cert.Reference6Ideal.Read.val_main_v59_eq, a1, a2, a3, a4, a5, a7]
    exact (final8 m c hf).symm
  · rw [e2, Cert.Reference6Ideal.Read.val_main_v67_eq, a1, a3, a4, a6, a7]
    exact (final9 m c hf).symm
  · refine (e3.trans (Cert.Reference6Ideal.Read.val_main_v68_eq _ _ _)).trans ?_
    rw [a3, a4, a7]
    exact (final10 m c hf).symm
end Grid
end Cert.Kernel6Ideal.Cell
-- ==== Proof.Norms.lean ====
/-
  Normalization of a row, as both programs write it: the row less its mean, times the inverse root of its variance plus a small constant.
-/
module
public import Idealize.ShloMosaic.PureOps.Ideal.Laws
@[expose] public section
noncomputable section
namespace Cert.Norms
open Idealize.ShloMosaic
variable {K : ℕ}
/-- The row less its mean; `c` is the row's length. -/
def cen (c : EReal) (f : Fin K → EReal) (i : Fin K) : EReal := f i - Ideal.div (∑ j, f j) c
/-- The inverse root of the variance plus the small constant. -/
def scl (c : EReal) (f : Fin K → EReal) : EReal :=
  Ideal.rsqrt (Ideal.div (∑ j, cen c f j * cen c f j) c + Ideal.ofBits .f32 0x3727C5AC#32)
/-- The normalized row. -/
def nrm (c : EReal) (f : Fin K → EReal) (i : Fin K) : EReal := cen c f i * scl c f
/-- The constant one, as the programs write it. -/
abbrev one : EReal := Ideal.ofBits .f32 0x3F800000#32
/-- The residual and the gated branch. -/
def mixed (x g p : Fin K → EReal) (i : Fin K) : EReal := Ideal.ofBits .f32 0x3FB504F3#32 * x i + (one + g i) * p i
/-- The normalized residual, with its gain and bias. -/
def resid (c : EReal) (x g p lg lb : Fin K → EReal) (i : Fin K) : EReal := nrm c (mixed x g p) i * lg i + lb i
/-- The gate's logistic function. -/
def gate (z : EReal) : EReal := Ideal.div one (one + Ideal.exp (-z))
/-- A recurrent head's width, as the programs write it. -/
abbrev c512 : EReal := Ideal.ofBits .f32 0x44000000#32
/-- The stream's width, as the programs write it. -/
abbrev c1024 : EReal := Ideal.ofBits .f32 0x44800000#32
/-- The recurrent heads' rows, normalized head by head. -/
def heads (h : Fin 2048 → EReal) (n : Fin 2048) : EReal :=
  nrm c512 (fun d : Fin 512 => h ⟨512 * (n.val / 512) + d.val, by omega⟩) ⟨n.val % 512, by omega⟩
/-- The recurrent layer's projected row: heads normed, skip added, gated, times the output weights. -/
def proj (h xc z nw sk : Fin 2048 → EReal) (w : Fin 2048 → Fin 1024 → EReal) (n : Fin 1024) : EReal :=
  ∑ k : Fin 2048, (heads h k * nw k + sk k * xc k) * gate (z k) * w k n
/-- An attention head's width, as the programs write it. -/
abbrev c128 : EReal := Ideal.ofBits .f32 0x43000000#32
/-- The heads' constant gain, as the programs write it. -/
abbrev lam : EReal := Ideal.ofBits .f32 0x3F24FD5C#32
/-- The row times the inverse root of its mean square plus a small constant. -/
def rms (f : Fin 128 → EReal) (d : Fin 128) : EReal := f d * Ideal.rsqrt (Ideal.div (∑ j, f j * f j) c128 + Ideal.ofBits .f32 0x3727C5AC#32)
/-- The attention heads' rows, scaled head by head, with their gains. -/
def subs (o : Fin 1024 → EReal) (w : Fin 128 → EReal) (n : Fin 1024) : EReal :=
  rms (fun d : Fin 128 => o ⟨128 * (n.val / 128) + d.val, by omega⟩) ⟨n.val % 128, by omega⟩ * w ⟨n.val % 128, by omega⟩ * lam
/-- The attention layer's projected row. -/
def projB (o : Fin 1024 → EReal) (w : Fin 128 → EReal) (W : Fin 1024 → Fin 1024 → EReal) (n : Fin 1024) : EReal :=
  ∑ k : Fin 1024, subs o w k * W k n
/-- Subtracting from the zero word negates. -/
theorem zero_word_sub (z : EReal) : Ideal.ofBits .f32 0x00000000#32 - z = -z := by
  rw [show Ideal.ofBits .f32 0x00000000#32 = 0 from Ideal.ofBits_zero_f32, zero_sub]
end Cert.Norms
end
-- ==== Proof.MixAHead.lean ====
/-
  A block of the recurrent layer's mixer, element by element: the heads' norm, the gate, the output projection, the residual's norm and the modulation.
-/
module
public import proofs.«01_k».proof.Defs
public import proofs.«01_k».proof.Proof.Gen.Kernel7Ideal.Skeleton
public import proofs.«01_k».proof.Proof.Norms
public import Idealize.ShloMosaic.Lib.Pointwise
public import Idealize.ShloMosaic.Lib.ValueIdx
public import Idealize.ShloMosaic.Lib.Pipeline.ValueKit
@[expose] public section
set_option maxRecDepth 16384
noncomputable section
namespace Cert.Kernel7Ideal.MixA
open Cert.Kernel7Ideal Cert.Kernel7Ideal.Gen Idealize.ShloMosaic Idealize.SL.Sem Cert.Norms
/-- Head `a` of row `s` of a block. -/
abbrev hd (v : Vec Ideal S1x256x2048 .f32) (s : Fin 256) (a : Fin 4) : Fin 512 → EReal := fun d => v (ix3 0 s ⟨512 * a.val + d.val, by omega⟩)
/-- The first head, normalized. -/
theorem pay3_at (v : Vec Ideal S1x256x2048 .f32) (s : Fin 256) (d : Fin 512) : k0_pay3 v (ix2 s d) = nrm c512 (hd v s 0) d := by
  unfold nrm scl cen hd
  pointwise [k0_pay3, k0_pay2]
/-- The second head, normalized. -/
theorem pay4_at (v : Vec Ideal S1x256x2048 .f32) (s : Fin 256) (d : Fin 512) : k0_pay4 v (ix2 s d) = nrm c512 (hd v s 1) d := by
  unfold nrm scl cen hd
  pointwise [k0_pay4, k0_pay2]
/-- The third head, centred. -/
theorem pay5_at (v : Vec Ideal S1x256x2048 .f32) (s : Fin 256) (d : Fin 512) : k0_pay5 v (ix2 s d) = cen c512 (hd v s 2) d := by
  unfold cen hd
  pointwise [k0_pay5, k0_pay2]
/-- The residual's norm. -/
theorem pay18_at (p : FVec Ideal S256x1024 .f32) (g lg lb : FVec Ideal S1x1024 .f32) (x : FVec Ideal S256x1024 .f32) (s : Fin 256) (n : Fin 1024) :
    k0_pay18 p g lg lb x (ix2 s n)
      = nrm c1024 (fun j => x (ix2 s j) + (one + g (ix2 0 j)) * p (ix2 s j)) n * lg (ix2 0 n) + lb (ix2 0 n) := by
  unfold nrm scl cen
  pointwise [k0_pay18]
/-- The first head's columns of the normed rows, before the gate. -/
theorem pay7_a (v : FVec Ideal S256x2048 .f32) (p q r : FVec Ideal S256x512 .f32) (nw sk : Vec Ideal S1x2048 .f32) (xc : Vec Ideal S1x256x2048 .f32)
    (s : Fin 256) (d : Fin 512) :
    k0_pay7 v p q r nw sk xc (ix2 s ⟨d.val, by omega⟩)
      = p (ix2 s d) * nw (ix2 0 ⟨d.val, by omega⟩) + sk (ix2 0 ⟨d.val, by omega⟩) * xc (ix3 0 s ⟨d.val, by omega⟩) := by
  pointwise [k0_pay7]
/-- The second head's columns of the normed rows, before the gate. -/
theorem pay7_b (v : FVec Ideal S256x2048 .f32) (p q r : FVec Ideal S256x512 .f32) (nw sk : Vec Ideal S1x2048 .f32) (xc : Vec Ideal S1x256x2048 .f32)
    (s : Fin 256) (d : Fin 512) :
    k0_pay7 v p q r nw sk xc (ix2 s ⟨512 + d.val, by omega⟩)
      = q (ix2 s d) * nw (ix2 0 ⟨512 + d.val, by omega⟩) + sk (ix2 0 ⟨512 + d.val, by omega⟩) * xc (ix3 0 s ⟨512 + d.val, by omega⟩) := by
  pointwise [k0_pay7]
/-- The third head's columns of the normed rows, before the gate. -/
theorem pay7_c (v : FVec Ideal S256x2048 .f32) (p q r : FVec Ideal S256x512 .f32) (nw sk : Vec Ideal S1x2048 .f32) (xc : Vec Ideal S1x256x2048 .f32)
    (s : Fin 256) (d : Fin 512) :
    k0_pay7 v p q r nw sk xc (ix2 s ⟨1024 + d.val, by omega⟩)
      = r (ix2 s d) * Ideal.rsqrt (Ideal.div (∑ j : Fin 512, r (ix2 s j) * r (ix2 s j)) c512 + Ideal.ofBits .f32 0x3727C5AC#32) * nw (ix2 0 ⟨1024 + d.val, by omega⟩) + sk (ix2 0 ⟨1024 + d.val, by omega⟩) * xc (ix3 0 s ⟨1024 + d.val, by omega⟩) := by
  pointwise [k0_pay7]
  rw [dif_neg (by omega), dif_neg (by omega), dif_pos (by omega)]
  rw [show (⟨1024 + d.val - 512 - 512, by omega⟩ : Fin 512) = d from Fin.ext (by dsimp only; omega)]
/-- The fourth head's columns of the normed rows, before the gate. -/
theorem pay7_d (v : FVec Ideal S256x2048 .f32) (p q r : FVec Ideal S256x512 .f32) (nw sk : Vec Ideal S1x2048 .f32) (xc : Vec Ideal S1x256x2048 .f32)
    (s : Fin 256) (d : Fin 512) :
    k0_pay7 v p q r nw sk xc (ix2 s ⟨1536 + d.val, by omega⟩)
      = nrm c512 (fun d : Fin 512 => v (ix2 s ⟨1536 + d.val, by omega⟩)) d * nw (ix2 0 ⟨1536 + d.val, by omega⟩) + sk (ix2 0 ⟨1536 + d.val, by omega⟩) * xc (ix3 0 s ⟨1536 + d.val, by omega⟩) := by
  unfold nrm scl cen
  pointwise [k0_pay7]
  rw [dif_neg (by omega), dif_neg (by omega), dif_neg (by omega)]
  rw [show (⟨1536 + (1536 + d.val - 512 - 512 - 512), by omega⟩ : Fin 2048) = ⟨1536 + d.val, by omega⟩ from Fin.ext (by dsimp only; omega)]
/-- The gated rows times the output weights. -/
theorem pay8_at (z u : FVec Ideal S256x2048 .f32) (w : Vec Ideal S2048x1024 .bf16) (s : Fin 256) (n : Fin 1024) :
    k0_pay8 z u (Scalar.ofBits .f32 0x00000000#32) w (ix2 s n) = ∑ k : Fin 2048, u (ix2 s k) * gate (z (ix2 s k)) * w (ix2 k n) := by
  have e : k0_pay8 z u (Scalar.ofBits .f32 0x00000000#32) w (ix2 s n)
      = ∑ k : Fin 2048, u (ix2 s k) * Ideal.div one (one + Ideal.exp (Ideal.ofBits .f32 0x00000000#32 - z (ix2 s k))) * w (ix2 k n) := by
    pointwise [k0_pay8]
  rw [e]
  refine Finset.sum_congr rfl fun k _ => ?_
  rw [zero_word_sub]
  rfl
/-- The block's rows without the leading unit axis. -/
theorem pay2_at (v : Vec Ideal S1x256x2048 .f32) (s : Fin 256) (n : Fin 2048) : k0_pay2 v (ix2 s n) = v (ix3 0 s n) := by
  pointwise [k0_pay2]
/-- The gate's rows without the leading unit axis. -/
theorem pay6_at (v : Vec Ideal S1x256x2048 .f32) (s : Fin 256) (n : Fin 2048) : k0_pay6 v (ix2 s n) = v (ix3 0 s n) := by
  pointwise [k0_pay6]
/-- The heads' norm with its gain, and the skip term. -/
theorem rows_at (h : Vec Ideal S1x256x2048 .f32) (nw sk : Vec Ideal S1x2048 .f32) (xc : Vec Ideal S1x256x2048 .f32) (s : Fin 256) (n : Fin 2048) :
    k0_pay7 (k0_pay2 h) (k0_pay3 h) (k0_pay4 h) (k0_pay5 h) nw sk xc (ix2 s n)
      = heads (fun k => h (ix3 0 s k)) n * nw (ix2 0 n) + sk (ix2 0 n) * xc (ix3 0 s n) := by
  have hlt : n.val / 512 < 4 := by omega
  have hd' : ∀ a : Fin 4, n.val / 512 = a.val → heads (fun k => h (ix3 0 s k)) n = nrm c512 (hd h s a) ⟨n.val % 512, by omega⟩ := by
    intro a ha
    unfold heads hd
    refine congrArg (fun f => nrm c512 f _) (funext fun d => congrArg (fun k => h (ix3 0 s k)) (Fin.ext ?_))
    show 512 * (n.val / 512) + d.val = 512 * a.val + d.val
    rw [ha]
  rcases (by omega : n.val / 512 = 0 ∨ n.val / 512 = 1 ∨ n.val / 512 = 2 ∨ n.val / 512 = 3) with h0 | h0 | h0 | h0
  · have e := pay7_a (k0_pay2 h) (k0_pay3 h) (k0_pay4 h) (k0_pay5 h) nw sk xc s ⟨n.val % 512, by omega⟩
    rw [show (⟨(⟨n.val % 512, by omega⟩ : Fin 512).val, by omega⟩ : Fin 2048) = n from Fin.ext (by dsimp only; omega)] at e
    rw [e, pay3_at, hd' 0 h0]
  · have e := pay7_b (k0_pay2 h) (k0_pay3 h) (k0_pay4 h) (k0_pay5 h) nw sk xc s ⟨n.val % 512, by omega⟩
    rw [show (⟨512 + (⟨n.val % 512, by omega⟩ : Fin 512).val, by omega⟩ : Fin 2048) = n from Fin.ext (by dsimp only; omega)] at e
    rw [e, pay4_at, hd' 1 h0]
  · have e := pay7_c (k0_pay2 h) (k0_pay3 h) (k0_pay4 h) (k0_pay5 h) nw sk xc s ⟨n.val % 512, by omega⟩
    rw [show (⟨1024 + (⟨n.val % 512, by omega⟩ : Fin 512).val, by omega⟩ : Fin 2048) = n from Fin.ext (by dsimp only; omega)] at e
    rw [e, hd' 2 h0]
    simp only [pay5_at]
    rfl
  · have e := pay7_d (k0_pay2 h) (k0_pay3 h) (k0_pay4 h) (k0_pay5 h) nw sk xc s ⟨n.val % 512, by omega⟩
    rw [show (⟨1536 + (⟨n.val % 512, by omega⟩ : Fin 512).val, by omega⟩ : Fin 2048) = n from Fin.ext (by dsimp only; omega)] at e
    rw [e, hd' 3 h0]
    simp only [pay2_at]
    rfl
/-- The projected rows of a block. -/
theorem proj_at (h xc z : Vec Ideal S1x256x2048 .f32) (nw sk : Vec Ideal S1x2048 .f32) (w : Vec Ideal S2048x1024 .bf16) (s : Fin 256) (n : Fin 1024) :
    k0_pay8 (k0_pay6 z) (k0_pay7 (k0_pay2 h) (k0_pay3 h) (k0_pay4 h) (k0_pay5 h) nw sk xc) (Scalar.ofBits .f32 0x00000000#32) w (ix2 s n)
      = proj (fun k => h (ix3 0 s k)) (fun k => xc (ix3 0 s k)) (fun k => z (ix3 0 s k)) (fun k => nw (ix2 0 k)) (fun k => sk (ix2 0 k)) (fun k j => w (ix2 k j)) n := by
  rw [pay8_at]
  unfold proj
  refine Finset.sum_congr rfl fun k _ => ?_
  rw [rows_at, pay6_at]
/-- The first result's block. -/
theorem pay19_at (p : FVec Ideal S256x1024 .f32) (g lg lb : FVec Ideal S1x1024 .f32) (x : FVec Ideal S256x1024 .f32) (s : Fin 256) (n : Fin 1024) :
    k0_pay19 p g lg lb x (ix3 0 s n) = k0_pay18 p g lg lb x (ix2 s n) := by
  unfold k0_pay19
  generalize k0_pay18 p g lg lb x = y
  pointwise
/-- The second result's block. -/
theorem pay21_at (p : FVec Ideal S256x1024 .f32) (g sc sh lg lb : FVec Ideal S1x1024 .f32) (x : FVec Ideal S256x1024 .f32) (s : Fin 256) (n : Fin 1024) :
    k0_pay21 p g sc sh lg lb x (ix3 0 s n) = k0_pay18 p g lg lb x (ix2 s n) * (one + sc (ix2 0 n)) + sh (ix2 0 n) := by
  unfold k0_pay21 k0_pay20
  generalize k0_pay18 p g lg lb x = y
  pointwise
/-- The gates' row. -/
theorem pay9_at (v : Vec Ideal S1x1x1024 .f32) (n : Fin 1024) : k0_pay9 v (ix2 0 n) = v (ix3 0 0 n) := by
  pointwise [k0_pay9]
/-- The scales' row. -/
theorem pay10_at (v : Vec Ideal S1x1x1024 .f32) (n : Fin 1024) : k0_pay10 v (ix2 0 n) = v (ix3 0 0 n) := by
  pointwise [k0_pay10]
/-- The shifts' row. -/
theorem pay11_at (v : Vec Ideal S1x1x1024 .f32) (n : Fin 1024) : k0_pay11 v (ix2 0 n) = v (ix3 0 0 n) := by
  pointwise [k0_pay11]
/-- The gains' row. -/
theorem pay12_at (v : Vec Ideal S1x1024 .f32) (n : Fin 1024) : k0_pay12 v (ix2 0 n) = v (ix2 0 n) := by
  pointwise [k0_pay12]
/-- The biases' row. -/
theorem pay13_at (v : Vec Ideal S1x1024 .f32) (n : Fin 1024) : k0_pay13 v (ix2 0 n) = v (ix2 0 n) := by
  pointwise [k0_pay13]
/-- The scaled residual. -/
theorem pay17_at (x : Vec Ideal S1x256x1024 .f32) (s : Fin 256) (n : Fin 1024) :
    k0_pay17 x (ix2 s n) = Ideal.ofBits .f32 0x3FB504F3#32 * x (ix3 0 s n) := by
  pointwise [k0_pay17]
/-- The first result at an index of a block. -/
theorem first_at (h xc z : Vec Ideal S1x256x2048 .f32) (x : Vec Ideal S1x256x1024 .f32) (g : Vec Ideal S1x1x1024 .f32) (nw sk : Vec Ideal S1x2048 .f32)
    (w : Vec Ideal S2048x1024 .bf16) (lg lb : Vec Ideal S1x1024 .f32) (s : Fin 256) (n : Fin 1024) :
    k0_pay18 (k0_pay8 (k0_pay6 z) (k0_pay7 (k0_pay2 h) (k0_pay3 h) (k0_pay4 h) (k0_pay5 h) nw sk xc) (Scalar.ofBits .f32 0x00000000#32) w)
        (k0_pay9 g) (k0_pay12 lg) (k0_pay13 lb) (k0_pay17 x) (ix2 s n)
      = resid c1024 (fun j => x (ix3 0 s j)) (fun j => g (ix3 0 0 j))
          (proj (fun k => h (ix3 0 s k)) (fun k => xc (ix3 0 s k)) (fun k => z (ix3 0 s k)) (fun k => nw (ix2 0 k)) (fun k => sk (ix2 0 k)) (fun k j => w (ix2 k j)))
          (fun j => lg (ix2 0 j)) (fun j => lb (ix2 0 j)) n := by
  rw [pay18_at, pay12_at, pay13_at]
  simp only [pay17_at, pay9_at, proj_at]
  rfl
end Cert.Kernel7Ideal.MixA
end
-- ==== Proof.MixARef.lean ====
/-
  The reference of the recurrent layer's mixer, element by element: the same norms, gate and projection as the kernel's.
-/
module
public import proofs.«01_k».proof.Defs
public import proofs.«01_k».proof.Proof.Gen.Reference7Ideal.Run
public import proofs.«01_k».proof.Proof.Gen.Reference7Ideal.Read
public import proofs.«01_k».proof.Proof.Norms
public import Idealize.ShloMosaic.Lib.Pointwise
public import Idealize.ShloMosaic.Lib.ValueIdx
public import Idealize.ShloMosaic.PureOps.Ideal.Laws
@[expose] public section
set_option maxRecDepth 16384
noncomputable section
namespace Cert.Reference7Ideal.MixA
open Cert.Reference7Ideal Cert.Reference7Ideal.Gen Cert.Reference7Ideal.Read Idealize.ShloMosaic Idealize.ShloMosaic.TcCoe Idealize.SL.Sem Cert.Norms
/-- Head `a` of the row of token `s` of sequence `b`. -/
abbrev hd (h : Vec Ideal S8x2048x2048 .f32) (b : Fin 8) (s : Fin 2048) (a : Fin 4) : Fin 512 → EReal := fun d => h (ix3 b s ⟨512 * a.val + d.val, by omega⟩)
/-- The heads' axis split off. -/
theorem m6 (h : Vec Ideal S8x2048x2048 .f32) (b : Fin 8) (s : Fin 2048) (a : Fin 4) (d : Fin 512) : val_main_v6 (F := Ideal) h (ix4 b s a d) = hd h b s a d := by
  rw [val_main_v6_apply]
  refine congrArg h ?_
  funext w; fin_cases w <;> first | rfl | exact Fin.ext (by simp [idx_main_v6]; omega) | exact Fin.ext (by simp [idx_main_v6])
/-- The heads' sums. -/
theorem m7 (h : Vec Ideal S8x2048x2048 .f32) (b : Fin 8) (s : Fin 2048) (a : Fin 4) : val_main_v7 (F := Ideal) h (ix3 b s a) = ∑ d, hd h b s a d := by
  rw [val_main_v7_apply, show (val_main_cst (F := Ideal)) (Shape.Idx.first h_S_) = 0 from Ideal.ofBits_zero_f32, zero_add]
  refine Finset.sum_congr rfl fun k _ => ?_
  rw [show idx_main_v7 (ix3 b s a) k = ix4 b s a k by funext w; fin_cases w <;> rfl, m6]
/-- The centred heads. -/
theorem m12 (h : Vec Ideal S8x2048x2048 .f32) (b : Fin 8) (s : Fin 2048) (a : Fin 4) (d : Fin 512) : val_main_v12 (F := Ideal) h (ix4 b s a d) = cen c512 (hd h b s a) d := by
  rw [val_main_v12_apply, val_main_v11_apply, val_main_v10_apply, val_main_v9_apply, val_main_v8_apply,
    show idx_main_v8 (idx_main_v11 (ix4 b s a d)) = ix3 b s a by funext w; fin_cases w <;> rfl, m6, m7]
  rfl
/-- The heads' sums of squares. -/
theorem m14 (h : Vec Ideal S8x2048x2048 .f32) (b : Fin 8) (s : Fin 2048) (a : Fin 4) :
    val_main_v14 (F := Ideal) h (ix3 b s a) = ∑ d, cen c512 (hd h b s a) d * cen c512 (hd h b s a) d := by
  rw [val_main_v14_apply, show (val_main_cst_1 (F := Ideal)) (Shape.Idx.first h_S_) = 0 from Ideal.ofBits_zero_f32, zero_add]
  refine Finset.sum_congr rfl fun k _ => ?_
  rw [show idx_main_v14 (ix3 b s a) k = ix4 b s a k by funext w; fin_cases w <;> rfl, val_main_v13_apply, m12]
  rfl
/-- The normalized heads. -/
theorem m22 (h : Vec Ideal S8x2048x2048 .f32) (b : Fin 8) (s : Fin 2048) (a : Fin 4) (d : Fin 512) : val_main_v22 (F := Ideal) h (ix4 b s a d) = nrm c512 (hd h b s a) d := by
  rw [val_main_v22_apply, val_main_v21_apply, val_main_v20_apply, val_main_v19_apply, val_main_v18_apply, val_main_v17_apply, val_main_v16_apply, val_main_v15_apply,
    show idx_main_v15 (idx_main_v21 (ix4 b s a d)) = ix3 b s a by funext w; fin_cases w <;> rfl, m12, m14]
  rfl
/-- The normalized rows with their gain. -/
theorem m27 (h : Vec Ideal S8x2048x2048 .f32) (nw : Vec Ideal S2048 .f32) (b : Fin 8) (s : Fin 2048) (n : Fin 2048) :
    val_main_v27 (F := Ideal) h nw (ix3 b s n) = heads (fun k => h (ix3 b s k)) n * nw (ix1 n) := by
  rw [val_main_v27_apply, show idx_main_v27 (ix3 b s n) = ix4 b s ⟨n.val / 512, by omega⟩ ⟨n.val % 512, by omega⟩ by
      funext w; fin_cases w <;> first | rfl | exact Fin.ext (by simp [idx_main_v27]; omega) | exact Fin.ext (by simp [idx_main_v27]),
    val_main_v26_apply, m22, val_main_v25_apply, val_main_v24_apply, val_main_v23_apply]
  refine congrArg (fun y => heads (fun k => h (ix3 b s k)) n * nw y) ?_
  funext w; fin_cases w; exact Fin.ext (by simp [idx_main_v23, idx_main_v24, idx_main_v25]; omega)
/-- The gated rows. -/
theorem m38 (h xc z : Vec Ideal S8x2048x2048 .f32) (nw sk : Vec Ideal S2048 .f32) (b : Fin 8) (s : Fin 2048) (n : Fin 2048) :
    val_main_v38 (F := Ideal) h xc z nw sk (ix3 b s n)
      = (heads (fun k => h (ix3 b s k)) n * nw (ix1 n) + sk (ix1 n) * xc (ix3 b s n)) * gate (z (ix3 b s n)) := by
  rw [val_main_v38_apply, val_main_v31_apply, m27, val_main_v30_apply, val_main_v29_apply, val_main_v28_apply,
    show idx_main_v28 (idx_main_v29 (ix3 b s n)) = ix1 n by funext w; fin_cases w; rfl,
    val_main_v37_apply, val_main_v36_apply, val_main_v35_apply, val_main_v34_apply, val_main_v33_apply, val_main_v32_apply]
  rfl
/-- The projected rows. -/
theorem m43 (h xc z : Vec Ideal S8x2048x2048 .f32) (nw sk : Vec Ideal S2048 .f32) (w : Vec Ideal S2048x1024 .f32) (b : Fin 8) (s : Fin 2048) (n : Fin 1024) :
    val_main_v43 (F := Ideal) h xc z nw sk w (ix3 b s n)
      = proj (fun k => h (ix3 b s k)) (fun k => xc (ix3 b s k)) (fun k => z (ix3 b s k)) (fun k => nw (ix1 k)) (fun k => sk (ix1 k)) (fun k j => w (ix2 k j)) n := by
  rw [val_main_v43_apply]
  unfold proj
  refine Finset.sum_congr rfl fun k _ => ?_
  rw [show lidx_main_v43 (ix3 b s n) k = ix3 b s k by funext w; fin_cases w <;> rfl,
    show ridx_main_v43 (ix3 b s n) k = ix2 k n by funext w; fin_cases w <;> rfl, m38]
variable (h xc z : Vec Ideal S8x2048x2048 .f32) (x : Vec Ideal S8x2048x1024 .f32) (md : Vec Ideal S8x1x6144 .f32) (nw sk : Vec Ideal S2048 .f32) (w : Vec Ideal S2048x1024 .f32)
  (lg lb : Vec Ideal S1024 .f32)
/-- The mixed row: the residual and the gated branch. -/
def mix (b : Fin 8) (s : Fin 2048) : Fin 1024 → EReal :=
  mixed (fun j => x (ix3 b s j)) (fun j => md (ix3 b 0 ⟨2048 + j.val, by omega⟩))
    (proj (fun k => h (ix3 b s k)) (fun k => xc (ix3 b s k)) (fun k => z (ix3 b s k)) (fun k => nw (ix1 k)) (fun k => sk (ix1 k)) (fun k j => w (ix2 k j)))
/-- The mixed rows. -/
theorem m46 (b : Fin 8) (s : Fin 2048) (n : Fin 1024) : val_main_v46 (F := Ideal) h xc z x md nw sk w (ix3 b s n) = mix h xc z x md nw sk w b s n := by
  rw [val_main_v46_apply, val_main_v45_apply, m43, val_main_v44_apply, val_main_v42_apply, val_main_v41_apply, val_main_v40_apply, val_main_v39_apply, val_main_v2_apply,
    show idx_main_v2 (idx_main_v44 (ix3 b s n)) = ix3 b 0 ⟨2048 + n.val, by omega⟩ by funext w; fin_cases w <;> rfl]
  rfl
/-- The rows' sums. -/
theorem m47 (b : Fin 8) (s : Fin 2048) : val_main_v47 (F := Ideal) h xc z x md nw sk w (ix2 b s) = ∑ j, mix h xc z x md nw sk w b s j := by
  rw [val_main_v47_apply, show (val_main_cst_8 (F := Ideal)) (Shape.Idx.first h_S_) = 0 from Ideal.ofBits_zero_f32, zero_add]
  refine Finset.sum_congr rfl fun k _ => ?_
  rw [show idx_main_v47 (ix2 b s) k = ix3 b s k by funext w; fin_cases w <;> rfl, m46]
/-- The centred rows. -/
theorem m52 (b : Fin 8) (s : Fin 2048) (n : Fin 1024) : val_main_v52 (F := Ideal) h xc z x md nw sk w (ix3 b s n) = cen c1024 (mix h xc z x md nw sk w b s) n := by
  rw [val_main_v52_apply, val_main_v51_apply, val_main_v50_apply, val_main_v49_apply, val_main_v48_apply,
    show idx_main_v48 (idx_main_v51 (ix3 b s n)) = ix2 b s by funext w; fin_cases w <;> rfl, m46, m47]
  rfl
/-- The rows' sums of squares. -/
theorem m54 (b : Fin 8) (s : Fin 2048) : val_main_v54 (F := Ideal) h xc z x md nw sk w (ix2 b s)
    = ∑ j, cen c1024 (mix h xc z x md nw sk w b s) j * cen c1024 (mix h xc z x md nw sk w b s) j := by
  rw [val_main_v54_apply, show (val_main_cst_10 (F := Ideal)) (Shape.Idx.first h_S_) = 0 from Ideal.ofBits_zero_f32, zero_add]
  refine Finset.sum_congr rfl fun k _ => ?_
  rw [show idx_main_v54 (ix2 b s) k = ix3 b s k by funext w; fin_cases w <;> rfl, val_main_v53_apply, m52]
  rfl
/-- The normalized rows. -/
theorem m62 (b : Fin 8) (s : Fin 2048) (n : Fin 1024) : val_main_v62 (F := Ideal) h xc z x md nw sk w (ix3 b s n) = nrm c1024 (mix h xc z x md nw sk w b s) n := by
  rw [val_main_v62_apply, val_main_v61_apply, val_main_v60_apply, val_main_v59_apply, val_main_v58_apply, val_main_v57_apply, val_main_v56_apply, val_main_v55_apply,
    show idx_main_v55 (idx_main_v61 (ix3 b s n)) = ix2 b s by funext w; fin_cases w <;> rfl, m52, m54]
  rfl
/-- The reference's first result. -/
theorem m68 (b : Fin 8) (s : Fin 2048) (n : Fin 1024) : val_main_v68 (F := Ideal) h xc z x md nw sk w lg lb (ix3 b s n)
    = nrm c1024 (mix h xc z x md nw sk w b s) n * lg (ix1 n) + lb (ix1 n) := by
  rw [val_main_v68_apply, val_main_v65_apply, m62, val_main_v64_apply, val_main_v63_apply, val_main_v67_apply, val_main_v66_apply,
    show idx_main_v63 (idx_main_v64 (ix3 b s n)) = ix1 n by funext w; fin_cases w; rfl,
    show idx_main_v66 (idx_main_v67 (ix3 b s n)) = ix1 n by funext w; fin_cases w; rfl]
  rfl
/-- The reference's second result. -/
theorem m74 (b : Fin 8) (s : Fin 2048) (n : Fin 1024) : val_main_v74 (F := Ideal) h xc z x md nw sk w lg lb (ix3 b s n)
    = (nrm c1024 (mix h xc z x md nw sk w b s) n * lg (ix1 n) + lb (ix1 n)) * (one + md (ix3 b 0 ⟨4096 + n.val, by omega⟩)) + md (ix3 b 0 ⟨3072 + n.val, by omega⟩) := by
  rw [val_main_v74_apply, val_main_v72_apply, m68, val_main_v71_apply, val_main_v70_apply, val_main_v69_apply, val_main_v73_apply, val_main_v4_apply, val_main_v3_apply,
    show idx_main_v4 (idx_main_v71 (ix3 b s n)) = ix3 b 0 ⟨4096 + n.val, by omega⟩ by funext w; fin_cases w <;> rfl,
    show idx_main_v3 (idx_main_v73 (ix3 b s n)) = ix3 b 0 ⟨3072 + n.val, by omega⟩ by funext w; fin_cases w <;> rfl]
  rfl
/-- The reference runs and its arguments end unchanged. -/
theorem frameR : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)
end Cert.Reference7Ideal.MixA
end
-- ==== Proof.MixA.lean ====
/-
  The recurrent layer's mixer: its blocks, put together, are the reference's normalized residual and its modulation.
-/
module
public import proofs.«01_k».proof.Defs
public import proofs.«01_k».proof.Proof.Gen.Kernel7Ideal.Value
public import proofs.«01_k».proof.Proof.MixAHead
public import proofs.«01_k».proof.Proof.MixARef
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Adequacy
@[expose] public section
set_option maxRecDepth 16384
noncomputable section
namespace Cert.Kernel7Ideal.MixA
open Cert.Kernel7Ideal Cert.Kernel7Ideal.Gen Idealize.ShloMosaic Idealize.ShloMosaic.TcCoe Idealize.SL.Sem Cert.Norms
variable (m : (ℓ : Loc nD τ sig) → Buf (Elt Ideal) ℓ)
/-- The recurrence's output. -/
abbrev Hc (c : Dev nD) : Vec Ideal S8x2048x2048 .f32 := m ((c : Thread nD τ).loc main_arg0)
/-- The convolved stream. -/
abbrev Xc (c : Dev nD) : Vec Ideal S8x2048x2048 .f32 := m ((c : Thread nD τ).loc main_arg1)
/-- The gate's input. -/
abbrev Zc (c : Dev nD) : Vec Ideal S8x2048x2048 .f32 := m ((c : Thread nD τ).loc main_arg2)
/-- The tokens' stream. -/
abbrev X (c : Dev nD) : Vec Ideal S8x2048x1024 .f32 := m ((c : Thread nD τ).loc main_arg3)
/-- The conditioning vectors. -/
abbrev Md (c : Dev nD) : Vec Ideal S8x1x6144 .f32 := m ((c : Thread nD τ).loc main_arg4)
/-- The heads' gain. -/
abbrev Nw (c : Dev nD) : Vec Ideal S2048 .f32 := m ((c : Thread nD τ).loc main_arg5)
/-- The skip's weights. -/
abbrev Sk (c : Dev nD) : Vec Ideal S2048 .f32 := m ((c : Thread nD τ).loc main_arg6)
/-- The output weights. -/
abbrev W (c : Dev nD) : Vec Ideal S2048x1024 .f32 := m ((c : Thread nD τ).loc main_arg7)
/-- The norm's gain. -/
abbrev Lg (c : Dev nD) : Vec Ideal S1024 .f32 := m ((c : Thread nD τ).loc main_arg8)
/-- The norm's bias. -/
abbrev Lb (c : Dev nD) : Vec Ideal S1024 .f32 := m ((c : Thread nD τ).loc main_arg9)
/-- The blocks' places, decided over the grid. -/
theorem widx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, 0, 2] ∧ win0_5.index t = ![t.val / 8, 0, 4] ∧ win0_6.index t = ![t.val / 8, 0, 3]
    ∧ win0_7.index t = ![0, 0] ∧ win0_8.index t = ![0, 0] ∧ win0_9.index t = ![0, 0] ∧ win0_10.index t = ![0, 0] ∧ win0_11.index t = ![0, 0]
    ∧ win0_15.index t = ![t.val / 8, t.val % 8, 0] ∧ win0_16.index t = ![t.val / 8, t.val % 8, 0] := by decide +kernel
/-- Every point writes its blocks of the first result back. -/
theorem flushes15 : ∀ t : Fin cfg0.N, (cfg0.win 15).flush t = true := by decide +kernel
/-- Every point writes its blocks of the second result back. -/
theorem flushes16 : ∀ t : Fin cfg0.N, (cfg0.win 16).flush t = true := by decide +kernel
/-- Window 0's block. -/
theorem blk0 (c : Dev nD) (t : Fin cfg0.N) (x : Fin 256) (k : Fin 2048) (b : Fin 8) (s : Fin 2048) (hb : b.val = t.val / 8) (hs : s.val = 256 * (t.val % 8) + x.val) :
    (iblk m c 0 t : Vec Ideal S1x256x2048 .f32) (ix3 0 x k) = Hc m c (ix3 b s k) := by
  show _ = (m ((c : Thread nD τ).loc main_arg0) : Vec Ideal S8x2048x2048 .f32) _
  rw [← V_main_arg0 m c]
  refine congrArg (V m c main_arg0 : Vec Ideal S8x2048x2048 .f32) ?_
  blk_ext [widx t]
/-- Window 1's block. -/
theorem blk1 (c : Dev nD) (t : Fin cfg0.N) (x : Fin 256) (k : Fin 2048) (b : Fin 8) (s : Fin 2048) (hb : b.val = t.val / 8) (hs : s.val = 256 * (t.val % 8) + x.val) :
    (iblk m c 1 t : Vec Ideal S1x256x2048 .f32) (ix3 0 x k) = Xc m c (ix3 b s k) := by
  show _ = (m ((c : Thread nD τ).loc main_arg1) : Vec Ideal S8x2048x2048 .f32) _
  rw [← V_main_arg1 m c]
  refine congrArg (V m c main_arg1 : Vec Ideal S8x2048x2048 .f32) ?_
  blk_ext [widx t]
/-- Window 2's block. -/
theorem blk2 (c : Dev nD) (t : Fin cfg0.N) (x : Fin 256) (k : Fin 2048) (b : Fin 8) (s : Fin 2048) (hb : b.val = t.val / 8) (hs : s.val = 256 * (t.val % 8) + x.val) :
    (iblk m c 2 t : Vec Ideal S1x256x2048 .f32) (ix3 0 x k) = Zc m c (ix3 b s k) := by
  show _ = (m ((c : Thread nD τ).loc main_arg2) : Vec Ideal S8x2048x2048 .f32) _
  rw [← V_main_arg2 m c]
  refine congrArg (V m c main_arg2 : Vec Ideal S8x2048x2048 .f32) ?_
  blk_ext [widx t]
/-- Window 3's block. -/
theorem blk3 (c : Dev nD) (t : Fin cfg0.N) (x : Fin 256) (k : Fin 1024) (b : Fin 8) (s : Fin 2048) (hb : b.val = t.val / 8) (hs : s.val = 256 * (t.val % 8) + x.val) :
    (iblk m c 3 t : Vec Ideal S1x256x1024 .f32) (ix3 0 x k) = X m c (ix3 b s k) := by
  show _ = (m ((c : Thread nD τ).loc main_arg3) : Vec Ideal S8x2048x1024 .f32) _
  rw [← V_main_arg3 m c]
  refine congrArg (V m c main_arg3 : Vec Ideal S8x2048x1024 .f32) ?_
  blk_ext [widx t]
/-- Window 4's block. -/
theorem blk4 (c : Dev nD) (t : Fin cfg0.N) (k : Fin 1024) (b : Fin 8) (hb : b.val = t.val / 8) :
    (iblk m c 4 t : Vec Ideal S1x1x1024 .f32) (ix3 0 0 k) = Md m c (ix3 b 0 ⟨2048 + k.val, by omega⟩) := by
  show _ = (m ((c : Thread nD τ).loc main_arg4) : Vec Ideal S8x1x6144 .f32) _
  rw [← V_main_arg4 m c]
  refine congrArg (V m c main_arg4 : Vec Ideal S8x1x6144 .f32) ?_
  blk_ext [widx t]
/-- Window 5's block. -/
theorem blk5 (c : Dev nD) (t : Fin cfg0.N) (k : Fin 1024) (b : Fin 8) (hb : b.val = t.val / 8) :
    (iblk m c 5 t : Vec Ideal S1x1x1024 .f32) (ix3 0 0 k) = Md m c (ix3 b 0 ⟨4096 + k.val, by omega⟩) := by
  show _ = (m ((c : Thread nD τ).loc main_arg4) : Vec Ideal S8x1x6144 .f32) _
  rw [← V_main_arg4 m c]
  refine congrArg (V m c main_arg4 : Vec Ideal S8x1x6144 .f32) ?_
  blk_ext [widx t]
/-- Window 6's block. -/
theorem blk6 (c : Dev nD) (t : Fin cfg0.N) (k : Fin 1024) (b : Fin 8) (hb : b.val = t.val / 8) :
    (iblk m c 6 t : Vec Ideal S1x1x1024 .f32) (ix3 0 0 k) = Md m c (ix3 b 0 ⟨3072 + k.val, by omega⟩) := by
  show _ = (m ((c : Thread nD τ).loc main_arg4) : Vec Ideal S8x1x6144 .f32) _
  rw [← V_main_arg4 m c]
  refine congrArg (V m c main_arg4 : Vec Ideal S8x1x6144 .f32) ?_
  blk_ext [widx t]
/-- Window 7's staged row. -/
theorem row7 (c : Dev nD) (k : Fin 2048) : (V m c main_v0 : Vec Ideal S1x2048 .f32) (ix2 0 k) = Nw m c (ix1 k) := by
  have e : (V m c main_v0 : Vec Ideal S1x2048 .f32) = shapeCast S1x2048 (Nw m c) shapeCasts_S2048_S1x2048 := by
    entry_read
    rfl
  rw [e]
  pointwise
/-- Window 7's block. -/
theorem blk7 (c : Dev nD) (t : Fin cfg0.N) (k : Fin 2048) : (iblk m c 7 t : Vec Ideal S1x2048 .f32) (ix2 0 k) = Nw m c (ix1 k) := by
  refine Eq.trans (congrArg (V m c main_v0 : Vec Ideal S1x2048 .f32) ?_) (row7 m c k)
  blk_ext [widx t]
/-- Window 8's staged row. -/
theorem row8 (c : Dev nD) (k : Fin 2048) : (V m c main_v1 : Vec Ideal S1x2048 .f32) (ix2 0 k) = Sk m c (ix1 k) := by
  have e : (V m c main_v1 : Vec Ideal S1x2048 .f32) = shapeCast S1x2048 (Sk m c) shapeCasts_S2048_S1x2048 := by
    entry_read
    rfl
  rw [e]
  pointwise
/-- Window 8's block. -/
theorem blk8 (c : Dev nD) (t : Fin cfg0.N) (k : Fin 2048) : (iblk m c 8 t : Vec Ideal S1x2048 .f32) (ix2 0 k) = Sk m c (ix1 k) := by
  refine Eq.trans (congrArg (V m c main_v1 : Vec Ideal S1x2048 .f32) ?_) (row8 m c k)
  blk_ext [widx t]
/-- Window 10's staged row. -/
theorem row10 (c : Dev nD) (k : Fin 1024) : (V m c main_v3 : Vec Ideal S1x1024 .f32) (ix2 0 k) = Lg m c (ix1 k) := by
  have e : (V m c main_v3 : Vec Ideal S1x1024 .f32) = shapeCast S1x1024 (Lg m c) shapeCasts_S1024_S1x1024 := by
    entry_read
    rfl
  rw [e]
  pointwise
/-- Window 10's block. -/
theorem blk10 (c : Dev nD) (t : Fin cfg0.N) (k : Fin 1024) : (iblk m c 10 t : Vec Ideal S1x1024 .f32) (ix2 0 k) = Lg m c (ix1 k) := by
  refine Eq.trans (congrArg (V m c main_v3 : Vec Ideal S1x1024 .f32) ?_) (row10 m c k)
  blk_ext [widx t]
/-- Window 11's staged row. -/
theorem row11 (c : Dev nD) (k : Fin 1024) : (V m c main_v4 : Vec Ideal S1x1024 .f32) (ix2 0 k) = Lb m c (ix1 k) := by
  have e : (V m c main_v4 : Vec Ideal S1x1024 .f32) = shapeCast S1x1024 (Lb m c) shapeCasts_S1024_S1x1024 := by
    entry_read
    rfl
  rw [e]
  pointwise
/-- Window 11's block. -/
theorem blk11 (c : Dev nD) (t : Fin cfg0.N) (k : Fin 1024) : (iblk m c 11 t : Vec Ideal S1x1024 .f32) (ix2 0 k) = Lb m c (ix1 k) := by
  refine Eq.trans (congrArg (V m c main_v4 : Vec Ideal S1x1024 .f32) ?_) (row11 m c k)
  blk_ext [widx t]
/-- The staged weights are the weights. -/
theorem row9 (c : Dev nD) (k : Fin 2048) (n : Fin 1024) : (V m c main_v2 : Vec Ideal S2048x1024 .bf16) (ix2 k n) = W m c (ix2 k n) := by
  entry_read
  rfl
/-- The weights' block. -/
theorem blk9 (c : Dev nD) (t : Fin cfg0.N) (k : Fin 2048) (n : Fin 1024) : (iblk m c 9 t : Vec Ideal S2048x1024 .bf16) (ix2 k n) = W m c (ix2 k n) := by
  refine Eq.trans (congrArg (V m c main_v2 : Vec Ideal S2048x1024 .bf16) ?_) (row9 m c k n)
  blk_ext [widx t]
/-- The normalized residual of a block, over the block's windows. -/
theorem core (x0 x1 x2 : Vec Ideal S1x256x2048 .f32) (x3 : Vec Ideal S1x256x1024 .f32) (x4 x5 x6 : Vec Ideal S1x1x1024 .f32) (x7 x8 : Vec Ideal S1x2048 .f32)
    (x9 : Vec Ideal S2048x1024 .bf16) (x10 x11 : Vec Ideal S1x1024 .f32) (x12 x13 : Vec Ideal S1024x128 .bf16) (x14 : Vec Ideal S1x128 .f32) (s : Fin 256) (n : Fin 1024) :
    k0_pay18 (k0_pay44 x0 x1 x2 x3 x4 x5 x6 x7 x8 x9 x10 x11 x12 x13 x14) (k0_pay45 x0 x1 x2 x3 x4 x5 x6 x7 x8 x9 x10 x11 x12 x13 x14) (k0_pay48 x0 x1 x2 x3 x4 x5 x6 x7 x8 x9 x10 x11 x12 x13 x14) (k0_pay49 x0 x1 x2 x3 x4 x5 x6 x7 x8 x9 x10 x11 x12 x13 x14) (k0_pay53 x0 x1 x2 x3 x4 x5 x6 x7 x8 x9 x10 x11 x12 x13 x14) (ix2 s n)
      = resid c1024 (fun j => x3 (ix3 0 s j)) (fun j => x4 (ix3 0 0 j))
          (proj (fun k => x0 (ix3 0 s k)) (fun k => x1 (ix3 0 s k)) (fun k => x2 (ix3 0 s k)) (fun k => x7 (ix2 0 k)) (fun k => x8 (ix2 0 k)) (fun k j => x9 (ix2 k j)))
          (fun j => x10 (ix2 0 j)) (fun j => x11 (ix2 0 j)) n := by
  have e0 : View.ld x0 r0_0 = x0 := View.ld_unit_lit (S := S1x256x2048) _ x0 (by decide)
  have e1 : View.ld x1 r0_0 = x1 := View.ld_unit_lit (S := S1x256x2048) _ x1 (by decide)
  have e2 : View.ld x2 r0_0 = x2 := View.ld_unit_lit (S := S1x256x2048) _ x2 (by decide)
  have e3 : View.ld x3 r0_3 = x3 := View.ld_unit_lit (S := S1x256x1024) _ x3 (by decide)
  have e4 : View.ld x4 r0_4 = x4 := View.ld_unit_lit (S := S1x1x1024) _ x4 (by decide)
  have e7 : View.ld x7 r0_1 = x7 := View.ld_unit_lit (S := S1x2048) _ x7 (by decide)
  have e8 : View.ld x8 r0_1 = x8 := View.ld_unit_lit (S := S1x2048) _ x8 (by decide)
  have e9 : View.ld x9 r0_2 = x9 := View.ld_unit_lit (S := S2048x1024) _ x9 (by decide)
  have e10 : View.ld x10 r0_5 = x10 := View.ld_unit_lit (S := S1x1024) _ x10 (by decide)
  have e11 : View.ld x11 r0_5 = x11 := View.ld_unit_lit (S := S1x1024) _ x11 (by decide)
  unfold k0_pay44 k0_pay45 k0_pay48 k0_pay49 k0_pay53
  rw [e0, e1, e2, e3, e4, e7, e8, e9, e10, e11]
  exact first_at x0 x1 x2 x3 x4 x7 x8 x9 x10 x11 s n
/-- The first result's block over the block's windows. -/
theorem out15_at (x0 x1 x2 : Vec Ideal S1x256x2048 .f32) (x3 : Vec Ideal S1x256x1024 .f32) (x4 x5 x6 : Vec Ideal S1x1x1024 .f32) (x7 x8 : Vec Ideal S1x2048 .f32)
    (x9 : Vec Ideal S2048x1024 .bf16) (x10 x11 : Vec Ideal S1x1024 .f32) (x12 x13 : Vec Ideal S1024x128 .bf16) (x14 : Vec Ideal S1x128 .f32) (s : Fin 256) (n : Fin 1024) :
    out0_15 x0 x1 x2 x3 x4 x5 x6 x7 x8 x9 x10 x11 x12 x13 x14 (ix3 0 s n)
      = resid c1024 (fun j => x3 (ix3 0 s j)) (fun j => x4 (ix3 0 0 j))
          (proj (fun k => x0 (ix3 0 s k)) (fun k => x1 (ix3 0 s k)) (fun k => x2 (ix3 0 s k)) (fun k => x7 (ix2 0 k)) (fun k => x8 (ix2 0 k)) (fun k j => x9 (ix2 k j)))
          (fun j => x10 (ix2 0 j)) (fun j => x11 (ix2 0 j)) n := by
  have ho : out0_15 x0 x1 x2 x3 x4 x5 x6 x7 x8 x9 x10 x11 x12 x13 x14 = k0_pay19 (k0_pay44 x0 x1 x2 x3 x4 x5 x6 x7 x8 x9 x10 x11 x12 x13 x14) (k0_pay45 x0 x1 x2 x3 x4 x5 x6 x7 x8 x9 x10 x11 x12 x13 x14) (k0_pay48 x0 x1 x2 x3 x4 x5 x6 x7 x8 x9 x10 x11 x12 x13 x14) (k0_pay49 x0 x1 x2 x3 x4 x5 x6 x7 x8 x9 x10 x11 x12 x13 x14) (k0_pay53 x0 x1 x2 x3 x4 x5 x6 x7 x8 x9 x10 x11 x12 x13 x14) := by
    unfold out0_15
    exact View.canon_cons_unit_lit (S := S1x256x1024) _ _ _ (by decide)
  rw [ho, pay19_at]
  exact core x0 x1 x2 x3 x4 x5 x6 x7 x8 x9 x10 x11 x12 x13 x14 s n
/-- The second result's block over the block's windows. -/
theorem out16_at (x0 x1 x2 : Vec Ideal S1x256x2048 .f32) (x3 : Vec Ideal S1x256x1024 .f32) (x4 x5 x6 : Vec Ideal S1x1x1024 .f32) (x7 x8 : Vec Ideal S1x2048 .f32)
    (x9 : Vec Ideal S2048x1024 .bf16) (x10 x11 : Vec Ideal S1x1024 .f32) (x12 x13 : Vec Ideal S1024x128 .bf16) (x14 : Vec Ideal S1x128 .f32) (s : Fin 256) (n : Fin 1024) :
    out0_16 x0 x1 x2 x3 x4 x5 x6 x7 x8 x9 x10 x11 x12 x13 x14 (ix3 0 s n)
      = resid c1024 (fun j => x3 (ix3 0 s j)) (fun j => x4 (ix3 0 0 j))
          (proj (fun k => x0 (ix3 0 s k)) (fun k => x1 (ix3 0 s k)) (fun k => x2 (ix3 0 s k)) (fun k => x7 (ix2 0 k)) (fun k => x8 (ix2 0 k)) (fun k j => x9 (ix2 k j)))
          (fun j => x10 (ix2 0 j)) (fun j => x11 (ix2 0 j)) n * (one + x5 (ix3 0 0 n)) + x6 (ix3 0 0 n) := by
  have e5 : View.ld x5 r0_4 = x5 := View.ld_unit_lit (S := S1x1x1024) _ x5 (by decide)
  have e6 : View.ld x6 r0_4 = x6 := View.ld_unit_lit (S := S1x1x1024) _ x6 (by decide)
  have ho : out0_16 x0 x1 x2 x3 x4 x5 x6 x7 x8 x9 x10 x11 x12 x13 x14 = k0_pay21 (k0_pay44 x0 x1 x2 x3 x4 x5 x6 x7 x8 x9 x10 x11 x12 x13 x14) (k0_pay45 x0 x1 x2 x3 x4 x5 x6 x7 x8 x9 x10 x11 x12 x13 x14) (k0_pay46 x0 x1 x2 x3 x4 x5 x6 x7 x8 x9 x10 x11 x12 x13 x14) (k0_pay47 x0 x1 x2 x3 x4 x5 x6 x7 x8 x9 x10 x11 x12 x13 x14) (k0_pay48 x0 x1 x2 x3 x4 x5 x6 x7 x8 x9 x10 x11 x12 x13 x14) (k0_pay49 x0 x1 x2 x3 x4 x5 x6 x7 x8 x9 x10 x11 x12 x13 x14) (k0_pay53 x0 x1 x2 x3 x4 x5 x6 x7 x8 x9 x10 x11 x12 x13 x14) := by
    unfold out0_16
    exact View.canon_cons_unit_lit (S := S1x256x1024) _ _ _ (by decide)
  rw [ho, pay21_at, core x0 x1 x2 x3 x4 x5 x6 x7 x8 x9 x10 x11 x12 x13 x14 s n]
  unfold k0_pay46 k0_pay47
  rw [e5, e6, pay10_at, pay11_at]
/-- The first result in closed form. -/
def first (c : Dev nD) (b : Fin 8) (s : Fin 2048) (n : Fin 1024) : EReal :=
  resid c1024 (fun j => X m c (ix3 b s j)) (fun j => Md m c (ix3 b 0 ⟨2048 + j.val, by omega⟩))
    (proj (fun k => Hc m c (ix3 b s k)) (fun k => Xc m c (ix3 b s k)) (fun k => Zc m c (ix3 b s k)) (fun k => Nw m c (ix1 k)) (fun k => Sk m c (ix1 k)) (fun k j => W m c (ix2 k j)))
    (fun j => Lg m c (ix1 j)) (fun j => Lb m c (ix1 j)) n
/-- A block's windows hold the closed form's arguments. -/
theorem windows (c : Dev nD) (b : Fin 8) (s : Fin 2048) (n : Fin 1024) (t : Fin cfg0.N) (x : Fin 256) (hb : b.val = t.val / 8) (hs : s.val = 256 * (t.val % 8) + x.val) :
    resid c1024 (fun j => (iblk m c 3 t : Vec Ideal S1x256x1024 .f32) (ix3 0 x j)) (fun j => (iblk m c 4 t : Vec Ideal S1x1x1024 .f32) (ix3 0 0 j))
          (proj (fun k => (iblk m c 0 t : Vec Ideal S1x256x2048 .f32) (ix3 0 x k)) (fun k => (iblk m c 1 t : Vec Ideal S1x256x2048 .f32) (ix3 0 x k)) (fun k => (iblk m c 2 t : Vec Ideal S1x256x2048 .f32) (ix3 0 x k)) (fun k => (iblk m c 7 t : Vec Ideal S1x2048 .f32) (ix2 0 k)) (fun k => (iblk m c 8 t : Vec Ideal S1x2048 .f32) (ix2 0 k)) (fun k j => (iblk m c 9 t : Vec Ideal S2048x1024 .bf16) (ix2 k j)))
          (fun j => (iblk m c 10 t : Vec Ideal S1x1024 .f32) (ix2 0 j)) (fun j => (iblk m c 11 t : Vec Ideal S1x1024 .f32) (ix2 0 j)) n
      = first m c b s n := by
  unfold first
  simp only [blk0 m c t x _ b s hb hs, blk1 m c t x _ b s hb hs, blk2 m c t x _ b s hb hs, blk3 m c t x _ b s hb hs, blk4 m c t _ b hb, blk7 m c t, blk8 m c t, blk9 m c t, blk10 m c t, blk11 m c t]
/-- The first result's final elements. -/
theorem final15 (c : Dev nD) (b : Fin 8) (s : Fin 2048) (n : Fin 1024) :
    ((dats m 0 c).arrAt 15 cfg0.N : Vec Ideal S8x2048x1024 .f32) (ix3 b s n) = first m c b s n := by
  have hN : 8 * b.val + s.val / 256 < cfg0.N := by rw [show cfg0.N = 64 from N_0]; omega
  obtain ⟨t, ht⟩ : ∃ t : Fin cfg0.N, t.val = 8 * b.val + s.val / 256 := ⟨⟨_, hN⟩, rfl⟩
  have hb : b.val = t.val / 8 := by omega
  have hs : s.val = 256 * (t.val % 8) + (⟨s.val % 256, by omega⟩ : Fin 256).val := by dsimp only; omega
  have hf := congrFun (Value.blocks15 m c t (flushes15 t)) (ix3 0 ⟨s.val % 256, by omega⟩ n)
  have he : ((cfg0.win 15).blk t).view.emb (ix3 0 ⟨s.val % 256, by omega⟩ n) = ix3 b s n := by
    blk_ext [widx t]
  rw [Value.flushed15] at hf
  have h' : (dats m 0 c).arrAt 15 cfg0.N (((cfg0.win 15).blk t).view.emb (ix3 0 ⟨s.val % 256, by omega⟩ n)) = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 ⟨s.val % 256, by omega⟩ n) := hf
  rw [he] at h'
  refine h'.trans ?_
  rw [out15_at, windows m c b s n t ⟨s.val % 256, by omega⟩ hb hs]
/-- The second result's final elements. -/
theorem final16 (c : Dev nD) (b : Fin 8) (s : Fin 2048) (n : Fin 1024) :
    ((dats m 0 c).arrAt 16 cfg0.N : Vec Ideal S8x2048x1024 .f32) (ix3 b s n) = first m c b s n * (one + Md m c (ix3 b 0 ⟨4096 + n.val, by omega⟩)) + Md m c (ix3 b 0 ⟨3072 + n.val, by omega⟩) := by
  have hN : 8 * b.val + s.val / 256 < cfg0.N := by rw [show cfg0.N = 64 from N_0]; omega
  obtain ⟨t, ht⟩ : ∃ t : Fin cfg0.N, t.val = 8 * b.val + s.val / 256 := ⟨⟨_, hN⟩, rfl⟩
  have hb : b.val = t.val / 8 := by omega
  have hs : s.val = 256 * (t.val % 8) + (⟨s.val % 256, by omega⟩ : Fin 256).val := by dsimp only; omega
  have hf := congrFun (Value.blocks16 m c t (flushes16 t)) (ix3 0 ⟨s.val % 256, by omega⟩ n)
  have he : ((cfg0.win 16).blk t).view.emb (ix3 0 ⟨s.val % 256, by omega⟩ n) = ix3 b s n := by
    blk_ext [widx t]
  rw [Value.flushed16] at hf
  have h' : (dats m 0 c).arrAt 16 cfg0.N (((cfg0.win 16).blk t).view.emb (ix3 0 ⟨s.val % 256, by omega⟩ n)) = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 ⟨s.val % 256, by omega⟩ n) := hf
  rw [he] at h'
  refine h'.trans ?_
  rw [out16_at, windows m c b s n t ⟨s.val % 256, by omega⟩ hb hs, blk5 m c t n b hb, blk6 m c t n b hb]
/-- The first result is the reference's. -/
theorem eq15 (c : Dev nD) : ((dats m 0 c).arrAt 15 cfg0.N : Vec Ideal S8x2048x1024 .f32) = Cert.Reference7Ideal.Read.val_main_v68 (F := Ideal) (Hc m c) (Xc m c) (Zc m c) (X m c) (Md m c) (Nw m c) (Sk m c) (W m c) (Lg m c) (Lb m c) := by
  funext i
  obtain ⟨b, s, n, rfl⟩ : ∃ (b : Fin 8) (s : Fin 2048) (n : Fin 1024), i = ix3 b s n := ⟨i 0, i 1, i 2, by funext w; fin_cases w <;> rfl⟩
  rw [final15, Cert.Reference7Ideal.MixA.m68]
  rfl
/-- The second result is the reference's. -/
theorem eq16 (c : Dev nD) : ((dats m 0 c).arrAt 16 cfg0.N : Vec Ideal S8x2048x1024 .f32) = Cert.Reference7Ideal.Read.val_main_v74 (F := Ideal) (Hc m c) (Xc m c) (Zc m c) (X m c) (Md m c) (Nw m c) (Sk m c) (W m c) (Lg m c) (Lb m c) := by
  funext i
  obtain ⟨b, s, n, rfl⟩ : ∃ (b : Fin 8) (s : Fin 2048) (n : Fin 1024), i = ix3 b s n := ⟨i 0, i 1, i 2, by funext w; fin_cases w <;> rfl⟩
  rw [final16, Cert.Reference7Ideal.MixA.m74]
  rfl
/-- The mixer's results are the reference's. -/
theorem alg : Cert.algebraic_Kernel7Ideal_Reference7Ideal (hKernel7Ideal := Cert.Kernel7Ideal.Gen.facts) (hReference7Ideal := Cert.Reference7Ideal.Gen.facts) := by
  intro m g m' g' _ hargs
  refine ⟨fun c => (dats m 0 c).arrAt 15 cfg0.N, fun c => (dats m 0 c).arrAt 16 cfg0.N,
    (θ_run defs _ _).mono (fun r h c => ⟨(h c).1, (h c).2.1, (h c).2.2.2⟩) (Cert.Kernel7Ideal.Value.run_blocks m g), ?_⟩
  refine (θ_run Cert.Reference7Ideal.defs _ _).mono (fun r h c => ?_) (Cert.Reference7Ideal.Value.run (F := Ideal) m' g')
  obtain ⟨e0, e1, ea⟩ := h c
  obtain ⟨a0, a1, a2, a3, a4, a5, a6, a7, a8, a9, a10, a11, a12, a13⟩ := hargs c
  refine ⟨e0.trans ((Cert.Reference7Ideal.Read.val_main_v68_eq m' c).trans ?_), e1.trans ((Cert.Reference7Ideal.Read.val_main_v74_eq m' c).trans ?_), ea⟩
  · rw [a0, a1, a2, a3, a4, a5, a6, a7, a8, a9]
    exact (eq15 m c).symm
  · rw [a0, a1, a2, a3, a4, a5, a6, a7, a8, a9]
    exact (eq16 m c).symm
end Cert.Kernel7Ideal.MixA
end
-- ==== Proof.MixBHead.lean ====
/-
  A block of the attention layer's mixer, element by element: the heads' norm, the output projection, the residual's norm and the modulation.
-/
module
public import proofs.«01_k».proof.Defs
public import proofs.«01_k».proof.Proof.Gen.Kernel8Ideal.Skeleton
public import proofs.«01_k».proof.Proof.Norms
public import Idealize.ShloMosaic.Lib.Pointwise
public import Idealize.ShloMosaic.Lib.ValueIdx
public import Idealize.ShloMosaic.Lib.Pipeline.ValueKit
@[expose] public section
set_option maxRecDepth 16384
noncomputable section
namespace Cert.Kernel8Ideal.MixB
open Cert.Kernel8Ideal Cert.Kernel8Ideal.Gen Idealize.ShloMosaic Idealize.SL.Sem Cert.Norms
/-- Head `a` of row `s` of a block. -/
abbrev hd (v : Vec Ideal S1x256x1024 .f32) (s : Fin 256) (a : ℕ) (ha : a < 8) : Fin 128 → EReal := fun d => v (ix3 0 s ⟨128 * a + d.val, by omega⟩)
/-- Head 0 of a block, scaled. -/
theorem head0 (v : Vec Ideal S1x256x1024 .f32) (w : Vec Ideal S1x128 .f32) (s : Fin 256) (d : Fin 128) : k0_pay3 v w (ix2 s d) = rms (hd v s 0 (by decide)) d * w (ix2 0 d) * lam := by
  unfold rms hd
  pointwise [k0_pay3, k0_pay2]
/-- Head 1 of a block, scaled. -/
theorem head1 (v : Vec Ideal S1x256x1024 .f32) (w : Vec Ideal S1x128 .f32) (s : Fin 256) (d : Fin 128) : k0_pay4 v w (ix2 s d) = rms (hd v s 1 (by decide)) d * w (ix2 0 d) * lam := by
  unfold rms hd
  pointwise [k0_pay4, k0_pay2]
/-- Head 2 of a block, scaled. -/
theorem head2 (v : Vec Ideal S1x256x1024 .f32) (w : Vec Ideal S1x128 .f32) (s : Fin 256) (d : Fin 128) : k0_pay8 (k0_pay5 v) (k0_pay6 v) (k0_pay7 (F := Ideal)) w (ix2 s d) = rms (hd v s 2 (by decide)) d * w (ix2 0 d) * lam := by
  unfold rms hd
  pointwise [k0_pay8, k0_pay7, k0_pay6, k0_pay5, k0_pay2]
/-- Head 3 of a block, scaled. -/
theorem head3 (v : Vec Ideal S1x256x1024 .f32) (w : Vec Ideal S1x128 .f32) (s : Fin 256) (d : Fin 128) : k0_pay9 (k0_pay2 v) w (ix2 s d) = rms (hd v s 3 (by decide)) d * w (ix2 0 d) * lam := by
  unfold rms hd
  pointwise [k0_pay9, k0_pay2]
/-- Head 4 of a block, scaled. -/
theorem head4 (v : Vec Ideal S1x256x1024 .f32) (w : Vec Ideal S1x128 .f32) (s : Fin 256) (d : Fin 128) : k0_pay11 (k0_pay10 (k0_pay2 v) w) (Scalar.ofBits .f32 0x3F24FD5C#32) (ix2 s d) = rms (hd v s 4 (by decide)) d * w (ix2 0 d) * lam := by
  unfold rms hd
  pointwise [k0_pay11, k0_pay10, k0_pay2]
/-- Head 5 of a block, scaled. -/
theorem head5 (v : Vec Ideal S1x256x1024 .f32) (w : Vec Ideal S1x128 .f32) (s : Fin 256) (d : Fin 128) : k0_pay12 (k0_pay2 v) w (ix2 s d) = rms (hd v s 5 (by decide)) d * w (ix2 0 d) * lam := by
  unfold rms hd
  pointwise [k0_pay12, k0_pay2]
/-- Head 6 of a block, scaled. -/
theorem head6 (v : Vec Ideal S1x256x1024 .f32) (w : Vec Ideal S1x128 .f32) (s : Fin 256) (d : Fin 128) : k0_pay13 (k0_pay2 v) w (ix2 s d) = rms (hd v s 6 (by decide)) d * w (ix2 0 d) * lam := by
  unfold rms hd
  pointwise [k0_pay13, k0_pay2]
/-- Head 7 of a block. -/
theorem head7 (v : Vec Ideal S1x256x1024 .f32) (w : Vec Ideal S1x128 .f32) (s : Fin 256) (d : Fin 128) : k0_pay14 (k0_pay2 v) (ix2 s d) * k0_pay15 (k0_pay2 v) (ix2 s 0) * w (ix2 0 d) * lam = rms (hd v s 7 (by decide)) d * w (ix2 0 d) * lam := by
  refine congrArg (· * w (ix2 0 d) * lam) ?_
  unfold rms hd
  refine congrArg₂ (· * ·) ?_ ?_ <;> pointwise [k0_pay15, k0_pay14, k0_pay2]
/-- The heads put together, times the output weights. -/
theorem pay16_of (v0 v1 v2 v3 v4 v5 v6 v7 : FVec Ideal S256x128 .f32) (r : FVec Ideal S256x1 .f32) (w : Vec Ideal S1x128 .f32) (W : Vec Ideal S1024x1024 .bf16) (s : Fin 256) (n : Fin 1024)
    (f : Fin 1024 → EReal) (h0 : ∀ d : Fin 128, v0 (ix2 s d) = f ⟨0 + d.val, by omega⟩) (h1 : ∀ d : Fin 128, v1 (ix2 s d) = f ⟨128 + d.val, by omega⟩) (h2 : ∀ d : Fin 128, v2 (ix2 s d) = f ⟨256 + d.val, by omega⟩) (h3 : ∀ d : Fin 128, v3 (ix2 s d) = f ⟨384 + d.val, by omega⟩) (h4 : ∀ d : Fin 128, v4 (ix2 s d) = f ⟨512 + d.val, by omega⟩) (h5 : ∀ d : Fin 128, v5 (ix2 s d) = f ⟨640 + d.val, by omega⟩) (h6 : ∀ d : Fin 128, v6 (ix2 s d) = f ⟨768 + d.val, by omega⟩)
    (h7 : ∀ d : Fin 128, v7 (ix2 s d) * r (ix2 s 0) * w (ix2 0 d) * lam = f ⟨896 + d.val, by omega⟩) :
    k0_pay16 v0 v1 v2 v3 v4 v5 v6 v7 r w W (ix2 s n) = ∑ k : Fin 1024, f k * W (ix2 k n) := by
  pointwise [k0_pay16]
  refine Finset.sum_congr rfl fun k _ => congrArg (· * W (ix2 k n)) ?_
  split_ifs
  all_goals first
    | exact (h0 _).trans (congrArg f (Fin.ext (by dsimp only; omega)))
    | exact (h1 _).trans (congrArg f (Fin.ext (by dsimp only; omega)))
    | exact (h2 _).trans (congrArg f (Fin.ext (by dsimp only; omega)))
    | exact (h3 _).trans (congrArg f (Fin.ext (by dsimp only; omega)))
    | exact (h4 _).trans (congrArg f (Fin.ext (by dsimp only; omega)))
    | exact (h5 _).trans (congrArg f (Fin.ext (by dsimp only; omega)))
    | exact (h6 _).trans (congrArg f (Fin.ext (by dsimp only; omega)))
    | exact (h7 _).trans (congrArg f (Fin.ext (by dsimp only; omega)))
/-- The projected rows of a block. -/
theorem proj_at (v : Vec Ideal S1x256x1024 .f32) (w : Vec Ideal S1x128 .f32) (W : Vec Ideal S1024x1024 .bf16) (s : Fin 256) (n : Fin 1024) :
    k0_pay16 (k0_pay3 v w) (k0_pay4 v w) (k0_pay8 (k0_pay5 v) (k0_pay6 v) (k0_pay7 (F := Ideal)) w) (k0_pay9 (k0_pay2 v) w)
        (k0_pay11 (k0_pay10 (k0_pay2 v) w) (Scalar.ofBits .f32 0x3F24FD5C#32)) (k0_pay12 (k0_pay2 v) w) (k0_pay13 (k0_pay2 v) w) (k0_pay14 (k0_pay2 v)) (k0_pay15 (k0_pay2 v)) w W (ix2 s n)
      = projB (fun k => v (ix3 0 s k)) (fun d => w (ix2 0 d)) (fun k j => W (ix2 k j)) n := by
  have key : ∀ (a : ℕ) (ha : a < 8) (d : Fin 128) (k : Fin 1024), k.val = 128 * a + d.val →
      rms (hd v s a ha) d * w (ix2 0 d) * lam = subs (fun k => v (ix3 0 s k)) (fun d => w (ix2 0 d)) k := by
    intro a ha d k hk
    have hd1 : (⟨k.val % 128, by omega⟩ : Fin 128) = d := Fin.ext (by dsimp only; omega)
    have ha1 : k.val / 128 = a := by omega
    unfold subs
    rw [hd1]
    subst ha1
    rfl
  refine pay16_of _ _ _ _ _ _ _ _ _ _ _ s n (subs (fun k => v (ix3 0 s k)) (fun d => w (ix2 0 d))) ?_ ?_ ?_ ?_ ?_ ?_ ?_ ?_
  · exact fun d => (head0 v w s d).trans (key 0 (by decide) d _ (by dsimp only))
  · exact fun d => (head1 v w s d).trans (key 1 (by decide) d _ (by dsimp only))
  · exact fun d => (head2 v w s d).trans (key 2 (by decide) d _ (by dsimp only))
  · exact fun d => (head3 v w s d).trans (key 3 (by decide) d _ (by dsimp only))
  · exact fun d => (head4 v w s d).trans (key 4 (by decide) d _ (by dsimp only))
  · exact fun d => (head5 v w s d).trans (key 5 (by decide) d _ (by dsimp only))
  · exact fun d => (head6 v w s d).trans (key 6 (by decide) d _ (by dsimp only))
  · exact fun d => (head7 v w s d).trans (key 7 (by decide) d _ (by dsimp only))
/-- The residual's norm. -/
theorem pay26_at (p x : FVec Ideal S256x1024 .f32) (g lg lb : FVec Ideal S1x1024 .f32) (s : Fin 256) (n : Fin 1024) :
    k0_pay26 p x g lg lb (Scalar.ofBits .f32 0x3FB504F3#32) (ix2 s n)
      = nrm c1024 (fun j => Ideal.ofBits .f32 0x3FB504F3#32 * x (ix2 s j) + (one + g (ix2 0 j)) * p (ix2 s j)) n * lg (ix2 0 n) + lb (ix2 0 n) := by
  unfold nrm scl cen
  pointwise [k0_pay26]
/-- The first result's block. -/
theorem pay27_at (p x : FVec Ideal S256x1024 .f32) (g lg lb : FVec Ideal S1x1024 .f32) (k : EReal) (s : Fin 256) (n : Fin 1024) :
    k0_pay27 p x g lg lb k (ix3 0 s n) = k0_pay26 p x g lg lb k (ix2 s n) := by
  unfold k0_pay27
  generalize k0_pay26 p x g lg lb k = y
  pointwise
/-- The second result's block. -/
theorem pay29_at (p x : FVec Ideal S256x1024 .f32) (g sc sh lg lb : FVec Ideal S1x1024 .f32) (k : EReal) (s : Fin 256) (n : Fin 1024) :
    k0_pay29 p x g sc sh lg lb k (ix3 0 s n) = k0_pay26 p x g lg lb k (ix2 s n) * (one + sc (ix2 0 n)) + sh (ix2 0 n) := by
  unfold k0_pay29 k0_pay28
  generalize k0_pay26 p x g lg lb k = y
  pointwise
/-- The gates' row. -/
theorem pay18_at (v : Vec Ideal S1x1x1024 .f32) (n : Fin 1024) : k0_pay18 v (ix2 0 n) = v (ix3 0 0 n) := by
  pointwise [k0_pay18]
/-- The scales' row. -/
theorem pay19_at (v : Vec Ideal S1x1x1024 .f32) (n : Fin 1024) : k0_pay19 v (ix2 0 n) = v (ix3 0 0 n) := by
  pointwise [k0_pay19]
/-- The shifts' row. -/
theorem pay20_at (v : Vec Ideal S1x1x1024 .f32) (n : Fin 1024) : k0_pay20 v (ix2 0 n) = v (ix3 0 0 n) := by
  pointwise [k0_pay20]
/-- The gains' row. -/
theorem pay21_at (v : Vec Ideal S1x1024 .f32) (n : Fin 1024) : k0_pay21 v (ix2 0 n) = v (ix2 0 n) := by
  pointwise [k0_pay21]
/-- The biases' row. -/
theorem pay22_at (v : Vec Ideal S1x1024 .f32) (n : Fin 1024) : k0_pay22 v (ix2 0 n) = v (ix2 0 n) := by
  pointwise [k0_pay22]
/-- The residual's rows. -/
theorem pay17_at (x : Vec Ideal S1x256x1024 .f32) (s : Fin 256) (n : Fin 1024) : k0_pay17 x (ix2 s n) = x (ix3 0 s n) := by
  pointwise [k0_pay17]
/-- The first result at an index of a block. -/
theorem first_at (v x : Vec Ideal S1x256x1024 .f32) (g : Vec Ideal S1x1x1024 .f32) (w : Vec Ideal S1x128 .f32) (W : Vec Ideal S1024x1024 .bf16) (lg lb : Vec Ideal S1x1024 .f32) (s : Fin 256) (n : Fin 1024) :
    k0_pay26 (k0_pay16 (k0_pay3 v w) (k0_pay4 v w) (k0_pay8 (k0_pay5 v) (k0_pay6 v) (k0_pay7 (F := Ideal)) w) (k0_pay9 (k0_pay2 v) w)
        (k0_pay11 (k0_pay10 (k0_pay2 v) w) (Scalar.ofBits .f32 0x3F24FD5C#32)) (k0_pay12 (k0_pay2 v) w) (k0_pay13 (k0_pay2 v) w) (k0_pay14 (k0_pay2 v)) (k0_pay15 (k0_pay2 v)) w W)
        (k0_pay17 x) (k0_pay18 g) (k0_pay21 lg) (k0_pay22 lb) (Scalar.ofBits .f32 0x3FB504F3#32) (ix2 s n)
      = resid c1024 (fun j => x (ix3 0 s j)) (fun j => g (ix3 0 0 j)) (projB (fun k => v (ix3 0 s k)) (fun d => w (ix2 0 d)) (fun k j => W (ix2 k j)))
          (fun j => lg (ix2 0 j)) (fun j => lb (ix2 0 j)) n := by
  rw [pay26_at, pay21_at, pay22_at]
  simp only [pay17_at, pay18_at, proj_at]
  rfl
end Cert.Kernel8Ideal.MixB
end
-- ==== Proof.MixBRef.lean ====
/-
  The reference of the attention layer's mixer, element by element: the same norms and projection as the kernel's.
-/
module
public import proofs.«01_k».proof.Defs
public import proofs.«01_k».proof.Proof.Gen.Reference8Ideal.Run
public import proofs.«01_k».proof.Proof.Gen.Reference8Ideal.Read
public import proofs.«01_k».proof.Proof.Norms
public import Idealize.ShloMosaic.Lib.Pointwise
public import Idealize.ShloMosaic.Lib.ValueIdx
public import Idealize.ShloMosaic.PureOps.Ideal.Laws
@[expose] public section
set_option maxRecDepth 16384
noncomputable section
namespace Cert.Reference8Ideal.MixB
open Cert.Reference8Ideal Cert.Reference8Ideal.Gen Cert.Reference8Ideal.Read Idealize.ShloMosaic Idealize.ShloMosaic.TcCoe Idealize.SL.Sem Cert.Norms
/-- Head `a` of the row of token `s` of sequence `b`. -/
abbrev hd (o : Vec Ideal S8x2048x1024 .f32) (b : Fin 8) (s : Fin 2048) (a : Fin 8) : Fin 128 → EReal := fun d => o (ix3 b s ⟨128 * a.val + d.val, by omega⟩)
/-- The heads' axis split off. -/
theorem m6 (o : Vec Ideal S8x2048x1024 .f32) (b : Fin 8) (s : Fin 2048) (a : Fin 8) (d : Fin 128) : val_main_v6 (F := Ideal) o (ix4 b s a d) = hd o b s a d := by
  rw [val_main_v6_apply]
  refine congrArg o ?_
  funext w; fin_cases w <;> first | rfl | exact Fin.ext (by simp [idx_main_v6]; omega) | exact Fin.ext (by simp [idx_main_v6])
/-- The heads' sums of squares. -/
theorem m8 (o : Vec Ideal S8x2048x1024 .f32) (b : Fin 8) (s : Fin 2048) (a : Fin 8) : val_main_v8 (F := Ideal) o (ix3 b s a) = ∑ d, hd o b s a d * hd o b s a d := by
  rw [val_main_v8_apply, show (val_main_cst (F := Ideal)) (Shape.Idx.first h_S_) = 0 from Ideal.ofBits_zero_f32, zero_add]
  refine Finset.sum_congr rfl fun k _ => ?_
  rw [show idx_main_v8 (ix3 b s a) k = ix4 b s a k by funext w; fin_cases w <;> rfl, val_main_v7_apply, m6]
  rfl
/-- The scaled heads with their gains. -/
theorem m21 (o : Vec Ideal S8x2048x1024 .f32) (g : Vec Ideal S128 .f32) (b : Fin 8) (s : Fin 2048) (a : Fin 8) (d : Fin 128) :
    val_main_v21 (F := Ideal) o g (ix4 b s a d) = rms (hd o b s a) d * g (ix1 d) * lam := by
  rw [val_main_v21_apply, val_main_v20_apply, val_main_v19_apply, val_main_v18_apply, val_main_v17_apply, val_main_v16_apply, val_main_v15_apply, val_main_v14_apply,
    val_main_v13_apply, val_main_v12_apply, val_main_v11_apply, val_main_v10_apply, val_main_v9_apply,
    show idx_main_v9 (idx_main_v15 (ix4 b s a d)) = ix3 b s a by funext w; fin_cases w <;> rfl,
    show idx_main_v17 (idx_main_v18 (ix4 b s a d)) = ix1 d by funext w; fin_cases w; rfl, m6, m8]
  rfl
/-- The rows of scaled heads. -/
theorem m26 (o : Vec Ideal S8x2048x1024 .f32) (g : Vec Ideal S128 .f32) (b : Fin 8) (s : Fin 2048) (n : Fin 1024) :
    val_main_v26 (F := Ideal) o g (ix3 b s n) = subs (fun k => o (ix3 b s k)) (fun d => g (ix1 d)) n := by
  rw [val_main_v26_apply, show idx_main_v26 (ix3 b s n) = ix4 b s ⟨n.val / 128, by omega⟩ ⟨n.val % 128, by omega⟩ by
      funext w; fin_cases w <;> first | rfl | exact Fin.ext (by simp [idx_main_v26]; omega) | exact Fin.ext (by simp [idx_main_v26]), m21]
  rfl
/-- The projected rows. -/
theorem m27 (o : Vec Ideal S8x2048x1024 .f32) (g : Vec Ideal S128 .f32) (w : Vec Ideal S1024x1024 .f32) (b : Fin 8) (s : Fin 2048) (n : Fin 1024) :
    val_main_v27 (F := Ideal) o g w (ix3 b s n) = projB (fun k => o (ix3 b s k)) (fun d => g (ix1 d)) (fun k j => w (ix2 k j)) n := by
  rw [val_main_v27_apply]
  unfold projB
  refine Finset.sum_congr rfl fun k _ => ?_
  rw [show lidx_main_v27 (ix3 b s n) k = ix3 b s k by funext w; fin_cases w <;> rfl,
    show ridx_main_v27 (ix3 b s n) k = ix2 k n by funext w; fin_cases w <;> rfl, m26]
variable (o x : Vec Ideal S8x2048x1024 .f32) (md : Vec Ideal S8x1x6144 .f32) (g : Vec Ideal S128 .f32) (w : Vec Ideal S1024x1024 .f32) (lg lb : Vec Ideal S1024 .f32)
/-- The mixed row: the residual and the gated branch. -/
def mix (b : Fin 8) (s : Fin 2048) : Fin 1024 → EReal :=
  mixed (fun j => x (ix3 b s j)) (fun j => md (ix3 b 0 ⟨2048 + j.val, by omega⟩)) (projB (fun k => o (ix3 b s k)) (fun d => g (ix1 d)) (fun k j => w (ix2 k j)))
/-- The mixed rows. -/
theorem m30 (b : Fin 8) (s : Fin 2048) (n : Fin 1024) : val_main_v30 (F := Ideal) o x md g w (ix3 b s n) = mix o x md g w b s n := by
  rw [val_main_v30_apply, val_main_v29_apply, m27, val_main_v28_apply, val_main_v25_apply, val_main_v24_apply, val_main_v23_apply, val_main_v22_apply, val_main_v2_apply,
    show idx_main_v2 (idx_main_v28 (ix3 b s n)) = ix3 b 0 ⟨2048 + n.val, by omega⟩ by funext w; fin_cases w <;> rfl]
  rfl
/-- The rows' sums. -/
theorem m31 (b : Fin 8) (s : Fin 2048) : val_main_v31 (F := Ideal) o x md g w (ix2 b s) = ∑ j, mix o x md g w b s j := by
  rw [val_main_v31_apply, show (val_main_cst_5 (F := Ideal)) (Shape.Idx.first h_S_) = 0 from Ideal.ofBits_zero_f32, zero_add]
  refine Finset.sum_congr rfl fun k _ => ?_
  rw [show idx_main_v31 (ix2 b s) k = ix3 b s k by funext w; fin_cases w <;> rfl, m30]
/-- The centred rows. -/
theorem m36 (b : Fin 8) (s : Fin 2048) (n : Fin 1024) : val_main_v36 (F := Ideal) o x md g w (ix3 b s n) = cen c1024 (mix o x md g w b s) n := by
  rw [val_main_v36_apply, val_main_v35_apply, val_main_v34_apply, val_main_v33_apply, val_main_v32_apply,
    show idx_main_v32 (idx_main_v35 (ix3 b s n)) = ix2 b s by funext w; fin_cases w <;> rfl, m30, m31]
  rfl
/-- The rows' sums of squares. -/
theorem m38 (b : Fin 8) (s : Fin 2048) : val_main_v38 (F := Ideal) o x md g w (ix2 b s)
    = ∑ j, cen c1024 (mix o x md g w b s) j * cen c1024 (mix o x md g w b s) j := by
  rw [val_main_v38_apply, show (val_main_cst_7 (F := Ideal)) (Shape.Idx.first h_S_) = 0 from Ideal.ofBits_zero_f32, zero_add]
  refine Finset.sum_congr rfl fun k _ => ?_
  rw [show idx_main_v38 (ix2 b s) k = ix3 b s k by funext w; fin_cases w <;> rfl, val_main_v37_apply, m36]
  rfl
/-- The normalized rows. -/
theorem m46 (b : Fin 8) (s : Fin 2048) (n : Fin 1024) : val_main_v46 (F := Ideal) o x md g w (ix3 b s n) = nrm c1024 (mix o x md g w b s) n := by
  rw [val_main_v46_apply, val_main_v45_apply, val_main_v44_apply, val_main_v43_apply, val_main_v42_apply, val_main_v41_apply, val_main_v40_apply, val_main_v39_apply,
    show idx_main_v39 (idx_main_v45 (ix3 b s n)) = ix2 b s by funext w; fin_cases w <;> rfl, m36, m38]
  rfl
/-- The reference's first result. -/
theorem m52 (b : Fin 8) (s : Fin 2048) (n : Fin 1024) : val_main_v52 (F := Ideal) o x md g w lg lb (ix3 b s n)
    = nrm c1024 (mix o x md g w b s) n * lg (ix1 n) + lb (ix1 n) := by
  rw [val_main_v52_apply, val_main_v49_apply, m46, val_main_v48_apply, val_main_v47_apply, val_main_v51_apply, val_main_v50_apply,
    show idx_main_v47 (idx_main_v48 (ix3 b s n)) = ix1 n by funext w; fin_cases w; rfl,
    show idx_main_v50 (idx_main_v51 (ix3 b s n)) = ix1 n by funext w; fin_cases w; rfl]
  rfl
/-- The reference's second result. -/
theorem m58 (b : Fin 8) (s : Fin 2048) (n : Fin 1024) : val_main_v58 (F := Ideal) o x md g w lg lb (ix3 b s n)
    = (nrm c1024 (mix o x md g w b s) n * lg (ix1 n) + lb (ix1 n)) * (one + md (ix3 b 0 ⟨4096 + n.val, by omega⟩)) + md (ix3 b 0 ⟨3072 + n.val, by omega⟩) := by
  rw [val_main_v58_apply, val_main_v56_apply, m52, val_main_v55_apply, val_main_v54_apply, val_main_v53_apply, val_main_v57_apply, val_main_v4_apply, val_main_v3_apply,
    show idx_main_v4 (idx_main_v55 (ix3 b s n)) = ix3 b 0 ⟨4096 + n.val, by omega⟩ by funext w; fin_cases w <;> rfl,
    show idx_main_v3 (idx_main_v57 (ix3 b s n)) = ix3 b 0 ⟨3072 + n.val, by omega⟩ by funext w; fin_cases w <;> rfl]
  rfl
/-- The reference runs and its arguments end unchanged. -/
theorem frameR : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)
end Cert.Reference8Ideal.MixB
end
-- ==== Proof.MixB.lean ====
/-
  The attention layer's mixer: its blocks, put together, are the reference's normalized residual and its modulation.
-/
module
public import proofs.«01_k».proof.Defs
public import proofs.«01_k».proof.Proof.Gen.Kernel8Ideal.Value
public import proofs.«01_k».proof.Proof.MixBHead
public import proofs.«01_k».proof.Proof.MixBRef
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Adequacy
@[expose] public section
set_option maxRecDepth 16384
noncomputable section
namespace Cert.Kernel8Ideal.MixB
open Cert.Kernel8Ideal Cert.Kernel8Ideal.Gen Idealize.ShloMosaic Idealize.ShloMosaic.TcCoe Idealize.SL.Sem Cert.Norms
variable (m : (ℓ : Loc nD τ sig) → Buf (Elt Ideal) ℓ)
/-- The attention's output. -/
abbrev O (c : Dev nD) : Vec Ideal S8x2048x1024 .f32 := m ((c : Thread nD τ).loc main_arg0)
/-- The tokens' stream. -/
abbrev X (c : Dev nD) : Vec Ideal S8x2048x1024 .f32 := m ((c : Thread nD τ).loc main_arg1)
/-- The conditioning vectors. -/
abbrev Md (c : Dev nD) : Vec Ideal S8x1x6144 .f32 := m ((c : Thread nD τ).loc main_arg2)
/-- The heads' gain. -/
abbrev Gn (c : Dev nD) : Vec Ideal S128 .f32 := m ((c : Thread nD τ).loc main_arg3)
/-- The output weights. -/
abbrev W (c : Dev nD) : Vec Ideal S1024x1024 .f32 := m ((c : Thread nD τ).loc main_arg4)
/-- The norm's gain. -/
abbrev Lg (c : Dev nD) : Vec Ideal S1024 .f32 := m ((c : Thread nD τ).loc main_arg5)
/-- The norm's bias. -/
abbrev Lb (c : Dev nD) : Vec Ideal S1024 .f32 := m ((c : Thread nD τ).loc main_arg6)
/-- The blocks' places, decided over the grid. -/
theorem widx : ∀ t : Fin cfg0.N, win0_0.index t = ![t.val / 8, t.val % 8, 0] ∧ win0_1.index t = ![t.val / 8, t.val % 8, 0]
    ∧ win0_2.index t = ![t.val / 8, 0, 2] ∧ win0_3.index t = ![t.val / 8, 0, 4] ∧ win0_4.index t = ![t.val / 8, 0, 3]
    ∧ win0_5.index t = ![0, 0] ∧ win0_6.index t = ![0, 0] ∧ win0_7.index t = ![0, 0] ∧ win0_8.index t = ![0, 0]
    ∧ win0_12.index t = ![t.val / 8, t.val % 8, 0] ∧ win0_13.index t = ![t.val / 8, t.val % 8, 0] := by decide +kernel
/-- Every point writes its blocks of the first result back. -/
theorem flushes12 : ∀ t : Fin cfg0.N, (cfg0.win 12).flush t = true := by decide +kernel
/-- Every point writes its blocks of the second result back. -/
theorem flushes13 : ∀ t : Fin cfg0.N, (cfg0.win 13).flush t = true := by decide +kernel
/-- Window 0's block. -/
theorem blk0 (c : Dev nD) (t : Fin cfg0.N) (x : Fin 256) (k : Fin 1024) (b : Fin 8) (s : Fin 2048) (hb : b.val = t.val / 8) (hs : s.val = 256 * (t.val % 8) + x.val) :
    (iblk m c 0 t : Vec Ideal S1x256x1024 .f32) (ix3 0 x k) = O m c (ix3 b s k) := by
  show _ = (m ((c : Thread nD τ).loc main_arg0) : Vec Ideal S8x2048x1024 .f32) _
  rw [← V_main_arg0 m c]
  refine congrArg (V m c main_arg0 : Vec Ideal S8x2048x1024 .f32) ?_
  blk_ext [widx t]
/-- Window 1's block. -/
theorem blk1 (c : Dev nD) (t : Fin cfg0.N) (x : Fin 256) (k : Fin 1024) (b : Fin 8) (s : Fin 2048) (hb : b.val = t.val / 8) (hs : s.val = 256 * (t.val % 8) + x.val) :
    (iblk m c 1 t : Vec Ideal S1x256x1024 .f32) (ix3 0 x k) = X m c (ix3 b s k) := by
  show _ = (m ((c : Thread nD τ).loc main_arg1) : Vec Ideal S8x2048x1024 .f32) _
  rw [← V_main_arg1 m c]
  refine congrArg (V m c main_arg1 : Vec Ideal S8x2048x1024 .f32) ?_
  blk_ext [widx t]
/-- Window 2's block. -/
theorem blk2 (c : Dev nD) (t : Fin cfg0.N) (k : Fin 1024) (b : Fin 8) (hb : b.val = t.val / 8) :
    (iblk m c 2 t : Vec Ideal S1x1x1024 .f32) (ix3 0 0 k) = Md m c (ix3 b 0 ⟨2048 + k.val, by omega⟩) := by
  show _ = (m ((c : Thread nD τ).loc main_arg2) : Vec Ideal S8x1x6144 .f32) _
  rw [← V_main_arg2 m c]
  refine congrArg (V m c main_arg2 : Vec Ideal S8x1x6144 .f32) ?_
  blk_ext [widx t]
/-- Window 3's block. -/
theorem blk3 (c : Dev nD) (t : Fin cfg0.N) (k : Fin 1024) (b : Fin 8) (hb : b.val = t.val / 8) :
    (iblk m c 3 t : Vec Ideal S1x1x1024 .f32) (ix3 0 0 k) = Md m c (ix3 b 0 ⟨4096 + k.val, by omega⟩) := by
  show _ = (m ((c : Thread nD τ).loc main_arg2) : Vec Ideal S8x1x6144 .f32) _
  rw [← V_main_arg2 m c]
  refine congrArg (V m c main_arg2 : Vec Ideal S8x1x6144 .f32) ?_
  blk_ext [widx t]
/-- Window 4's block. -/
theorem blk4 (c : Dev nD) (t : Fin cfg0.N) (k : Fin 1024) (b : Fin 8) (hb : b.val = t.val / 8) :
    (iblk m c 4 t : Vec Ideal S1x1x1024 .f32) (ix3 0 0 k) = Md m c (ix3 b 0 ⟨3072 + k.val, by omega⟩) := by
  show _ = (m ((c : Thread nD τ).loc main_arg2) : Vec Ideal S8x1x6144 .f32) _
  rw [← V_main_arg2 m c]
  refine congrArg (V m c main_arg2 : Vec Ideal S8x1x6144 .f32) ?_
  blk_ext [widx t]
/-- Window 5's staged row. -/
theorem row5 (c : Dev nD) (k : Fin 128) : (V m c main_v0 : Vec Ideal S1x128 .f32) (ix2 0 k) = Gn m c (ix1 k) := by
  have e : (V m c main_v0 : Vec Ideal S1x128 .f32) = shapeCast S1x128 (Gn m c) shapeCasts_S128_S1x128 := by
    entry_read
    rfl
  rw [e]
  pointwise
/-- Window 5's block. -/
theorem blk5 (c : Dev nD) (t : Fin cfg0.N) (k : Fin 128) : (iblk m c 5 t : Vec Ideal S1x128 .f32) (ix2 0 k) = Gn m c (ix1 k) := by
  refine Eq.trans (congrArg (V m c main_v0 : Vec Ideal S1x128 .f32) ?_) (row5 m c k)
  blk_ext [widx t]
/-- Window 7's staged row. -/
theorem row7 (c : Dev nD) (k : Fin 1024) : (V m c main_v2 : Vec Ideal S1x1024 .f32) (ix2 0 k) = Lg m c (ix1 k) := by
  have e : (V m c main_v2 : Vec Ideal S1x1024 .f32) = shapeCast S1x1024 (Lg m c) shapeCasts_S1024_S1x1024 := by
    entry_read
    rfl
  rw [e]
  pointwise
/-- Window 7's block. -/
theorem blk7 (c : Dev nD) (t : Fin cfg0.N) (k : Fin 1024) : (iblk m c 7 t : Vec Ideal S1x1024 .f32) (ix2 0 k) = Lg m c (ix1 k) := by
  refine Eq.trans (congrArg (V m c main_v2 : Vec Ideal S1x1024 .f32) ?_) (row7 m c k)
  blk_ext [widx t]
/-- Window 8's staged row. -/
theorem row8 (c : Dev nD) (k : Fin 1024) : (V m c main_v3 : Vec Ideal S1x1024 .f32) (ix2 0 k) = Lb m c (ix1 k) := by
  have e : (V m c main_v3 : Vec Ideal S1x1024 .f32) = shapeCast S1x1024 (Lb m c) shapeCasts_S1024_S1x1024 := by
    entry_read
    rfl
  rw [e]
  pointwise
/-- Window 8's block. -/
theorem blk8 (c : Dev nD) (t : Fin cfg0.N) (k : Fin 1024) : (iblk m c 8 t : Vec Ideal S1x1024 .f32) (ix2 0 k) = Lb m c (ix1 k) := by
  refine Eq.trans (congrArg (V m c main_v3 : Vec Ideal S1x1024 .f32) ?_) (row8 m c k)
  blk_ext [widx t]
/-- The staged weights are the weights. -/
theorem row6 (c : Dev nD) (k n : Fin 1024) : (V m c main_v1 : Vec Ideal S1024x1024 .bf16) (ix2 k n) = W m c (ix2 k n) := by
  entry_read
  rfl
/-- The weights' block. -/
theorem blk6 (c : Dev nD) (t : Fin cfg0.N) (k n : Fin 1024) : (iblk m c 6 t : Vec Ideal S1024x1024 .bf16) (ix2 k n) = W m c (ix2 k n) := by
  refine Eq.trans (congrArg (V m c main_v1 : Vec Ideal S1024x1024 .bf16) ?_) (row6 m c k n)
  blk_ext [widx t]
/-- The normalized residual of a block, over the block's windows. -/
theorem core (x0 x1 : Vec Ideal S1x256x1024 .f32) (x2 x3 x4 : Vec Ideal S1x1x1024 .f32) (x5 : Vec Ideal S1x128 .f32)
    (x6 : Vec Ideal S1024x1024 .bf16) (x7 x8 : Vec Ideal S1x1024 .f32) (x9 x10 : Vec Ideal S1024x128 .bf16) (x11 : Vec Ideal S1x128 .f32) (s : Fin 256) (n : Fin 1024) :
    k0_pay26 (k0_pay52 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay57 x0 x1 x2 x3 x4 x5 x6 x7 x8 x9 x10 x11) (k0_pay58 x0 x1 x2 x3 x4 x5 x6 x7 x8 x9 x10 x11) (Scalar.ofBits .f32 0x3FB504F3#32) (ix2 s n)
      = resid c1024 (fun j => x1 (ix3 0 s j)) (fun j => x2 (ix3 0 0 j))
          (projB (fun k => x0 (ix3 0 s k)) (fun d => x5 (ix2 0 d)) (fun k j => x6 (ix2 k j)))
          (fun j => x7 (ix2 0 j)) (fun j => x8 (ix2 0 j)) n := by
  have e0 : View.ld x0 r0_0 = x0 := View.ld_unit_lit (S := S1x256x1024) _ x0 (by decide)
  have e1 : View.ld x1 r0_0 = x1 := View.ld_unit_lit (S := S1x256x1024) _ x1 (by decide)
  have e2 : View.ld x2 r0_3 = x2 := View.ld_unit_lit (S := S1x1x1024) _ x2 (by decide)
  have e5 : View.ld x5 r0_1 = x5 := View.ld_unit_lit (S := S1x128) _ x5 (by decide)
  have e6 : View.ld x6 r0_2 = x6 := View.ld_unit_lit (S := S1024x1024) _ x6 (by decide)
  have e7 : View.ld x7 r0_4 = x7 := View.ld_unit_lit (S := S1x1024) _ x7 (by decide)
  have e8 : View.ld x8 r0_4 = x8 := View.ld_unit_lit (S := S1x1024) _ x8 (by decide)
  unfold k0_pay52 k0_pay53 k0_pay54 k0_pay57 k0_pay58 k0_pay51
  rw [e0, e1, e2, e5, e6, e7, e8]
  exact first_at x0 x1 x2 x5 x6 x7 x8 s n
/-- The first result's block over the block's windows. -/
theorem out12_at (x0 x1 : Vec Ideal S1x256x1024 .f32) (x2 x3 x4 : Vec Ideal S1x1x1024 .f32) (x5 : Vec Ideal S1x128 .f32)
    (x6 : Vec Ideal S1024x1024 .bf16) (x7 x8 : Vec Ideal S1x1024 .f32) (x9 x10 : Vec Ideal S1024x128 .bf16) (x11 : Vec Ideal S1x128 .f32) (s : Fin 256) (n : Fin 1024) :
    out0_12 x0 x1 x2 x3 x4 x5 x6 x7 x8 x9 x10 x11 (ix3 0 s n)
      = resid c1024 (fun j => x1 (ix3 0 s j)) (fun j => x2 (ix3 0 0 j))
          (projB (fun k => x0 (ix3 0 s k)) (fun d => x5 (ix2 0 d)) (fun k j => x6 (ix2 k j)))
          (fun j => x7 (ix2 0 j)) (fun j => x8 (ix2 0 j)) n := by
  have ho : out0_12 x0 x1 x2 x3 x4 x5 x6 x7 x8 x9 x10 x11 = k0_pay27 (k0_pay52 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay57 x0 x1 x2 x3 x4 x5 x6 x7 x8 x9 x10 x11) (k0_pay58 x0 x1 x2 x3 x4 x5 x6 x7 x8 x9 x10 x11) (Scalar.ofBits .f32 0x3FB504F3#32) := by
    unfold out0_12
    exact View.canon_cons_unit_lit (S := S1x256x1024) _ _ _ (by decide)
  rw [ho]
  exact (pay27_at _ _ _ _ _ _ s n).trans (core x0 x1 x2 x3 x4 x5 x6 x7 x8 x9 x10 x11 s n)
/-- The second result's block over the block's windows. -/
theorem out13_at (x0 x1 : Vec Ideal S1x256x1024 .f32) (x2 x3 x4 : Vec Ideal S1x1x1024 .f32) (x5 : Vec Ideal S1x128 .f32)
    (x6 : Vec Ideal S1024x1024 .bf16) (x7 x8 : Vec Ideal S1x1024 .f32) (x9 x10 : Vec Ideal S1024x128 .bf16) (x11 : Vec Ideal S1x128 .f32) (s : Fin 256) (n : Fin 1024) :
    out0_13 x0 x1 x2 x3 x4 x5 x6 x7 x8 x9 x10 x11 (ix3 0 s n)
      = resid c1024 (fun j => x1 (ix3 0 s j)) (fun j => x2 (ix3 0 0 j))
          (projB (fun k => x0 (ix3 0 s k)) (fun d => x5 (ix2 0 d)) (fun k j => x6 (ix2 k j)))
          (fun j => x7 (ix2 0 j)) (fun j => x8 (ix2 0 j)) n * (one + x3 (ix3 0 0 n)) + x4 (ix3 0 0 n) := by
  have e3 : View.ld x3 r0_3 = x3 := View.ld_unit_lit (S := S1x1x1024) _ x3 (by decide)
  have e4 : View.ld x4 r0_3 = x4 := View.ld_unit_lit (S := S1x1x1024) _ x4 (by decide)
  have ho : out0_13 x0 x1 x2 x3 x4 x5 x6 x7 x8 x9 x10 x11 = k0_pay29 (k0_pay52 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (k0_pay57 x0 x1 x2 x3 x4 x5 x6 x7 x8 x9 x10 x11) (k0_pay58 x0 x1 x2 x3 x4 x5 x6 x7 x8 x9 x10 x11) (Scalar.ofBits .f32 0x3FB504F3#32) := by
    unfold out0_13
    exact View.canon_cons_unit_lit (S := S1x256x1024) _ _ _ (by decide)
  rw [ho]
  refine (pay29_at _ _ _ _ _ _ _ _ s n).trans ?_
  rw [core x0 x1 x2 x3 x4 x5 x6 x7 x8 x9 x10 x11 s n]
  unfold k0_pay55 k0_pay56
  rw [e3, e4, pay19_at, pay20_at]
/-- The first result in closed form. -/
def first (c : Dev nD) (b : Fin 8) (s : Fin 2048) (n : Fin 1024) : EReal :=
  resid c1024 (fun j => X m c (ix3 b s j)) (fun j => Md m c (ix3 b 0 ⟨2048 + j.val, by omega⟩))
    (projB (fun k => O m c (ix3 b s k)) (fun d => Gn m c (ix1 d)) (fun k j => W m c (ix2 k j)))
    (fun j => Lg m c (ix1 j)) (fun j => Lb m c (ix1 j)) n
/-- A block's windows hold the closed form's arguments. -/
theorem windows (c : Dev nD) (b : Fin 8) (s : Fin 2048) (n : Fin 1024) (t : Fin cfg0.N) (x : Fin 256) (hb : b.val = t.val / 8) (hs : s.val = 256 * (t.val % 8) + x.val) :
    resid c1024 (fun j => (iblk m c 1 t : Vec Ideal S1x256x1024 .f32) (ix3 0 x j)) (fun j => (iblk m c 2 t : Vec Ideal S1x1x1024 .f32) (ix3 0 0 j))
          (projB (fun k => (iblk m c 0 t : Vec Ideal S1x256x1024 .f32) (ix3 0 x k)) (fun d => (iblk m c 5 t : Vec Ideal S1x128 .f32) (ix2 0 d)) (fun k j => (iblk m c 6 t : Vec Ideal S1024x1024 .bf16) (ix2 k j)))
          (fun j => (iblk m c 7 t : Vec Ideal S1x1024 .f32) (ix2 0 j)) (fun j => (iblk m c 8 t : Vec Ideal S1x1024 .f32) (ix2 0 j)) n
      = first m c b s n := by
  unfold first
  simp only [blk0 m c t x _ b s hb hs, blk1 m c t x _ b s hb hs, blk2 m c t _ b hb, blk5 m c t, blk6 m c t, blk7 m c t, blk8 m c t]
/-- The first result's final elements. -/
theorem final12 (c : Dev nD) (b : Fin 8) (s : Fin 2048) (n : Fin 1024) :
    ((dats m 0 c).arrAt 12 cfg0.N : Vec Ideal S8x2048x1024 .f32) (ix3 b s n) = first m c b s n := by
  have hN : 8 * b.val + s.val / 256 < cfg0.N := by rw [show cfg0.N = 64 from N_0]; omega
  obtain ⟨t, ht⟩ : ∃ t : Fin cfg0.N, t.val = 8 * b.val + s.val / 256 := ⟨⟨_, hN⟩, rfl⟩
  have hb : b.val = t.val / 8 := by omega
  have hs : s.val = 256 * (t.val % 8) + (⟨s.val % 256, by omega⟩ : Fin 256).val := by dsimp only; omega
  have hf := congrFun (Value.blocks12 m c t (flushes12 t)) (ix3 0 ⟨s.val % 256, by omega⟩ n)
  have he : ((cfg0.win 12).blk t).view.emb (ix3 0 ⟨s.val % 256, by omega⟩ n) = ix3 b s n := by
    blk_ext [widx t]
  rw [Value.flushed12] at hf
  have h' : (dats m 0 c).arrAt 12 cfg0.N (((cfg0.win 12).blk t).view.emb (ix3 0 ⟨s.val % 256, by omega⟩ n)) = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 ⟨s.val % 256, by omega⟩ n) := hf
  rw [he] at h'
  refine h'.trans ?_
  rw [out12_at, windows m c b s n t ⟨s.val % 256, by omega⟩ hb hs]
/-- The second result's final elements. -/
theorem final13 (c : Dev nD) (b : Fin 8) (s : Fin 2048) (n : Fin 1024) :
    ((dats m 0 c).arrAt 13 cfg0.N : Vec Ideal S8x2048x1024 .f32) (ix3 b s n) = first m c b s n * (one + Md m c (ix3 b 0 ⟨4096 + n.val, by omega⟩)) + Md m c (ix3 b 0 ⟨3072 + n.val, by omega⟩) := by
  have hN : 8 * b.val + s.val / 256 < cfg0.N := by rw [show cfg0.N = 64 from N_0]; omega
  obtain ⟨t, ht⟩ : ∃ t : Fin cfg0.N, t.val = 8 * b.val + s.val / 256 := ⟨⟨_, hN⟩, rfl⟩
  have hb : b.val = t.val / 8 := by omega
  have hs : s.val = 256 * (t.val % 8) + (⟨s.val % 256, by omega⟩ : Fin 256).val := by dsimp only; omega
  have hf := congrFun (Value.blocks13 m c t (flushes13 t)) (ix3 0 ⟨s.val % 256, by omega⟩ n)
  have he : ((cfg0.win 13).blk t).view.emb (ix3 0 ⟨s.val % 256, by omega⟩ n) = ix3 b s n := by
    blk_ext [widx t]
  rw [Value.flushed13] at hf
  have h' : (dats m 0 c).arrAt 13 cfg0.N (((cfg0.win 13).blk t).view.emb (ix3 0 ⟨s.val % 256, by omega⟩ n)) = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 ⟨s.val % 256, by omega⟩ n) := hf
  rw [he] at h'
  refine h'.trans ?_
  rw [out13_at, windows m c b s n t ⟨s.val % 256, by omega⟩ hb hs, blk3 m c t n b hb, blk4 m c t n b hb]
/-- The first result is the reference's. -/
theorem eq12 (c : Dev nD) : ((dats m 0 c).arrAt 12 cfg0.N : Vec Ideal S8x2048x1024 .f32) = Cert.Reference8Ideal.Read.val_main_v52 (F := Ideal) (O m c) (X m c) (Md m c) (Gn m c) (W m c) (Lg m c) (Lb m c) := by
  funext i
  obtain ⟨b, s, n, rfl⟩ : ∃ (b : Fin 8) (s : Fin 2048) (n : Fin 1024), i = ix3 b s n := ⟨i 0, i 1, i 2, by funext w; fin_cases w <;> rfl⟩
  rw [final12, Cert.Reference8Ideal.MixB.m52]
  rfl
/-- The second result is the reference's. -/
theorem eq13 (c : Dev nD) : ((dats m 0 c).arrAt 13 cfg0.N : Vec Ideal S8x2048x1024 .f32) = Cert.Reference8Ideal.Read.val_main_v58 (F := Ideal) (O m c) (X m c) (Md m c) (Gn m c) (W m c) (Lg m c) (Lb m c) := by
  funext i
  obtain ⟨b, s, n, rfl⟩ : ∃ (b : Fin 8) (s : Fin 2048) (n : Fin 1024), i = ix3 b s n := ⟨i 0, i 1, i 2, by funext w; fin_cases w <;> rfl⟩
  rw [final13, Cert.Reference8Ideal.MixB.m58]
  rfl
/-- The mixer's results are the reference's. -/
theorem alg : Cert.algebraic_Kernel8Ideal_Reference8Ideal (hKernel8Ideal := Cert.Kernel8Ideal.Gen.facts) (hReference8Ideal := Cert.Reference8Ideal.Gen.facts) := by
  intro m g m' g' _ hargs
  refine ⟨fun c => (dats m 0 c).arrAt 12 cfg0.N, fun c => (dats m 0 c).arrAt 13 cfg0.N,
    (θ_run defs _ _).mono (fun r h c => ⟨(h c).1, (h c).2.1, (h c).2.2.2⟩) (Cert.Kernel8Ideal.Value.run_blocks m g), ?_⟩
  refine (θ_run Cert.Reference8Ideal.defs _ _).mono (fun r h c => ?_) (Cert.Reference8Ideal.Value.run (F := Ideal) m' g')
  obtain ⟨e0, e1, ea⟩ := h c
  obtain ⟨a0, a1, a2, a3, a4, a5, a6, a7, a8, a9, a10⟩ := hargs c
  refine ⟨e0.trans ((Cert.Reference8Ideal.Read.val_main_v52_eq m' c).trans ?_), e1.trans ((Cert.Reference8Ideal.Read.val_main_v58_eq m' c).trans ?_), ea⟩
  · rw [a0, a1, a2, a3, a4, a5, a6]
    exact (eq12 m c).symm
  · rw [a0, a1, a2, a3, a4, a5, a6]
    exact (eq13 m c).symm
end Cert.Kernel8Ideal.MixB
end
-- ==== Proof.lean ====
/-
  The claims about the eleven calls: each conjunct is proved in a module of its own.
-/
module
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Skeleton
public import proofs.«01_k».proof.Proof.Gen.Kernel11Ideal.Skeleton
public import proofs.«01_k».proof.Proof.Gen.Reference11Ideal.Run
public import proofs.«01_k».proof.Proof.Gen.Reference11Ideal.Read
public import proofs.«01_k».proof.Proof.Claims
public import proofs.«01_k».proof.Proof.ExpertsFit
public import proofs.«01_k».proof.Proof.ExpertsValue
public import proofs.«01_k».proof.Proof.Inp
public import proofs.«01_k».proof.Proof.Keys
public import proofs.«01_k».proof.Proof.Queries
public import proofs.«01_k».proof.Proof.StepKeys
public import proofs.«01_k».proof.Proof.Cell
public import proofs.«01_k».proof.Proof.MixA
public import proofs.«01_k».proof.Proof.MixB

@[expose] public section
noncomputable section

namespace Cert.Proof
open Idealize.ShloMosaic Idealize.SL.Sem

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts,
  Cert.Kernel10.Gen.facts, Cert.Kernel10Ideal.Gen.facts,
  Cert.Kernel11.Gen.facts, Cert.Kernel11Ideal.Gen.facts, Cert.Reference11Ideal.Gen.facts,
  Cert.KernelIdeal.Scan.preFacts, Cert.Kernel5Ideal.StepKeys.preFacts, Cert.Kernel6Ideal.Cell.preFacts, Cert.Tiles.preFacts,
  fun m ρ _ => Cert.Kernel.Gen.frame m ρ, fun m ρ _ => Cert.KernelIdeal.Gen.frame m ρ, fun m ρ _ => Cert.KernelIdeal.Gen.frame m ρ, frameR, fun m ρ _ => frameR m ρ trivial,
  fun m ρ _ => Cert.Kernel2.Gen.frame m ρ, fun m ρ _ => Cert.Kernel2Ideal.Gen.frame m ρ, Cert.Kernel2Ideal.Inp.frameR,
  fun m ρ _ => Cert.Kernel3.Gen.frame m ρ, fun m ρ _ => Cert.Kernel3Ideal.Gen.frame m ρ, Cert.Kernel3Ideal.Keys.frameR,
  fun m ρ _ => Cert.Kernel4.Gen.frame m ρ, fun m ρ _ => Cert.Kernel4Ideal.Gen.frame m ρ, Cert.Kernel4Ideal.Queries.frameR,
  fun m ρ _ => Cert.Kernel5.Gen.frame m ρ, fun m ρ _ => Cert.Kernel5Ideal.Gen.frame m ρ, fun m ρ _ => Cert.Kernel5Ideal.Gen.frame m ρ, Cert.Kernel5Ideal.StepKeys.frameR, fun m ρ _ => Cert.Kernel5Ideal.StepKeys.frameR m ρ trivial,
  fun m ρ _ => Cert.Kernel6.Gen.frame m ρ, fun m ρ _ => Cert.Kernel6Ideal.Gen.frame m ρ, fun m ρ _ => Cert.Kernel6Ideal.Gen.frame m ρ, Cert.Kernel6Ideal.Cell.frameR, fun m ρ _ => Cert.Kernel6Ideal.Cell.frameR m ρ trivial,
  fun m ρ _ => Cert.Kernel7.Gen.frame m ρ, fun m ρ _ => Cert.Kernel7Ideal.Gen.frame m ρ, Cert.Reference7Ideal.MixA.frameR,
  fun m ρ _ => Cert.Kernel8.Gen.frame m ρ, fun m ρ _ => Cert.Kernel8Ideal.Gen.frame m ρ, Cert.Reference8Ideal.MixB.frameR,
  fun m ρ _ => Cert.Kernel9.Gen.frame m ρ, fun m ρ _ => Cert.Kernel9Ideal.Gen.frame m ρ,
  fun m ρ _ => Cert.Kernel10.Gen.frame m ρ, fun m ρ _ => Cert.Kernel10Ideal.Gen.frame m ρ,
  fun m ρ h => Cert.Kernel11.Tile.frame m ρ (Cert.Kernel11.Tile.fit m h),
  fun m ρ h => Cert.Kernel11Ideal.Tile.frame m ρ (Cert.Kernel11Ideal.Tile.fit m h),
  Cert.Kernel11Ideal.Tile.frameR, fun m ρ _ => Cert.Kernel11Ideal.Tile.frameR m ρ trivial,
  trivial, alg, trivial, Cert.Kernel2Ideal.Inp.alg, trivial, Cert.Kernel3Ideal.Keys.alg, trivial, Cert.Kernel4Ideal.Queries.alg, trivial, Cert.Kernel5Ideal.StepKeys.alg, trivial, Cert.Kernel6Ideal.Cell.alg, trivial, Cert.Kernel7Ideal.MixA.alg, trivial, Cert.Kernel8Ideal.MixB.alg, trivial, trivial, trivial, Cert.Kernel11Ideal.Tile.alg⟩

end Cert.Proof
end
